-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_scheduled : Cert.Pre_scheduled.Facts] (m : (ℓ : Loc Cert.Kernel2.nD Cert.Kernel2.τ Cert.Kernel2.sig) → Buf (Elt Bits) ℓ) : Prop :=
  ∀ c : Dev Cert.Kernel2.nD,
    (Cert.Pre_scheduled.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))) = (fun _ => 1#1)

def Pre_Kernel2Ideal [hPre_scheduled : Cert.Pre_scheduled.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_scheduled.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_scheduled [hPre_scheduled : Cert.Pre_scheduled.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_scheduled.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_scheduled : Cert.Pre_scheduled.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] [hPre_scheduled : Cert.Pre_scheduled.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_scheduled [hReference2Ideal : Cert.Reference2Ideal.Facts] [hPre_scheduled : Cert.Pre_scheduled.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_scheduled m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_scheduled : Cert.Pre_scheduled.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v83) = v0 c
          ∧ r.2.mem ((c.tc : Thread Cert.Reference3Ideal.nD Cert.Reference3Ideal.τ).loc Cert.Reference3Ideal.main_v85) = v1 c
          ∧ r.2.mem ((c.tc : Thread Cert.Reference3Ideal.nD Cert.Reference3Ideal.τ).loc Cert.Reference3Ideal.main_v87) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_scheduled : Cert.Pre_scheduled.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_scheduled := hPre_scheduled)
    ∧ quiescent_Kernel2Ideal (hKernel2Ideal := hKernel2Ideal) (hPre_scheduled := hPre_scheduled)
    ∧ quiescent_Reference2Ideal (hReference2Ideal := hReference2Ideal)
    ∧ quiescent_Reference2Ideal_pre_scheduled (hReference2Ideal := hReference2Ideal) (hPre_scheduled := hPre_scheduled)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_scheduled := hPre_scheduled)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16384x2048 : Shape := ⟨2, ![16384, 2048]⟩
abbrev S1024x16384 : Shape := ⟨2, ![1024, 16384]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .bf16) (main_arg1 : FVec F S16384x2048 .bf16) (main_arg2 : FVec F S1024x16384 .bf16) : IVec S_ 1 :=
  let main_v0 : FVec F S16384x2048 .f32 := (extf .f32 · bitsLt_bf16_f32) main_arg0
  let main_cst : FVec F S_ .f32 := constant S_ .f32 0xFF800000#32
  let main_v1 : FVec F S16384x2048 .f32 := broadcastInDim S16384x2048 ![] bcast_S_S16384x2048 main_cst
  let main_v2 : IVec S16384x2048 1 := cmpf .ogt main_v0 main_v1
  let main_v3 : FVec F S16384x2048 .f32 := (extf .f32 · bitsLt_bf16_f32) main_arg0
  let main_cst_0 : FVec F S_ .f32 := constant S_ .f32 0x7F800000#32
  let main_v4 : FVec F S16384x2048 .f32 := broadcastInDim S16384x2048 ![] bcast_S_S16384x2048 main_cst_0
  let main_v5 : IVec S16384x2048 1 := cmpf .olt main_v3 main_v4
  let main_v6 : IVec S16384x2048 1 := andi main_v2 main_v5
  let main_c : IVec S_ 1 := constantI S_ 1 1#1
  let main_v7 : IVec S_ 1 := (fun x v => Host.reduce IntOp.andi x v reducesTo_S16384x2048_S_d0_1 h_S_) main_v6 main_c
  let main_v8 : FVec F S16384x2048 .f32 := (extf .f32 · bitsLt_bf16_f32) main_arg1
  let main_cst_1 : FVec F S_ .f32 := constant S_ .f32 0xFF800000#32
  let main_v9 : FVec F S16384x2048 .f32 := broadcastInDim S16384x2048 ![] bcast_S_S16384x2048 main_cst_1
  let main_v10 : IVec S16384x2048 1 := cmpf .ogt main_v8 main_v9
  let main_v11 : FVec F S16384x2048 .f32 := (extf .f32 · bitsLt_bf16_f32) main_arg1
  let main_cst_2 : FVec F S_ .f32 := constant S_ .f32 0x7F800000#32
  let main_v12 : FVec F S16384x2048 .f32 := broadcastInDim S16384x2048 ![] bcast_S_S16384x2048 main_cst_2
  let main_v13 : IVec S16384x2048 1 := cmpf .olt main_v11 main_v12
  let main_v14 : IVec S16384x2048 1 := andi main_v10 main_v13
  let main_c_3 : IVec S_ 1 := constantI S_ 1 1#1
  let main_v15 : IVec S_ 1 := (fun x v => Host.reduce IntOp.andi x v reducesTo_S16384x2048_S_d0_1 h_S_) main_v14 main_c_3
  let main_v16 : IVec S_ 1 := andi main_v7 main_v15
  main_v16
-- ==== Pre_scheduled.lean ====
abbrev S174 : Shape := ⟨1, ![174]⟩
abbrev S89088x512 : Shape := ⟨2, ![89088, 512]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S173 : Shape := ⟨1, ![173]⟩
abbrev S1 : Shape := ⟨1, ![1]⟩

class Facts : Prop where
  bcast_S_S174 : S_.BroadcastsInDim S174 (![] : Fin 0 → Fin S174.rank)
  reducesTo_S174_S_d0 : S174.ReducesTo [0] S_
  h_S_ : 0 < S_.numel
  slices_S174_S173_1 : S174.Slices ![1] S173
  bcast_S_S173 : S_.BroadcastsInDim S173 (![] : Fin 0 → Fin S173.rank)
  slices_S174_S173_0 : S174.Slices ![0] S173
  slices_S174_S1_0 : S174.Slices ![0] S1
  shapeCasts_S1_S_ : S1.ShapeCasts S_
  slices_S174_S1_173 : S174.Slices ![173] S1
  reducesTo_S173_S_d0 : S173.ReducesTo [0] S_

variable [Facts]

def fn_part2 {F : FTy → Type} [FloatOps F] (main_v21 : IVec S173 1) (main_v32 : IVec S173 1) (main_v36 : IVec S_ 1) (main_v38 : IVec S_ 32) : IVec S_ 1 :=
  let main_c_8 : IVec S_ 32 := constantI S_ 32 0#32
  let main_v39 : IVec S_ 1 := cmpi .slt main_v38 main_c_8
  let main_v40 : IVec S_ 1 := andi main_v36 main_v39
  let main_v41 : IVec S173 1 := ori main_v21 main_v32
  let main_c_9 : IVec S_ 1 := constantI S_ 1 1#1
  let main_v42 : IVec S_ 1 := (fun x v => Host.reduce IntOp.andi x v reducesTo_S173_S_d0 h_S_) main_v41 main_c_9
  let main_v43 : IVec S_ 1 := andi main_v40 main_v42
  main_v43

def fn_part1 {F : FTy → Type} [FloatOps F] (main_arg0 : IVec S174 32) (main_arg1 : IVec S174 32) (main_arg3 : IVec S174 32) (main_v14 : IVec S_ 1) (main_v15 : IVec S173 32) (main_v16 : IVec S173 32) : IVec S_ 1 :=
  let main_v17 : IVec S173 1 := cmpi .eq main_v15 main_v16
  let main_v18 : IVec S173 32 := (extractStridedSlice S173 ![0] · slices_S174_S173_0) main_arg3
  let main_v19 : IVec S173 32 := (extractStridedSlice S173 ![1] · slices_S174_S173_1) main_arg0
  let main_v20 : IVec S173 1 := cmpi .eq main_v18 main_v19
  let main_v21 : IVec S173 1 := andi main_v17 main_v20
  let main_v22 : IVec S173 32 := (extractStridedSlice S173 ![1] · slices_S174_S173_1) main_arg1
  let main_c_6 : IVec S_ 32 := constantI S_ 32 1#32
  let main_v23 : IVec S173 32 := broadcastInDim S173 ![] bcast_S_S173 main_c_6
  let main_v24 : IVec S173 1 := cmpi .ne main_v22 main_v23
  let main_v25 : IVec S173 32 := (extractStridedSlice S173 ![0] · slices_S174_S173_0) main_arg0
  let main_v26 : IVec S173 32 := (extractStridedSlice S173 ![1] · slices_S174_S173_1) main_arg0
  let main_v27 : IVec S173 1 := cmpi .eq main_v25 main_v26
  let main_v28 : IVec S173 1 := andi main_v24 main_v27
  let main_v29 : IVec S173 32 := (extractStridedSlice S173 ![0] · slices_S174_S173_0) main_arg3
  let main_v30 : IVec S173 32 := (extractStridedSlice S173 ![1] · slices_S174_S173_1) main_arg3
  let main_v31 : IVec S173 1 := cmpi .eq main_v29 main_v30
  let main_v32 : IVec S173 1 := andi main_v28 main_v31
  let main_v33 : IVec S1 32 := (extractStridedSlice S1 ![0] · slices_S174_S1_0) main_arg1
  let main_v34 : IVec S_ 32 := shapeCast S_ main_v33 shapeCasts_S1_S_
  let main_c_7 : IVec S_ 32 := constantI S_ 32 1#32
  let main_v35 : IVec S_ 1 := cmpi .eq main_v34 main_c_7
  let main_v36 : IVec S_ 1 := andi main_v14 main_v35
  let main_v37 : IVec S1 32 := (extractStridedSlice S1 ![173] · slices_S174_S1_173) main_arg3
  let main_v38 : IVec S_ 32 := shapeCast S_ main_v37 shapeCasts_S1_S_
  fn_part2 (F := F) main_v21 main_v32 main_v36 main_v38

def fn {F : FTy → Type} [FloatOps F] (main_arg0 : IVec S174 32) (main_arg1 : IVec S174 32) (main_arg2 : IVec S174 32) (main_arg3 : IVec S174 32) (main_arg4 : IVec S89088x512 32) (main_arg5 : FVec F S4x32x1024x2048 .f32) (main_arg6 : FVec F S4x32x2048 .f32) (main_arg7 : FVec F S4x32x1024x1024 .f32) (main_arg8 : FVec F S4x32x1024 .f32) : IVec S_ 1 :=
  let main_c : IVec S_ 32 := constantI S_ 32 0#32
  let main_v0 : IVec S174 32 := broadcastInDim S174 ![] bcast_S_S174 main_c
  let main_v1 : IVec S174 1 := cmpi .sge main_arg0 main_v0
  let main_c_0 : IVec S_ 32 := constantI S_ 32 32#32
  let main_v2 : IVec S174 32 := broadcastInDim S174 ![] bcast_S_S174 main_c_0
  let main_v3 : IVec S174 1 := cmpi .slt main_arg0 main_v2
  let main_v4 : IVec S174 1 := andi main_v1 main_v3
  let main_c_1 : IVec S_ 32 := constantI S_ 32 32#32
  let main_v5 : IVec S174 32 := broadcastInDim S174 ![] bcast_S_S174 main_c_1
  let main_v6 : IVec S174 1 := cmpi .slt main_arg3 main_v5
  let main_v7 : IVec S174 1 := andi main_v4 main_v6
  let main_c_2 : IVec S_ 32 := constantI S_ 32 0#32
  let main_v8 : IVec S174 32 := broadcastInDim S174 ![] bcast_S_S174 main_c_2
  let main_v9 : IVec S174 1 := cmpi .sge main_arg2 main_v8
  let main_v10 : IVec S174 1 := andi main_v7 main_v9
  let main_c_3 : IVec S_ 32 := constantI S_ 32 1#32
  let main_v11 : IVec S174 32 := broadcastInDim S174 ![] bcast_S_S174 main_c_3
  let main_v12 : IVec S174 1 := cmpi .sle main_arg2 main_v11
  let main_v13 : IVec S174 1 := andi main_v10 main_v12
  let main_c_4 : IVec S_ 1 := constantI S_ 1 1#1
  let main_v14 : IVec S_ 1 := (fun x v => Host.reduce IntOp.andi x v reducesTo_S174_S_d0 h_S_) main_v13 main_c_4
  let main_v15 : IVec S173 32 := (extractStridedSlice S173 ![1] · slices_S174_S173_1) main_arg1
  let main_c_5 : IVec S_ 32 := constantI S_ 32 1#32
  let main_v16 : IVec S173 32 := broadcastInDim S173 ![] bcast_S_S173 main_c_5
  fn_part1 (F := F) main_arg0 main_arg1 main_arg3 main_v14 main_v15 main_v16
-- ==== Kernel.lean ====
abbrev S16384x2048 : Shape := ⟨2, ![16384, 2048]⟩
abbrev S1024x16384 : Shape := ⟨2, ![1024, 16384]⟩
abbrev S16384x1024 : Shape := ⟨2, ![16384, 1024]⟩
abbrev S256x2048 : Shape := ⟨2, ![256, 2048]⟩
abbrev S2048x2048 : Shape := ⟨2, ![2048, 2048]⟩
abbrev S1024x2048 : Shape := ⟨2, ![1024, 2048]⟩
abbrev S256x1024 : Shape := ⟨2, ![256, 1024]⟩
abbrev S256x256 : Shape := ⟨2, ![256, 256]⟩
abbrev S1x256 : Shape := ⟨2, ![1, 256]⟩
abbrev S128x256 : Shape := ⟨2, ![128, 256]⟩
abbrev S256 : Shape := ⟨1, ![256]⟩
abbrev S256x128 : Shape := ⟨2, ![256, 128]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1024x16384, .bf16⟩
  | .hbm, ⟨3, _⟩ => ⟨S16384x1024, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S256x1024, .bf16⟩
  | .local _ .vmem, ⟨7, _⟩ => ⟨S256x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 8], ![false, false, false]⟩

@[reducible] def k0_t1_loop (i : grid0.Coords) : Scf.Loop 32 :=
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let c1_i32_31 : BitVec 32 := 1#32
  ⟨c0_i32, v36, c1_i32_31⟩
def k0_mult1 (i : grid0.Coords) (k0_t1 : Fin (k0_t1_loop i).trips) : BitVec 32 :=
  let c0_i32 : BitVec 32 := 0#32
  let c1_i32_31 : BitVec 32 := 1#32
  let arg7 : BitVec 32 := Scf.iv c0_i32 c1_i32_31 k0_t1
  let c256_i32_101 : BitVec 32 := 256#32
  let v276 : BitVec 32 := Scalar.muli arg7 c256_i32_101
  v276
def k0_off1 (i : grid0.Coords) (k0_t1 : Fin (k0_t1_loop i).trips) : Fin 2 → Nat :=
  let c0_i32 : BitVec 32 := 0#32
  let c1_i32_31 : BitVec 32 := 1#32
  let arg7 : BitVec 32 := Scf.iv c0_i32 c1_i32_31 k0_t1
  let c256_i32_101 : BitVec 32 := 256#32
  let v276 : BitVec 32 := Scalar.muli arg7 c256_i32_101
  let v277 : BitVec 32 := v276
  let v278 : Index := Scalar.indexCast v277
  let c0_102 : Index := 0#32
  ![v278.toNat, 0]
def k0_off2 (i : grid0.Coords) (k0_t1 : Fin (k0_t1_loop i).trips) : Fin 2 → Nat :=
  let c0_i32 : BitVec 32 := 0#32
  let c1_i32_31 : BitVec 32 := 1#32
  let arg7 : BitVec 32 := Scf.iv c0_i32 c1_i32_31 k0_t1
  let c256_i32_101 : BitVec 32 := 256#32
  let v276 : BitVec 32 := Scalar.muli arg7 c256_i32_101
  let v277 : BitVec 32 := v276
  let v281 : Index := Scalar.indexCast v277
  let c256_104 : Index := 256#32
  ![v281.toNat, 256]
def k0_off3 (i : grid0.Coords) (k0_t1 : Fin (k0_t1_loop i).trips) : Fin 2 → Nat :=
  let c0_i32 : BitVec 32 := 0#32
  let c1_i32_31 : BitVec 32 := 1#32
  let arg7 : BitVec 32 := Scf.iv c0_i32 c1_i32_31 k0_t1
  let c256_i32_101 : BitVec 32 := 256#32
  let v276 : BitVec 32 := Scalar.muli arg7 c256_i32_101
  let v277 : BitVec 32 := v276
  let v284 : Index := Scalar.indexCast v277
  let c512_106 : Index := 512#32
  ![v284.toNat, 512]
def k0_off4 (i : grid0.Coords) (k0_t1 : Fin (k0_t1_loop i).trips) : Fin 2 → Nat :=
  let c0_i32 : BitVec 32 := 0#32
  let c1_i32_31 : BitVec 32 := 1#32
  let arg7 : BitVec 32 := Scf.iv c0_i32 c1_i32_31 k0_t1
  let c256_i32_101 : BitVec 32 := 256#32
  let v276 : BitVec 32 := Scalar.muli arg7 c256_i32_101
  let v277 : BitVec 32 := v276
  let v287 : Index := Scalar.indexCast v277
  let c768_108 : Index := 768#32
  ![v287.toNat, 768]
def k0_off5 (i : grid0.Coords) (k0_t1 : Fin (k0_t1_loop i).trips) : Fin 2 → Nat :=
  let c0_i32 : BitVec 32 := 0#32
  let c1_i32_31 : BitVec 32 := 1#32
  let arg7 : BitVec 32 := Scf.iv c0_i32 c1_i32_31 k0_t1
  let c256_i32_101 : BitVec 32 := 256#32
  let v276 : BitVec 32 := Scalar.muli arg7 c256_i32_101
  let v277 : BitVec 32 := v276
  let v290 : Index := Scalar.indexCast v277
  let c1024_110 : Index := 1024#32
  ![v290.toNat, 1024]
def k0_off6 (i : grid0.Coords) (k0_t1 : Fin (k0_t1_loop i).trips) : Fin 2 → Nat :=
  let c0_i32 : BitVec 32 := 0#32
  let c1_i32_31 : BitVec 32 := 1#32
  let arg7 : BitVec 32 := Scf.iv c0_i32 c1_i32_31 k0_t1
  let c256_i32_101 : BitVec 32 := 256#32
  let v276 : BitVec 32 := Scalar.muli arg7 c256_i32_101
  let v277 : BitVec 32 := v276
  let v293 : Index := Scalar.indexCast v277
  let c1280_112 : Index := 1280#32
  ![v293.toNat, 1280]
def k0_off7 (i : grid0.Coords) (k0_t1 : Fin (k0_t1_loop i).trips) : Fin 2 → Nat :=
  let c0_i32 : BitVec 32 := 0#32
  let c1_i32_31 : BitVec 32 := 1#32
  let arg7 : BitVec 32 := Scf.iv c0_i32 c1_i32_31 k0_t1
  let c256_i32_101 : BitVec 32 := 256#32
  let v276 : BitVec 32 := Scalar.muli arg7 c256_i32_101
  let v277 : BitVec 32 := v276
  let v296 : Index := Scalar.indexCast v277
  let c1536_114 : Index := 1536#32
  ![v296.toNat, 1536]
def k0_off8 (i : grid0.Coords) (k0_t1 : Fin (k0_t1_loop i).trips) : Fin 2 → Nat :=
  let c0_i32 : BitVec 32 := 0#32
  let c1_i32_31 : BitVec 32 := 1#32
  let arg7 : BitVec 32 := Scf.iv c0_i32 c1_i32_31 k0_t1
  let c256_i32_101 : BitVec 32 := 256#32
  let v276 : BitVec 32 := Scalar.muli arg7 c256_i32_101
  let v277 : BitVec 32 := v276
  let v299 : Index := Scalar.indexCast v277
  let c1792_116 : Index := 1792#32
  ![v299.toNat, 1792]
def k0_off9 (i : grid0.Coords) (k0_t1 : Fin (k0_t1_loop i).trips) : Fin 2 → Nat :=
  let c0_134 : Index := 0#32
  let c0_i32 : BitVec 32 := 0#32
  let c1_i32_31 : BitVec 32 := 1#32
  let arg7 : BitVec 32 := Scf.iv c0_i32 c1_i32_31 k0_t1
  let c256_i32_101 : BitVec 32 := 256#32
  let v276 : BitVec 32 := Scalar.muli arg7 c256_i32_101
  let v277 : BitVec 32 := v276
  let v400 : Index := Scalar.indexCast v277
  ![0, v400.toNat]
def k0_off10 (i : grid0.Coords) (k0_t1 : Fin (k0_t1_loop i).trips) : Fin 2 → Nat :=
  let c128_136 : Index := 128#32
  let c0_i32 : BitVec 32 := 0#32
  let c1_i32_31 : BitVec 32 := 1#32
  let arg7 : BitVec 32 := Scf.iv c0_i32 c1_i32_31 k0_t1
  let c256_i32_101 : BitVec 32 := 256#32
  let v276 : BitVec 32 := Scalar.muli arg7 c256_i32_101
  let v277 : BitVec 32 := v276
  let v407 : Index := Scalar.indexCast v277
  ![128, v407.toNat]
def k0_off11 (i : grid0.Coords) (k0_t1 : Fin (k0_t1_loop i).trips) : Fin 2 → Nat :=
  let c256_138 : Index := 256#32
  let c0_i32 : BitVec 32 := 0#32
  let c1_i32_31 : BitVec 32 := 1#32
  let arg7 : BitVec 32 := Scf.iv c0_i32 c1_i32_31 k0_t1
  let c256_i32_101 : BitVec 32 := 256#32
  let v276 : BitVec 32 := Scalar.muli arg7 c256_i32_101
  let v277 : BitVec 32 := v276
  let v414 : Index := Scalar.indexCast v277
  ![256, v414.toNat]
def k0_off12 (i : grid0.Coords) (k0_t1 : Fin (k0_t1_loop i).trips) : Fin 2 → Nat :=
  let c384_140 : Index := 384#32
  let c0_i32 : BitVec 32 := 0#32
  let c1_i32_31 : BitVec 32 := 1#32
  let arg7 : BitVec 32 := Scf.iv c0_i32 c1_i32_31 k0_t1
  let c256_i32_101 : BitVec 32 := 256#32
  let v276 : BitVec 32 := Scalar.muli arg7 c256_i32_101
  let v277 : BitVec 32 := v276
  let v421 : Index := Scalar.indexCast v277
  ![384, v421.toNat]
def k0_off13 (i : grid0.Coords) (k0_t1 : Fin (k0_t1_loop i).trips) : Fin 2 → Nat :=
  let c512_142 : Index := 512#32
  let c0_i32 : BitVec 32 := 0#32
  let c1_i32_31 : BitVec 32 := 1#32
  let arg7 : BitVec 32 := Scf.iv c0_i32 c1_i32_31 k0_t1
  let c256_i32_101 : BitVec 32 := 256#32
  let v276 : BitVec 32 := Scalar.muli arg7 c256_i32_101
  let v277 : BitVec 32 := v276
  let v428 : Index := Scalar.indexCast v277
  ![512, v428.toNat]
def k0_off14 (i : grid0.Coords) (k0_t1 : Fin (k0_t1_loop i).trips) : Fin 2 → Nat :=
  let c640_144 : Index := 640#32
  let c0_i32 : BitVec 32 := 0#32
  let c1_i32_31 : BitVec 32 := 1#32
  let arg7 : BitVec 32 := Scf.iv c0_i32 c1_i32_31 k0_t1
  let c256_i32_101 : BitVec 32 := 256#32
  let v276 : BitVec 32 := Scalar.muli arg7 c256_i32_101
  let v277 : BitVec 32 := v276
  let v435 : Index := Scalar.indexCast v277
  ![640, v435.toNat]
def k0_off15 (i : grid0.Coords) (k0_t1 : Fin (k0_t1_loop i).trips) : Fin 2 → Nat :=
  let c768_146 : Index := 768#32
  let c0_i32 : BitVec 32 := 0#32
  let c1_i32_31 : BitVec 32 := 1#32
  let arg7 : BitVec 32 := Scf.iv c0_i32 c1_i32_31 k0_t1
  let c256_i32_101 : BitVec 32 := 256#32
  let v276 : BitVec 32 := Scalar.muli arg7 c256_i32_101
  let v277 : BitVec 32 := v276
  let v442 : Index := Scalar.indexCast v277
  ![768, v442.toNat]
def k0_off16 (i : grid0.Coords) (k0_t1 : Fin (k0_t1_loop i).trips) : Fin 2 → Nat :=
  let c896_148 : Index := 896#32
  let c0_i32 : BitVec 32 := 0#32
  let c1_i32_31 : BitVec 32 := 1#32
  let arg7 : BitVec 32 := Scf.iv c0_i32 c1_i32_31 k0_t1
  let c256_i32_101 : BitVec 32 := 256#32
  let v276 : BitVec 32 := Scalar.muli arg7 c256_i32_101
  let v277 : BitVec 32 := v276
  let v449 : Index := Scalar.indexCast v277
  ![896, v449.toNat]
@[reducible] def k0_t2_loop (i : grid0.Coords) : Scf.Loop 32 :=
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let v33 : BitVec 32 := Scalar.addi c0_i32 v32
  let c1_i32_32 : BitVec 32 := 1#32
  ⟨v36, v33, c1_i32_32⟩
def k0_mult2 (i : grid0.Coords) (k0_t2 : Fin (k0_t2_loop i).trips) : BitVec 32 :=
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let c1_i32_32 : BitVec 32 := 1#32
  let arg7 : BitVec 32 := Scf.iv v36 c1_i32_32 k0_t2
  let c256_i32_101 : BitVec 32 := 256#32
  let v276 : BitVec 32 := Scalar.muli arg7 c256_i32_101
  v276
def k0_off17 (i : grid0.Coords) (k0_t2 : Fin (k0_t2_loop i).trips) : Fin 2 → Nat :=
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let c1_i32_32 : BitVec 32 := 1#32
  let arg7 : BitVec 32 := Scf.iv v36 c1_i32_32 k0_t2
  let c256_i32_101 : BitVec 32 := 256#32
  let v276 : BitVec 32 := Scalar.muli arg7 c256_i32_101
  let v277 : BitVec 32 := v276
  let v278 : Index := Scalar.indexCast v277
  let c0_102 : Index := 0#32
  ![v278.toNat, 0]
def k0_off18 (i : grid0.Coords) (k0_t2 : Fin (k0_t2_loop i).trips) : Fin 2 → Nat :=
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let c1_i32_32 : BitVec 32 := 1#32
  let arg7 : BitVec 32 := Scf.iv v36 c1_i32_32 k0_t2
  let c256_i32_101 : BitVec 32 := 256#32
  let v276 : BitVec 32 := Scalar.muli arg7 c256_i32_101
  let v277 : BitVec 32 := v276
  let v281 : Index := Scalar.indexCast v277
  let c256_104 : Index := 256#32
  ![v281.toNat, 256]
def k0_off19 (i : grid0.Coords) (k0_t2 : Fin (k0_t2_loop i).trips) : Fin 2 → Nat :=
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let c1_i32_32 : BitVec 32 := 1#32
  let arg7 : BitVec 32 := Scf.iv v36 c1_i32_32 k0_t2
  let c256_i32_101 : BitVec 32 := 256#32
  let v276 : BitVec 32 := Scalar.muli arg7 c256_i32_101
  let v277 : BitVec 32 := v276
  let v284 : Index := Scalar.indexCast v277
  let c512_106 : Index := 512#32
  ![v284.toNat, 512]
def k0_off20 (i : grid0.Coords) (k0_t2 : Fin (k0_t2_loop i).trips) : Fin 2 → Nat :=
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let c1_i32_32 : BitVec 32 := 1#32
  let arg7 : BitVec 32 := Scf.iv v36 c1_i32_32 k0_t2
  let c256_i32_101 : BitVec 32 := 256#32
  let v276 : BitVec 32 := Scalar.muli arg7 c256_i32_101
  let v277 : BitVec 32 := v276
  let v287 : Index := Scalar.indexCast v277
  let c768_108 : Index := 768#32
  ![v287.toNat, 768]
def k0_off21 (i : grid0.Coords) (k0_t2 : Fin (k0_t2_loop i).trips) : Fin 2 → Nat :=
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let c1_i32_32 : BitVec 32 := 1#32
  let arg7 : BitVec 32 := Scf.iv v36 c1_i32_32 k0_t2
  let c256_i32_101 : BitVec 32 := 256#32
  let v276 : BitVec 32 := Scalar.muli arg7 c256_i32_101
  let v277 : BitVec 32 := v276
  let v290 : Index := Scalar.indexCast v277
  let c1024_110 : Index := 1024#32
  ![v290.toNat, 1024]
def k0_off22 (i : grid0.Coords) (k0_t2 : Fin (k0_t2_loop i).trips) : Fin 2 → Nat :=
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let c1_i32_32 : BitVec 32 := 1#32
  let arg7 : BitVec 32 := Scf.iv v36 c1_i32_32 k0_t2
  let c256_i32_101 : BitVec 32 := 256#32
  let v276 : BitVec 32 := Scalar.muli arg7 c256_i32_101
  let v277 : BitVec 32 := v276
  let v293 : Index := Scalar.indexCast v277
  let c1280_112 : Index := 1280#32
  ![v293.toNat, 1280]
def k0_off23 (i : grid0.Coords) (k0_t2 : Fin (k0_t2_loop i).trips) : Fin 2 → Nat :=
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let c1_i32_32 : BitVec 32 := 1#32
  let arg7 : BitVec 32 := Scf.iv v36 c1_i32_32 k0_t2
  let c256_i32_101 : BitVec 32 := 256#32
  let v276 : BitVec 32 := Scalar.muli arg7 c256_i32_101
  let v277 : BitVec 32 := v276
  let v296 : Index := Scalar.indexCast v277
  let c1536_114 : Index := 1536#32
  ![v296.toNat, 1536]
def k0_off24 (i : grid0.Coords) (k0_t2 : Fin (k0_t2_loop i).trips) : Fin 2 → Nat :=
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let c1_i32_32 : BitVec 32 := 1#32
  let arg7 : BitVec 32 := Scf.iv v36 c1_i32_32 k0_t2
  let c256_i32_101 : BitVec 32 := 256#32
  let v276 : BitVec 32 := Scalar.muli arg7 c256_i32_101
  let v277 : BitVec 32 := v276
  let v299 : Index := Scalar.indexCast v277
  let c1792_116 : Index := 1792#32
  ![v299.toNat, 1792]
def k0_off25 (i : grid0.Coords) (k0_t2 : Fin (k0_t2_loop i).trips) : Fin 2 → Nat :=
  let c0_134 : Index := 0#32
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let c1_i32_32 : BitVec 32 := 1#32
  let arg7 : BitVec 32 := Scf.iv v36 c1_i32_32 k0_t2
  let c256_i32_101 : BitVec 32 := 256#32
  let v276 : BitVec 32 := Scalar.muli arg7 c256_i32_101
  let v277 : BitVec 32 := v276
  let v400 : Index := Scalar.indexCast v277
  ![0, v400.toNat]
def k0_off26 (i : grid0.Coords) (k0_t2 : Fin (k0_t2_loop i).trips) : Fin 2 → Nat :=
  let c128_136 : Index := 128#32
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let c1_i32_32 : BitVec 32 := 1#32
  let arg7 : BitVec 32 := Scf.iv v36 c1_i32_32 k0_t2
  let c256_i32_101 : BitVec 32 := 256#32
  let v276 : BitVec 32 := Scalar.muli arg7 c256_i32_101
  let v277 : BitVec 32 := v276
  let v407 : Index := Scalar.indexCast v277
  ![128, v407.toNat]
def k0_off27 (i : grid0.Coords) (k0_t2 : Fin (k0_t2_loop i).trips) : Fin 2 → Nat :=
  let c256_138 : Index := 256#32
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let c1_i32_32 : BitVec 32 := 1#32
  let arg7 : BitVec 32 := Scf.iv v36 c1_i32_32 k0_t2
  let c256_i32_101 : BitVec 32 := 256#32
  let v276 : BitVec 32 := Scalar.muli arg7 c256_i32_101
  let v277 : BitVec 32 := v276
  let v414 : Index := Scalar.indexCast v277
  ![256, v414.toNat]
def k0_off28 (i : grid0.Coords) (k0_t2 : Fin (k0_t2_loop i).trips) : Fin 2 → Nat :=
  let c384_140 : Index := 384#32
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let c1_i32_32 : BitVec 32 := 1#32
  let arg7 : BitVec 32 := Scf.iv v36 c1_i32_32 k0_t2
  let c256_i32_101 : BitVec 32 := 256#32
  let v276 : BitVec 32 := Scalar.muli arg7 c256_i32_101
  let v277 : BitVec 32 := v276
  let v421 : Index := Scalar.indexCast v277
  ![384, v421.toNat]
def k0_off29 (i : grid0.Coords) (k0_t2 : Fin (k0_t2_loop i).trips) : Fin 2 → Nat :=
  let c512_142 : Index := 512#32
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let c1_i32_32 : BitVec 32 := 1#32
  let arg7 : BitVec 32 := Scf.iv v36 c1_i32_32 k0_t2
  let c256_i32_101 : BitVec 32 := 256#32
  let v276 : BitVec 32 := Scalar.muli arg7 c256_i32_101
  let v277 : BitVec 32 := v276
  let v428 : Index := Scalar.indexCast v277
  ![512, v428.toNat]
def k0_off30 (i : grid0.Coords) (k0_t2 : Fin (k0_t2_loop i).trips) : Fin 2 → Nat :=
  let c640_144 : Index := 640#32
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let c1_i32_32 : BitVec 32 := 1#32
  let arg7 : BitVec 32 := Scf.iv v36 c1_i32_32 k0_t2
  let c256_i32_101 : BitVec 32 := 256#32
  let v276 : BitVec 32 := Scalar.muli arg7 c256_i32_101
  let v277 : BitVec 32 := v276
  let v435 : Index := Scalar.indexCast v277
  ![640, v435.toNat]
def k0_off31 (i : grid0.Coords) (k0_t2 : Fin (k0_t2_loop i).trips) : Fin 2 → Nat :=
  let c768_146 : Index := 768#32
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let c1_i32_32 : BitVec 32 := 1#32
  let arg7 : BitVec 32 := Scf.iv v36 c1_i32_32 k0_t2
  let c256_i32_101 : BitVec 32 := 256#32
  let v276 : BitVec 32 := Scalar.muli arg7 c256_i32_101
  let v277 : BitVec 32 := v276
  let v442 : Index := Scalar.indexCast v277
  ![768, v442.toNat]
def k0_off32 (i : grid0.Coords) (k0_t2 : Fin (k0_t2_loop i).trips) : Fin 2 → Nat :=
  let c896_148 : Index := 896#32
  let c0_i32 : BitVec 32 := 0#32
  let arg2 : BitVec 32 := BitVec.ofNat 32 (i 2).val
  let v32 : BitVec 32 := Scalar.subi arg2 c0_i32
  let c1_i32 : BitVec 32 := 1#32
  let v34 : BitVec 32 := Scalar.divsi v32 c1_i32
  let v35 : BitVec 32 := Scalar.muli v34 c1_i32
  let v36 : BitVec 32 := Scalar.addi c0_i32 v35
  let c1_i32_32 : BitVec 32 := 1#32
  let arg7 : BitVec 32 := Scf.iv v36 c1_i32_32 k0_t2
  let c256_i32_101 : BitVec 32 := 256#32
  let v276 : BitVec 32 := Scalar.muli arg7 c256_i32_101
  let v277 : BitVec 32 := v276
  let v449 : Index := Scalar.indexCast v277
  ![896, v449.toNat]
def k0_mult3 (i : grid0.Coords) : BitVec 32 :=
  let arg2 : BitVec 32 := BitVec.ofNat 32 (i 2).val
  let c256_i32 : BitVec 32 := 256#32
  let v42 : BitVec 32 := Scalar.muli arg2 c256_i32
  v42
def k0_off33 (i : grid0.Coords) : Fin 2 → Nat :=
  let arg2 : BitVec 32 := BitVec.ofNat 32 (i 2).val
  let c256_i32 : BitVec 32 := 256#32
  let v42 : BitVec 32 := Scalar.muli arg2 c256_i32
  let v43 : BitVec 32 := v42
  let v44 : Index := Scalar.indexCast v43
  let c0_33 : Index := 0#32
  ![v44.toNat, 0]
def k0_off34 (i : grid0.Coords) : Fin 2 → Nat :=
  let arg2 : BitVec 32 := BitVec.ofNat 32 (i 2).val
  let c256_i32 : BitVec 32 := 256#32
  let v42 : BitVec 32 := Scalar.muli arg2 c256_i32
  let v43 : BitVec 32 := v42
  let v47 : Index := Scalar.indexCast v43
  let c256_35 : Index := 256#32
  ![v47.toNat, 256]
def k0_off35 (i : grid0.Coords) : Fin 2 → Nat :=
  let arg2 : BitVec 32 := BitVec.ofNat 32 (i 2).val
  let c256_i32 : BitVec 32 := 256#32
  let v42 : BitVec 32 := Scalar.muli arg2 c256_i32
  let v43 : BitVec 32 := v42
  let v50 : Index := Scalar.indexCast v43
  let c512_37 : Index := 512#32
  ![v50.toNat, 512]
def k0_off36 (i : grid0.Coords) : Fin 2 → Nat :=
  let arg2 : BitVec 32 := BitVec.ofNat 32 (i 2).val
  let c256_i32 : BitVec 32 := 256#32
  let v42 : BitVec 32 := Scalar.muli arg2 c256_i32
  let v43 : BitVec 32 := v42
  let v53 : Index := Scalar.indexCast v43
  let c768_39 : Index := 768#32
  ![v53.toNat, 768]
def k0_off37 (i : grid0.Coords) : Fin 2 → Nat :=
  let arg2 : BitVec 32 := BitVec.ofNat 32 (i 2).val
  let c256_i32 : BitVec 32 := 256#32
  let v42 : BitVec 32 := Scalar.muli arg2 c256_i32
  let v43 : BitVec 32 := v42
  let v56 : Index := Scalar.indexCast v43
  let c1024_41 : Index := 1024#32
  ![v56.toNat, 1024]
def k0_off38 (i : grid0.Coords) : Fin 2 → Nat :=
  let arg2 : BitVec 32 := BitVec.ofNat 32 (i 2).val
  let c256_i32 : BitVec 32 := 256#32
  let v42 : BitVec 32 := Scalar.muli arg2 c256_i32
  let v43 : BitVec 32 := v42
  let v59 : Index := Scalar.indexCast v43
  let c1280_43 : Index := 1280#32
  ![v59.toNat, 1280]
def k0_off39 (i : grid0.Coords) : Fin 2 → Nat :=
  let arg2 : BitVec 32 := BitVec.ofNat 32 (i 2).val
  let c256_i32 : BitVec 32 := 256#32
  let v42 : BitVec 32 := Scalar.muli arg2 c256_i32
  let v43 : BitVec 32 := v42
  let v62 : Index := Scalar.indexCast v43
  let c1536_45 : Index := 1536#32
  ![v62.toNat, 1536]
def k0_off40 (i : grid0.Coords) : Fin 2 → Nat :=
  let arg2 : BitVec 32 := BitVec.ofNat 32 (i 2).val
  let c256_i32 : BitVec 32 := 256#32
  let v42 : BitVec 32 := Scalar.muli arg2 c256_i32
  let v43 : BitVec 32 := v42
  let v65 : Index := Scalar.indexCast v43
  let c1792_47 : Index := 1792#32
  ![v65.toNat, 1792]
def k0_off41 (i : grid0.Coords) : Fin 2 → Nat :=
  let c0_73 : Index := 0#32
  let arg2 : BitVec 32 := BitVec.ofNat 32 (i 2).val
  let c256_i32 : BitVec 32 := 256#32
  let v42 : BitVec 32 := Scalar.muli arg2 c256_i32
  let v43 : BitVec 32 := v42
  let v182 : Index := Scalar.indexCast v43
  ![0, v182.toNat]
def k0_off42 (i : grid0.Coords) : Fin 2 → Nat :=
  let c128 : Index := 128#32
  let arg2 : BitVec 32 := BitVec.ofNat 32 (i 2).val
  let c256_i32 : BitVec 32 := 256#32
  let v42 : BitVec 32 := Scalar.muli arg2 c256_i32
  let v43 : BitVec 32 := v42
  let v189 : Index := Scalar.indexCast v43
  ![128, v189.toNat]
def k0_off43 (i : grid0.Coords) : Fin 2 → Nat :=
  let c256_76 : Index := 256#32
  let arg2 : BitVec 32 := BitVec.ofNat 32 (i 2).val
  let c256_i32 : BitVec 32 := 256#32
  let v42 : BitVec 32 := Scalar.muli arg2 c256_i32
  let v43 : BitVec 32 := v42
  let v196 : Index := Scalar.indexCast v43
  ![256, v196.toNat]
def k0_off44 (i : grid0.Coords) : Fin 2 → Nat :=
  let c384 : Index := 384#32
  let arg2 : BitVec 32 := BitVec.ofNat 32 (i 2).val
  let c256_i32 : BitVec 32 := 256#32
  let v42 : BitVec 32 := Scalar.muli arg2 c256_i32
  let v43 : BitVec 32 := v42
  let v203 : Index := Scalar.indexCast v43
  ![384, v203.toNat]
def k0_off45 (i : grid0.Coords) : Fin 2 → Nat :=
  let c512_79 : Index := 512#32
  let arg2 : BitVec 32 := BitVec.ofNat 32 (i 2).val
  let c256_i32 : BitVec 32 := 256#32
  let v42 : BitVec 32 := Scalar.muli arg2 c256_i32
  let v43 : BitVec 32 := v42
  let v210 : Index := Scalar.indexCast v43
  ![512, v210.toNat]
def k0_off46 (i : grid0.Coords) : Fin 2 → Nat :=
  let c640 : Index := 640#32
  let arg2 : BitVec 32 := BitVec.ofNat 32 (i 2).val
  let c256_i32 : BitVec 32 := 256#32
  let v42 : BitVec 32 := Scalar.muli arg2 c256_i32
  let v43 : BitVec 32 := v42
  let v217 : Index := Scalar.indexCast v43
  ![640, v217.toNat]
def k0_off47 (i : grid0.Coords) : Fin 2 → Nat :=
  let c768_82 : Index := 768#32
  let arg2 : BitVec 32 := BitVec.ofNat 32 (i 2).val
  let c256_i32 : BitVec 32 := 256#32
  let v42 : BitVec 32 := Scalar.muli arg2 c256_i32
  let v43 : BitVec 32 := v42
  let v224 : Index := Scalar.indexCast v43
  ![768, v224.toNat]
def k0_off48 (i : grid0.Coords) : Fin 2 → Nat :=
  let c896 : Index := 896#32
  let arg2 : BitVec 32 := BitVec.ofNat 32 (i 2).val
  let c256_i32 : BitVec 32 := 256#32
  let v42 : BitVec 32 := Scalar.muli arg2 c256_i32
  let v43 : BitVec 32 := v42
  let v231 : Index := Scalar.indexCast v43
  ![896, v231.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x2048 : Shape := ⟨2, ![16384, 2048]⟩
abbrev S1024x16384 : Shape := ⟨2, ![1024, 16384]⟩
abbrev S8x2048x8x256 : Shape := ⟨4, ![8, 2048, 8, 256]⟩
abbrev S16384x1024 : Shape := ⟨2, ![16384, 1024]⟩
abbrev S8x2048x8x128 : Shape := ⟨4, ![8, 2048, 8, 128]⟩
abbrev S8x8x2048x2048 : Shape := ⟨4, ![8, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x8x2048 : Shape := ⟨3, ![8, 8, 2048]⟩
abbrev S8x8x2048x1 : Shape := ⟨4, ![8, 8, 2048, 1]⟩
abbrev S8x8x128x2048 : Shape := ⟨4, ![8, 8, 128, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1024x16384, .bf16⟩
  | .hbm, ⟨3, _⟩ => ⟨S16384x2048, .f32⟩
  | .hbm, ⟨4, _⟩ => ⟨S8x2048x8x256, .f32⟩
  | .hbm, ⟨5, _⟩ => ⟨S16384x2048, .f32⟩
  | .hbm, ⟨6, _⟩ => ⟨S8x2048x8x256, .f32⟩
  | .hbm, ⟨7, _⟩ => ⟨S1024x16384, .f32⟩
  | .hbm, ⟨8, _⟩ => ⟨S16384x1024, .f32⟩
  | .hbm, ⟨9, _⟩ => ⟨S8x2048x8x128, .f32⟩
  | .hbm, ⟨10, _⟩ => ⟨S8x8x2048x2048, .f32⟩
  | .hbm, ⟨11, _⟩ => ⟨S2048, .i32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .f32⟩
  | .hbm, ⟨18, _⟩ => ⟨S_, .f32⟩
  | .hbm, ⟨19, _⟩ => ⟨S8x8x2048x2048, .i1⟩
  | .hbm, ⟨20, _⟩ => ⟨S8x8x2048x2048, .f32⟩
  | .hbm, ⟨21, _⟩ => ⟨S8x8x2048x2048, .f32⟩
  | .hbm, ⟨22, _⟩ => ⟨S_, .f32⟩
  | .hbm, ⟨23, _⟩ => ⟨S8x8x2048, .f32⟩
  | .hbm, ⟨24, _⟩ => ⟨S_, .f32⟩
  | .hbm, ⟨25, _⟩ => ⟨S8x8x2048, .f32⟩
  | .hbm, ⟨26, _⟩ => ⟨S8x8x2048, .f32⟩
  | .hbm, ⟨27, _⟩ => ⟨S8x8x2048x1, .f32⟩
  | .hbm, ⟨28, _⟩ => ⟨S8x8x2048x2048, .f32⟩
  | .hbm, ⟨29, _⟩ => ⟨S8x8x2048x2048, .f32⟩
  | .hbm, ⟨30, _⟩ => ⟨S8x8x2048x2048, .f32⟩
  | .hbm, ⟨31, _⟩ => ⟨S_, .f32⟩
  | .hbm, ⟨32, _⟩ => ⟨S8x8x2048, .f32⟩
  | .hbm, ⟨33, _⟩ => ⟨S8x8x2048x1, .f32⟩
  | .hbm, ⟨34, _⟩ => ⟨S8x8x2048x2048, .f32⟩
  | .hbm, ⟨35, _⟩ => ⟨S8x8x2048x2048, .f32⟩
  | .hbm, ⟨36, _⟩ => ⟨S8x8x128x2048, .f32⟩
  | .hbm, ⟨37, _⟩ => ⟨S8x2048x8x128, .f32⟩
  | .hbm, ⟨38, _⟩ => ⟨S16384x1024, .f32⟩
  | .hbm, ⟨39, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel2.lean ====
abbrev S174 : Shape := ⟨1, ![174]⟩
abbrev S89088x512 : Shape := ⟨2, ![89088, 512]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S4x32x1x2048 : Shape := ⟨4, ![4, 32, 1, 2048]⟩
abbrev S4x32x1x1024 : Shape := ⟨4, ![4, 32, 1, 1024]⟩
abbrev S89088x1024 : Shape := ⟨2, ![89088, 1024]⟩
abbrev S512x512 : Shape := ⟨2, ![512, 512]⟩
abbrev S1x1x1x2048 : Shape := ⟨4, ![1, 1, 1, 2048]⟩
abbrev S1 : Shape := ⟨1, ![1]⟩
abbrev S1x1x1x1024 : Shape := ⟨4, ![1, 1, 1, 1024]⟩
abbrev S512x1024 : Shape := ⟨2, ![512, 1024]⟩
abbrev S1024x2048 : Shape := ⟨2, ![1024, 2048]⟩
abbrev S1024x1024 : Shape := ⟨2, ![1024, 1024]⟩
abbrev S2 : Shape := ⟨1, ![2]⟩
abbrev S_ : Shape := ⟨0, ![]⟩
abbrev S1x1x1024x2048 : Shape := ⟨4, ![1, 1, 1024, 2048]⟩
abbrev S1x1x1024x1024 : Shape := ⟨4, ![1, 1, 1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 12
  | .smem => 4
  | _ => 0

abbrev bufTy : (tb : Table) → Fin (tcTables nBuf tb) → BufTy
  | .hbm, ⟨0, _⟩ => ⟨S89088x512, .i32⟩
  | .hbm, ⟨1, _⟩ => ⟨S4x32x1024x2048, .f32⟩
  | .hbm, ⟨2, _⟩ => ⟨S4x32x2048, .f32⟩
  | .hbm, ⟨3, _⟩ => ⟨S4x32x1024x1024, .f32⟩
  | .hbm, ⟨4, _⟩ => ⟨S4x32x1024, .f32⟩
  | .hbm, ⟨5, _⟩ => ⟨S4x32x1x2048, .f32⟩
  | .hbm, ⟨6, _⟩ => ⟨S4x32x1x1024, .f32⟩
  | .hbm, ⟨7, _⟩ => ⟨S89088x1024, .bf16⟩
  | .local _ .vmem, ⟨0, _⟩ => ⟨S512x512, .i32⟩
  | .local _ .vmem, ⟨1, _⟩ => ⟨S512x512, .i32⟩
  | .local _ .vmem, ⟨2, _⟩ => ⟨S1x1x1x2048, .f32⟩
  | .local _ .vmem, ⟨3, _⟩ => ⟨S1x1x1x2048, .f32⟩
  | .local _ .vmem, ⟨4, _⟩ => ⟨S1x1x1x1024, .f32⟩
  | .local _ .vmem, ⟨5, _⟩ => ⟨S1x1x1x1024, .f32⟩
  | .local _ .vmem, ⟨6, _⟩ => ⟨S512x1024, .bf16⟩
  | .local _ .vmem, ⟨7, _⟩ => ⟨S512x1024, .bf16⟩
  | .local _ .vmem, ⟨8, _⟩ => ⟨S1024x2048, .f32⟩
  | .local _ .vmem, ⟨9, _⟩ => ⟨S1024x1024, .f32⟩
  | .local _ .vmem, ⟨10, _⟩ => ⟨S1024x2048, .bf16⟩
  | .local _ .vmem, ⟨11, _⟩ => ⟨S1024x1024, .bf16⟩
  | .local _ .smem, ⟨0, _⟩ => ⟨S174, .i32⟩
  | .local _ .smem, ⟨1, _⟩ => ⟨S174, .i32⟩
  | .local _ .smem, ⟨2, _⟩ => ⟨S174, .i32⟩
  | .local _ .smem, ⟨3, _⟩ => ⟨S174, .i32⟩
  | _, _ => ⟨S89088x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![174], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v15 : Index := Scalar.indexCast arg0
  ![v15.toNat]
def k0_cond2 (i : grid0.Coords) : BitVec 1 :=
  let arg0 : BitVec 32 := BitVec.ofNat 32 (i 0).val
  let c0_i32_4 : BitVec 32 := 0#32
  let v17 : BitVec 1 := Scalar.cmpi .eq arg0 c0_i32_4
  let v18 : BitVec 32 := Scalar.extui v17
  let c0_i32_5 : BitVec 32 := 0#32
  let v19 : BitVec 1 := Scalar.cmpi .ne v18 c0_i32_5
  v19

def k0_off3 (v16 : BitVec 32) : Fin 4 → Nat :=
  let c0_i32_23 : BitVec 32 := 0#32
  let c0_i32_25 : BitVec 32 := 0#32
  let c0_i32_26 : BitVec 32 := 0#32
  ![0, v16.toNat, 0, 0]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_off4 (v16 : BitVec 32) : Fin 4 → Nat :=
  let c0_i32_27 : BitVec 32 := 0#32
  let c0_i32_29 : BitVec 32 := 0#32
  let c0_i32_30 : BitVec 32 := 0#32
  ![0, v16.toNat, 0, 0]
def k0_off5 (v16 : BitVec 32) : Fin 4 → Nat :=
  let c0_i32_6 : BitVec 32 := 0#32
  let c0_i32_8 : BitVec 32 := 0#32
  let c0_i32_9 : BitVec 32 := 0#32
  ![0, v16.toNat, 0, 0]
def k0_off6 (v16 : BitVec 32) : Fin 4 → Nat :=
  let c0_i32_10 : BitVec 32 := 0#32
  let c0_i32_12 : BitVec 32 := 0#32
  let c0_i32_13 : BitVec 32 := 0#32
  ![0, v16.toNat, 0, 0]

def k0_chk1 (i : grid0.Coords) (v1 : BitVec 32) (v16 : BitVec 32) : Prop :=
  (∀ (k0_h1 : k0_cond1 v1 = 1#1), ∀ (k0_h2 : k0_cond2 i = 1#1), ∀ a, (k0_off3 v16) a + S1x1x1024x2048.size a ≤ S4x32x1024x2048.size a) ∧
  (∀ (k0_h1 : k0_cond1 v1 = 1#1), ∀ (k0_h2 : k0_cond2 i = 1#1), ∀ a, (k0_off4 v16) a + S1x1x1024x1024.size a ≤ S4x32x1024x1024.size a) ∧
  (∀ (k0_h1 : k0_cond1 v1 = 1#1), ∀ a, (k0_off5 v16) a + S1x1x1024x2048.size a ≤ S4x32x1024x2048.size a) ∧
  (∀ (k0_h1 : k0_cond1 v1 = 1#1), ∀ a, (k0_off6 v16) a + S1x1x1024x1024.size a ≤ S4x32x1024x1024.size a)
theorem k0_off3_inb : ∀ (i : grid0.Coords) (v1 : BitVec 32) (v16 : BitVec 32) (k0_hw1 : k0_chk1 i v1 v16), ∀ (k0_h1 : k0_cond1 v1 = 1#1), ∀ (k0_h2 : k0_cond2 i = 1#1), ∀ a, (k0_off3 v16) a + S1x1x1024x2048.size a ≤ S4x32x1024x2048.size a := fun i v1 v16 k0_hw1 k0_h1 k0_h2 => k0_hw1.1 k0_h1 k0_h2
theorem k0_off4_inb : ∀ (i : grid0.Coords) (v1 : BitVec 32) (v16 : BitVec 32) (k0_hw1 : k0_chk1 i v1 v16), ∀ (k0_h1 : k0_cond1 v1 = 1#1), ∀ (k0_h2 : k0_cond2 i = 1#1), ∀ a, (k0_off4 v16) a + S1x1x1024x1024.size a ≤ S4x32x1024x1024.size a := fun i v1 v16 k0_hw1 k0_h1 k0_h2 => k0_hw1.2.1 k0_h1 k0_h2
theorem k0_off5_inb : ∀ (i : grid0.Coords) (v1 : BitVec 32) (v16 : BitVec 32) (k0_hw1 : k0_chk1 i v1 v16), ∀ (k0_h1 : k0_cond1 v1 = 1#1), ∀ a, (k0_off5 v16) a + S1x1x1024x2048.size a ≤ S4x32x1024x2048.size a := fun i v1 v16 k0_hw1 k0_h1 => k0_hw1.2.2.1 k0_h1
theorem k0_off6_inb : ∀ (i : grid0.Coords) (v1 : BitVec 32) (v16 : BitVec 32) (k0_hw1 : k0_chk1 i v1 v16), ∀ (k0_h1 : k0_cond1 v1 = 1#1), ∀ a, (k0_off6 v16) a + S1x1x1024x1024.size a ≤ S4x32x1024x1024.size a := fun i v1 v16 k0_hw1 k0_h1 => k0_hw1.2.2.2 k0_h1

def k0_off7 (i : grid0.Coords) : Fin 1 → Nat :=
  let arg0 : BitVec 32 := BitVec.ofNat 32 (i 0).val
  let v38 : Index := Scalar.indexCast arg0
  ![v38.toNat]
def k0_off8 (v39 : BitVec 32) : Fin 4 → Nat :=
  let c0_i32_23 : BitVec 32 := 0#32
  let c0_i32_25 : BitVec 32 := 0#32
  let c0_i32_26 : BitVec 32 := 0#32
  ![0, v39.toNat, 0, 0]
def k0_cond3 (v39 : BitVec 32) : BitVec 1 :=
  let c0_i32_21 : BitVec 32 := 0#32
  let v40 : BitVec 1 := Scalar.cmpi .sge v39 c0_i32_21
  let v41 : BitVec 32 := Scalar.extui v40
  let c0_i32_22 : BitVec 32 := 0#32
  let v42 : BitVec 1 := Scalar.cmpi .ne v41 c0_i32_22
  v42

def k0_off9 (v39 : BitVec 32) : Fin 4 → Nat :=
  let c0_i32_27 : BitVec 32 := 0#32
  let c0_i32_29 : BitVec 32 := 0#32
  let c0_i32_30 : BitVec 32 := 0#32
  ![0, v39.toNat, 0, 0]

def k0_chk2 (v1 : BitVec 32) (v39 : BitVec 32) : Prop :=
  (∀ (k0_h1 : k0_cond1 v1 = 1#1), ∀ (k0_h3 : k0_cond3 v39 = 1#1), ∀ a, (k0_off8 v39) a + S1x1x1024x2048.size a ≤ S4x32x1024x2048.size a) ∧
  (∀ (k0_h1 : k0_cond1 v1 = 1#1), ∀ (k0_h3 : k0_cond3 v39 = 1#1), ∀ a, (k0_off9 v39) a + S1x1x1024x1024.size a ≤ S4x32x1024x1024.size a)
theorem k0_off8_inb : ∀ (v1 : BitVec 32) (v39 : BitVec 32) (k0_hw2 : k0_chk2 v1 v39), ∀ (k0_h1 : k0_cond1 v1 = 1#1), ∀ (k0_h3 : k0_cond3 v39 = 1#1), ∀ a, (k0_off8 v39) a + S1x1x1024x2048.size a ≤ S4x32x1024x2048.size a := fun v1 v39 k0_hw2 k0_h1 k0_h3 => k0_hw2.1 k0_h1 k0_h3
theorem k0_off9_inb : ∀ (v1 : BitVec 32) (v39 : BitVec 32) (k0_hw2 : k0_chk2 v1 v39), ∀ (k0_h1 : k0_cond1 v1 = 1#1), ∀ (k0_h3 : k0_cond3 v39 = 1#1), ∀ a, (k0_off9 v39) a + S1x1x1024x1024.size a ≤ S4x32x1024x1024.size a := fun v1 v39 k0_hw2 k0_h1 k0_h3 => k0_hw2.2 k0_h1 k0_h3

def k0_off10 (i : grid0.Coords) : Fin 1 → Nat :=
  let arg0 : BitVec 32 := BitVec.ofNat 32 (i 0).val
  let v5 : Index := Scalar.indexCast arg0
  ![v5.toNat]
def k0_off11 (i : grid0.Coords) : Fin 1 → Nat :=
  let arg0 : BitVec 32 := BitVec.ofNat 32 (i 0).val
  let v10 : Index := Scalar.indexCast arg0
  ![v10.toNat]
def k0_cond4 (v6 : BitVec 32) : BitVec 1 :=
  let c1_i32_0 : BitVec 32 := 1#32
  let v7 : BitVec 1 := Scalar.cmpi .eq v6 c1_i32_0
  let v8 : BitVec 32 := Scalar.extui v7
  let c0_i32_1 : BitVec 32 := 0#32
  let v9 : BitVec 1 := Scalar.cmpi .ne v8 c0_i32_1
  v9

def k0_cond5 (v11 : BitVec 32) : BitVec 1 :=
  let c0_i32_2 : BitVec 32 := 0#32
  let v12 : BitVec 1 := Scalar.cmpi .eq v11 c0_i32_2
  let v13 : BitVec 32 := Scalar.extui v12
  let c0_i32_3 : BitVec 32 := 0#32
  let v14 : BitVec 1 := Scalar.cmpi .ne v13 c0_i32_3
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S174.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S174) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S174.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S174) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S174 : Shape := ⟨1, ![174]⟩
abbrev S89088x512 : Shape := ⟨2, ![89088, 512]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S89088x1024 : Shape := ⟨2, ![89088, 1024]⟩
abbrev S174x512x1024 : Shape := ⟨3, ![174, 512, 1024]⟩
abbrev S1x32x1024x2048 : Shape := ⟨4, ![1, 32, 1024, 2048]⟩
abbrev S32x1024x2048 : Shape := ⟨3, ![32, 1024, 2048]⟩
abbrev S174x1 : Shape := ⟨2, ![174, 1]⟩
abbrev S1 : Shape := ⟨1, ![1]⟩
abbrev S1x1 : Shape := ⟨2, ![1, 1]⟩
abbrev S174x1024x2048 : Shape := ⟨3, ![174, 1024, 2048]⟩
abbrev S1x32x2048 : Shape := ⟨3, ![1, 32, 2048]⟩
abbrev S32x2048 : Shape := ⟨2, ![32, 2048]⟩
abbrev S174x2048 : Shape := ⟨2, ![174, 2048]⟩
abbrev S1x32x1024x1024 : Shape := ⟨4, ![1, 32, 1024, 1024]⟩
abbrev S32x1024x1024 : Shape := ⟨3, ![32, 1024, 1024]⟩
abbrev S174x1024x1024 : Shape := ⟨3, ![174, 1024, 1024]⟩
abbrev S1x32x1024 : Shape := ⟨3, ![1, 32, 1024]⟩
abbrev S32x1024 : Shape := ⟨2, ![32, 1024]⟩
abbrev S174x1024 : Shape := ⟨2, ![174, 1024]⟩
abbrev S174x512x2048 : Shape := ⟨3, ![174, 512, 2048]⟩
abbrev S174x1x2048 : Shape := ⟨3, ![174, 1, 2048]⟩
abbrev S174x1x1024 : Shape := ⟨3, ![174, 1, 1024]⟩
abbrev S174x1x1 : Shape := ⟨3, ![174, 1, 1]⟩

abbrev nBuf : Space → Nat
  | .hbm => 167
  | .vmem => 0
  | .smem => 0
  | _ => 0

abbrev hbmTy0_0 (i : Nat) : BufTy := match i % 128 with
  | 0 => ⟨S174, .i32⟩
  | 1 => ⟨S174, .i32⟩
  | 2 => ⟨S174, .i32⟩
  | 3 => ⟨S174, .i32⟩
  | 4 => ⟨S89088x512, .i32⟩
  | 5 => ⟨S4x32x1024x2048, .f32⟩
  | 6 => ⟨S4x32x2048, .f32⟩
  | 7 => ⟨S4x32x1024x1024, .f32⟩
  | 8 => ⟨S4x32x1024, .f32⟩
  | 9 => ⟨S_, .i32⟩
  | 10 => ⟨S89088x512, .i32⟩
  | 11 => ⟨S89088x512, .i32⟩
  | 12 => ⟨S89088x512, .f32⟩
  | 13 => ⟨S_, .i32⟩
  | 14 => ⟨S89088x512, .i32⟩
  | 15 => ⟨S89088x512, .i32⟩
  | 16 => ⟨S89088x512, .f32⟩
  | 17 => ⟨S89088x1024, .f32⟩
  | 18 => ⟨S174x512x1024, .f32⟩
  | 19 => ⟨S1x32x1024x2048, .f32⟩
  | 20 => ⟨S32x1024x2048, .f32⟩
  | 21 => ⟨S_, .i32⟩
  | 22 => ⟨S174, .i32⟩
  | 23 => ⟨S174, .i1⟩
  | 24 => ⟨S_, .i32⟩
  | 25 => ⟨S174, .i32⟩
  | 26 => ⟨S174, .i32⟩
  | 27 => ⟨S174, .i32⟩
  | 28 => ⟨S174x1, .i32⟩
  | 29 => ⟨S1, .i32⟩
  | 30 => ⟨S_, .i32⟩
  | 31 => ⟨S174x1, .i32⟩
  | 32 => ⟨S174x1, .i1⟩
  | 33 => ⟨S1x1, .i32⟩
  | 34 => ⟨S174x1, .i32⟩
  | 35 => ⟨S174x1, .i1⟩
  | 36 => ⟨S174x1, .i1⟩
  | 37 => ⟨S_, .i1⟩
  | 38 => ⟨S174, .i1⟩
  | 39 => ⟨S174x1024x2048, .f32⟩
  | 40 => ⟨S174x1024x2048, .i1⟩
  | 41 => ⟨S_, .f32⟩
  | 42 => ⟨S174x1024x2048, .f32⟩
  | 43 => ⟨S174x1024x2048, .f32⟩
  | 44 => ⟨S1x32x2048, .f32⟩
  | 45 => ⟨S32x2048, .f32⟩
  | 46 => ⟨S_, .i32⟩
  | 47 => ⟨S174, .i32⟩
  | 48 => ⟨S174, .i1⟩
  | 49 => ⟨S_, .i32⟩
  | 50 => ⟨S174, .i32⟩
  | 51 => ⟨S174, .i32⟩
  | 52 => ⟨S174, .i32⟩
  | 53 => ⟨S174x1, .i32⟩
  | 54 => ⟨S1, .i32⟩
  | 55 => ⟨S_, .i32⟩
  | 56 => ⟨S174x1, .i32⟩
  | 57 => ⟨S174x1, .i1⟩
  | 58 => ⟨S1x1, .i32⟩
  | 59 => ⟨S174x1, .i32⟩
  | 60 => ⟨S174x1, .i1⟩
  | 61 => ⟨S174x1, .i1⟩
  | 62 => ⟨S_, .i1⟩
  | 63 => ⟨S174, .i1⟩
  | 64 => ⟨S174x2048, .f32⟩
  | 65 => ⟨S174x2048, .i1⟩
  | 66 => ⟨S_, .f32⟩
  | 67 => ⟨S174x2048, .f32⟩
  | 68 => ⟨S174x2048, .f32⟩
  | 69 => ⟨S1x32x1024x1024, .f32⟩
  | 70 => ⟨S32x1024x1024, .f32⟩
  | 71 => ⟨S_, .i32⟩
  | 72 => ⟨S174, .i32⟩
  | 73 => ⟨S174, .i1⟩
  | 74 => ⟨S_, .i32⟩
  | 75 => ⟨S174, .i32⟩
  | 76 => ⟨S174, .i32⟩
  | 77 => ⟨S174, .i32⟩
  | 78 => ⟨S174x1, .i32⟩
  | 79 => ⟨S1, .i32⟩
  | 80 => ⟨S_, .i32⟩
  | 81 => ⟨S174x1, .i32⟩
  | 82 => ⟨S174x1, .i1⟩
  | 83 => ⟨S1x1, .i32⟩
  | 84 => ⟨S174x1, .i32⟩
  | 85 => ⟨S174x1, .i1⟩
  | 86 => ⟨S174x1, .i1⟩
  | 87 => ⟨S_, .i1⟩
  | 88 => ⟨S174, .i1⟩
  | 89 => ⟨S174x1024x1024, .f32⟩
  | 90 => ⟨S174x1024x1024, .i1⟩
  | 91 => ⟨S_, .f32⟩
  | 92 => ⟨S174x1024x1024, .f32⟩
  | 93 => ⟨S174x1024x1024, .f32⟩
  | 94 => ⟨S1x32x1024, .f32⟩
  | 95 => ⟨S32x1024, .f32⟩
  | 96 => ⟨S_, .i32⟩
  | 97 => ⟨S174, .i32⟩
  | 98 => ⟨S174, .i1⟩
  | 99 => ⟨S_, .i32⟩
  | 100 => ⟨S174, .i32⟩
  | 101 => ⟨S174, .i32⟩
  | 102 => ⟨S174, .i32⟩
  | 103 => ⟨S174x1, .i32⟩
  | 104 => ⟨S1, .i32⟩
  | 105 => ⟨S_, .i32⟩
  | 106 => ⟨S174x1, .i32⟩
  | 107 => ⟨S174x1, .i1⟩
  | 108 => ⟨S1x1, .i32⟩
  | 109 => ⟨S174x1, .i32⟩
  | 110 => ⟨S174x1, .i1⟩
  | 111 => ⟨S174x1, .i1⟩
  | 112 => ⟨S_, .i1⟩
  | 113 => ⟨S174, .i1⟩
  | 114 => ⟨S174x1024, .f32⟩
  | 115 => ⟨S174x1024, .i1⟩
  | 116 => ⟨S_, .f32⟩
  | 117 => ⟨S174x1024, .f32⟩
  | 118 => ⟨S174x1024, .f32⟩
  | 119 => ⟨S174x512x2048, .f32⟩
  | 120 => ⟨S174x1x2048, .f32⟩
  | 121 => ⟨S174x512x2048, .f32⟩
  | 122 => ⟨S174x512x2048, .f32⟩
  | 123 => ⟨S174x512x1024, .f32⟩
  | 124 => ⟨S_, .f32⟩
  | 125 => ⟨S174x512x1024, .f32⟩
  | 126 => ⟨S174x512x1024, .f32⟩
  | 127 => ⟨S174x512x1024, .f32⟩
  | _ => ⟨S174, .i32⟩

abbrev hbmTy0_1 (i : Nat) : BufTy := match i % 128 with
  | 0 => ⟨S_, .f32⟩
  | 1 => ⟨S_, .f32⟩
  | 2 => ⟨S_, .f32⟩
  | 3 => ⟨S174x512x1024, .f32⟩
  | 4 => ⟨S174x512x1024, .f32⟩
  | 5 => ⟨S_, .f32⟩
  | 6 => ⟨S174x512x1024, .f32⟩
  | 7 => ⟨S174x512x1024, .f32⟩
  | 8 => ⟨S_, .f32⟩
  | 9 => ⟨S174x512x1024, .f32⟩
  | 10 => ⟨S174x512x1024, .f32⟩
  | 11 => ⟨S174x512x1024, .f32⟩
  | 12 => ⟨S174x512x1024, .f32⟩
  | 13 => ⟨S_, .f32⟩
  | 14 => ⟨S174x512x1024, .f32⟩
  | 15 => ⟨S174x512x1024, .f32⟩
  | 16 => ⟨S_, .f32⟩
  | 17 => ⟨S174x512x1024, .f32⟩
  | 18 => ⟨S174x512x1024, .f32⟩
  | 19 => ⟨S174x512x1024, .f32⟩
  | 20 => ⟨S_, .f32⟩
  | 21 => ⟨S174x512x1024, .f32⟩
  | 22 => ⟨S174x512x1024, .f32⟩
  | 23 => ⟨S174x512x1024, .f32⟩
  | 24 => ⟨S174x512x1024, .f32⟩
  | 25 => ⟨S174x1x1024, .f32⟩
  | 26 => ⟨S174x512x1024, .f32⟩
  | 27 => ⟨S174x512x1024, .f32⟩
  | 28 => ⟨S174x1x1, .i32⟩
  | 29 => ⟨S_, .i32⟩
  | 30 => ⟨S174x1x1, .i32⟩
  | 31 => ⟨S174x1x1, .i1⟩
  | 32 => ⟨S_, .f32⟩
  | 33 => ⟨S_, .f32⟩
  | 34 => ⟨S174x512x1024, .i1⟩
  | 35 => ⟨S174x512x1024, .f32⟩
  | 36 => ⟨S174x512x1024, .f32⟩
  | 37 => ⟨S89088x1024, .f32⟩
  | 38 => ⟨S89088x1024, .bf16⟩
  | _ => ⟨S174, .i32⟩

abbrev hbmTy (i : Nat) : BufTy := match i / 128 with
  | 0 => hbmTy0_0 i
  | 1 => hbmTy0_1 i
  | _ => ⟨S174, .i32⟩

abbrev bufTy : (tb : Table) → Fin (tcTables nBuf tb) → BufTy
  | .hbm, ⟨i, _⟩ => hbmTy i
  | _, _ => ⟨S174, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_call3_c : Ref sig .tc := ⟨.hbm, 96, rfl⟩
abbrev main_call3_v0 : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_c_1 : Ref sig .tc := ⟨.hbm, 104, rfl⟩
abbrev main_call3_c_2 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_c_3 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_call3_cst : Ref sig .tc := ⟨.hbm, 116, rfl⟩
abbrev main_call3_v15 : Ref sig .tc := ⟨.hbm, 117, rfl⟩
abbrev main_v19 : Ref sig .tc := ⟨.hbm, 118, rfl⟩
abbrev main_v20 : Ref sig .tc := ⟨.hbm, 119, rfl⟩
abbrev main_v21 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_cst : Ref sig .tc := ⟨.hbm, 124, rfl⟩
abbrev main_v25 : Ref sig .tc := ⟨.hbm, 125, rfl⟩
abbrev main_v26 : Ref sig .tc := ⟨.hbm, 126, rfl⟩
abbrev main_v27 : Ref sig .tc := ⟨.hbm, 127, rfl⟩
abbrev main_cst_1 : Ref sig .tc := ⟨.hbm, 128, rfl⟩
abbrev main_cst_2 : Ref sig .tc := ⟨.hbm, 129, rfl⟩
abbrev main_call4_v0 : Ref sig .tc := ⟨.hbm, 130, rfl⟩
abbrev main_call4_v1 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_v28 : Ref sig .tc := ⟨.hbm, 135, rfl⟩
abbrev main_cst_3 : Ref sig .tc := ⟨.hbm, 136, rfl⟩
abbrev main_v29 : Ref sig .tc := ⟨.hbm, 137, rfl⟩
abbrev main_v30 : Ref sig .tc := ⟨.hbm, 138, rfl⟩
abbrev main_v31 : Ref sig .tc := ⟨.hbm, 139, rfl⟩
abbrev main_v32 : Ref sig .tc := ⟨.hbm, 140, rfl⟩
abbrev main_cst_4 : Ref sig .tc := ⟨.hbm, 141, rfl⟩
abbrev main_v33 : Ref sig .tc := ⟨.hbm, 142, rfl⟩
abbrev main_v34 : Ref sig .tc := ⟨.hbm, 143, rfl⟩
abbrev main_cst_5 : Ref sig .tc := ⟨.hbm, 144, rfl⟩
abbrev main_v35 : Ref sig .tc := ⟨.hbm, 145, rfl⟩
abbrev main_v36 : Ref sig .tc := ⟨.hbm, 146, rfl⟩
abbrev main_v37 : Ref sig .tc := ⟨.hbm, 147, rfl⟩
abbrev main_cst_6 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_v44 : Ref sig .tc := ⟨.hbm, 155, rfl⟩
abbrev main_v45 : Ref sig .tc := ⟨.hbm, 156, rfl⟩
abbrev main_c_7 : Ref sig .tc := ⟨.hbm, 157, rfl⟩
abbrev main_v46 : Ref sig .tc := ⟨.hbm, 158, rfl⟩
abbrev main_v47 : Ref sig .tc := ⟨.hbm, 159, rfl⟩
abbrev main_cst_8 : Ref sig .tc := ⟨.hbm, 160, rfl⟩
abbrev main_call5_v0 : Ref sig .tc := ⟨.hbm, 161, rfl⟩
abbrev main_call5_v1 : Ref sig .tc := ⟨.hbm, 162, rfl⟩
abbrev main_call5_v2 : Ref sig .tc := ⟨.hbm, 163, rfl⟩
abbrev main_v48 : Ref sig .tc := ⟨.hbm, 164, rfl⟩
abbrev main_v49 : Ref sig .tc := ⟨.hbm, 165, rfl⟩
abbrev main_v50 : Ref sig .tc := ⟨.hbm, 166, rfl⟩

abbrev nD : Nat := 1
abbrev τ : Topo := Topo.v7x

variable {F : FTy → Type} [FloatOps F]
-- ==== Kernel3.lean ====
abbrev S16384x1024 : Shape := ⟨2, ![16384, 1024]⟩
abbrev S8x6x1024 : Shape := ⟨3, ![8, 6, 1024]⟩
abbrev S1024 : Shape := ⟨1, ![1024]⟩
abbrev S1024x6176 : Shape := ⟨2, ![1024, 6176]⟩
abbrev S4x4096 : Shape := ⟨2, ![4, 4096]⟩
abbrev S1024x4096 : Shape := ⟨2, ![1024, 4096]⟩
abbrev S1x1024 : Shape := ⟨2, ![1, 1024]⟩
abbrev S16384x2048 : Shape := ⟨2, ![16384, 2048]⟩
abbrev S256x1024 : Shape := ⟨2, ![256, 1024]⟩
abbrev S1x6x1024 : Shape := ⟨3, ![1, 6, 1024]⟩
abbrev S256x2048 : Shape := ⟨2, ![256, 2048]⟩
abbrev S272x4096 : Shape := ⟨2, ![272, 4096]⟩
abbrev S6x1024 : Shape := ⟨2, ![6, 1024]⟩
abbrev S256 : Shape := ⟨1, ![256]⟩
abbrev S256x1 : Shape := ⟨2, ![256, 1]⟩
abbrev S8x4096 : Shape := ⟨2, ![8, 4096]⟩
abbrev S256x4096 : Shape := ⟨2, ![256, 4096]⟩
abbrev S264x4096 : Shape := ⟨2, ![264, 4096]⟩
abbrev S1x4096 : Shape := ⟨2, ![1, 4096]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x6176, .f32⟩
  | .hbm, ⟨4, _⟩ => ⟨S4x4096, .f32⟩
  | .hbm, ⟨5, _⟩ => ⟨S1024x4096, .f32⟩
  | .hbm, ⟨6, _⟩ => ⟨S1024x4096, .bf16⟩
  | .hbm, ⟨7, _⟩ => ⟨S1x1024, .f32⟩
  | .hbm, ⟨8, _⟩ => ⟨S16384x1024, .bf16⟩
  | .hbm, ⟨9, _⟩ => ⟨S16384x1024, .bf16⟩
  | .hbm, ⟨10, _⟩ => ⟨S16384x2048, .bf16⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x4096, .bf16⟩
  | .local _ .vmem, ⟨6, _⟩ => ⟨S4x4096, .f32⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x2048, .bf16⟩
  | .local _ .vmem, ⟨12, _⟩ => ⟨S256x2048, .bf16⟩
  | .local _ .vmem, ⟨13, _⟩ => ⟨S272x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x1024 : Shape := ⟨2, ![16384, 1024]⟩
abbrev S8x6x1024 : Shape := ⟨3, ![8, 6, 1024]⟩
abbrev S1024 : Shape := ⟨1, ![1024]⟩
abbrev S1024x6176 : Shape := ⟨2, ![1024, 6176]⟩
abbrev S4x4096 : Shape := ⟨2, ![4, 4096]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S8x2048x6176 : Shape := ⟨3, ![8, 2048, 6176]⟩
abbrev S8x2048x4096 : Shape := ⟨3, ![8, 2048, 4096]⟩
abbrev S8x2051x4096 : Shape := ⟨3, ![8, 2051, 4096]⟩
abbrev S1x4096 : Shape := ⟨2, ![1, 4096]⟩
abbrev S4096 : Shape := ⟨1, ![4096]⟩
abbrev S1x1x4096 : Shape := ⟨3, ![1, 1, 4096]⟩
abbrev S16384x8x128 : Shape := ⟨3, ![16384, 8, 128]⟩
abbrev S16384x8 : Shape := ⟨2, ![16384, 8]⟩
abbrev S16384x8x1 : Shape := ⟨3, ![16384, 8, 1]⟩
abbrev S8x2048x2048 : Shape := ⟨3, ![8, 2048, 2048]⟩
abbrev S16384x2048 : Shape := ⟨2, ![16384, 2048]⟩

abbrev nBuf : Space → Nat
  | .hbm => 113
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x6176, .f32⟩
  | .hbm, ⟨4, _⟩ => ⟨S4x4096, .f32⟩
  | .hbm, ⟨5, _⟩ => ⟨S8x2048x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x1x1024, .f32⟩
  | .hbm, ⟨23, _⟩ => ⟨S8x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x1x1024, .f32⟩
  | .hbm, ⟨31, _⟩ => ⟨S8x1024, .f32⟩
  | .hbm, ⟨32, _⟩ => ⟨S8x1x1024, .f32⟩
  | .hbm, ⟨33, _⟩ => ⟨S8x2048x1024, .f32⟩
  | .hbm, ⟨34, _⟩ => ⟨S8x2048x1024, .f32⟩
  | .hbm, ⟨35, _⟩ => ⟨S8x2048x6176, .f32⟩
  | .hbm, ⟨36, _⟩ => ⟨S8x2048x4096, .f32⟩
  | .hbm, ⟨37, _⟩ => ⟨S_, .i32⟩
  | .hbm, ⟨38, _⟩ => ⟨S_, .f32⟩
  | .hbm, ⟨39, _⟩ => ⟨S8x2051x4096, .f32⟩
  | .hbm, ⟨40, _⟩ => ⟨S8x2048x4096, .f32⟩
  | .hbm, ⟨41, _⟩ => ⟨S1x4096, .f32⟩
  | .hbm, ⟨42, _⟩ => ⟨S4096, .f32⟩
  | .hbm, ⟨43, _⟩ => ⟨S1x1x4096, .f32⟩
  | .hbm, ⟨44, _⟩ => ⟨S8x2048x4096, .f32⟩
  | .hbm, ⟨45, _⟩ => ⟨S8x2048x4096, .f32⟩
  | .hbm, ⟨46, _⟩ => ⟨S_, .f32⟩
  | .hbm, ⟨47, _⟩ => ⟨S8x2048x4096, .f32⟩
  | .hbm, ⟨48, _⟩ => ⟨S8x2048x4096, .f32⟩
  | .hbm, ⟨49, _⟩ => ⟨S8x2048x4096, .f32⟩
  | .hbm, ⟨50, _⟩ => ⟨S1x4096, .f32⟩
  | .hbm, ⟨51, _⟩ => ⟨S4096, .f32⟩
  | .hbm, ⟨52, _⟩ => ⟨S1x1x4096, .f32⟩
  | .hbm, ⟨53, _⟩ => ⟨S8x2048x4096, .f32⟩
  | .hbm, ⟨54, _⟩ => ⟨S8x2048x4096, .f32⟩
  | .hbm, ⟨55, _⟩ => ⟨S8x2048x4096, .f32⟩
  | .hbm, ⟨56, _⟩ => ⟨S8x2048x4096, .f32⟩
  | .hbm, ⟨57, _⟩ => ⟨S1x4096, .f32⟩
  | .hbm, ⟨58, _⟩ => ⟨S4096, .f32⟩
  | .hbm, ⟨59, _⟩ => ⟨S1x1x4096, .f32⟩
  | .hbm, ⟨60, _⟩ => ⟨S8x2048x4096, .f32⟩
  | .hbm, ⟨61, _⟩ => ⟨S8x2048x4096, .f32⟩
  | .hbm, ⟨62, _⟩ => ⟨S8x2048x4096, .f32⟩
  | .hbm, ⟨63, _⟩ => ⟨S8x2048x4096, .f32⟩
  | .hbm, ⟨64, _⟩ => ⟨S1x4096, .f32⟩
  | .hbm, ⟨65, _⟩ => ⟨S4096, .f32⟩
  | .hbm, ⟨66, _⟩ => ⟨S1x1x4096, .f32⟩
  | .hbm, ⟨67, _⟩ => ⟨S8x2048x4096, .f32⟩
  | .hbm, ⟨68, _⟩ => ⟨S8x2048x4096, .f32⟩
  | .hbm, ⟨69, _⟩ => ⟨S8x2048x4096, .f32⟩
  | .hbm, ⟨70, _⟩ => ⟨S8x2048x4096, .f32⟩
  | .hbm, ⟨71, _⟩ => ⟨S8x2048x4096, .f32⟩
  | .hbm, ⟨72, _⟩ => ⟨S_, .f32⟩
  | .hbm, ⟨73, _⟩ => ⟨S8x2048x4096, .f32⟩
  | .hbm, ⟨74, _⟩ => ⟨S8x2048x4096, .f32⟩
  | .hbm, ⟨75, _⟩ => ⟨S_, .f32⟩
  | .hbm, ⟨76, _⟩ => ⟨S8x2048x4096, .f32⟩
  | .hbm, ⟨77, _⟩ => ⟨S8x2048x4096, .f32⟩
  | .hbm, ⟨78, _⟩ => ⟨S8x2048x4096, .f32⟩
  | .hbm, ⟨79, _⟩ => ⟨S8x2048x1024, .f32⟩
  | .hbm, ⟨80, _⟩ => ⟨S16384x8x128, .f32⟩
  | .hbm, ⟨81, _⟩ => ⟨S16384x8x128, .f32⟩
  | .hbm, ⟨82, _⟩ => ⟨S_, .f32⟩
  | .hbm, ⟨83, _⟩ => ⟨S16384x8, .f32⟩
  | .hbm, ⟨84, _⟩ => ⟨S16384x8x1, .f32⟩
  | .hbm, ⟨85, _⟩ => ⟨S_, .f32⟩
  | .hbm, ⟨86, _⟩ => ⟨S16384x8x1, .f32⟩
  | .hbm, ⟨87, _⟩ => ⟨S16384x8x1, .f32⟩
  | .hbm, ⟨88, _⟩ => ⟨S16384x8x1, .f32⟩
  | .hbm, ⟨89, _⟩ => ⟨S16384x8x128, .f32⟩
  | .hbm, ⟨90, _⟩ => ⟨S16384x8x128, .f32⟩
  | .hbm, ⟨91, _⟩ => ⟨S_, .f32⟩
  | .hbm, ⟨92, _⟩ => ⟨S16384x8x128, .f32⟩
  | .hbm, ⟨93, _⟩ => ⟨S16384x8x128, .f32⟩
  | .hbm, ⟨94, _⟩ => ⟨S8x2048x1024, .f32⟩
  | .hbm, ⟨95, _⟩ => ⟨S16384x8x128, .f32⟩
  | .hbm, ⟨96, _⟩ => ⟨S16384x8x128, .f32⟩
  | .hbm, ⟨97, _⟩ => ⟨S_, .f32⟩
  | .hbm, ⟨98, _⟩ => ⟨S16384x8, .f32⟩
  | .hbm, ⟨99, _⟩ => ⟨S16384x8x1, .f32⟩
  | .hbm, ⟨100, _⟩ => ⟨S_, .f32⟩
  | .hbm, ⟨101, _⟩ => ⟨S16384x8x1, .f32⟩
  | .hbm, ⟨102, _⟩ => ⟨S16384x8x1, .f32⟩
  | .hbm, ⟨103, _⟩ => ⟨S16384x8x1, .f32⟩
  | .hbm, ⟨104, _⟩ => ⟨S16384x8x128, .f32⟩
  | .hbm, ⟨105, _⟩ => ⟨S16384x8x128, .f32⟩
  | .hbm, ⟨106, _⟩ => ⟨S8x2048x2048, .f32⟩
  | .hbm, ⟨107, _⟩ => ⟨S16384x1024, .f32⟩
  | .hbm, ⟨108, _⟩ => ⟨S16384x1024, .bf16⟩
  | .hbm, ⟨109, _⟩ => ⟨S16384x1024, .f32⟩
  | .hbm, ⟨110, _⟩ => ⟨S16384x1024, .bf16⟩
  | .hbm, ⟨111, _⟩ => ⟨S16384x2048, .f32⟩
  | .hbm, ⟨112, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_call0_v0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_4 : Ref sig .tc := ⟨.hbm, 82, rfl⟩
abbrev main_v62 : Ref sig .tc := ⟨.hbm, 83, rfl⟩
abbrev main_v63 : Ref sig .tc := ⟨.hbm, 84, rfl⟩
abbrev main_cst_5 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_6 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_7 : Ref sig .tc := ⟨.hbm, 97, rfl⟩
abbrev main_v74 : Ref sig .tc := ⟨.hbm, 98, rfl⟩
abbrev main_v75 : Ref sig .tc := ⟨.hbm, 99, rfl⟩
abbrev main_cst_8 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩

abbrev nD : Nat := 1
abbrev τ : Topo := Topo.v7x

variable {F : FTy → Type} [FloatOps F]
-- ==== Kernel4.lean ====
abbrev S16384x1024 : Shape := ⟨2, ![16384, 1024]⟩
abbrev S8x6x1024 : Shape := ⟨3, ![8, 6, 1024]⟩
abbrev S1024 : Shape := ⟨1, ![1024]⟩
abbrev S1024x6176 : Shape := ⟨2, ![1024, 6176]⟩
abbrev S16 : Shape := ⟨1, ![16]⟩
abbrev S_ : Shape := ⟨0, ![]⟩
abbrev S1024x2176 : Shape := ⟨2, ![1024, 2176]⟩
abbrev S1024x2080 : Shape := ⟨2, ![1024, 2080]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S16384x2048 : Shape := ⟨2, ![16384, 2048]⟩
abbrev S16384x128 : Shape := ⟨2, ![16384, 128]⟩
abbrev S256x1024 : Shape := ⟨2, ![256, 1024]⟩
abbrev S1x6x1024 : Shape := ⟨3, ![1, 6, 1024]⟩
abbrev S256x2048 : Shape := ⟨2, ![256, 2048]⟩
abbrev S256x128 : Shape := ⟨2, ![256, 128]⟩
abbrev S6x1024 : Shape := ⟨2, ![6, 1024]⟩
abbrev S256 : Shape := ⟨1, ![256]⟩
abbrev S256x1 : Shape := ⟨2, ![256, 1]⟩
abbrev S256x2176 : Shape := ⟨2, ![256, 2176]⟩

abbrev nBuf : Space → Nat
  | .hbm => 30
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x6176, .f32⟩
  | .hbm, ⟨4, _⟩ => ⟨S16, .f32⟩
  | .hbm, ⟨5, _⟩ => ⟨S16, .f32⟩
  | .hbm, ⟨6, _⟩ => ⟨S_, .bf16⟩
  | .hbm, ⟨7, _⟩ => ⟨S1024x2176, .bf16⟩
  | .hbm, ⟨8, _⟩ => ⟨S1024x2080, .f32⟩
  | .hbm, ⟨9, _⟩ => ⟨S1024x2080, .bf16⟩
  | .hbm, ⟨10, _⟩ => ⟨S_, .i32⟩
  | .hbm, ⟨11, _⟩ => ⟨S1, .i32⟩
  | .hbm, ⟨12, _⟩ => ⟨S1024x2176, .bf16⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S1x128, .f32⟩
  | .hbm, ⟨27, _⟩ => ⟨S1x1024, .f32⟩
  | .hbm, ⟨28, _⟩ => ⟨S16384x2048, .bf16⟩
  | .hbm, ⟨29, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2176, .bf16⟩
  | .local _ .vmem, ⟨6, _⟩ => ⟨S1x128, .f32⟩
  | .local _ .vmem, ⟨7, _⟩ => ⟨S1x128, .f32⟩
  | .local _ .vmem, ⟨8, _⟩ => ⟨S256x2048, .bf16⟩
  | .local _ .vmem, ⟨9, _⟩ => ⟨S256x2048, .bf16⟩
  | .local _ .vmem, ⟨10, _⟩ => ⟨S256x128, .f32⟩
  | .local _ .vmem, ⟨11, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2176 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16384x1024 : Shape := ⟨2, ![16384, 1024]⟩
abbrev S8x6x1024 : Shape := ⟨3, ![8, 6, 1024]⟩
abbrev S1024 : Shape := ⟨1, ![1024]⟩
abbrev S1024x6176 : Shape := ⟨2, ![1024, 6176]⟩
abbrev S16 : Shape := ⟨1, ![16]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S8x2048x6176 : Shape := ⟨3, ![8, 2048, 6176]⟩
abbrev S8x2048x2048 : Shape := ⟨3, ![8, 2048, 2048]⟩
abbrev S8x2048x16 : Shape := ⟨3, ![8, 2048, 16]⟩
abbrev S8x2048x112 : Shape := ⟨3, ![8, 2048, 112]⟩
abbrev S112 : Shape := ⟨1, ![112]⟩
abbrev S1x1x112 : Shape := ⟨3, ![1, 1, 112]⟩
abbrev S8x32x64x112 : Shape := ⟨4, ![8, 32, 64, 112]⟩
abbrev S16384x2048 : Shape := ⟨2, ![16384, 2048]⟩
abbrev S8x2048x128 : Shape := ⟨3, ![8, 2048, 128]⟩
abbrev S16384x128 : Shape := ⟨2, ![16384, 128]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x6176, .f32⟩
  | .hbm, ⟨4, _⟩ => ⟨S16, .f32⟩
  | .hbm, ⟨5, _⟩ => ⟨S16, .f32⟩
  | .hbm, ⟨6, _⟩ => ⟨S8x2048x1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x1x1024, .f32⟩
  | .hbm, ⟨24, _⟩ => ⟨S8x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x2048x1024, .f32⟩
  | .hbm, ⟨30, _⟩ => ⟨S8x2048x1024, .f32⟩
  | .hbm, ⟨31, _⟩ => ⟨S8x1x1024, .f32⟩
  | .hbm, ⟨32, _⟩ => ⟨S8x1024, .f32⟩
  | .hbm, ⟨33, _⟩ => ⟨S8x1x1024, .f32⟩
  | .hbm, ⟨34, _⟩ => ⟨S8x2048x1024, .f32⟩
  | .hbm, ⟨35, _⟩ => ⟨S8x2048x1024, .f32⟩
  | .hbm, ⟨36, _⟩ => ⟨S8x2048x6176, .f32⟩
  | .hbm, ⟨37, _⟩ => ⟨S8x2048x2048, .f32⟩
  | .hbm, ⟨38, _⟩ => ⟨S8x2048x16, .f32⟩
  | .hbm, ⟨39, _⟩ => ⟨S8x2048x16, .f32⟩
  | .hbm, ⟨40, _⟩ => ⟨S8x2048x16, .f32⟩
  | .hbm, ⟨41, _⟩ => ⟨S_, .f32⟩
  | .hbm, ⟨42, _⟩ => ⟨S8x2048x16, .f32⟩
  | .hbm, ⟨43, _⟩ => ⟨S8x2048x16, .f32⟩
  | .hbm, ⟨44, _⟩ => ⟨S_, .f32⟩
  | .hbm, ⟨45, _⟩ => ⟨S8x2048x16, .f32⟩
  | .hbm, ⟨46, _⟩ => ⟨S8x2048x16, .f32⟩
  | .hbm, ⟨47, _⟩ => ⟨S8x2048x16, .f32⟩
  | .hbm, ⟨48, _⟩ => ⟨S_, .i32⟩
  | .hbm, ⟨49, _⟩ => ⟨S_, .f32⟩
  | .hbm, ⟨50, _⟩ => ⟨S8x2048x112, .f32⟩
  | .hbm, ⟨51, _⟩ => ⟨S_, .i32⟩
  | .hbm, ⟨52, _⟩ => ⟨S_, .f32⟩
  | .hbm, ⟨53, _⟩ => ⟨S112, .f32⟩
  | .hbm, ⟨54, _⟩ => ⟨S112, .f32⟩
  | .hbm, ⟨55, _⟩ => ⟨S112, .f32⟩
  | .hbm, ⟨56, _⟩ => ⟨S_, .i32⟩
  | .hbm, ⟨57, _⟩ => ⟨S_, .f32⟩
  | .hbm, ⟨58, _⟩ => ⟨S112, .f32⟩
  | .hbm, ⟨59, _⟩ => ⟨S1x1x112, .f32⟩
  | .hbm, ⟨60, _⟩ => ⟨S8x2048x112, .f32⟩
  | .hbm, ⟨61, _⟩ => ⟨S8x2048x112, .f32⟩
  | .hbm, ⟨62, _⟩ => ⟨S_, .f32⟩
  | .hbm, ⟨63, _⟩ => ⟨S8x2048x112, .f32⟩
  | .hbm, ⟨64, _⟩ => ⟨S8x2048x112, .f32⟩
  | .hbm, ⟨65, _⟩ => ⟨S8x2048x112, .f32⟩
  | .hbm, ⟨66, _⟩ => ⟨S8x2048x112, .f32⟩
  | .hbm, ⟨67, _⟩ => ⟨S8x2048x112, .i1⟩
  | .hbm, ⟨68, _⟩ => ⟨S8x2048x112, .f32⟩
  | .hbm, ⟨69, _⟩ => ⟨S8x2048x112, .f32⟩
  | .hbm, ⟨70, _⟩ => ⟨S8x2048x112, .f32⟩
  | .hbm, ⟨71, _⟩ => ⟨S8x2048x112, .f32⟩
  | .hbm, ⟨72, _⟩ => ⟨S8x2048x112, .f32⟩
  | .hbm, ⟨73, _⟩ => ⟨S8x2048x112, .f32⟩
  | .hbm, ⟨74, _⟩ => ⟨S8x2048x112, .f32⟩
  | .hbm, ⟨75, _⟩ => ⟨S8x2048x112, .f32⟩
  | .hbm, ⟨76, _⟩ => ⟨S1x1x112, .f32⟩
  | .hbm, ⟨77, _⟩ => ⟨S8x2048x112, .f32⟩
  | .hbm, ⟨78, _⟩ => ⟨S8x2048x112, .f32⟩
  | .hbm, ⟨79, _⟩ => ⟨S8x32x64x112, .f32⟩
  | .hbm, ⟨80, _⟩ => ⟨S_, .f32⟩
  | .hbm, ⟨81, _⟩ => ⟨S_, .f32⟩
  | .hbm, ⟨82, _⟩ => ⟨S8x32x64x112, .f32⟩
  | .hbm, ⟨83, _⟩ => ⟨S8x2048x112, .f32⟩
  | .hbm, ⟨84, _⟩ => ⟨S16384x2048, .f32⟩
  | .hbm, ⟨85, _⟩ => ⟨S16384x2048, .bf16⟩
  | .hbm, ⟨86, _⟩ => ⟨S8x2048x128, .f32⟩
  | .hbm, ⟨87, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_call0_v0 : Ref sig .tc := ⟨.hbm, 49, rfl⟩
abbrev main_v36 : Ref sig .tc := ⟨.hbm, 50, rfl⟩
abbrev main_c_5 : Ref sig .tc := ⟨.hbm, 51, rfl⟩
abbrev main_call1_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_call2_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call3_cst : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call4_call0_cst : Ref sig .tc := ⟨.hbm, 80, rfl⟩
abbrev main_call4_call0_v0 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩

abbrev nD : Nat := 1
abbrev τ : Topo := Topo.v7x

variable {F : FTy → Type} [FloatOps F]
-- ==== Kernel5.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x6144x8, .f32⟩
  | .hbm, ⟨13, _⟩ => ⟨S4x8x6144, .f32⟩
  | .hbm, ⟨14, _⟩ => ⟨S4x1x6144, .f32⟩
  | .hbm, ⟨15, _⟩ => ⟨S4x8x6144, .f32⟩
  | .hbm, ⟨16, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Softmax.lean ====
/- Scalar facts about a softmax-weighted sum taken block by block over the extended reals. -/
module

public import Idealize.ShloMosaic.PureOps.Ideal
public import Idealize.ShloMosaic.PureOps.Ideal.Laws

@[expose] public section

noncomputable section

namespace Cert.Softmax

open Idealize.ShloMosaic

/-- The exponential of a value that is not `⊤` is a real number at least zero. -/
theorem exp_real {x : EReal} (hx : x ≠ ⊤) : ∃ r : ℝ, 0 ≤ r ∧ Ideal.exp x = (r : EReal) := by
  induction x with
  | bot => exact ⟨0, le_refl _, by simp⟩
  | top => exact absurd rfl hx
  | coe r => exact ⟨Real.exp r, (Real.exp_pos r).le, by simp⟩

theorem sub_ne_top {x m : EReal} (hx : x ≤ m) (hm : m ≠ ⊤) : x - m ≠ ⊤ := by
  induction m with
  | bot => obtain rfl : x = ⊥ := le_bot_iff.mp hx; simp [sub_eq_add_neg]
  | top => exact absurd rfl hm
  | coe r =>
    induction x with
    | bot => simp [sub_eq_add_neg]
    | top => simp at hx
    | coe q => rw [← EReal.coe_sub]; exact EReal.coe_ne_top _

/-- Moving an exponential from the maximum `m` to a greater one `m'`. -/
theorem exp_rescale {x m m' : EReal} (hx : x ≤ m) (hm : m ≤ m') (ht : m' ≠ ⊤) :
    Ideal.exp (m - m') * Ideal.exp (x - m) = Ideal.exp (x - m') := by
  induction x with
  | bot =>
    have h1 : (⊥ : EReal) - m = ⊥ := by simp [sub_eq_add_neg]
    have h2 : (⊥ : EReal) - m' = ⊥ := by simp [sub_eq_add_neg]
    rw [h1, h2]; simp
  | top =>
    exact absurd (top_le_iff.mp (hx.trans hm)) ht
  | coe q =>
    induction m with
    | bot => simp at hx
    | top => exact absurd (top_le_iff.mp hm) ht
    | coe r =>
      induction m' with
      | bot => simp at hm
      | top => exact absurd rfl ht
      | coe r' =>
        rw [← EReal.coe_sub, ← EReal.coe_sub, ← EReal.coe_sub, Ideal.exp_coe, Ideal.exp_coe, Ideal.exp_coe,
          ← EReal.coe_mul, ← Real.exp_add]
        congr 2; ring

/-- A real factor at least zero goes inside a finite sum of extended reals. -/
theorem mul_sum {ι : Type} (c : EReal) (h0 : 0 ≤ c) (ht : c ≠ ⊤) (S : Finset ι) (f : ι → EReal) :
    c * ∑ k ∈ S, f k = ∑ k ∈ S, c * f k := by
  classical
  induction S using Finset.induction_on with
  | empty => simp
  | insert a S ha ih =>
    rw [Finset.sum_insert ha, Finset.sum_insert ha, EReal.left_distrib_of_nonneg_of_ne_top h0 ht, ih]

/-- The greatest of the first `n` scores. -/
def M (s : ℕ → EReal) (n : ℕ) : EReal := (Finset.range n).sup s
/-- The sum of the first `n` exponentials, taken from their greatest score. -/
def L (s : ℕ → EReal) (n : ℕ) : EReal := ∑ k ∈ Finset.range n, Ideal.exp (s k - M s n)
/-- The sum of the first `n` values, each times its exponential. -/
def A (s v : ℕ → EReal) (n : ℕ) : EReal := ∑ k ∈ Finset.range n, v k * Ideal.exp (s k - M s n)

variable {s v : ℕ → EReal}

theorem M_zero : M s 0 = ⊥ := rfl
theorem L_zero : L s 0 = 0 := rfl
theorem A_zero : A s v 0 = 0 := rfl

theorem le_M {n k : ℕ} (h : k < n) : s k ≤ M s n := Finset.le_sup (f := s) (Finset.mem_range.mpr h)

theorem M_ne_top (hs : ∀ k, s k ≠ ⊤) (n : ℕ) : M s n ≠ ⊤ := by
  induction n with
  | zero => simp [M]
  | succ n ih =>
    have : M s (n + 1) = s n ⊔ M s n := by simp [M, Finset.range_add_one]
    rw [this]
    rcases max_choice (s n) (M s n) with h | h
    · rw [show s n ⊔ M s n = s n from h]; exact hs n
    · rw [show s n ⊔ M s n = M s n from h]; exact ih

theorem M_add (n w : ℕ) : M s (n + w) = max (M s n) ((Finset.univ : Finset (Fin w)).sup fun k => s (n + k)) := by
  have h : (Finset.univ : Finset (Fin w)).sup (fun k => s (n + k)) = (Finset.range w).sup fun k => s (n + k) := by
    apply le_antisymm
    · exact Finset.sup_le fun k _ => Finset.le_sup (f := fun k => s (n + k)) (Finset.mem_range.mpr k.isLt)
    · exact Finset.sup_le fun k hk =>
        Finset.le_sup (f := fun k : Fin w => s (n + k)) (Finset.mem_univ (⟨k, Finset.mem_range.mp hk⟩ : Fin w))
  rw [h]
  apply le_antisymm
  · refine Finset.sup_le fun k hk => ?_
    rw [Finset.mem_range] at hk
    by_cases hn : k < n
    · exact le_max_of_le_left (le_M hn)
    · refine le_max_of_le_right ?_
      have e : n + (k - n) = k := by omega
      have := Finset.le_sup (f := fun k => s (n + k)) (Finset.mem_range.mpr (show k - n < w by omega))
      simpa only [e] using this
  · refine max_le ?_ ?_
    · exact Finset.sup_le fun k hk => le_M (by rw [Finset.mem_range] at hk; omega)
    · exact Finset.sup_le fun k hk => le_M (by rw [Finset.mem_range] at hk; omega)

theorem M_mono {n n' : ℕ} (h : n ≤ n') : M s n ≤ M s n' :=
  Finset.sup_le fun k hk => le_M (lt_of_lt_of_le (Finset.mem_range.mp hk) h)

theorem L_add (hs : ∀ k, s k ≠ ⊤) (n w : ℕ) :
    L s (n + w) = Ideal.exp (M s n - M s (n + w)) * L s n + ∑ k : Fin w, Ideal.exp (s (n + k) - M s (n + w)) := by
  have ht := M_ne_top hs (n + w)
  have hm : M s n ≤ M s (n + w) := M_mono (Nat.le_add_right n w)
  obtain ⟨r, hr0, hr⟩ := exp_real (sub_ne_top hm ht)
  unfold L
  rw [Finset.sum_range_add, Finset.sum_range (n := w),
    mul_sum _ (by rw [hr]; exact_mod_cast hr0) (by rw [hr]; exact EReal.coe_ne_top _)]
  congr 1
  exact Finset.sum_congr rfl fun k hk => (exp_rescale (le_M (Finset.mem_range.mp hk)) hm ht).symm

theorem A_add (hs : ∀ k, s k ≠ ⊤) (n w : ℕ) :
    A s v (n + w) = Ideal.exp (M s n - M s (n + w)) * A s v n
      + ∑ k : Fin w, v (n + k) * Ideal.exp (s (n + k) - M s (n + w)) := by
  have ht := M_ne_top hs (n + w)
  have hm : M s n ≤ M s (n + w) := M_mono (Nat.le_add_right n w)
  obtain ⟨r, hr0, hr⟩ := exp_real (sub_ne_top hm ht)
  unfold A
  rw [Finset.sum_range_add, Finset.sum_range (n := w),
    mul_sum _ (by rw [hr]; exact_mod_cast hr0) (by rw [hr]; exact EReal.coe_ne_top _)]
  congr 1
  refine Finset.sum_congr rfl fun k hk => ?_
  rw [mul_left_comm, exp_rescale (le_M (Finset.mem_range.mp hk)) hm ht]

/-- Scores past `n` that are all `⊥` change nothing. -/
theorem M_stop {n N : ℕ} (h : n ≤ N) (hb : ∀ k, n ≤ k → s k = ⊥) : M s N = M s n := by
  apply le_antisymm
  · refine Finset.sup_le fun k _ => ?_
    by_cases hk : k < n
    · exact le_M hk
    · rw [hb k (by omega)]; exact bot_le
  · exact M_mono h

theorem L_stop {n N : ℕ} (h : n ≤ N) (hb : ∀ k, n ≤ k → s k = ⊥) : L s N = L s n := by
  unfold L
  rw [M_stop h hb]
  obtain ⟨w, rfl⟩ := Nat.exists_eq_add_of_le h
  rw [Finset.sum_range_add]
  have : ∑ k ∈ Finset.range w, Ideal.exp (s (n + k) - M s n) = 0 :=
    Finset.sum_eq_zero fun k _ => by rw [hb _ (Nat.le_add_right n k)]; simp [sub_eq_add_neg]
  rw [this, add_zero]

theorem A_stop {n N : ℕ} (h : n ≤ N) (hb : ∀ k, n ≤ k → s k = ⊥) : A s v N = A s v n := by
  unfold A
  rw [M_stop h hb]
  obtain ⟨w, rfl⟩ := Nat.exists_eq_add_of_le h
  rw [Finset.sum_range_add]
  have : ∑ k ∈ Finset.range w, v (n + k) * Ideal.exp (s (n + k) - M s n) = 0 :=
    Finset.sum_eq_zero fun k _ => by rw [hb _ (Nat.le_add_right n k)]; simp [sub_eq_add_neg]
  rw [this, add_zero]

theorem sum_exp_real (hs : ∀ k, s k ≠ ⊤) (n : ℕ) (S : Finset ℕ) (hS : ∀ k ∈ S, k < n) :
    ∃ r : ℝ, 0 ≤ r ∧ ∑ k ∈ S, Ideal.exp (s k - M s n) = (r : EReal) := by
  classical
  induction S using Finset.induction_on with
  | empty => exact ⟨0, le_refl _, by simp⟩
  | insert a S ha ih =>
    obtain ⟨r, hr0, hr⟩ := ih fun k hk => hS k (Finset.mem_insert_of_mem hk)
    obtain ⟨q, hq0, hq⟩ := exp_real (sub_ne_top (le_M (s := s) (hS a (Finset.mem_insert_self a S))) (M_ne_top hs n))
    refine ⟨q + r, add_nonneg hq0 hr0, ?_⟩
    rw [Finset.sum_insert ha, hr, hq, ← EReal.coe_add]

/-- With one score above `⊥` the sum of the exponentials is a real number above zero. -/
theorem L_pos (hs : ∀ k, s k ≠ ⊤) {n k₀ : ℕ} (hk : k₀ < n) (hk₀ : s k₀ ≠ ⊥) :
    ∃ r : ℝ, 0 < r ∧ L s n = (r : EReal) := by
  obtain ⟨a, ha, hmax⟩ : ∃ a ∈ Finset.range n, M s n = s a :=
    Finset.exists_mem_eq_sup _ ⟨k₀, Finset.mem_range.mpr hk⟩ s
  have hbot : s a ≠ ⊥ := fun h => hk₀ (le_bot_iff.mp (h ▸ hmax ▸ le_M hk))
  have hone : Ideal.exp (s a - M s n) = 1 := by
    rw [hmax]
    have := hs a
    generalize s a = x at *
    induction x with
    | bot => exact absurd rfl hbot
    | top => exact absurd rfl this
    | coe r => rw [← EReal.coe_sub, sub_self, Ideal.exp_coe, Real.exp_zero]; rfl
  obtain ⟨r, hr0, hr⟩ := sum_exp_real hs n ((Finset.range n).erase a)
    fun k hk => Finset.mem_range.mp (Finset.mem_of_mem_erase hk)
  refine ⟨1 + r, by linarith, ?_⟩
  unfold L
  rw [← Finset.add_sum_erase _ _ ha, hone, hr, EReal.coe_add]; rfl

/-- The softmax-weighted sum, its weights divided one by one, is the weighted sum divided once. -/
theorem div_A (hs : ∀ k, s k ≠ ⊤) {n N k₀ : ℕ} (h : n ≤ N) (hb : ∀ k, n ≤ k → s k = ⊥) (hk : k₀ < n)
    (hk₀ : s k₀ ≠ ⊥) :
    Ideal.div (A s v n) (L s n)
      = ∑ k ∈ Finset.range N, v k * Ideal.div (Ideal.exp (s k - M s N)) (L s N) := by
  rw [← A_stop (v := v) h hb, ← L_stop h hb]
  obtain ⟨r, hr0, hr⟩ := L_pos hs (lt_of_lt_of_le hk h) hk₀
  have hne : ((r : ℝ) : EReal) ≠ 0 := by exact_mod_cast hr0.ne'
  have hdiv : ∀ x : EReal, Ideal.div x (r : EReal) = ((r⁻¹ : ℝ) : EReal) * x := fun x => by
    unfold Ideal.div; rw [if_neg hne, mul_comm, EReal.coe_inv]
  rw [hr, hdiv]
  unfold A
  rw [mul_sum _ (by exact_mod_cast (inv_pos.mpr hr0).le) (EReal.coe_ne_top _)]
  refine Finset.sum_congr rfl fun k _ => ?_
  rw [hdiv, mul_left_comm]

end Cert.Softmax

end
-- ==== Proof.Step.lean ====
/- One block of keys folded into a head's running maximum, running sum and running weighted values,
   read as the partial sums of `Cert.Softmax`. -/
module

public import proofs.«01_k».proof.Proof.Gen.KernelIdeal.Value
public import proofs.«01_k».proof.Proof.Softmax
public import Idealize.ShloMosaic.Lib.Pointwise
public import Idealize.ShloMosaic.Lib.WordArith

@[expose] public section

set_option maxRecDepth 16384

noncomputable section

namespace Cert.KernelIdeal.Att

open Cert.KernelIdeal Cert.KernelIdeal.Gen Idealize.ShloMosaic Cert.Softmax

/-- A head's running state: maximum and sum (one per query), weighted values (one column per query). -/
abbrev Tri : Type := FVec Ideal S1x256 .f32 × FVec Ideal S1x256 .f32 × FVec Ideal S128x256 .f32

/-- A block of scores and the matching block of values folded into a head's state. -/
def hstep (s : FVec Ideal S256x256 .f32) (v : Vec Ideal S128x256 .bf16) (t : Tri) : Tri :=
  (k0_pay18 t.1 s, k0_pay44 t.2.1 (k0_pay26 t.1 s) (k0_pay34 t.1 s), k0_pay124 t.2.2 (k0_pay26 t.1 s) (k0_pay34 t.1 s) v)

theorem neg_inf : Ideal.ofBits .f32 0xFF800000#32 = ⊥ := by simp [Ideal.ofBits, Ideal.ieee]

theorem mask_eq : Named.named (F := Ideal) κ "mask" (φ := .f32) 0xF149F2CA#32 = ⊥ := by
  simp [Named.named, κ]

theorem max_at (m : FVec Ideal S1x256 .f32) (s : FVec Ideal S256x256 .f32) (r : Fin 256) :
    k0_pay18 m s (ix2 0 r) = max (m (ix2 0 r)) (Finset.univ.sup fun k : Fin 256 => s (ix2 k r)) := by
  unfold_payloads
  pointwise [Ideal.multiReduction_maximumf_single]
  rw [neg_inf]
  rfl

theorem p_at (m : FVec Ideal S1x256 .f32) (s : FVec Ideal S256x256 .f32) (k r : Fin 256) :
    k0_pay26 m s (ix2 k r) = Ideal.exp (s (ix2 k r) - k0_pay18 m s (ix2 0 r)) := by
  unfold k0_pay26
  pointwise []

theorem alpha_at (m : FVec Ideal S1x256 .f32) (s : FVec Ideal S256x256 .f32) (r : Fin 256) :
    k0_pay34 m s (ix2 0 r) = Ideal.exp (m (ix2 0 r) - k0_pay18 m s (ix2 0 r)) := by
  unfold k0_pay34
  pointwise []

theorem sum_at (l al : FVec Ideal S1x256 .f32) (p : FVec Ideal S256x256 .f32) (r : Fin 256) :
    k0_pay44 l p al (ix2 0 r) = al (ix2 0 r) * l (ix2 0 r) + ∑ k : Fin 256, p (ix2 k r) := by
  unfold_payloads
  pointwise [Ideal.multiReduction_add_single]

theorem acc_at (a : FVec Ideal S128x256 .f32) (al : FVec Ideal S1x256 .f32) (p : FVec Ideal S256x256 .f32)
    (v : Vec Ideal S128x256 .bf16) (d : Fin 128) (r : Fin 256) :
    k0_pay124 a p al v (ix2 d r) = al (ix2 0 r) * a (ix2 d r) + ∑ k : Fin 256, v (ix2 d k) * p (ix2 k r) := by
  unfold_payloads
  pointwise []

theorem score_at (q k : Vec Ideal S256x256 .bf16) (a r : Fin 256) :
    k0_pay6 (F := Ideal) q k (ix2 a r) = ∑ d : Fin 256, k (ix2 a d) * q (ix2 r d) := by
  unfold_payloads
  pointwise []

theorem masked_at (s : FVec Ideal S256x256 .f32) (k r : Fin 256) :
    k0_pay140 (F := Ideal) k0_pay134 s (ix2 k r) = if k ≤ r then s (ix2 k r) else ⊥ := by
  unfold_payloads
  pointwise []
  rw [mask_eq]
  unfold Scalar.select IntOp.cmpi
  simp only [WordArith.ofBool_eq_numeral_one_iff, BitVec.sle_eq_decide, WordArith.toInt_ofNat_small _ (show k.val < 2 ^ 31 by omega),
    WordArith.toInt_ofNat_small _ (show r.val < 2 ^ 31 by omega), decide_eq_true_eq, Nat.cast_le, Fin.val_fin_le]

theorem out_at (l : FVec Ideal S1x256 .f32) (a : FVec Ideal S128x256 .f32) (r : Fin 256) (d : Fin 128) :
    k0_pay1 (F := Ideal) l a (ix2 r d) = Ideal.div (a (ix2 d r)) (l (ix2 0 r)) := by
  unfold_payloads
  pointwise []

/-- The state agrees, query by query, with the partial maximum, sum and weighted sum over the first `n` keys. -/
def Inv (s : Fin 256 → ℕ → EReal) (v : Fin 128 → ℕ → EReal) (n : ℕ) (t : Tri) : Prop :=
  ∀ r : Fin 256, t.1 (ix2 0 r) = M (s r) n ∧ t.2.1 (ix2 0 r) = L (s r) n ∧ ∀ d : Fin 128, t.2.2 (ix2 d r) = A (s r) (v d) n

theorem Inv.step {s : Fin 256 → ℕ → EReal} {v : Fin 128 → ℕ → EReal} {n : ℕ} {t : Tri} (h : Inv s v n t)
    (hs : ∀ r k, s r k ≠ ⊤) {S : FVec Ideal S256x256 .f32} {V : Vec Ideal S128x256 .bf16}
    (hS : ∀ k r : Fin 256, S (ix2 k r) = s r (n + k)) (hV : ∀ (d : Fin 128) (k : Fin 256), V (ix2 d k) = v d (n + k)) :
    Inv s v (n + 256) (hstep S V t) := by
  intro r
  obtain ⟨hm, hl, ha⟩ := h r
  have hM : k0_pay18 t.1 S (ix2 0 r) = M (s r) (n + 256) := by
    rw [max_at, hm, M_add]; simp only [hS]
  refine ⟨hM, ?_, fun d => ?_⟩
  · show k0_pay44 t.2.1 (k0_pay26 t.1 S) (k0_pay34 t.1 S) (ix2 0 r) = _
    rw [sum_at, L_add (hs r), alpha_at, hM, hm, hl]
    simp only [p_at, hM, hS]
  · show k0_pay124 t.2.2 (k0_pay26 t.1 S) (k0_pay34 t.1 S) V (ix2 d r) = _
    rw [acc_at, A_add (hs r), alpha_at, hM, hm, ha d]
    simp only [p_at, hM, hS, hV]

end Cert.KernelIdeal.Att
-- ==== Proof.Trip.lean ====
/- A trip of the kernel's loop over key blocks, head by head, and the blocks it reads. -/
module

public import proofs.«01_k».proof.Proof.Step
public import Idealize.ShloMosaic.Lib.WholeRead

@[expose] public section

set_option maxRecDepth 16384

noncomputable section

namespace Cert.KernelIdeal.Att

open Cert.KernelIdeal Cert.KernelIdeal.Gen Idealize.ShloMosaic Idealize.ShloMosaic.TcCoe Idealize.SL.Sem

/-- The loop's carried state: eight heads, each a maximum, a sum and weighted values. -/
abbrev St : Type := FVec Ideal S1x256 .f32 × FVec Ideal S1x256 .f32 × FVec Ideal S128x256 .f32 × FVec Ideal S1x256 .f32 × FVec Ideal S1x256 .f32 × FVec Ideal S128x256 .f32 × FVec Ideal S1x256 .f32 × FVec Ideal S1x256 .f32 × FVec Ideal S128x256 .f32 × FVec Ideal S1x256 .f32 × FVec Ideal S1x256 .f32 × FVec Ideal S128x256 .f32 × FVec Ideal S1x256 .f32 × FVec Ideal S1x256 .f32 × FVec Ideal S128x256 .f32 × FVec Ideal S1x256 .f32 × FVec Ideal S1x256 .f32 × FVec Ideal S128x256 .f32 × FVec Ideal S1x256 .f32 × FVec Ideal S1x256 .f32 × FVec Ideal S128x256 .f32 × FVec Ideal S1x256 .f32 × FVec Ideal S1x256 .f32 × FVec Ideal S128x256 .f32

/-- One head's part of the carried state. -/
def comp (a : St) : Fin 8 → Tri
  | ⟨0, _⟩ => (a.1, a.2.1, a.2.2.1)
  | ⟨1, _⟩ => (a.2.2.2.1, a.2.2.2.2.1, a.2.2.2.2.2.1)
  | ⟨2, _⟩ => (a.2.2.2.2.2.2.1, a.2.2.2.2.2.2.2.1, a.2.2.2.2.2.2.2.2.1)
  | ⟨3, _⟩ => (a.2.2.2.2.2.2.2.2.2.1, a.2.2.2.2.2.2.2.2.2.2.1, a.2.2.2.2.2.2.2.2.2.2.2.1)
  | ⟨4, _⟩ => (a.2.2.2.2.2.2.2.2.2.2.2.2.1, a.2.2.2.2.2.2.2.2.2.2.2.2.2.1, a.2.2.2.2.2.2.2.2.2.2.2.2.2.2.1)
  | ⟨5, _⟩ => (a.2.2.2.2.2.2.2.2.2.2.2.2.2.2.2.1, a.2.2.2.2.2.2.2.2.2.2.2.2.2.2.2.2.1, a.2.2.2.2.2.2.2.2.2.2.2.2.2.2.2.2.2.1)
  | ⟨6, _⟩ => (a.2.2.2.2.2.2.2.2.2.2.2.2.2.2.2.2.2.2.1, a.2.2.2.2.2.2.2.2.2.2.2.2.2.2.2.2.2.2.2.1, a.2.2.2.2.2.2.2.2.2.2.2.2.2.2.2.2.2.2.2.2.1)
  | ⟨7, _⟩ => (a.2.2.2.2.2.2.2.2.2.2.2.2.2.2.2.2.2.2.2.2.2.1, a.2.2.2.2.2.2.2.2.2.2.2.2.2.2.2.2.2.2.2.2.2.2.1, a.2.2.2.2.2.2.2.2.2.2.2.2.2.2.2.2.2.2.2.2.2.2.2)

/-- A block of queries, keys or transposed values as a table over all naturals. -/
def qN (x0 : Vec Ideal S256x2048 .bf16) (a b : ℕ) : EReal := x0 (ix2 (Fin.ofNat 256 a) (Fin.ofNat 2048 b))
def kN (x1 : Vec Ideal S2048x2048 .bf16) (a b : ℕ) : EReal := x1 (ix2 (Fin.ofNat 2048 a) (Fin.ofNat 2048 b))
def vN (x2 : Vec Ideal S1024x2048 .bf16) (a b : ℕ) : EReal := x2 (ix2 (Fin.ofNat 1024 a) (Fin.ofNat 2048 b))

/-- Head `h`'s queries, its `j`-th block of keys, and its `j`-th block of values. -/
def qT (x0 : Vec Ideal S256x2048 .bf16) (h : ℕ) : Vec Ideal S256x256 .bf16 := fun x => qN x0 (x 0) (256 * h + x 1)
def kT (x1 : Vec Ideal S2048x2048 .bf16) (j h : ℕ) : Vec Ideal S256x256 .bf16 := fun x => kN x1 (256 * j + x 0) (256 * h + x 1)
def vT (x2 : Vec Ideal S1024x2048 .bf16) (j h : ℕ) : Vec Ideal S128x256 .bf16 := fun x => vN x2 (128 * h + x 0) (256 * j + x 1)

theorem ix2_ext {s : Shape} (x y : s.Idx) (h : ∀ a, (x a).val = (y a).val) : x = y := funext fun a => Fin.ext (h a)

theorem read_q {arg : Memref sig .tc .vmem S256x2048 .bf16} (harg : arg.IsWhole) (x0 : Vec Ideal S256x2048 .bf16) (h : ℕ)
    (off : Fin 2 → ℕ) (hoff : off = ![0, 256 * h]) (inb : ∀ a, off a + S256x256.size a ≤ S256x2048.size a) :
    View.readAt (Elt Ideal) arg.view (Rect.unit (s := S256x2048) off S256x256.size inb).toLoadRect (harg.unread x0) = qT x0 h := by
  subst hoff
  funext x
  refine (Memref.IsWhole.readAt_unread harg _ _ _).trans (congrArg x0 (ix2_ext _ _ fun a => ?_))
  have h0 : 0 + 256 ≤ 256 := inb 0
  have h1 : 256 * h + 256 ≤ 2048 := inb 1
  have hx0 : (x 0).val < 256 := (x 0).isLt
  have hx1 : (x 1).val < 256 := (x 1).isLt
  match a with
  | ⟨0, _⟩ =>
    show 0 + 1 * (x 0).val = (x 0).val % 256
    omega
  | ⟨1, _⟩ =>
    show 256 * h + 1 * (x 1).val = (256 * h + (x 1).val) % 2048
    omega

theorem read_k {arg : Memref sig .tc .vmem S2048x2048 .bf16} (harg : arg.IsWhole) (x1 : Vec Ideal S2048x2048 .bf16) (j h : ℕ)
    (off : Fin 2 → ℕ) (hoff : off = ![256 * j, 256 * h]) (inb : ∀ a, off a + S256x256.size a ≤ S2048x2048.size a) :
    View.readAt (Elt Ideal) arg.view (Rect.unit (s := S2048x2048) off S256x256.size inb).toLoadRect (harg.unread x1) = kT x1 j h := by
  subst hoff
  funext x
  refine (Memref.IsWhole.readAt_unread harg _ _ _).trans (congrArg x1 (ix2_ext _ _ fun a => ?_))
  have h0 : 256 * j + 256 ≤ 2048 := inb 0
  have h1 : 256 * h + 256 ≤ 2048 := inb 1
  have hx0 : (x 0).val < 256 := (x 0).isLt
  have hx1 : (x 1).val < 256 := (x 1).isLt
  match a with
  | ⟨0, _⟩ =>
    show 256 * j + 1 * (x 0).val = (256 * j + (x 0).val) % 2048
    omega
  | ⟨1, _⟩ =>
    show 256 * h + 1 * (x 1).val = (256 * h + (x 1).val) % 2048
    omega

theorem read_v {arg : Memref sig .tc .vmem S1024x2048 .bf16} (harg : arg.IsWhole) (x2 : Vec Ideal S1024x2048 .bf16) (j h : ℕ)
    (off : Fin 2 → ℕ) (hoff : off = ![128 * h, 256 * j]) (inb : ∀ a, off a + S128x256.size a ≤ S1024x2048.size a) :
    View.readAt (Elt Ideal) arg.view (Rect.unit (s := S1024x2048) off S128x256.size inb).toLoadRect (harg.unread x2) = vT x2 j h := by
  subst hoff
  funext x
  refine (Memref.IsWhole.readAt_unread harg _ _ _).trans (congrArg x2 (ix2_ext _ _ fun a => ?_))
  have h0 : 128 * h + 128 ≤ 1024 := inb 0
  have h1 : 256 * j + 256 ≤ 2048 := inb 1
  have hx0 : (x 0).val < 128 := (x 0).isLt
  have hx1 : (x 1).val < 256 := (x 1).isLt
  match a with
  | ⟨0, _⟩ =>
    show 128 * h + 1 * (x 0).val = (128 * h + (x 0).val) % 1024
    omega
  | ⟨1, _⟩ =>
    show 256 * j + 1 * (x 1).val = (256 * j + (x 1).val) % 2048
    omega

theorem loop_word : ∀ k : Fin 8, (Scalar.indexCast (Scalar.muli (Scf.iv 0#32 1#32 k.val) 256#32)).toNat = 256 * k.val := by
  decide

theorem diag_word : ∀ a : Fin 8, (Scalar.indexCast (Scalar.muli (BitVec.ofNat 32 a.val) 256#32)).toNat = 256 * a.val := by
  decide

theorem trip_lt {i : grid0.Coords} (k : Fin (k0_t1_loop i).trips) : k.val < 8 :=
  Nat.lt_of_lt_of_le k.isLt (Nat.le_trans (k0_t1_abs i).2.1 (by decide))

theorem off1_eq (i : grid0.Coords) (k : Fin (k0_t1_loop i).trips) : k0_off1 i k = ![256 * k.val, 256 * 0] := by
  unfold k0_off1
  exact congrArg (fun n => ![n, 256 * 0]) (loop_word ⟨k.val, trip_lt k⟩)
theorem off9_eq (i : grid0.Coords) (k : Fin (k0_t1_loop i).trips) : k0_off9 i k = ![128 * 0, 256 * k.val] := by
  unfold k0_off9
  exact congrArg (fun n => ![128 * 0, n]) (loop_word ⟨k.val, trip_lt k⟩)
theorem off33_eq (i : grid0.Coords) : k0_off33 i = ![256 * (i 2).val, 256 * 0] := by
  unfold k0_off33
  exact congrArg (fun n => ![n, 256 * 0]) (diag_word (i 2))
theorem off41_eq (i : grid0.Coords) : k0_off41 i = ![128 * 0, 256 * (i 2).val] := by
  unfold k0_off41
  exact congrArg (fun n => ![128 * 0, n]) (diag_word (i 2))
theorem off2_eq (i : grid0.Coords) (k : Fin (k0_t1_loop i).trips) : k0_off2 i k = ![256 * k.val, 256 * 1] := by
  unfold k0_off2
  exact congrArg (fun n => ![n, 256 * 1]) (loop_word ⟨k.val, trip_lt k⟩)
theorem off10_eq (i : grid0.Coords) (k : Fin (k0_t1_loop i).trips) : k0_off10 i k = ![128 * 1, 256 * k.val] := by
  unfold k0_off10
  exact congrArg (fun n => ![128 * 1, n]) (loop_word ⟨k.val, trip_lt k⟩)
theorem off34_eq (i : grid0.Coords) : k0_off34 i = ![256 * (i 2).val, 256 * 1] := by
  unfold k0_off34
  exact congrArg (fun n => ![n, 256 * 1]) (diag_word (i 2))
theorem off42_eq (i : grid0.Coords) : k0_off42 i = ![128 * 1, 256 * (i 2).val] := by
  unfold k0_off42
  exact congrArg (fun n => ![128 * 1, n]) (diag_word (i 2))
theorem off3_eq (i : grid0.Coords) (k : Fin (k0_t1_loop i).trips) : k0_off3 i k = ![256 * k.val, 256 * 2] := by
  unfold k0_off3
  exact congrArg (fun n => ![n, 256 * 2]) (loop_word ⟨k.val, trip_lt k⟩)
theorem off11_eq (i : grid0.Coords) (k : Fin (k0_t1_loop i).trips) : k0_off11 i k = ![128 * 2, 256 * k.val] := by
  unfold k0_off11
  exact congrArg (fun n => ![128 * 2, n]) (loop_word ⟨k.val, trip_lt k⟩)
theorem off35_eq (i : grid0.Coords) : k0_off35 i = ![256 * (i 2).val, 256 * 2] := by
  unfold k0_off35
  exact congrArg (fun n => ![n, 256 * 2]) (diag_word (i 2))
theorem off43_eq (i : grid0.Coords) : k0_off43 i = ![128 * 2, 256 * (i 2).val] := by
  unfold k0_off43
  exact congrArg (fun n => ![128 * 2, n]) (diag_word (i 2))
theorem off4_eq (i : grid0.Coords) (k : Fin (k0_t1_loop i).trips) : k0_off4 i k = ![256 * k.val, 256 * 3] := by
  unfold k0_off4
  exact congrArg (fun n => ![n, 256 * 3]) (loop_word ⟨k.val, trip_lt k⟩)
theorem off12_eq (i : grid0.Coords) (k : Fin (k0_t1_loop i).trips) : k0_off12 i k = ![128 * 3, 256 * k.val] := by
  unfold k0_off12
  exact congrArg (fun n => ![128 * 3, n]) (loop_word ⟨k.val, trip_lt k⟩)
theorem off36_eq (i : grid0.Coords) : k0_off36 i = ![256 * (i 2).val, 256 * 3] := by
  unfold k0_off36
  exact congrArg (fun n => ![n, 256 * 3]) (diag_word (i 2))
theorem off44_eq (i : grid0.Coords) : k0_off44 i = ![128 * 3, 256 * (i 2).val] := by
  unfold k0_off44
  exact congrArg (fun n => ![128 * 3, n]) (diag_word (i 2))
theorem off5_eq (i : grid0.Coords) (k : Fin (k0_t1_loop i).trips) : k0_off5 i k = ![256 * k.val, 256 * 4] := by
  unfold k0_off5
  exact congrArg (fun n => ![n, 256 * 4]) (loop_word ⟨k.val, trip_lt k⟩)
theorem off13_eq (i : grid0.Coords) (k : Fin (k0_t1_loop i).trips) : k0_off13 i k = ![128 * 4, 256 * k.val] := by
  unfold k0_off13
  exact congrArg (fun n => ![128 * 4, n]) (loop_word ⟨k.val, trip_lt k⟩)
theorem off37_eq (i : grid0.Coords) : k0_off37 i = ![256 * (i 2).val, 256 * 4] := by
  unfold k0_off37
  exact congrArg (fun n => ![n, 256 * 4]) (diag_word (i 2))
theorem off45_eq (i : grid0.Coords) : k0_off45 i = ![128 * 4, 256 * (i 2).val] := by
  unfold k0_off45
  exact congrArg (fun n => ![128 * 4, n]) (diag_word (i 2))
theorem off6_eq (i : grid0.Coords) (k : Fin (k0_t1_loop i).trips) : k0_off6 i k = ![256 * k.val, 256 * 5] := by
  unfold k0_off6
  exact congrArg (fun n => ![n, 256 * 5]) (loop_word ⟨k.val, trip_lt k⟩)
theorem off14_eq (i : grid0.Coords) (k : Fin (k0_t1_loop i).trips) : k0_off14 i k = ![128 * 5, 256 * k.val] := by
  unfold k0_off14
  exact congrArg (fun n => ![128 * 5, n]) (loop_word ⟨k.val, trip_lt k⟩)
theorem off38_eq (i : grid0.Coords) : k0_off38 i = ![256 * (i 2).val, 256 * 5] := by
  unfold k0_off38
  exact congrArg (fun n => ![n, 256 * 5]) (diag_word (i 2))
theorem off46_eq (i : grid0.Coords) : k0_off46 i = ![128 * 5, 256 * (i 2).val] := by
  unfold k0_off46
  exact congrArg (fun n => ![128 * 5, n]) (diag_word (i 2))
theorem off7_eq (i : grid0.Coords) (k : Fin (k0_t1_loop i).trips) : k0_off7 i k = ![256 * k.val, 256 * 6] := by
  unfold k0_off7
  exact congrArg (fun n => ![n, 256 * 6]) (loop_word ⟨k.val, trip_lt k⟩)
theorem off15_eq (i : grid0.Coords) (k : Fin (k0_t1_loop i).trips) : k0_off15 i k = ![128 * 6, 256 * k.val] := by
  unfold k0_off15
  exact congrArg (fun n => ![128 * 6, n]) (loop_word ⟨k.val, trip_lt k⟩)
theorem off39_eq (i : grid0.Coords) : k0_off39 i = ![256 * (i 2).val, 256 * 6] := by
  unfold k0_off39
  exact congrArg (fun n => ![n, 256 * 6]) (diag_word (i 2))
theorem off47_eq (i : grid0.Coords) : k0_off47 i = ![128 * 6, 256 * (i 2).val] := by
  unfold k0_off47
  exact congrArg (fun n => ![128 * 6, n]) (diag_word (i 2))
theorem off8_eq (i : grid0.Coords) (k : Fin (k0_t1_loop i).trips) : k0_off8 i k = ![256 * k.val, 256 * 7] := by
  unfold k0_off8
  exact congrArg (fun n => ![n, 256 * 7]) (loop_word ⟨k.val, trip_lt k⟩)
theorem off16_eq (i : grid0.Coords) (k : Fin (k0_t1_loop i).trips) : k0_off16 i k = ![128 * 7, 256 * k.val] := by
  unfold k0_off16
  exact congrArg (fun n => ![128 * 7, n]) (loop_word ⟨k.val, trip_lt k⟩)
theorem off40_eq (i : grid0.Coords) : k0_off40 i = ![256 * (i 2).val, 256 * 7] := by
  unfold k0_off40
  exact congrArg (fun n => ![n, 256 * 7]) (diag_word (i 2))
theorem off48_eq (i : grid0.Coords) : k0_off48 i = ![128 * 7, 256 * (i 2).val] := by
  unfold k0_off48
  exact congrArg (fun n => ![128 * 7, n]) (diag_word (i 2))

/-- The eight heads' queries, by head. -/
def pick (v0 v1 v2 v3 v4 v5 v6 v7 : Vec Ideal S256x256 .bf16) : Fin 8 → Vec Ideal S256x256 .bf16
  | ⟨0, _⟩ => v0
  | ⟨1, _⟩ => v1
  | ⟨2, _⟩ => v2
  | ⟨3, _⟩ => v3
  | ⟨4, _⟩ => v4
  | ⟨5, _⟩ => v5
  | ⟨6, _⟩ => v6
  | ⟨7, _⟩ => v7

/-- A trip folds the trip's block of keys and values into every head. -/
theorem comp_trip (𝒱 : Variants) (c : Dev nD) (bd : Option 𝒱.V) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole) (arg2 : BitVec 32) (v0 : Vec Ideal S256x256 .bf16) (v1 : Vec Ideal S256x256 .bf16) (v2 : Vec Ideal S256x256 .bf16) (v3 : Vec Ideal S256x256 .bf16) (v4 : Vec Ideal S256x256 .bf16) (v5 : Vec Ideal S256x256 .bf16) (v6 : Vec Ideal S256x256 .bf16) (v7 : Vec Ideal S256x256 .bf16) (v8 : FVec Ideal S1x256 .f32) (v9 : FVec Ideal S1x256 .f32) (v10 : FVec Ideal S128x256 .f32) (v11 : FVec Ideal S1x256 .f32) (v12 : FVec Ideal S1x256 .f32) (v13 : FVec Ideal S128x256 .f32) (v14 : FVec Ideal S1x256 .f32) (v15 : FVec Ideal S1x256 .f32) (v16 : FVec Ideal S128x256 .f32) (v17 : FVec Ideal S1x256 .f32) (v18 : FVec Ideal S1x256 .f32) (v19 : FVec Ideal S128x256 .f32) (v20 : FVec Ideal S1x256 .f32) (v21 : FVec Ideal S1x256 .f32) (v22 : FVec Ideal S128x256 .f32) (v23 : FVec Ideal S1x256 .f32) (cst_23 : Ideal .f32) (x1 : Vec Ideal S2048x2048 .bf16) (x2 : Vec Ideal S1024x2048 .bf16) (k : Fin (k0_t1_loop i).trips) (acc : St) (h : Fin 8) :
    comp (tripR_k0_t1 (F := Ideal) 𝒱 c bd i arg3 harg3 arg4 harg4 arg5 harg5 arg6 harg6 arg2 v0 v1 v2 v3 v4 v5 v6 v7 v8 v9 v10 v11 v12 v13 v14 v15 v16 v17 v18 v19 v20 v21 v22 v23 cst_23 (harg4.unread x1) (harg5.unread x2) k acc) h
      = hstep (k0_pay6 (pick v0 v1 v2 v3 v4 v5 v6 v7 h) (kT x1 k.val h.val)) (vT x2 k.val h.val) (comp acc h) := by
  match h with
  | ⟨0, _⟩ =>
    rw [← read_k harg4 x1 k.val 0 _ (off1_eq i k) (k0_off1_inb i k), ← read_v harg5 x2 k.val 0 _ (off9_eq i k) (k0_off9_inb i k)]
    unfold tripR_k0_t1 trip_k0_t1
    rfl
  | ⟨1, _⟩ =>
    rw [← read_k harg4 x1 k.val 1 _ (off2_eq i k) (k0_off2_inb i k), ← read_v harg5 x2 k.val 1 _ (off10_eq i k) (k0_off10_inb i k)]
    unfold tripR_k0_t1 trip_k0_t1
    rfl
  | ⟨2, _⟩ =>
    rw [← read_k harg4 x1 k.val 2 _ (off3_eq i k) (k0_off3_inb i k), ← read_v harg5 x2 k.val 2 _ (off11_eq i k) (k0_off11_inb i k)]
    unfold tripR_k0_t1 trip_k0_t1
    rfl
  | ⟨3, _⟩ =>
    rw [← read_k harg4 x1 k.val 3 _ (off4_eq i k) (k0_off4_inb i k), ← read_v harg5 x2 k.val 3 _ (off12_eq i k) (k0_off12_inb i k)]
    unfold tripR_k0_t1 trip_k0_t1
    rfl
  | ⟨4, _⟩ =>
    rw [← read_k harg4 x1 k.val 4 _ (off5_eq i k) (k0_off5_inb i k), ← read_v harg5 x2 k.val 4 _ (off13_eq i k) (k0_off13_inb i k)]
    unfold tripR_k0_t1 trip_k0_t1
    rfl
  | ⟨5, _⟩ =>
    rw [← read_k harg4 x1 k.val 5 _ (off6_eq i k) (k0_off6_inb i k), ← read_v harg5 x2 k.val 5 _ (off14_eq i k) (k0_off14_inb i k)]
    unfold tripR_k0_t1 trip_k0_t1
    rfl
  | ⟨6, _⟩ =>
    rw [← read_k harg4 x1 k.val 6 _ (off7_eq i k) (k0_off7_inb i k), ← read_v harg5 x2 k.val 6 _ (off15_eq i k) (k0_off15_inb i k)]
    unfold tripR_k0_t1 trip_k0_t1
    rfl
  | ⟨7, _⟩ =>
    rw [← read_k harg4 x1 k.val 7 _ (off8_eq i k) (k0_off8_inb i k), ← read_v harg5 x2 k.val 7 _ (off16_eq i k) (k0_off16_inb i k)]
    unfold tripR_k0_t1 trip_k0_t1
    rfl

end Cert.KernelIdeal.Att
-- ==== Proof.Out.lean ====
/- What one grid point leaves in the output block, head by head. -/
module

public import proofs.«01_k».proof.Proof.Trip
public import Idealize.ShloMosaic.Lib.WritesUnit

@[expose] public section

set_option maxRecDepth 16384

noncomputable section

namespace Cert.KernelIdeal.Att

open Cert.KernelIdeal Cert.KernelIdeal.Gen Idealize.ShloMosaic Idealize.ShloMosaic.TcCoe Idealize.SL.Sem

/-- The state every head starts from. -/
def init : St := (k0_pay98, k0_pay99, k0_pay100, k0_pay101, k0_pay102, k0_pay103, k0_pay104, k0_pay105, k0_pay106, k0_pay107, k0_pay108, k0_pay109, k0_pay110, k0_pay111, k0_pay112, k0_pay113, k0_pay114 kernelRun0_A.sl.cst_23, k0_pay115, k0_pay116, k0_pay117, k0_pay118, k0_pay119, k0_pay120, k0_pay121)

/-- The state after `n` trips of the loop over the key blocks before the diagonal. -/
def st1 (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole) (x1 : Vec Ideal S2048x2048 .bf16) (x2 : Vec Ideal S1024x2048 .bf16) (q : Fin 8 → Vec Ideal S256x256 .bf16) (n : ℕ) : St :=
  st_k0_t1 (F := Ideal) Variants.none c none i arg3 harg3 arg4 harg4 arg5 harg5 arg6 harg6 (BitVec.ofNat 32 (i 2).val) (q 0) (q 1) (q 2) (q 3) (q 4) (q 5) (q 6) (q 7) k0_pay98 k0_pay99 k0_pay100 k0_pay101 k0_pay102 k0_pay103 k0_pay104 k0_pay105 k0_pay106 k0_pay107 k0_pay108 k0_pay109 k0_pay110 k0_pay111 k0_pay112 k0_pay113 kernelRun0_A.sl.cst_23 (harg4.unread x1) (harg5.unread x2) init n

/-- A head's output: the diagonal block folded in, then the weighted values over the sum. -/
def headOut (q k : Vec Ideal S256x256 .bf16) (v : Vec Ideal S128x256 .bf16) (t : Tri) : FVec Ideal S256x128 .bf16 :=
  k0_pay1 (hstep (k0_pay140 k0_pay134 (k0_pay6 q k)) v t).2.1 (hstep (k0_pay140 k0_pay134 (k0_pay6 q k)) v t).2.2

theorem trips1 (i : grid0.Coords) : Scf.trips (k0_t1_loop i).lb (k0_t1_loop i).ub (k0_t1_loop i).st = (i 2).val := by
  have key : ∀ a : Fin 8, Scf.trips 0#32 (Scalar.addi 0#32 (Scalar.muli (Scalar.divsi (Scalar.subi (BitVec.ofNat 32 a.val) 0#32) 1#32) 1#32)) 1#32 = a.val := by
    decide
  exact key (i 2)

theorem trips2 (i : grid0.Coords) : Scf.trips (k0_t2_loop i).lb (k0_t2_loop i).ub (k0_t2_loop i).st = 0 := by
  have key : ∀ a : Fin 8, Scf.trips (Scalar.addi 0#32 (Scalar.muli (Scalar.divsi (Scalar.subi (BitVec.ofNat 32 a.val) 0#32) 1#32) 1#32))
      (Scalar.addi 0#32 (Scalar.subi (BitVec.ofNat 32 a.val) 0#32)) 1#32 = 0 := by
    decide
  exact key (i 2)

theorem q0_eq (c : Dev nD) (arg3 : Memref sig .tc .vmem S256x2048 .bf16) (harg3 : arg3.IsWhole) (x0 : Vec Ideal S256x2048 .bf16) :
    kernelRun0_A.sl.r (F := Ideal) c arg3 harg3 x0 = qT x0 0 := read_q harg3 x0 0 _ rfl _

theorem q1_eq (c : Dev nD) (arg3 : Memref sig .tc .vmem S256x2048 .bf16) (harg3 : arg3.IsWhole) (x0 : Vec Ideal S256x2048 .bf16) :
    kernelRun0_A.sl.r_1 (F := Ideal) c arg3 harg3 x0 = qT x0 1 := read_q harg3 x0 1 _ rfl _

theorem q2_eq (c : Dev nD) (arg3 : Memref sig .tc .vmem S256x2048 .bf16) (harg3 : arg3.IsWhole) (x0 : Vec Ideal S256x2048 .bf16) :
    kernelRun0_A.sl.r_2 (F := Ideal) c arg3 harg3 x0 = qT x0 2 := read_q harg3 x0 2 _ rfl _

theorem q3_eq (c : Dev nD) (arg3 : Memref sig .tc .vmem S256x2048 .bf16) (harg3 : arg3.IsWhole) (x0 : Vec Ideal S256x2048 .bf16) :
    kernelRun0_A.sl.r_3 (F := Ideal) c arg3 harg3 x0 = qT x0 3 := read_q harg3 x0 3 _ rfl _

theorem q4_eq (c : Dev nD) (arg3 : Memref sig .tc .vmem S256x2048 .bf16) (harg3 : arg3.IsWhole) (x0 : Vec Ideal S256x2048 .bf16) :
    kernelRun0_A.sl.r_4 (F := Ideal) c arg3 harg3 x0 = qT x0 4 := read_q harg3 x0 4 _ rfl _

theorem q5_eq (c : Dev nD) (arg3 : Memref sig .tc .vmem S256x2048 .bf16) (harg3 : arg3.IsWhole) (x0 : Vec Ideal S256x2048 .bf16) :
    kernelRun0_A.sl.r_5 (F := Ideal) c arg3 harg3 x0 = qT x0 5 := read_q harg3 x0 5 _ rfl _

theorem q6_eq (c : Dev nD) (arg3 : Memref sig .tc .vmem S256x2048 .bf16) (harg3 : arg3.IsWhole) (x0 : Vec Ideal S256x2048 .bf16) :
    kernelRun0_A.sl.r_6 (F := Ideal) c arg3 harg3 x0 = qT x0 6 := read_q harg3 x0 6 _ rfl _

theorem q7_eq (c : Dev nD) (arg3 : Memref sig .tc .vmem S256x2048 .bf16) (harg3 : arg3.IsWhole) (x0 : Vec Ideal S256x2048 .bf16) :
    kernelRun0_A.sl.r_7 (F := Ideal) c arg3 harg3 x0 = qT x0 7 := read_q harg3 x0 7 _ rfl _

theorem r8_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_8 (F := Ideal) c i arg3 harg3 arg4 harg4 arg5 harg5 arg6 harg6 x0 x1 x2
      = (st1 c i arg3 harg3 arg4 harg4 arg5 harg5 arg6 harg6 x1 x2 (fun h => qT x0 h.val) (i 2).val).1 := by
  unfold kernelRun0_A.sl.r_8 st1 init
  rw [trips2, trips1, st_k0_t2_zero, q0_eq, q1_eq, q2_eq, q3_eq, q4_eq, q5_eq, q6_eq, q7_eq]
  rfl

theorem r9_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_9 (F := Ideal) c i arg3 harg3 arg4 harg4 arg5 harg5 arg6 harg6 x0 x1 x2
      = (st1 c i arg3 harg3 arg4 harg4 arg5 harg5 arg6 harg6 x1 x2 (fun h => qT x0 h.val) (i 2).val).2.1 := by
  unfold kernelRun0_A.sl.r_9 st1 init
  rw [trips2, trips1, st_k0_t2_zero, q0_eq, q1_eq, q2_eq, q3_eq, q4_eq, q5_eq, q6_eq, q7_eq]
  rfl

theorem r10_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_10 (F := Ideal) c i arg3 harg3 arg4 harg4 arg5 harg5 arg6 harg6 x0 x1 x2
      = (st1 c i arg3 harg3 arg4 harg4 arg5 harg5 arg6 harg6 x1 x2 (fun h => qT x0 h.val) (i 2).val).2.2.1 := by
  unfold kernelRun0_A.sl.r_10 st1 init
  rw [trips2, trips1, st_k0_t2_zero, q0_eq, q1_eq, q2_eq, q3_eq, q4_eq, q5_eq, q6_eq, q7_eq]
  rfl

theorem r11_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_11 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.1 := by
  unfold kernelRun0_A.sl.r_11 st1 init
  rw [trips2, trips1, st_k0_t2_zero, q0_eq, q1_eq, q2_eq, q3_eq, q4_eq, q5_eq, q6_eq, q7_eq]
  rfl

theorem r12_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_12 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.1 := by
  unfold kernelRun0_A.sl.r_12 st1 init
  rw [trips2, trips1, st_k0_t2_zero, q0_eq, q1_eq, q2_eq, q3_eq, q4_eq, q5_eq, q6_eq, q7_eq]
  rfl

theorem r13_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_13 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.1 := by
  unfold kernelRun0_A.sl.r_13 st1 init
  rw [trips2, trips1, st_k0_t2_zero, q0_eq, q1_eq, q2_eq, q3_eq, q4_eq, q5_eq, q6_eq, q7_eq]
  rfl

theorem r14_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_14 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.2.1 := by
  unfold kernelRun0_A.sl.r_14 st1 init
  rw [trips2, trips1, st_k0_t2_zero, q0_eq, q1_eq, q2_eq, q3_eq, q4_eq, q5_eq, q6_eq, q7_eq]
  rfl

theorem r15_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_15 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.2.2.1 := by
  unfold kernelRun0_A.sl.r_15 st1 init
  rw [trips2, trips1, st_k0_t2_zero, q0_eq, q1_eq, q2_eq, q3_eq, q4_eq, q5_eq, q6_eq, q7_eq]
  rfl

theorem r16_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_16 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.2.2.2.1 := by
  unfold kernelRun0_A.sl.r_16 st1 init
  rw [trips2, trips1, st_k0_t2_zero, q0_eq, q1_eq, q2_eq, q3_eq, q4_eq, q5_eq, q6_eq, q7_eq]
  rfl

theorem r17_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_17 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.2.2.2.2.1 := by
  unfold kernelRun0_A.sl.r_17 st1 init
  rw [trips2, trips1, st_k0_t2_zero, q0_eq, q1_eq, q2_eq, q3_eq, q4_eq, q5_eq, q6_eq, q7_eq]
  rfl

theorem r18_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_18 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.2.2.2.2.2.1 := by
  unfold kernelRun0_A.sl.r_18 st1 init
  rw [trips2, trips1, st_k0_t2_zero, q0_eq, q1_eq, q2_eq, q3_eq, q4_eq, q5_eq, q6_eq, q7_eq]
  rfl

theorem r19_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_19 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.2.2.2.2.2.2.1 := by
  unfold kernelRun0_A.sl.r_19 st1 init
  rw [trips2, trips1, st_k0_t2_zero, q0_eq, q1_eq, q2_eq, q3_eq, q4_eq, q5_eq, q6_eq, q7_eq]
  rfl

theorem r20_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_20 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.2.2.2.2.2.2.2.1 := by
  unfold kernelRun0_A.sl.r_20 st1 init
  rw [trips2, trips1, st_k0_t2_zero, q0_eq, q1_eq, q2_eq, q3_eq, q4_eq, q5_eq, q6_eq, q7_eq]
  rfl

theorem r21_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_21 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.2.2.2.2.2.2.2.2.1 := by
  unfold kernelRun0_A.sl.r_21 st1 init
  rw [trips2, trips1, st_k0_t2_zero, q0_eq, q1_eq, q2_eq, q3_eq, q4_eq, q5_eq, q6_eq, q7_eq]
  rfl

theorem r22_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_22 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.2.2.2.2.2.2.2.2.2.1 := by
  unfold kernelRun0_A.sl.r_22 st1 init
  rw [trips2, trips1, st_k0_t2_zero, q0_eq, q1_eq, q2_eq, q3_eq, q4_eq, q5_eq, q6_eq, q7_eq]
  rfl

theorem r23_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_23 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.2.2.2.2.2.2.2.2.2.2.1 := by
  unfold kernelRun0_A.sl.r_23 st1 init
  rw [trips2, trips1, st_k0_t2_zero, q0_eq, q1_eq, q2_eq, q3_eq, q4_eq, q5_eq, q6_eq, q7_eq]
  rfl

theorem r24_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_24 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.2.2.2.2.2.2.2.2.2.2.2.1 := by
  unfold kernelRun0_A.sl.r_24 st1 init
  rw [trips2, trips1, st_k0_t2_zero, q0_eq, q1_eq, q2_eq, q3_eq, q4_eq, q5_eq, q6_eq, q7_eq]
  rfl

theorem r25_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_25 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.2.2.2.2.2.2.2.2.2.2.2.2.1 := by
  unfold kernelRun0_A.sl.r_25 st1 init
  rw [trips2, trips1, st_k0_t2_zero, q0_eq, q1_eq, q2_eq, q3_eq, q4_eq, q5_eq, q6_eq, q7_eq]
  rfl

theorem r26_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_26 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.2.2.2.2.2.2.2.2.2.2.2.2.2.1 := by
  unfold kernelRun0_A.sl.r_26 st1 init
  rw [trips2, trips1, st_k0_t2_zero, q0_eq, q1_eq, q2_eq, q3_eq, q4_eq, q5_eq, q6_eq, q7_eq]
  rfl

theorem r27_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_27 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.2.2.2.2.2.2.2.2.2.2.2.2.2.2.1 := by
  unfold kernelRun0_A.sl.r_27 st1 init
  rw [trips2, trips1, st_k0_t2_zero, q0_eq, q1_eq, q2_eq, q3_eq, q4_eq, q5_eq, q6_eq, q7_eq]
  rfl

theorem r28_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_28 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.2.2.2.2.2.2.2.2.2.2.2.2.2.2.2.1 := by
  unfold kernelRun0_A.sl.r_28 st1 init
  rw [trips2, trips1, st_k0_t2_zero, q0_eq, q1_eq, q2_eq, q3_eq, q4_eq, q5_eq, q6_eq, q7_eq]
  rfl

theorem r29_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_29 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.2.2.2.2.2.2.2.2.2.2.2.2.2.2.2.2.1 := by
  unfold kernelRun0_A.sl.r_29 st1 init
  rw [trips2, trips1, st_k0_t2_zero, q0_eq, q1_eq, q2_eq, q3_eq, q4_eq, q5_eq, q6_eq, q7_eq]
  rfl

theorem r30_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_30 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.2.2.2.2.2.2.2.2.2.2.2.2.2.2.2.2.2.1 := by
  unfold kernelRun0_A.sl.r_30 st1 init
  rw [trips2, trips1, st_k0_t2_zero, q0_eq, q1_eq, q2_eq, q3_eq, q4_eq, q5_eq, q6_eq, q7_eq]
  rfl

theorem r31_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    kernelRun0_A.sl.r_31 (F := Ideal) c i arg3 harg3 arg4 harg4 arg5 harg5 arg6 harg6 x0 x1 x2
      = (st1 c i arg3 harg3 arg4 harg4 arg5 harg5 arg6 harg6 x1 x2 (fun h => qT x0 h.val) (i 2).val).2.2.2.2.2.2.2.2.2.2.2.2.2.2.2.2.2.2.2.2.2.2.2 := by
  unfold kernelRun0_A.sl.r_31 st1 init
  rw [trips2, trips1, st_k0_t2_zero, q0_eq, q1_eq, q2_eq, q3_eq, q4_eq, q5_eq, q6_eq, q7_eq]
  rfl

theorem piece0_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    k0_pay190 (kernelRun0_A.sl.r_68 (F := Ideal) c i arg3 harg3 arg4 harg4 arg5 harg5 arg6 harg6 x0 x1 x2) (kernelRun0_A.sl.r_77 (F := Ideal) c i arg3 harg3 arg4 harg4 arg5 harg5 arg6 harg6 x0 x1 x2)
      = headOut (qT x0 0) (kT x1 (i 2).val 0) (vT x2 (i 2).val 0) (comp (st1 c i arg3 harg3 arg4 harg4 arg5 harg5 arg6 harg6 x1 x2 (fun h => qT x0 h.val) (i 2).val) 0) := by
  unfold kernelRun0_A.sl.r_77 kernelRun0_A.sl.r_68 kernelRun0_A.sl.r_60 kernelRun0_A.sl.r_52 kernelRun0_A.sl.r_46 kernelRun0_A.sl.r_38 kernelRun0_A.sl.r_32
  rw [r8_eq, r9_eq, r10_eq, q0_eq, read_k harg4 x1 _ 0 _ (off33_eq i), read_v harg5 x2 _ 0 _ (off41_eq i)]
  generalize (st1 c i arg3 harg3 arg4 harg4 arg5 harg5 arg6 harg6 x1 x2 (fun h => qT x0 h.val) (i 2).val) = t
  rfl

theorem piece1_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    k0_pay191 (kernelRun0_A.sl.r_69 (F := Ideal) c i arg3 harg3 arg4 harg4 arg5 harg5 arg6 harg6 x0 x1 x2) (kernelRun0_A.sl.r_78 (F := Ideal) c i arg3 harg3 arg4 harg4 arg5 harg5 arg6 harg6 x0 x1 x2)
      = headOut (qT x0 1) (kT x1 (i 2).val 1) (vT x2 (i 2).val 1) (comp (st1 c i arg3 harg3 arg4 harg4 arg5 harg5 arg6 harg6 x1 x2 (fun h => qT x0 h.val) (i 2).val) 1) := by
  unfold kernelRun0_A.sl.r_78 kernelRun0_A.sl.r_69 kernelRun0_A.sl.r_61 kernelRun0_A.sl.r_53 kernelRun0_A.sl.r_47 kernelRun0_A.sl.r_39 kernelRun0_A.sl.r_33
  rw [r11_eq, r12_eq, r13_eq, q1_eq, read_k harg4 x1 _ 1 _ (off34_eq i), read_v harg5 x2 _ 1 _ (off42_eq i)]
  generalize (st1 c i arg3 harg3 arg4 harg4 arg5 harg5 arg6 harg6 x1 x2 (fun h => qT x0 h.val) (i 2).val) = t
  rfl

theorem piece2_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    (kernelRun0_A.sl.r_87 (F := Ideal) c i arg3 harg3 arg4 harg4 arg5 harg5 arg6 harg6 x0 x1 x2)
      = headOut (qT x0 2) (kT x1 (i 2).val 2) (vT x2 (i 2).val 2) (comp (st1 c i arg3 harg3 arg4 harg4 arg5 harg5 arg6 harg6 x1 x2 (fun h => qT x0 h.val) (i 2).val) 2) := by
  unfold kernelRun0_A.sl.r_87 kernelRun0_A.sl.r_79 kernelRun0_A.sl.r_71 kernelRun0_A.sl.r_70 kernelRun0_A.sl.r_62 kernelRun0_A.sl.r_54 kernelRun0_A.sl.r_48 kernelRun0_A.sl.r_40 kernelRun0_A.sl.r_34
  rw [r14_eq, r15_eq, r16_eq, q2_eq, read_k harg4 x1 _ 2 _ (off35_eq i), read_v harg5 x2 _ 2 _ (off43_eq i)]
  generalize (st1 c i arg3 harg3 arg4 harg4 arg5 harg5 arg6 harg6 x1 x2 (fun h => qT x0 h.val) (i 2).val) = t
  rfl

theorem piece3_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    k0_pay1 (kernelRun0_A.sl.r_72 (F := Ideal) c i arg3 harg3 arg4 harg4 arg5 harg5 arg6 harg6 x0 x1 x2) (kernelRun0_A.sl.r_82 (F := Ideal) c i arg3 harg3 arg4 harg4 arg5 harg5 arg6 harg6 x0 x1 x2)
      = headOut (qT x0 3) (kT x1 (i 2).val 3) (vT x2 (i 2).val 3) (comp (st1 c i arg3 harg3 arg4 harg4 arg5 harg5 arg6 harg6 x1 x2 (fun h => qT x0 h.val) (i 2).val) 3) := by
  unfold kernelRun0_A.sl.r_82 kernelRun0_A.sl.r_81 kernelRun0_A.sl.r_80 kernelRun0_A.sl.r_72 kernelRun0_A.sl.r_63 kernelRun0_A.sl.r_55 kernelRun0_A.sl.r_49 kernelRun0_A.sl.r_41 kernelRun0_A.sl.r_35
  rw [r17_eq, r18_eq, r19_eq, q3_eq, read_k harg4 x1 _ 3 _ (off36_eq i), read_v harg5 x2 _ 3 _ (off44_eq i)]
  generalize (st1 c i arg3 harg3 arg4 harg4 arg5 harg5 arg6 harg6 x1 x2 (fun h => qT x0 h.val) (i 2).val) = t
  rfl

theorem piece4_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    k0_pay2 (kernelRun0_A.sl.r_73 (F := Ideal) c i arg3 harg3 arg4 harg4 arg5 harg5 arg6 harg6 x0 x1 x2) (kernelRun0_A.sl.r_83 (F := Ideal) c i arg3 harg3 arg4 harg4 arg5 harg5 arg6 harg6 x0 x1 x2)
      = headOut (qT x0 4) (kT x1 (i 2).val 4) (vT x2 (i 2).val 4) (comp (st1 c i arg3 harg3 arg4 harg4 arg5 harg5 arg6 harg6 x1 x2 (fun h => qT x0 h.val) (i 2).val) 4) := by
  unfold kernelRun0_A.sl.r_83 kernelRun0_A.sl.r_73 kernelRun0_A.sl.r_64 kernelRun0_A.sl.r_56 kernelRun0_A.sl.r_50 kernelRun0_A.sl.r_42 kernelRun0_A.sl.r_36
  rw [r20_eq, r21_eq, r22_eq, q4_eq, read_k harg4 x1 _ 4 _ (off37_eq i), read_v harg5 x2 _ 4 _ (off45_eq i)]
  generalize (st1 c i arg3 harg3 arg4 harg4 arg5 harg5 arg6 harg6 x1 x2 (fun h => qT x0 h.val) (i 2).val) = t
  rfl

theorem piece5_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    k0_pay3 (kernelRun0_A.sl.r_74 (F := Ideal) c i arg3 harg3 arg4 harg4 arg5 harg5 arg6 harg6 x0 x1 x2) (kernelRun0_A.sl.r_84 (F := Ideal) c i arg3 harg3 arg4 harg4 arg5 harg5 arg6 harg6 x0 x1 x2)
      = headOut (qT x0 5) (kT x1 (i 2).val 5) (vT x2 (i 2).val 5) (comp (st1 c i arg3 harg3 arg4 harg4 arg5 harg5 arg6 harg6 x1 x2 (fun h => qT x0 h.val) (i 2).val) 5) := by
  unfold kernelRun0_A.sl.r_84 kernelRun0_A.sl.r_74 kernelRun0_A.sl.r_65 kernelRun0_A.sl.r_57 kernelRun0_A.sl.r_51 kernelRun0_A.sl.r_43 kernelRun0_A.sl.r_37
  rw [r23_eq, r24_eq, r25_eq, q5_eq, read_k harg4 x1 _ 5 _ (off38_eq i), read_v harg5 x2 _ 5 _ (off46_eq i)]
  generalize (st1 c i arg3 harg3 arg4 harg4 arg5 harg5 arg6 harg6 x1 x2 (fun h => qT x0 h.val) (i 2).val) = t
  rfl

theorem piece6_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    k0_pay4 (kernelRun0_A.sl.r_75 (F := Ideal) c i arg3 harg3 arg4 harg4 arg5 harg5 arg6 harg6 x0 x1 x2) (kernelRun0_A.sl.r_85 (F := Ideal) c i arg3 harg3 arg4 harg4 arg5 harg5 arg6 harg6 x0 x1 x2)
      = headOut (qT x0 6) (kT x1 (i 2).val 6) (vT x2 (i 2).val 6) (comp (st1 c i arg3 harg3 arg4 harg4 arg5 harg5 arg6 harg6 x1 x2 (fun h => qT x0 h.val) (i 2).val) 6) := by
  unfold kernelRun0_A.sl.r_85 kernelRun0_A.sl.r_75 kernelRun0_A.sl.r_66 kernelRun0_A.sl.r_58 kernelRun0_A.sl.r_44
  rw [r26_eq, r27_eq, r28_eq, q6_eq, read_k harg4 x1 _ 6 _ (off39_eq i), read_v harg5 x2 _ 6 _ (off47_eq i)]
  generalize (st1 c i arg3 harg3 arg4 harg4 arg5 harg5 arg6 harg6 x1 x2 (fun h => qT x0 h.val) (i 2).val) = t
  rfl

theorem piece7_eq (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    k0_pay5 (kernelRun0_A.sl.r_76 (F := Ideal) c i arg3 harg3 arg4 harg4 arg5 harg5 arg6 harg6 x0 x1 x2) (kernelRun0_A.sl.r_86 (F := Ideal) c i arg3 harg3 arg4 harg4 arg5 harg5 arg6 harg6 x0 x1 x2)
      = headOut (qT x0 7) (kT x1 (i 2).val 7) (vT x2 (i 2).val 7) (comp (st1 c i arg3 harg3 arg4 harg4 arg5 harg5 arg6 harg6 x1 x2 (fun h => qT x0 h.val) (i 2).val) 7) := by
  unfold kernelRun0_A.sl.r_86 kernelRun0_A.sl.r_76 kernelRun0_A.sl.r_67 kernelRun0_A.sl.r_59 kernelRun0_A.sl.r_45
  rw [r29_eq, r30_eq, r31_eq, q7_eq, read_k harg4 x1 _ 7 _ (off40_eq i), read_v harg5 x2 _ 7 _ (off48_eq i)]
  generalize (st1 c i arg3 harg3 arg4 harg4 arg5 harg5 arg6 harg6 x1 x2 (fun h => qT x0 h.val) (i 2).val) = t
  rfl

/-- Where a head's columns begin in the output block. -/
def colOff (h : Fin 8) : Fin 2 → ℕ := ![0, 128 * h.val]

theorem colOff_inb (h : Fin 8) : ∀ a, colOff h a + S256x128.size a ≤ S256x1024.size a := by
  intro a
  have := h.isLt
  match a with
  | ⟨0, _⟩ => exact Nat.le_refl 256
  | ⟨1, _⟩ =>
    show 128 * h.val + 128 ≤ 1024
    omega

theorem out_pieces (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) :
    out0_A_3 (F := Ideal) c i arg3 harg3 arg4 harg4 arg5 harg5 arg6 harg6 x0 x1 x2
      = VO0_3.read (Elt Ideal) (VO0_3.writes (Elt Ideal) VO0_3.junk
          (View.tilePieces (s := S256x1024) (Val := Elt Ideal) (e := .bf16) S256x128.size colOff colOff_inb
            (fun h => headOut (qT x0 h.val) (kT x1 (i 2).val h.val) (vT x2 (i 2).val h.val)
              (comp (st1 c i arg3 harg3 arg4 harg4 arg5 harg5 arg6 harg6 x1 x2 (fun h => qT x0 h.val) (i 2).val) h))
            8 (Nat.le_refl 8))) := by
  unfold out0_A_3 kernelRun0_A
  dsimp only
  rw [piece7_eq, piece6_eq, piece5_eq, piece4_eq, piece3_eq, piece2_eq, piece1_eq, piece0_eq]
  rfl

/-- The output block at a query and a column of head `h`. -/
theorem out_at_point (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) (r : Fin 256) (h : Fin 8) (d : Fin 128) (y : S256x1024.Idx) (hy0 : (y 0).val = r.val) (hy1 : (y 1).val = 128 * h.val + d.val) :
    out0_A_3 (F := Ideal) c i arg3 harg3 arg4 harg4 arg5 harg5 arg6 harg6 x0 x1 x2 y
      = headOut (qT x0 h.val) (kT x1 (i 2).val h.val) (vT x2 (i 2).val h.val)
          (comp (st1 c i arg3 harg3 arg4 harg4 arg5 harg5 arg6 harg6 x1 x2 (fun h => qT x0 h.val) (i 2).val) h) (ix2 r d) := by
  rw [out_pieces]
  refine (View.read_tilePieces VO0_3 VO0_3.junk S256x128.size colOff colOff_inb _ 8 (Nat.le_refl 8) y h h.isLt (ix2 r d) ?_ 1 ?_).trans ?_
  · intro a
    match a with
    | ⟨0, _⟩ => exact hy0.trans (Nat.zero_add _).symm
    | ⟨1, _⟩ => exact hy1
  · intro h' hne
    have hd := d.isLt
    have hne' : h'.val ≠ h.val := fun e => hne (Fin.ext e)
    show (y 1).val < 128 * h'.val ∨ 128 * h'.val + 128 ≤ (y 1).val
    omega
  · rfl

end Cert.KernelIdeal.Att
-- ==== Proof.Loop.lean ====
/- What one grid point leaves in the output block, as a softmax-weighted sum over all keys. -/
module

public import proofs.«01_k».proof.Proof.Out

@[expose] public section

set_option maxRecDepth 16384

noncomputable section

namespace Cert.KernelIdeal.Att

open Cert.KernelIdeal Cert.KernelIdeal.Gen Idealize.ShloMosaic Idealize.ShloMosaic.TcCoe Idealize.SL.Sem Cert.Softmax

/-- Head `h`'s score of query `r` of the `a`-th query block against key `k`: the dot product, and `⊥` past the diagonal. -/
def sc (x0 : Vec Ideal S256x2048 .bf16) (x1 : Vec Ideal S2048x2048 .bf16) (a h : ℕ) (r : Fin 256) (k : ℕ) : EReal :=
  if k ≤ 256 * a + r.val then ∑ d : Fin 256, kN x1 k (256 * h + d.val) * qN x0 r.val (256 * h + d.val) else ⊥

/-- Head `h`'s value column `d` at key `k`. -/
def vl (x2 : Vec Ideal S1024x2048 .bf16) (h : ℕ) (d : Fin 128) (k : ℕ) : EReal := vN x2 (128 * h + d.val) k

/-- A table of real numbers. -/
def Real' {s : Shape} (x : s.Idx → EReal) : Prop := ∀ y, x y ≠ ⊤ ∧ x y ≠ ⊥

theorem sum_real {n : ℕ} (f g : Fin n → EReal) (hf : ∀ d, f d ≠ ⊤ ∧ f d ≠ ⊥) (hg : ∀ d, g d ≠ ⊤ ∧ g d ≠ ⊥) :
    ∃ x : ℝ, ∑ d, f d * g d = (x : EReal) := by
  refine ⟨∑ d, (f d).toReal * (g d).toReal, ?_⟩
  rw [show ((∑ d, (f d).toReal * (g d).toReal : ℝ) : EReal) = ∑ d, (((f d).toReal * (g d).toReal : ℝ) : EReal) from
    map_sum (⟨⟨fun x : ℝ => (x : EReal), EReal.coe_zero⟩, EReal.coe_add⟩ : ℝ →+ EReal) _ _]
  refine Finset.sum_congr rfl fun d _ => ?_
  rw [EReal.coe_mul, EReal.coe_toReal (hf d).1 (hf d).2, EReal.coe_toReal (hg d).1 (hg d).2]

theorem sc_ne_top {x0 : Vec Ideal S256x2048 .bf16} {x1 : Vec Ideal S2048x2048 .bf16} (h0 : Real' x0) (h1 : Real' x1)
    (a h : ℕ) (r : Fin 256) (k : ℕ) : sc x0 x1 a h r k ≠ ⊤ := by
  unfold sc
  split
  · obtain ⟨x, hx⟩ := sum_real (fun d : Fin 256 => kN x1 k (256 * h + d.val)) (fun d => qN x0 r.val (256 * h + d.val))
      (fun d => h1 _) (fun d => h0 _)
    rw [hx]
    exact EReal.coe_ne_top x
  · exact bot_ne_top

theorem sc_zero_ne_bot {x0 : Vec Ideal S256x2048 .bf16} {x1 : Vec Ideal S2048x2048 .bf16} (h0 : Real' x0) (h1 : Real' x1)
    (a h : ℕ) (r : Fin 256) : sc x0 x1 a h r 0 ≠ ⊥ := by
  unfold sc
  rw [if_pos (Nat.zero_le _)]
  obtain ⟨x, hx⟩ := sum_real (fun d : Fin 256 => kN x1 0 (256 * h + d.val)) (fun d => qN x0 r.val (256 * h + d.val))
    (fun d => h1 _) (fun d => h0 _)
  rw [hx]
  exact EReal.coe_ne_bot x

theorem score_tile (x0 : Vec Ideal S256x2048 .bf16) (x1 : Vec Ideal S2048x2048 .bf16) (j h : ℕ) (k r : Fin 256) :
    k0_pay6 (F := Ideal) (qT x0 h) (kT x1 j h) (ix2 k r)
      = ∑ d : Fin 256, kN x1 (256 * j + k.val) (256 * h + d.val) * qN x0 r.val (256 * h + d.val) := by
  rw [score_at]
  rfl

theorem init_comp (h : Fin 8) : comp init h = (k0_pay98, k0_pay99, k0_pay100) := by
  match h with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

theorem init_inv (s : Fin 256 → ℕ → EReal) (v : Fin 128 → ℕ → EReal) (h : Fin 8) : Inv s v 0 (comp init h) := by
  rw [init_comp]
  intro r
  refine ⟨?_, ?_, fun d => ?_⟩
  · rw [M_zero]
    unfold_payloads
    pointwise []
    exact mask_eq
  · rw [L_zero]
    unfold_payloads
    pointwise []
  · rw [A_zero]
    unfold_payloads
    pointwise []

theorem pick_q (x0 : Vec Ideal S256x2048 .bf16) (h : Fin 8) :
    pick (qT x0 0) (qT x0 1) (qT x0 2) (qT x0 3) (qT x0 4) (qT x0 5) (qT x0 6) (qT x0 7) h = qT x0 h.val := by
  match h with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

theorem loop_trips (i : grid0.Coords) : (k0_t1_loop i).trips = (i 2).val := trips1 i

theorem st1_inv (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) (h0 : Real' x0) (h1 : Real' x1) (h : Fin 8) :
    ∀ n : ℕ, n ≤ (i 2).val →
      Inv (sc x0 x1 (i 2).val h.val) (vl x2 h.val) (256 * n) (comp (st1 c i arg3 harg3 arg4 harg4 arg5 harg5 arg6 harg6 x1 x2 (fun h => qT x0 h.val) n) h)
  | 0, _ => init_inv _ _ h
  | n + 1, hn => by
    have hk : n < (k0_t1_loop i).trips := by rw [loop_trips]; omega
    have ih := st1_inv c i arg3 harg3 arg4 harg4 arg5 harg5 arg6 harg6 x0 x1 x2 h0 h1 h n (by omega)
    have hst : st1 c i arg3 harg3 arg4 harg4 arg5 harg5 arg6 harg6 x1 x2 (fun h => qT x0 h.val) (n + 1) = _ :=
      st_k0_t1_succ (F := Ideal) _ _ _ _ _ _ _ _ _ _ _ _ _ _ _ _ _ _ _ _ _ _ _ _ _ _ _ _ _ _ _ _ _ _ _ _ _ _ _ _ _ (⟨n, hk⟩ : Fin (k0_t1_loop i).trips)
    rw [hst, comp_trip, Nat.mul_succ]
    refine ih.step (fun r k => sc_ne_top h0 h1 _ _ r k) (fun k r => ?_) (fun d k => ?_)
    · refine (congrArg (fun q => k0_pay6 (F := Ideal) q (kT x1 n h.val) (ix2 k r)) (pick_q x0 h)).trans ?_
      rw [score_tile, sc, if_pos (by omega)]
    · rfl

theorem out_value (c : Dev nD) (i : grid0.Coords) (arg3 : Memref sig .tc .vmem S256x2048 .bf16) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S256x1024 .bf16) (harg6 : arg6.IsWhole)
    (x0 : Vec Ideal S256x2048 .bf16) (x1 : Vec Ideal S2048x2048 .bf16) (x2 : Vec Ideal S1024x2048 .bf16) (h0 : Real' x0) (h1 : Real' x1)
    (r : Fin 256) (h : Fin 8) (d : Fin 128) (y : S256x1024.Idx) (hy0 : (y 0).val = r.val) (hy1 : (y 1).val = 128 * h.val + d.val) :
    out0_A_3 (F := Ideal) c i arg3 harg3 arg4 harg4 arg5 harg5 arg6 harg6 x0 x1 x2 y
      = ∑ k ∈ Finset.range 2048, vl x2 h.val d k
          * Ideal.div (Ideal.exp (sc x0 x1 (i 2).val h.val r k - M (sc x0 x1 (i 2).val h.val r) 2048)) (L (sc x0 x1 (i 2).val h.val r) 2048) := by
  have ha : (i 2).val < 8 := (i 2).isLt
  have hr : r.val < 256 := r.isLt
  rw [out_at_point c i arg3 harg3 arg4 harg4 arg5 harg5 arg6 harg6 x0 x1 x2 r h d y hy0 hy1]
  have hI := (st1_inv c i arg3 harg3 arg4 harg4 arg5 harg5 arg6 harg6 x0 x1 x2 h0 h1 h (i 2).val (Nat.le_refl _)).step
    (fun r k => sc_ne_top h0 h1 _ _ r k)
    (S := k0_pay140 k0_pay134 (k0_pay6 (qT x0 h.val) (kT x1 (i 2).val h.val))) (V := vT x2 (i 2).val h.val)
    (fun k r => by
      rw [masked_at, score_tile, sc]
      by_cases hkr : k ≤ r
      · rw [if_pos hkr, if_pos (by have := Fin.le_def.mp hkr; omega)]
      · rw [if_neg hkr, if_neg (by have := fun e => hkr (Fin.le_def.mpr e); omega)])
    (fun d k => rfl)
  obtain ⟨-, hl, ha'⟩ := hI r
  unfold headOut
  rw [out_at, hl, ha' d]
  refine div_A (sc_ne_top h0 h1 _ _ r) (by omega) (fun k hk => ?_) (k₀ := 0) (by omega) (sc_zero_ne_bot h0 h1 _ _ r)
  unfold sc
  rw [if_neg (by omega)]

end Cert.KernelIdeal.Att
-- ==== Proof.Array.lean ====
/- The idealised kernel's result array as a function of the argument arrays. -/
module

public import proofs.«01_k».proof.Proof.Loop
public import proofs.«01_k».proof.Proof.Gen.KernelIdeal.Value
public import Idealize.ShloMosaic.Lib.Pipeline.ValueKit

@[expose] public section

set_option maxRecDepth 16384

noncomputable section

namespace Cert.KernelIdeal.Att

open Cert.KernelIdeal Cert.KernelIdeal.Gen Idealize.ShloMosaic Idealize.ShloMosaic.TcCoe Idealize.SL.Sem Cert.Softmax

/-- The softmax-weighted sum of 2048 values. -/
def wsum (s v : ℕ → EReal) : EReal :=
  ∑ k ∈ Finset.range 2048, v k * Ideal.div (Ideal.exp (s k - M s 2048)) (L s 2048)

theorem wsum_congr {s s' v v' : ℕ → EReal} (hs : ∀ k, k < 2048 → s k = s' k) (hv : ∀ k, k < 2048 → v k = v' k) :
    wsum s v = wsum s' v' := by
  have hM : M s 2048 = M s' 2048 := Finset.sup_congr rfl fun k hk => hs k (Finset.mem_range.mp hk)
  have hL : L s 2048 = L s' 2048 := by
    unfold L
    rw [hM]
    exact Finset.sum_congr rfl fun k hk => by rw [hs k (Finset.mem_range.mp hk)]
  unfold wsum
  rw [hM, hL]
  exact Finset.sum_congr rfl fun k hk => by rw [hs k (Finset.mem_range.mp hk), hv k (Finset.mem_range.mp hk)]

/-- A query or key array, and the value array, at natural-number coordinates. -/
def tq (q : S16384x2048.Idx → EReal) (a b : ℕ) : EReal := q (ix2 (Fin.ofNat 16384 a) (Fin.ofNat 2048 b))
def tv (v : S1024x16384.Idx → EReal) (a b : ℕ) : EReal := v (ix2 (Fin.ofNat 1024 a) (Fin.ofNat 16384 b))

/-- In batch `b` and head `h`, the masked score of query `s` against key `j`. -/
def gsc (q k : S16384x2048.Idx → EReal) (b h s j : ℕ) : EReal :=
  if j ≤ s then ∑ d : Fin 256, tq k (2048 * b + j) (256 * h + d.val) * tq q (2048 * b + s) (256 * h + d.val) else ⊥

/-- The attention output at row `2048 * b + s`, column `128 * h + d`. -/
def att (q k : S16384x2048.Idx → EReal) (v : S1024x16384.Idx → EReal) (y : S16384x1024.Idx) : EReal :=
  wsum (gsc q k ((y 0).val / 2048) ((y 1).val / 128) ((y 0).val % 2048))
    (fun j => tv v (y 1).val (2048 * ((y 0).val / 2048) + j))

variable (m : (ℓ : Loc nD τ sig) → Buf (Elt Ideal) ℓ)

theorem idx0 : ∀ t : Fin grid0.N, win0_0.index t 0 = 8 * (grid0.coords t 0).val + (grid0.coords t 2).val ∧ win0_0.index t 1 = 0 := by
  decide +kernel
theorem idx1 : ∀ t : Fin grid0.N, win0_1.index t 0 = (grid0.coords t 0).val ∧ win0_1.index t 1 = 0 := by
  decide +kernel
theorem idx2 : ∀ t : Fin grid0.N, win0_2.index t 0 = 0 ∧ win0_2.index t 1 = (grid0.coords t 0).val := by
  decide +kernel
theorem idx3 : ∀ t : Fin grid0.N, win0_3.index t 0 = 8 * (grid0.coords t 0).val + (grid0.coords t 2).val ∧ win0_3.index t 1 = 0 := by
  decide +kernel

theorem blk0 (c : Dev nD) (t : Fin cfg0.N) (a b : ℕ) (ha : a < 256) (hb : b < 2048) :
    qN (iblk m c 0 t) a b = tq (m ((c : Thread nD τ).loc main_arg0)) (2048 * (grid0.coords t 0).val + 256 * (grid0.coords t 2).val + a) b := by
  have h0 := (idx0 t).1
  have h1 := (idx0 t).2
  have l0 : (grid0.coords t 0).val < 8 := (grid0.coords t 0).isLt
  have l2 : (grid0.coords t 2).val < 8 := (grid0.coords t 2).isLt
  unfold qN tq iblk
  rw [View.read_apply]
  show V m c main_arg0 _ = _
  rw [V_main_arg0]
  congr 1
  refine ix2_ext _ _ fun x => ?_
  match x with
  | ⟨0, _⟩ =>
    refine (Pipeline.Window.rect_emb_val win0_0 t _ 0).trans ?_
    show win0_0.index t 0 * 256 + a % 256 = _ % 16384
    rw [h0]; omega
  | ⟨1, _⟩ =>
    refine (Pipeline.Window.rect_emb_val win0_0 t _ 1).trans ?_
    show win0_0.index t 1 * 2048 + b % 2048 = b % 2048
    rw [h1]; omega

theorem blk1 (c : Dev nD) (t : Fin cfg0.N) (a b : ℕ) (ha : a < 2048) (hb : b < 2048) :
    kN (iblk m c 1 t) a b = tq (m ((c : Thread nD τ).loc main_arg1)) (2048 * (grid0.coords t 0).val + a) b := by
  have h0 := (idx1 t).1
  have h1 := (idx1 t).2
  have l0 : (grid0.coords t 0).val < 8 := (grid0.coords t 0).isLt
  unfold kN tq iblk
  rw [View.read_apply]
  show V m c main_arg1 _ = _
  rw [V_main_arg1]
  congr 1
  refine ix2_ext _ _ fun x => ?_
  match x with
  | ⟨0, _⟩ =>
    refine (Pipeline.Window.rect_emb_val win0_1 t _ 0).trans ?_
    show win0_1.index t 0 * 2048 + a % 2048 = _ % 16384
    rw [h0]; omega
  | ⟨1, _⟩ =>
    refine (Pipeline.Window.rect_emb_val win0_1 t _ 1).trans ?_
    show win0_1.index t 1 * 2048 + b % 2048 = b % 2048
    rw [h1]; omega

theorem blk2 (c : Dev nD) (t : Fin cfg0.N) (a b : ℕ) (ha : a < 1024) (hb : b < 2048) :
    vN (iblk m c 2 t) a b = tv (m ((c : Thread nD τ).loc main_arg2)) a (2048 * (grid0.coords t 0).val + b) := by
  have h0 := (idx2 t).1
  have h1 := (idx2 t).2
  have l0 : (grid0.coords t 0).val < 8 := (grid0.coords t 0).isLt
  unfold vN tv iblk
  rw [View.read_apply]
  show V m c main_arg2 _ = _
  rw [V_main_arg2]
  congr 1
  refine ix2_ext _ _ fun x => ?_
  match x with
  | ⟨0, _⟩ =>
    refine (Pipeline.Window.rect_emb_val win0_2 t _ 0).trans ?_
    show win0_2.index t 0 * 1024 + a % 1024 = _ % 1024
    rw [h0]; omega
  | ⟨1, _⟩ =>
    refine (Pipeline.Window.rect_emb_val win0_2 t _ 1).trans ?_
    show win0_2.index t 1 * 2048 + b % 2048 = _ % 16384
    rw [h1]; omega

theorem real_iblk0 (c : Dev nD) (t : Fin cfg0.N) (h : Real' (m ((c : Thread nD τ).loc main_arg0))) :
    Real' (s := S256x2048) (iblk m c 0 t) := by
  intro y
  unfold iblk
  rw [View.read_apply]
  show V m c main_arg0 _ ≠ _ ∧ V m c main_arg0 _ ≠ _
  rw [V_main_arg0]
  exact h _

theorem real_iblk1 (c : Dev nD) (t : Fin cfg0.N) (h : Real' (m ((c : Thread nD τ).loc main_arg1))) :
    Real' (s := S2048x2048) (iblk m c 1 t) := by
  intro y
  unfold iblk
  rw [View.read_apply]
  show V m c main_arg1 _ ≠ _ ∧ V m c main_arg1 _ ≠ _
  rw [V_main_arg1]
  exact h _

/-- The result array. -/
abbrev result (c : Dev nD) : Buf (Elt Ideal) ((c : Thread nD τ).loc main_v0) :=
  att (m ((c : Thread nD τ).loc main_arg0)) (m ((c : Thread nD τ).loc main_arg1)) (m ((c : Thread nD τ).loc main_arg2))

theorem point (c : Dev nD) (t : Fin cfg0.N) (h0 : Real' (m ((c : Thread nD τ).loc main_arg0)))
    (h1 : Real' (m ((c : Thread nD τ).loc main_arg1))) (y : S256x1024.Idx) (z : S16384x1024.Idx)
    (hz0 : (z 0).val = 2048 * (grid0.coords t 0).val + 256 * (grid0.coords t 2).val + (y 0).val) (hz1 : (z 1).val = (y 1).val) :
    outsAt0 m c t y = result m c z := by
  have l0 : (grid0.coords t 0).val < 8 := (grid0.coords t 0).isLt
  have l2 : (grid0.coords t 2).val < 8 := (grid0.coords t 2).isLt
  have y0 : (y 0).val < 256 := (y 0).isLt
  have y1 : (y 1).val < 1024 := (y 1).isLt
  unfold outsAt0
  rw [out_value c _ _ _ _ _ _ _ _ _ _ _ _ (real_iblk0 m c t h0) (real_iblk1 m c t h1) (y 0)
    ⟨(y 1).val / 128, by omega⟩ ⟨(y 1).val % 128, by omega⟩ y rfl (by show _ = 128 * ((y 1).val / 128) + (y 1).val % 128; omega)]
  show wsum _ _ = _
  unfold result att
  rw [hz0, hz1, show (2048 * (grid0.coords t 0).val + 256 * (grid0.coords t 2).val + (y 0).val) / 2048 = (grid0.coords t 0).val by omega,
    show (2048 * (grid0.coords t 0).val + 256 * (grid0.coords t 2).val + (y 0).val) % 2048 = 256 * (grid0.coords t 2).val + (y 0).val by omega]
  refine wsum_congr (fun k hk => ?_) (fun k hk => ?_)
  · unfold sc gsc
    refine if_congr Iff.rfl (Finset.sum_congr rfl fun d _ => ?_) rfl
    have hd : d.val < 256 := d.isLt
    rw [blk0 m c t _ _ y0 (by show 256 * ((y 1).val / 128) + d.val < 2048; omega),
      blk1 m c t _ _ hk (by show 256 * ((y 1).val / 128) + d.val < 2048; omega), Nat.add_assoc]
  · unfold vl
    rw [blk2 m c t _ _ (by show 128 * ((y 1).val / 128) + (y 1).val % 128 < 1024; omega) hk]
    congr 1
    show 128 * ((y 1).val / 128) + (y 1).val % 128 = (y 1).val
    omega

theorem final (c : Dev nD) (h0 : Real' (m ((c : Thread nD τ).loc main_arg0))) (h1 : Real' (m ((c : Thread nD τ).loc main_arg1))) :
    (dats m 0 c).arrAt 3 cfg0.N = result m c := by
  refine (dats m 0 c).arrAt_eq_of_covers 3 (result m c) (by decide +kernel) fun t hf y => ?_
  refine (cast_eq _ _).trans ?_
  rw [after0_3]
  refine point m c t h0 h1 _ _ ?_ ?_
  · refine (Pipeline.Window.rect_emb_val win0_3 t _ 0).trans ?_
    rw [(idx3 t).1]
    show _ * 256 + (y 0).val = _ + (y 0).val
    omega
  · refine (Pipeline.Window.rect_emb_val win0_3 t _ 1).trans ?_
    rw [(idx3 t).2]
    show 0 * 1024 + (y 1).val = (y 1).val
    omega

end Cert.KernelIdeal.Att
-- ==== Proof.Ref.lean ====
/- The reference's result array, read as the same softmax-weighted sum. -/
module

public import proofs.«01_k».proof.Proof.Array
public import proofs.«01_k».proof.Proof.Gen.ReferenceIdeal.Run
public import Idealize.ShloMosaic.Lib.Pointwise

@[expose] public section

set_option maxRecDepth 16384

noncomputable section

namespace Cert.ReferenceIdeal.Att

open Cert.ReferenceIdeal Cert.ReferenceIdeal.Gen Cert.ReferenceIdeal.Value Idealize.ShloMosaic Idealize.ShloMosaic.TcCoe Idealize.SL.Sem Cert.Softmax
open Cert.KernelIdeal.Att (wsum wsum_congr tq tv gsc att)

/-- The masked scores. -/
def scores (q k : FVec Ideal S16384x2048 .bf16) : FVec Ideal S8x8x2048x2048 .f32 :=
  select (broadcastInDim S8x8x2048x2048 ![2, 3] bcast_S2048x2048_S8x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (Host.dotGeneral dot_S8x2048x8x256_S8x2048x8x256_S8x8x2048x2048_3_3_1_1_02_02 none (shapeCast _ (extf .f32 q bitsLt_bf16_f32) shapeCasts_S16384x2048_S8x2048x8x256) (shapeCast _ (extf .f32 k bitsLt_bf16_f32) shapeCasts_S16384x2048_S8x2048x8x256)) (broadcastInDim S8x8x2048x2048 ![] bcast_S_S8x8x2048x2048 (id (constant S_ .f32 0xFF800000#32)))

/-- The row maxima, spread over the rows. -/
def rowMax (s : FVec Ideal S8x8x2048x2048 .f32) : FVec Ideal S8x8x2048x2048 .f32 :=
  broadcastInDim S8x8x2048x2048 ![0, 1, 2, 3] bcast_S8x8x2048x1_S8x8x2048x2048_0_1_2_3 (broadcastInDim S8x8x2048x1 ![0, 1, 2] bcast_S8x8x2048_S8x8x2048x1_0_1_2 (maximumf (broadcastInDim S8x8x2048 ![] bcast_S_S8x8x2048 (constant S_ .f32 0xFF800000#32)) (Host.reduce FloatOps.maximumf s (constant S_ .f32 0xFF800000#32) reducesTo_S8x8x2048x2048_S8x8x2048_d3 h_S_)))

/-- The row sums, spread over the rows. -/
def rowSum (e : FVec Ideal S8x8x2048x2048 .f32) : FVec Ideal S8x8x2048x2048 .f32 :=
  broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduceAdd e (constant S_ .f32 0x00000000#32) reducesTo_S8x8x2048x2048_S8x8x2048_d3 h_S_))

/-- The weights. -/
def weights (s : FVec Ideal S8x8x2048x2048 .f32) : FVec Ideal S8x8x2048x2048 .f32 :=
  Host.divf (Host.exp (subf s (rowMax s))) (rowSum (Host.exp (subf s (rowMax s))))

/-- The weighted values. -/
def mix (v : FVec Ideal S1024x16384 .bf16) (w : FVec Ideal S8x8x2048x2048 .f32) : FVec Ideal S16384x1024 .bf16 :=
  truncf .bf16 (shapeCast _ (transpose S8x2048x8x128 [0, 3, 1, 2] (Host.dotGeneral dot_S8x2048x8x128_S8x8x2048x2048_S8x8x128x2048_1_3_3_2_02_01 none (shapeCast _ (transpose S16384x1024 [1, 0] (extf .f32 v bitsLt_bf16_f32) transposes_S1024x16384_S16384x1024_1_0) shapeCasts_S16384x1024_S8x2048x8x128) w) transposes_S8x8x128x2048_S8x2048x8x128_0_3_1_2) shapeCasts_S8x2048x8x128_S16384x1024) bitsLt_bf16_f32

theorem res_eq (m : (ℓ : Loc nD τ sig) → Buf (Elt Ideal) ℓ) (c : Dev nD) :
    res_main_v29 (F := Ideal) m c = mix (m ((c.tc : Thread nD τ).loc main_arg2))
      (weights (scores (m ((c.tc : Thread nD τ).loc main_arg0)) (m ((c.tc : Thread nD τ).loc main_arg1)))) := by
  unfold res_main_v29 mix weights rowSum rowMax scores
  rfl

theorem mask_at (i j : Fin 2048) :
    IntOp.cmpi CmpIPredicate.sle (BitVec.ofNat 32 j.val) (BitVec.ofNat 32 i.val) = BitVec.ofBool (decide (j.val ≤ i.val)) := by
  show BitVec.ofBool (BitVec.sle _ _) = _
  rw [BitVec.sle_eq_decide, WordArith.toInt_ofNat_small _ (by omega), WordArith.toInt_ofNat_small _ (by omega)]
  simp

theorem select_true (x y : EReal) : Scalar.select (BitVec.ofBool true) x y = x := rfl

theorem scores_at (q k : FVec Ideal S16384x2048 .bf16) (b h : Fin 8) (i j : Fin 2048) :
    scores q k (ix4 b h i j) = gsc q k b.val h.val i.val j.val := by
  unfold scores
  pointwise []
  rw [mask_at]
  unfold gsc tq
  have hz : id (constant (F := Ideal) S_ FTy.f32 4286578688#32) ix0 = (⊥ : EReal) := Cert.KernelIdeal.Att.neg_inf
  by_cases hij : j.val ≤ i.val
  · rw [decide_eq_true hij, if_pos hij]
    refine (select_true _ _).trans ?_
    refine Finset.sum_congr (M := EReal) rfl fun d _ => ?_
    rw [EReal.mul_comm]
    have hd : d.val < 256 := d.isLt
    congr 2 <;> refine Cert.KernelIdeal.Att.ix2_ext _ _ fun x => ?_ <;> match x with
      | ⟨0, _⟩ => show _ = _ % 16384; dsimp; omega
      | ⟨1, _⟩ => show _ = _ % 2048; dsimp; omega
  · rw [decide_eq_false hij, if_neg hij]
    exact hz

theorem reduces : Shape.Reduces S8x8x2048x2048 [3] S8x8x2048 := by decide

theorem lift_ix (b h : Fin 8) (i : Fin 2048) (k : Fin 2048) : reduces.lift (ix3 b h i) k = ix4 b h i k := by
  refine Cert.KernelIdeal.Att.ix2_ext _ _ fun x => ?_
  match x with
  | ⟨0, _⟩ => rfl
  | ⟨1, _⟩ => rfl
  | ⟨2, _⟩ => rfl
  | ⟨3, _⟩ => rfl

theorem reduce_at (s : FVec Ideal S8x8x2048x2048 .f32) (z : FVec Ideal S_ .f32) (hz : z ix0 = (⊥ : EReal)) (b h : Fin 8) (i : Fin 2048) :
    Host.reduce FloatOps.maximumf s z reducesTo_S8x8x2048x2048_S8x8x2048_d3 h_S_ (ix3 b h i)
      = (Finset.univ : Finset (Fin 2048)).sup fun k => (s (ix4 b h i k) : EReal) := by
  refine (Host.reduce_eq_fold_single (max : EReal → EReal → EReal) s z _ reduces _ (ix3 b h i)).trans ?_
  have e : z (Shape.Idx.first h_S_) = (⊥ : EReal) := (congrArg z (funext fun a => a.elim0)).trans hz
  have e2 : (s ∘ reduces.lift (ix3 b h i)) = fun k : Fin 2048 => s (ix4 b h i k) := funext fun k => congrArg s (lift_ix b h i k)
  rw [e, e2]
  generalize (fun k : Fin 2048 => s (ix4 b h i k)) = f
  rfl

/-- A table of row maxima, spread over the rows, at an index. -/
theorem spread_at (R : FVec Ideal S8x8x2048 .f32) (b h : Fin 8) (i j : Fin 2048) :
    broadcastInDim S8x8x2048x2048 ![0, 1, 2, 3] bcast_S8x8x2048x1_S8x8x2048x2048_0_1_2_3 (broadcastInDim S8x8x2048x1 ![0, 1, 2] bcast_S8x8x2048_S8x8x2048x1_0_1_2 (maximumf (broadcastInDim S8x8x2048 ![] bcast_S_S8x8x2048 (constant S_ .f32 0xFF800000#32)) R)) (ix4 b h i j)
      = max (Ideal.ofBits .f32 0xFF800000#32) (R (ix3 b h i) : EReal) := by
  pointwise []

theorem rowMax_at (s : FVec Ideal S8x8x2048x2048 .f32) (b h : Fin 8) (i j : Fin 2048) :
    rowMax s (ix4 b h i j) = (Finset.univ : Finset (Fin 2048)).sup fun k => (s (ix4 b h i k) : EReal) := by
  unfold rowMax
  refine (spread_at _ b h i j).trans ?_
  rw [reduce_at s _ Cert.KernelIdeal.Att.neg_inf b h i, Cert.KernelIdeal.Att.neg_inf]
  exact max_eq_right bot_le

theorem rowSum_at (s : FVec Ideal S8x8x2048x2048 .f32) (b h : Fin 8) (i j : Fin 2048) :
    rowSum s (ix4 b h i j) = ∑ k : Fin 2048, (s (ix4 b h i k) : EReal) := by
  unfold rowSum
  pointwise [Ideal.hostReduceAdd_single]

theorem mix_at (v : FVec Ideal S1024x16384 .bf16) (w : FVec Ideal S8x8x2048x2048 .f32) (a : Fin 16384) (x : Fin 1024) :
    mix v w (ix2 a x) = ∑ j : Fin 2048, tv v x.val (2048 * (a.val / 2048) + j.val)
      * (w (ix4 ⟨a.val / 2048, by omega⟩ ⟨x.val / 128, by omega⟩ ⟨a.val % 2048, by omega⟩ j) : EReal) := by
  unfold mix
  pointwise []
  refine Finset.sum_congr rfl fun j _ => congrArg (· * _) ?_
  unfold tv
  congr 1
  refine Cert.KernelIdeal.Att.ix2_ext _ _ fun y => ?_
  match y with
  | ⟨0, _⟩ => show _ = _ % 1024; dsimp; omega
  | ⟨1, _⟩ => show _ = _ % 16384; dsimp; omega

theorem weights_at (s : FVec Ideal S8x8x2048x2048 .f32) (t : ℕ → EReal) (b h : Fin 8) (i : Fin 2048)
    (hs : ∀ k : Fin 2048, (s (ix4 b h i k) : EReal) = t k.val) (j : Fin 2048) :
    weights s (ix4 b h i j) = Ideal.div (Ideal.exp (t j.val - M t 2048)) (L t 2048) := by
  have hm : ∀ k : Fin 2048, (rowMax s (ix4 b h i k) : EReal) = M t 2048 := by
    intro k
    rw [rowMax_at]
    refine (Finset.sup_congr rfl fun k _ => hs k).trans ?_
    have := M_add (s := t) 0 2048
    rw [M_zero, Nat.zero_add] at this
    rw [this, max_eq_right bot_le]
    exact Finset.sup_congr rfl fun k _ => by rw [Nat.zero_add]
  have he : ∀ k : Fin 2048, (Host.exp (subf s (rowMax s)) (ix4 b h i k) : EReal) = Ideal.exp (t k.val - M t 2048) := by
    intro k
    show Ideal.exp (s (ix4 b h i k) - rowMax s (ix4 b h i k)) = _
    rw [hs, hm]
  unfold weights
  show Ideal.div (Host.exp (subf s (rowMax s)) (ix4 b h i j)) (rowSum (Host.exp (subf s (rowMax s))) (ix4 b h i j)) = _
  rw [rowSum_at, he]
  refine congrArg _ ?_
  unfold L
  rw [Finset.sum_range]
  exact Finset.sum_congr rfl fun k _ => he k

theorem result_eq (m : (ℓ : Loc nD τ sig) → Buf (Elt Ideal) ℓ) (c : Dev nD) :
    res_main_v29 (F := Ideal) m c = att (m ((c.tc : Thread nD τ).loc main_arg0)) (m ((c.tc : Thread nD τ).loc main_arg1))
      (m ((c.tc : Thread nD τ).loc main_arg2)) := by
  rw [res_eq]
  generalize (m ((c.tc : Thread nD τ).loc main_arg0)) = q
  generalize (m ((c.tc : Thread nD τ).loc main_arg1)) = k
  generalize (m ((c.tc : Thread nD τ).loc main_arg2)) = v
  refine funext fun y => ?_
  have hy : y = ix2 (y 0) (y 1) := Cert.KernelIdeal.Att.ix2_ext _ _ fun x => by
    match x with
    | ⟨0, _⟩ => rfl
    | ⟨1, _⟩ => rfl
  refine (congrArg (mix v (weights (scores q k))) hy).trans ?_
  refine (mix_at v _ (y 0) (y 1)).trans ?_
  unfold att wsum
  rw [Finset.sum_range]
  refine Finset.sum_congr rfl fun j _ => ?_
  rw [weights_at _ (gsc q k ((y 0).val / 2048) ((y 1).val / 128) ((y 0).val % 2048)) _ _ _ (fun k => scores_at _ _ _ _ _ _)]

end Cert.ReferenceIdeal.Att
-- ==== Proof.Claims.lean ====
/- The precondition read at an index, and the value claim of the attention. -/
module

public import proofs.«01_k».proof.Defs
public import proofs.«01_k».proof.Proof.Ref
public import Idealize.ShloMosaic.Lib.ReduceAll
public import Idealize.ShloMosaic.Lib.Quiescent

@[expose] public section

set_option maxRecDepth 16384

noncomputable section

namespace Cert.Attention

open Idealize.ShloMosaic Idealize.ShloMosaic.TcCoe Idealize.SL.Sem
open Cert.KernelIdeal.Att (Real' neg_inf)

/-- The side conditions of the precondition's operations. -/
instance finiteFacts : Cert.Pre_finite.Facts where
  bitsLt_bf16_f32 := by decide
  bcast_S_S16384x2048 := by decide
  reducesTo_S16384x2048_S_d0_1 := by decide
  h_S_ := by decide

theorem pos_inf : Ideal.ofBits .f32 0x7F800000#32 = ⊤ := by simp [Ideal.ofBits, Ideal.ieee]

/-- A value above `⊥` and below `⊤`, as the two comparisons say it. -/
theorem real_of_cmp (x : EReal)
    (h : IntOp.andi (Ideal.cmp .ogt x (Ideal.ofBits .f32 0xFF800000#32)) (Ideal.cmp .olt x (Ideal.ofBits .f32 0x7F800000#32)) = 1#1) :
    x ≠ ⊤ ∧ x ≠ ⊥ := by
  rw [neg_inf, pos_inf] at h
  obtain ⟨h1, h2⟩ := IntOp.andi_eq_one.mp h
  constructor
  · rintro rfl; simp [Ideal.cmp] at h2
  · rintro rfl; simp [Ideal.cmp] at h1

instance : Subsingleton Cert.Pre_finite.S_.Idx := ⟨fun a b => funext fun x => x.elim0⟩

/-- Under the precondition the queries and the keys are real numbers. -/
theorem real_of_pre (q k : FVec Ideal Cert.Pre_finite.S16384x2048 .bf16) (v : FVec Ideal Cert.Pre_finite.S1024x16384 .bf16)
    (h : Cert.Pre_finite.fn (F := Ideal) q k v = fun _ => 1#1) : Real' q ∧ Real' k := by
  have h' := congrFun h (fun x => x.elim0)
  unfold Cert.Pre_finite.fn at h'
  dsimp only at h'
  obtain ⟨hq, hk⟩ := IntOp.andi_eq_one.mp h'
  exact ⟨fun y => real_of_cmp _ (Host.reduce_andi_all _ _ _ _ _ hq y), fun y => real_of_cmp _ (Host.reduce_andi_all _ _ _ _ _ hk y)⟩

theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩) (Cert.ReferenceIdeal.Value.run (F := Ideal) m g)

/-- The kernel's attention and the reference's softmax attention are one function of real queries and keys. -/
theorem algebraic : Cert.algebraic_KernelIdeal_ReferenceIdeal_pre_finite := by
  intro m g m' g' hpre hagree
  refine ⟨fun c => Cert.KernelIdeal.Att.result m c, ?_, ?_⟩
  · refine (θ_run _ _ _).mono (fun r h c => ⟨(h c).1.trans ?_, (h c).2⟩) (Cert.KernelIdeal.Value.run_blocks (F := Ideal) m g)
    obtain ⟨hq, hk⟩ := real_of_pre _ _ _ (hpre c)
    exact Cert.KernelIdeal.Att.final m c hq hk
  · refine (θ_run _ _ _).mono (fun r h c => ⟨(h c).1.trans ?_, (h c).2⟩) (Cert.ReferenceIdeal.Value.run (F := Ideal) m' g')
    rw [Cert.ReferenceIdeal.Att.result_eq]
    obtain ⟨e0, e1, e2⟩ := hagree c
    unfold Cert.KernelIdeal.Att.result
    rw [e0, e1, e2]

end Cert.Attention
-- ==== Proof.WholeBuffers.lean ====
module

public import Idealize.ShloMosaic.Lib.Pipeline.Frame
public import Idealize.ShloMosaic.Lib.Pipeline.ReadBack

@[expose] public section

/-! # Whole buffers: a load and a store of all of one -/

namespace Cert.WholeBuffers

open Idealize.ShloMosaic

variable {sig : RefSig} {κ : Kind} {sp : Space} {s : Shape} {e : EltTy} {Val : EltTy → Type}

/-- A load of the whole of a view reads the view. -/
theorem load_all (v : View sig κ sp s e) (off : Fin s.rank → ℕ) (inb : ∀ a, off a + s.size a ≤ s.size a) (f : v.ty.Contents Val) :
    v.readAt Val (Rect.unit off s.size inb).toLoadRect f = v.read Val f := by
  obtain rfl : off = fun _ => 0 := funext fun a => by have := inb a; omega
  funext y
  rw [View.readAt_apply]
  exact congrArg (v.read Val f) (Rect.emb_whole_apply s y)

/-- A store of the whole of a view leaves what was stored. -/
theorem store_all (v : View sig κ sp s e) (off : Fin s.rank → ℕ) (inb : ∀ a, off a + s.size a ≤ s.size a) (f : v.ty.Contents Val)
    (x : s.Idx → Val e) : v.read Val (v.writes Val f [⟨Rect.unit off s.size inb, x⟩]) = x := by
  obtain rfl : off = fun _ => 0 := funext fun a => by have := inb a; omega
  exact View.read_writes_whole v f x

/-- A load of the whole of a whole buffer reads its contents. -/
theorem load_unread {m : Memref sig κ sp s e} (h : m.IsWhole) (off : Fin s.rank → ℕ) (inb : ∀ a, off a + s.size a ≤ s.size a) (x : s.Idx → Val e) :
    m.view.readAt Val (Rect.unit off s.size inb).toLoadRect (h.unread x) = x :=
  (load_all m.view off inb _).trans (h.read_unread x)

/-- A load of the whole of a buffer after a store of the whole of it reads what was stored. -/
theorem load_stored (v : View sig κ sp s e) (off off' : Fin s.rank → ℕ) (inb : ∀ a, off a + s.size a ≤ s.size a)
    (inb' : ∀ a, off' a + s.size a ≤ s.size a) (f : v.ty.Contents Val) (x : s.Idx → Val e) :
    v.readAt Val (Rect.unit off s.size inb).toLoadRect (v.writes Val f [⟨Rect.unit off' s.size inb', x⟩]) = x :=
  (load_all v off inb _).trans (store_all v off' inb' f x)

/-- A copy onto the whole of a view leaves what was copied, whatever was there before. -/
theorem read_writes_head (v : View sig κ sp s e) (f : v.ty.Contents Val) (x : s.Idx → Val e) (L : List (View.Piece Val s e)) :
    v.read Val (v.writes Val f (⟨Rect.whole s, x⟩ :: L)) = x :=
  View.read_writes_whole v (v.writes Val f L) x

/-- A load of the whole of a buffer after a copy onto all of it reads what was copied. -/
theorem load_copied [∀ e, Nonempty (Val e)] (v : View sig κ sp s e) (off : Fin s.rank → ℕ) (inb : ∀ a, off a + s.size a ≤ s.size a)
    (x : s.Idx → Val e) (L : List (View.Piece Val s e)) :
    v.readCov (⟨Rect.whole s, x⟩ :: L) (Rect.unit off s.size inb).toLoadRect = x :=
  (load_all v off inb _).trans (read_writes_head v v.junk x L)

/-- The same of a buffer of which nothing else is known. -/
theorem load_cov [∀ e, Nonempty (Val e)] (v : View sig κ sp s e) (off off' : Fin s.rank → ℕ) (inb : ∀ a, off a + s.size a ≤ s.size a)
    (inb' : ∀ a, off' a + s.size a ≤ s.size a) (x : s.Idx → Val e) :
    v.readCov [⟨Rect.unit off' s.size inb', x⟩] (Rect.unit off s.size inb).toLoadRect = x :=
  load_stored v off off' inb inb' v.junk x

end Cert.WholeBuffers
-- ==== Proof.Tables.lean ====
/- The precondition of the experts' call read tile by tile. -/
module

public import proofs.«01_k».proof.Pre_scheduled
public import Idealize.ShloMosaic.Lib.ReduceAll
public import Idealize.ShloMosaic.Lib.Affine
public import Idealize.ShloMosaic.Lib.WordCmp

@[expose] public section

set_option maxRecDepth 16384

noncomputable section

namespace Cert.Experts

open Idealize.ShloMosaic Idealize.ShloMosaic.WordCmp Cert.Pre_scheduled

/-- The side conditions of the precondition's operations. -/
instance scheduledFacts : Cert.Pre_scheduled.Facts where
  bcast_S_S174 := by decide
  reducesTo_S174_S_d0 := by decide
  h_S_ := by decide
  slices_S174_S173_1 := by decide
  bcast_S_S173 := by decide
  slices_S174_S173_0 := by decide
  slices_S174_S1_0 := by decide
  shapeCasts_S1_S_ := by decide
  slices_S174_S1_173 := by decide
  reducesTo_S173_S_d0 := by decide

/-- Tile `k`'s place in a table. -/
def place (k : Fin 174) : S174.Idx := fun a => ⟨k.val, by obtain rfl : a = 0 := Subsingleton.elim _ _; exact k.isLt⟩
def place' (k : Fin 173) : S173.Idx := fun a => ⟨k.val, by obtain rfl : a = 0 := Subsingleton.elim _ _; exact k.isLt⟩

/-- The tables list tiles expert by expert. -/
structure Listed (ex new live nxt : IVec S174 32) : Prop where
  ex_lt : ∀ k, (ex (place k)).toNat < 32
  nxt_lt : ∀ k, (nxt (place k)).toInt < 32
  live : ∀ k, live (place k) = 0#32 ∨ live (place k) = 1#32
  new_first : new (place 0) = 1#32
  nxt_last : (nxt (place 173)).toInt < 0
  step : ∀ k : Fin 173,
    (new (place k.succ) = 1#32 ∧ nxt (place k.castSucc) = ex (place k.succ))
    ∨ (new (place k.succ) ≠ 1#32 ∧ ex (place k.castSucc) = ex (place k.succ) ∧ nxt (place k.castSucc) = nxt (place k.succ))

theorem sge_one {x y : BitVec 32} (h : IntOp.cmpi .sge x y = 1#1) : y.toInt ≤ x.toInt := by
  rw [cmpi_sge_eq] at h; by_contra hc; simp [hc] at h
theorem sle_one {x y : BitVec 32} (h : IntOp.cmpi .sle x y = 1#1) : x.toInt ≤ y.toInt := by
  rw [cmpi_sle_eq] at h; by_contra hc; simp [hc] at h
theorem slt_one {x y : BitVec 32} (h : IntOp.cmpi .slt x y = 1#1) : x.toInt < y.toInt := by
  rw [cmpi_slt_eq] at h; by_contra hc; simp [hc] at h
theorem eq_one {x y : BitVec 32} (h : IntOp.cmpi .eq x y = 1#1) : x = y := by
  rw [cmpi_eq_eq] at h; by_contra hc; simp [hc] at h
theorem ne_one {x y : BitVec 32} (h : IntOp.cmpi .ne x y = 1#1) : x ≠ y := by
  rw [cmpi_ne_eq] at h; intro hc; simp [hc] at h

theorem toNat_lt_of {x : BitVec 32} (h0 : (0#32).toInt ≤ x.toInt) (h1 : x.toInt < (32#32).toInt) : x.toNat < 32 := by
  have e0 : (0#32).toInt = 0 := by decide
  have e1 : (32#32).toInt = 32 := by decide
  rw [e0] at h0; rw [e1] at h1
  rw [BitVec.toInt_eq_toNat_cond] at h0 h1
  have := x.isLt
  split at h1 <;> omega

theorem zero_or_one {x : BitVec 32} (h0 : (0#32).toInt ≤ x.toInt) (h1 : x.toInt ≤ (1#32).toInt) : x = 0#32 ∨ x = 1#32 := by
  have e0 : (0#32).toInt = 0 := by decide
  have e1 : (1#32).toInt = 1 := by decide
  rw [e0] at h0; rw [e1] at h1
  have e2 : (0 : Int) = 0 := rfl
  rcases (show x.toInt = 0 ∨ x.toInt = 1 by omega) with h | h
  · exact Or.inl (BitVec.eq_of_toInt_eq (h.trans e0.symm))
  · exact Or.inr (BitVec.eq_of_toInt_eq (h.trans e1.symm))

theorem slice_succ (x : IVec S174 32) (h : S174.Slices ![1] S173) (k : Fin 173) :
    extractStridedSlice S173 ![1] x h (place' k) = x (place k.succ) := by
  refine congrArg x (funext fun a => Fin.ext ?_)
  obtain rfl : a = 0 := Subsingleton.elim _ _
  show 1 + k.val = k.val + 1
  omega
theorem slice_cast (x : IVec S174 32) (h : S174.Slices ![0] S173) (k : Fin 173) :
    extractStridedSlice S173 ![0] x h (place' k) = x (place k.castSucc) := by
  refine congrArg x (funext fun a => Fin.ext ?_)
  obtain rfl : a = 0 := Subsingleton.elim _ _
  show 0 + k.val = k.val
  omega
theorem slice_first (x : IVec S174 32) (h : S174.Slices ![0] S1) (i : S1.Idx) :
    extractStridedSlice S1 ![0] x h i = x (place 0) := by
  refine congrArg x (funext fun a => Fin.ext ?_)
  obtain rfl : a = 0 := Subsingleton.elim _ _
  have := (i 0).isLt
  show 0 + (i 0).val = 0
  have e : S1.size 0 = 1 := rfl
  omega
theorem slice_last (x : IVec S174 32) (h : S174.Slices ![173] S1) (i : S1.Idx) :
    extractStridedSlice S1 ![173] x h i = x (place 173) := by
  refine congrArg x (funext fun a => Fin.ext ?_)
  obtain rfl : a = 0 := Subsingleton.elim _ _
  have := (i 0).isLt
  show 173 + (i 0).val = 173
  have e : S1.size 0 = 1 := rfl
  omega

instance : Subsingleton Cert.Pre_scheduled.S_.Idx := ⟨fun a b => funext fun x => x.elim0⟩

/-- What the precondition says. -/
theorem listed {F : FTy → Type} [FloatOps F] (ex new live nxt : IVec S174 32) (xs : IVec S89088x512 32) (wu : FVec F S4x32x1024x2048 .f32) (bu : FVec F S4x32x2048 .f32)
    (wd : FVec F S4x32x1024x1024 .f32) (bd : FVec F S4x32x1024 .f32)
    (h : Cert.Pre_scheduled.fn (F := F) ex new live nxt xs wu bu wd bd = fun _ => 1#1) : Listed ex new live nxt := by
  have h' := congrFun h (fun x => x.elim0)
  unfold Cert.Pre_scheduled.fn Cert.Pre_scheduled.fn_part1 Cert.Pre_scheduled.fn_part2 at h'
  dsimp only at h'
  obtain ⟨h40, h42⟩ := IntOp.andi_eq_one.mp h'
  obtain ⟨h36, h39⟩ := IntOp.andi_eq_one.mp h40
  obtain ⟨h14, h35⟩ := IntOp.andi_eq_one.mp h36
  have hr := fun k : Fin 174 => Host.reduce_andi_all _ _ _ _ _ h14 (place k)
  have hs := fun k : Fin 173 => Host.reduce_andi_all _ _ _ _ _ h42 (place' k)
  have hrange : ∀ k, ((0#32).toInt ≤ (ex (place k)).toInt ∧ (ex (place k)).toInt < (32#32).toInt) ∧ (nxt (place k)).toInt < (32#32).toInt
      ∧ (0#32).toInt ≤ (live (place k)).toInt ∧ (live (place k)).toInt ≤ (1#32).toInt := by
    intro k
    obtain ⟨h10, h12⟩ := IntOp.andi_eq_one.mp (hr k)
    obtain ⟨h7, h9⟩ := IntOp.andi_eq_one.mp h10
    obtain ⟨h4, h6⟩ := IntOp.andi_eq_one.mp h7
    obtain ⟨h1, h3⟩ := IntOp.andi_eq_one.mp h4
    exact ⟨⟨sge_one h1, slt_one h3⟩, slt_one h6, sge_one h9, sle_one h12⟩
  have e32 : (32#32).toInt = 32 := by decide
  have e0 : (0#32).toInt = 0 := by decide
  refine ⟨fun k => toNat_lt_of (hrange k).1.1 (hrange k).1.2, fun k => e32 ▸ (hrange k).2.1, fun k => zero_or_one (hrange k).2.2.1 (hrange k).2.2.2, ?_, ?_, fun k => ?_⟩
  · exact (slice_first new _ _).symm.trans (eq_one h35)
  · have := slt_one h39
    rw [show ∀ j, shapeCast S_ (extractStridedSlice S1 ![173] nxt Facts.slices_S174_S1_173) Facts.shapeCasts_S1_S_ j = nxt (place 173) from fun j => slice_last nxt _ _] at this
    exact e0 ▸ this
  · rcases IntOp.ori_eq_one.mp (hs k) with h1 | h1
    · obtain ⟨h17, h20⟩ := IntOp.andi_eq_one.mp h1
      have a := eq_one h17; have b := eq_one h20
      rw [slice_succ] at a b; rw [slice_cast] at b
      exact Or.inl ⟨a, b⟩
    · obtain ⟨h28, h31⟩ := IntOp.andi_eq_one.mp h1
      obtain ⟨h24, h27⟩ := IntOp.andi_eq_one.mp h28
      have a := ne_one h24; have b := eq_one h27; have d := eq_one h31
      rw [slice_succ] at a b d; rw [slice_cast] at b d
      exact Or.inr ⟨a, b, d⟩

end Cert.Experts

end
-- ==== Proof.ExpertsMath.lean ====
/- One row of one expert's two-layer network, as a function of numbers. -/
module

public import Idealize.ShloMosaic.Lib.Pointwise

@[expose] public section

noncomputable section

namespace Cert.Experts

open Idealize.ShloMosaic

/-- The gated activation of a gate value and a linear value, both clipped. -/
def gated (g l : EReal) : EReal :=
  min g (Ideal.ofBits .f32 0x40E00000#32)
    * Ideal.div 1 (1 + Ideal.exp (-(Ideal.ofBits .f32 0x3FD9DB23#32 * min g (Ideal.ofBits .f32 0x40E00000#32))))
    * (min (Ideal.ofBits .f32 0x40E00000#32) (max (Ideal.ofBits .f32 0xC0E00000#32) l) + 1)

/-- The two numbers a word holds: its low half and its high half. -/
def low (w : BitVec 32) : EReal := Ideal.ofBits .f32 (w <<< 16)
def high (w : BitVec 32) : EReal := Ideal.ofBits .f32 (w &&& 0xFFFF0000#32)

theorem low_eq (u : ArithUnit) (w : BitVec 32) : Ideal.ofBits .f32 (IntOp.shli u w 16#32) = low w := rfl
theorem high_eq (w : BitVec 32) : Ideal.ofBits .f32 (IntOp.andi w 4294901760#32) = high w := rfl

/-- The first layer at column `j`, of the row of 1024 numbers in 512 words: the low halves, then the high halves. -/
def layer1 (x : Fin 512 → BitVec 32) (wu : Fin 1024 → Fin 2048 → EReal) (bu : Fin 2048 → EReal) (j : Fin 2048) : EReal :=
  ∑ k : Fin 512, low (x k) * wu ⟨k.val, by omega⟩ j + ∑ k : Fin 512, high (x k) * wu ⟨512 + k.val, by omega⟩ j + bu j

/-- The whole network at column `d`. -/
def network (x : Fin 512 → BitVec 32) (wu : Fin 1024 → Fin 2048 → EReal) (bu : Fin 2048 → EReal) (wd : Fin 1024 → Fin 1024 → EReal)
    (bd : Fin 1024 → EReal) (d : Fin 1024) : EReal :=
  ∑ f : Fin 1024, gated (layer1 x wu bu ⟨f.val, by omega⟩) (layer1 x wu bu ⟨1024 + f.val, by omega⟩) * wd f d + bd d

theorem network_congr {x x' : Fin 512 → BitVec 32} {wu wu' : Fin 1024 → Fin 2048 → EReal} {bu bu' : Fin 2048 → EReal}
    {wd wd' : Fin 1024 → Fin 1024 → EReal} {bd bd' : Fin 1024 → EReal} (d : Fin 1024) (hx : ∀ k, x k = x' k) (hu : ∀ k j, wu k j = wu' k j)
    (hbu : ∀ j, bu j = bu' j) (hd : ∀ f d, wd f d = wd' f d) (hbd : ∀ d, bd d = bd' d) :
    network x wu bu wd bd d = network x' wu' bu' wd' bd' d := by
  obtain rfl : x = x' := funext hx
  obtain rfl : wu = wu' := funext fun k => funext (hu k)
  obtain rfl : bu = bu' := funext hbu
  obtain rfl : wd = wd' := funext fun k => funext (hd k)
  obtain rfl : bd = bd' := funext hbd
  rfl

/-- The layer's result array: at row `r` of tile `r / 512`, expert `ex` of that tile's network, zero where the tile is not
    live. -/
def moe (ex live : Fin 174 → BitVec 32) (x : Fin 89088 → Fin 512 → BitVec 32) (wu : Fin 32 → Fin 1024 → Fin 2048 → EReal)
    (bu : Fin 32 → Fin 2048 → EReal) (wd : Fin 32 → Fin 1024 → Fin 1024 → EReal) (bd : Fin 32 → Fin 1024 → EReal) (r : Fin 89088) (d : Fin 1024) : EReal :=
  if live ⟨r.val / 512, by omega⟩ = 1#32 then
    let e : Fin 32 := Fin.ofNat 32 (ex ⟨r.val / 512, by omega⟩).toNat
    network (x r) (wu e) (bu e) (wd e) (bd e) d
  else 0

theorem moe_of {ex live : Fin 174 → BitVec 32} {x : Fin 89088 → Fin 512 → BitVec 32} {wu : Fin 32 → Fin 1024 → Fin 2048 → EReal}
    {bu : Fin 32 → Fin 2048 → EReal} {wd : Fin 32 → Fin 1024 → Fin 1024 → EReal} {bd : Fin 32 → Fin 1024 → EReal} (r : Fin 89088) (d : Fin 1024)
    (v : Fin 174) (hv : r.val / 512 = v.val) (e : Fin 32) (he : e.val = (ex v).toNat) (l : BitVec 32) (hl : l = live v) :
    (if l = 1#32 then network (x r) (wu e) (bu e) (wd e) (bd e) d else 0) = moe ex live x wu bu wd bd r d := by
  have h : (⟨r.val / 512, by omega⟩ : Fin 174) = v := Fin.ext hv
  unfold moe
  rw [h, hl, ← he, Fin.ofNat_val_eq_self]

end Cert.Experts
-- ==== Proof.ExpertsIdealSetup.lean ====
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.Frame
public import Idealize.ShloMosaic.Lib.Pipeline.FrameBody
public import Idealize.ShloMosaic.Lib.Pipeline.ReadBack
public import Idealize.ShloMosaic.Lib.Ring
public import proofs.«01_k».proof.Proof.WholeBuffers
public import Idealize.ShloMosaic.Lib.Tactic
public import Idealize.ShloMosaic.Lib.WordCmp

@[expose] public section

set_option maxRecDepth 16384

/-! # The experts' call: set-up of its launch, and what its body holds between two tiles -/

noncomputable section

namespace Cert.Kernel2Ideal.Experts

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The memory when the call begins -/

/-- What the buffers of core `c` hold when the call begins: the two biases have been reshaped, nothing else has changed. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that is neither of the two reshaped biases is as it was. -/
theorem V_kept (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- The four tables as the call finds them. -/
def tbl : pre0.Contents (Elt F) := fun j => V m (0 : Dev nD) (pre0.ref j)
theorem V_pre (c : Dev nD) (j : Fin 4) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S174 .i32 := Memref.whole main_arg0
abbrev htbM0_0 : tbM0_0.IsWhole := Memref.isWhole_whole _
abbrev tbM0_1 : Memref sig .tc .smem S174 .i32 := Memref.whole main_arg1
abbrev htbM0_1 : tbM0_1.IsWhole := Memref.isWhole_whole _
abbrev tbM0_2 : Memref sig .tc .smem S174 .i32 := Memref.whole main_arg2
abbrev htbM0_2 : tbM0_2.IsWhole := Memref.isWhole_whole _
abbrev tbM0_3 : Memref sig .tc .smem S174 .i32 := Memref.whole main_arg3
abbrev htbM0_3 : tbM0_3.IsWhole := Memref.isWhole_whole _

/-- A table's contents on core `c`, and half of the table held at them. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at tile `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The output's block is written back at every tile. -/
theorem flush0_3 (a : (pcfg0 (F := F)).Adm) : ∀ t : Fin (cfg0 a).N, ((cfg0 a).win 3).flush t = true :=
  (fun t => (Pipeline.Window.flushOf_reads cc0_transform_5 reads0_3 hreads0_3 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The body at tile `t`, on the buffers the pipeline hands it. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (Memref.whole main_arg2) (Memref.isWhole_whole _) (Memref.whole main_arg3) (Memref.isWhole_whole _) (spec0_0.stage ((cfg0 a).slots t 0)) (hstage0_0 (((cfg0 a).slots t 0).cast nbuf0_0)) (Memref.whole main_arg5) (Memref.isWhole_whole _) (spec0_1.stage ((cfg0 a).slots t 1)) (hstage0_1 (((cfg0 a).slots t 1).cast nbuf0_1)) (Memref.whole main_arg7) (Memref.isWhole_whole _) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4

abbrev ms0_0 (hO : Ok m) (t : Fin (cfgM m hO).N) : Memref sig .tc .vmem S512x512 .i32 := spec0_0.stage ((cfgM m hO).slots t 0)
abbrev ms0_1 (hO : Ok m) (t : Fin (cfgM m hO).N) : Memref sig .tc .vmem S1x1x1x2048 .f32 := spec0_1.stage ((cfgM m hO).slots t 1)
abbrev ms0_2 (hO : Ok m) (t : Fin (cfgM m hO).N) : Memref sig .tc .vmem S1x1x1x1024 .f32 := spec0_2.stage ((cfgM m hO).slots t 2)
abbrev ms0_3 (hO : Ok m) (t : Fin (cfgM m hO).N) : Memref sig .tc .vmem S512x1024 .bf16 := spec0_3.stage ((cfgM m hO).slots t 3)

/-! ## The body's own buffers -/

abbrev scM0_0 : Memref sig .tc .vmem S1024x2048 .f32 := Memref.whole cc0_scratch0
abbrev scM0_1 : Memref sig .tc .vmem S1024x1024 .f32 := Memref.whole cc0_scratch1
abbrev scM0_2 : Memref sig .tc .vmem S1024x2048 .bf16 := Memref.whole cc0_scratch2
abbrev scM0_3 : Memref sig .tc .vmem S1024x1024 .bf16 := Memref.whole cc0_scratch3
abbrev hbM0_0 : Memref sig .tc .hbm S4x32x1024x2048 .f32 := Memref.whole main_arg5
abbrev hbM0_1 : Memref sig .tc .hbm S4x32x1024x1024 .f32 := Memref.whole main_arg7

/-- A buffer's contents on core `c`, and the whole buffer held at them. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
def H0 : Finset (Ref sig .tc) := {main_arg5, main_arg7}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(hbPt0 c hbM0_0 (V m c main_arg5) ∗ hbPt0 c hbM0_1 (V m c main_arg7)) := by
  rw [BI.bigSep_eq_bigSepL_of_eq [main_arg5, main_arg7] (by decide) (by decide)]; rfl
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg5) ∗ hbPt0 c hbM0_1 (V m c main_arg7))) := by
  rw [Pipeline.ΦD_eq, scopedRest0_eq, ownSems00_eq, hbmPts0_eq]; simp only [scM0_0, scM0_1, scM0_2, scM0_3, owns_whole]; try rfl

/-! ## The words the body reads, and an expert's weights -/

section
variable (i : grid0.Coords) {c : Dev nD}
/-- Whether the tile begins a new expert, which expert, which expert comes after it, and whether the tile is live (read
    twice). -/
abbrev wNew (xt : TbBuf0 (F := F) c tbM0_1) : BitVec 32 := tbM0_1.view.readAt (Elt F) (Rect.unit (s := S174) (k0_off1 i) S1.size (k0_off1_inb i)).toLoadRect xt (Shape.Idx.first (numel1_S1.symm ▸ Nat.one_pos))
abbrev wEx (xt : TbBuf0 (F := F) c tbM0_0) : BitVec 32 := tbM0_0.view.readAt (Elt F) (Rect.unit (s := S174) (k0_off2 i) S1.size (k0_off2_inb i)).toLoadRect xt (Shape.Idx.first (numel1_S1.symm ▸ Nat.one_pos))
abbrev wNxt (xt : TbBuf0 (F := F) c tbM0_3) : BitVec 32 := tbM0_3.view.readAt (Elt F) (Rect.unit (s := S174) (k0_off7 i) S1.size (k0_off7_inb i)).toLoadRect xt (Shape.Idx.first (numel1_S1.symm ▸ Nat.one_pos))
abbrev wLive (xt : TbBuf0 (F := F) c tbM0_2) : BitVec 32 := tbM0_2.view.readAt (Elt F) (Rect.unit (s := S174) (k0_off10 i) S1.size (k0_off10_inb i)).toLoadRect xt (Shape.Idx.first (numel1_S1.symm ▸ Nat.one_pos))
abbrev wLive' (xt : TbBuf0 (F := F) c tbM0_2) : BitVec 32 := tbM0_2.view.readAt (Elt F) (Rect.unit (s := S174) (k0_off11 i) S1.size (k0_off11_inb i)).toLoadRect xt (Shape.Idx.first (numel1_S1.symm ▸ Nat.one_pos))
end

/-- Expert `w`'s block lies in both weight arrays. -/
def Fits (w : BitVec 32) : Prop :=
  (∀ a, (k0_off8 w) a + S1x1x1024x2048.size a ≤ S4x32x1024x2048.size a) ∧ ∀ a, (k0_off9 w) a + S1x1x1024x1024.size a ≤ S4x32x1024x1024.size a

/-- Expert `w`'s block of each weight array, as the body copies it. -/
abbrev src0 (w : BitVec 32) (h : Fits w) : Memref sig .tc .hbm S1024x2048 .f32 :=
  (hbM0_0.slice (Rect.unit (s := S4x32x1024x2048) (k0_off8 w) S1x1x1024x2048.size h.1) (fun _ => rfl)).squeeze S1024x2048 squeezes_S1x1x1024x2048_S1024x2048
abbrev src1 (w : BitVec 32) (h : Fits w) : Memref sig .tc .hbm S1024x1024 .f32 :=
  (hbM0_1.slice (Rect.unit (s := S4x32x1024x1024) (k0_off9 w) S1x1x1024x1024.size h.2) (fun _ => rfl)).squeeze S1024x1024 squeezes_S1x1x1024x1024_S1024x1024

/-- Its contents. -/
def blk0 {c : Dev nD} (f : HbBuf0 (F := F) c hbM0_0) (w : BitVec 32) (h : Fits w) : Vec F S1024x2048 .f32 := (src0 w h).view.read (Elt F) f
def blk1 {c : Dev nD} (f : HbBuf0 (F := F) c hbM0_1) (w : BitVec 32) (h : Fits w) : Vec F S1024x1024 .f32 := (src1 w h).view.read (Elt F) f

/-- What a tile's output block is left at. -/
def yOut (l : BitVec 32) (x0 : Vec F S512x512 .i32) (w2 : Vec F S1024x2048 .bf16) (x1 : Vec F S1x1x1x2048 .f32) (w3 : Vec F S1024x1024 .bf16)
    (x2 : Vec F S1x1x1x1024 .f32) : Vec F S512x1024 .bf16 :=
  if k0_cond4 l = 1#1 then k0_pay3 (k0_pay5 x0 w2 x1) w3 x2 else k0_pay4

theorem pays_eq {x0 x0' : Vec F S512x512 .i32} {w2 w2' : Vec F S1024x2048 .bf16} {x1 x1' : Vec F S1x1x1x2048 .f32} {w3 w3' : Vec F S1024x1024 .bf16}
    {x2 x2' : Vec F S1x1x1x1024 .f32} (h0 : x0' = x0) (h2 : w2' = w2) (h1 : x1' = x1) (h3 : w3' = w3) (hb : x2' = x2) :
    k0_pay3 (k0_pay5 x0' w2' x1') w3' x2' = k0_pay3 (k0_pay5 x0 w2 x1) w3 x2 := by
  subst h0 h2 h1 h3 hb; rfl
theorem yOut_live {l : BitVec 32} (hl : k0_cond4 l = 1#1) {x0 x0' : Vec F S512x512 .i32} {w2 w2' : Vec F S1024x2048 .bf16} {x1 x1' : Vec F S1x1x1x2048 .f32}
    {w3 w3' : Vec F S1024x1024 .bf16} {x2 x2' : Vec F S1x1x1x1024 .f32} (h0 : x0' = x0) (h2 : w2' = w2) (h1 : x1' = x1) (h3 : w3' = w3) (hb : x2' = x2) :
    k0_pay3 (k0_pay5 x0' w2' x1') w3' x2' = yOut l x0 w2 x1 w3 x2 := by
  unfold yOut; rw [if_pos hl]; exact pays_eq h0 h2 h1 h3 hb
theorem yOut_dead {l : BitVec 32} (hl : ¬ k0_cond4 l = 1#1) (x0 : Vec F S512x512 .i32) (w2 : Vec F S1024x2048 .bf16) (x1 : Vec F S1x1x1x2048 .f32)
    (w3 : Vec F S1024x1024 .bf16) (x2 : Vec F S1x1x1x1024 .f32) : (k0_pay4 : FVec F S512x1024 .bf16) = yOut l x0 w2 x1 w3 x2 := by
  unfold yOut; rw [if_neg hl]

/-! ## Copies in flight from one tile to the next -/

/-- A copy in flight that will deliver `D`. -/
abbrev Fl (c : Dev nD) (s : SemLoc sig) (N : ℕ) (D : sProp 𝕄) : sProp 𝕄 :=
  Transfers.Flight (countersEmb (U := Pipeline.UD sig nD τ)) (c : Thread nD τ) s () N D

/-- A resource put beside a copy in flight comes back with what the copy delivers. -/
theorem Fl_with {c : Dev nD} {s : SemLoc sig} {N : ℕ} {D R D' : sProp 𝕄} (h : iprop(D ∗ R) ⊢ D') :
    iprop(Fl c s N D ∗ R) ⊢ Fl c s N D' := by
  unfold Fl Transfers.Flight
  iintro ⟨⟨⟨%C, HC, %hN, %h0⟩, Hcr⟩, HR⟩
  isplitl [HC HR]
  · iexists iprop(C ∗ R)
    isplitl [HC HR]
    · isplitl [HC]; · iexact HC
      iexact HR
    isplitr
    · ipureintro
      intro K
      iintro ⟨⟨HC, HR⟩, HK⟩
      iapply (hN K)
      isplitl [HC]; · iexact HC
      iintro ⟨Hs, HD⟩
      iapply HK
      isplitl [Hs]; · iexact Hs
      iapply h
      isplitl [HD]; · iexact HD
      iexact HR
    · ipureintro
      intro K
      iintro ⟨⟨HC, HR⟩, HK⟩
      iapply (h0 K)
      isplitl [HC]; · iexact HC
      iintro HC
      iapply HK
      isplitl [HC]; · iexact HC
      iexact HR
  iexact Hcr

/-- The elements of a buffer of the body's own, held at `f`. -/
abbrev scPt0 (c : Dev nD) {sp : Space} {S : Shape} {e : EltTy} (M : Memref sig .tc sp S e) (f : HbBuf0 (F := F) c M) : sProp 𝕄 :=
  M.view.loc (c : Thread nD τ) ↦[M.view.set]{fullShare} f

/-- Both copies of expert `w`'s weights in flight: each delivers its buffer at the expert's weights, and the weight
    array it was read from. -/
def flying (c : Dev nD) (f0 : HbBuf0 (F := F) c hbM0_0) (f1 : HbBuf0 (F := F) c hbM0_1) (w : BitVec 32) : sProp 𝕄 :=
  iprop(∃ h : Fits w,
    Fl c (SemLoc.dma 8) (scM0_0.view.amount (SemLoc.dma (sig := sig) 8))
      iprop(scPt0 c scM0_0 ((Memref.isWhole_whole cc0_scratch0).unread (blk0 f0 w h)) ∗ hbPt0 c hbM0_0 f0)
    ∗ Fl c (SemLoc.dma 9) (scM0_1.view.amount (SemLoc.dma (sig := sig) 9))
      iprop(scPt0 c scM0_1 ((Memref.isWhole_whole cc0_scratch1).unread (blk1 f1 w h)) ∗ hbPt0 c hbM0_1 f1))

/-- A copy's delivery, with the rest of the array it reads: the buffer at the expert's weights and the whole array. -/
theorem fold0 {c : Dev nD} (f : HbBuf0 (F := F) c hbM0_0) (w : BitVec 32) (h : Fits w) (g : HbBuf0 (F := F) c scM0_0)
    (hg : scM0_0.view.read (Elt F) g = blk0 f w h) :
    iprop((scPt0 c scM0_0 g ∗ (hbM0_0.view.loc (c : Thread nD τ) ↦[(src0 w h).view.set]{fullShare} f))
        ∗ (hbM0_0.view.loc (c : Thread nD τ) ↦[Finset.univ \ (src0 w h).view.set]{fullShare} f))
      ⊢ (iprop(scPt0 c scM0_0 ((Memref.isWhole_whole cc0_scratch0).unread (blk0 f w h)) ∗ hbPt0 c hbM0_0 f) : sProp 𝕄) := by
  obtain rfl := (Memref.isWhole_whole cc0_scratch0).eq_unread hg
  iintro ⟨⟨Hd, Hs⟩, Hr⟩
  isplitl [Hd]; · iexact Hd
  iapply (pointsTo_split_subset (Finset.subset_univ _)).2
  isplitl [Hs]; · iexact Hs
  iexact Hr
theorem fold1 {c : Dev nD} (f : HbBuf0 (F := F) c hbM0_1) (w : BitVec 32) (h : Fits w) (g : HbBuf0 (F := F) c scM0_1)
    (hg : scM0_1.view.read (Elt F) g = blk1 f w h) :
    iprop((scPt0 c scM0_1 g ∗ (hbM0_1.view.loc (c : Thread nD τ) ↦[(src1 w h).view.set]{fullShare} f))
        ∗ (hbM0_1.view.loc (c : Thread nD τ) ↦[Finset.univ \ (src1 w h).view.set]{fullShare} f))
      ⊢ (iprop(scPt0 c scM0_1 ((Memref.isWhole_whole cc0_scratch1).unread (blk1 f w h)) ∗ hbPt0 c hbM0_1 f) : sProp 𝕄) := by
  obtain rfl := (Memref.isWhole_whole cc0_scratch1).eq_unread hg
  iintro ⟨⟨Hd, Hs⟩, Hr⟩
  isplitl [Hd]; · iexact Hd
  iapply (pointsTo_split_subset (Finset.subset_univ _)).2
  isplitl [Hs]; · iexact Hs
  iexact Hr

/-- No copy in flight. -/
def grounded (c : Dev nD) (f0 : HbBuf0 (F := F) c hbM0_0) (f1 : HbBuf0 (F := F) c hbM0_1) : sProp 𝕄 :=
  iprop((∃ d, owns (c : Thread nD τ) scM0_0 fullShare d) ∗ (∃ d, owns (c : Thread nD τ) scM0_1 fullShare d)
    ∗ semVal ((c : Thread nD τ), SemLoc.dma 8) 0 ∗ semVal ((c : Thread nD τ), SemLoc.dma 9) 0 ∗ hbPt0 c hbM0_0 f0 ∗ hbPt0 c hbM0_1 f1)

/-- What is held of the copies after a tile whose next expert is `w`. -/
def copies (c : Dev nD) (f0 : HbBuf0 (F := F) c hbM0_0) (f1 : HbBuf0 (F := F) c hbM0_1) (w : BitVec 32) : sProp 𝕄 :=
  if k0_cond3 w = 1#1 then flying c f0 f1 w else grounded c f0 f1

end Cert.Kernel2Ideal.Experts

end
-- ==== Proof.ExpertsIdealRun.lean ====
module

public import proofs.«01_k».proof.Proof.ExpertsIdealSetup

@[expose] public section

set_option maxRecDepth 16384

/-! # The experts' call: one tile -/

noncomputable section

namespace Cert.Kernel2Ideal.Experts

open Cert.Kernel2Ideal.Gen Cert.WholeBuffers
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section
variable (c : Dev nD) (i : grid0.Coords) (arg5 : Memref sig .tc .vmem S512x512 .i32) (harg5 : arg5.IsWhole)
  (arg7 : Memref sig .tc .vmem S1x1x1x2048 .f32) (harg7 : arg7.IsWhole) (arg9 : Memref sig .tc .vmem S1x1x1x1024 .f32) (harg9 : arg9.IsWhole)
  (arg10 : Memref sig .tc .vmem S512x1024 .bf16) (harg10 : arg10.IsWhole)

/-- The body on these buffers. -/
abbrev prog : Prog (TpuEff nD τ sig (Elt F) Λ₀ .tc) PUnit :=
  cc0_moe_experts i tbM0_0 htbM0_0 tbM0_1 htbM0_1 tbM0_2 htbM0_2 tbM0_3 htbM0_3 arg5 harg5 (Memref.whole main_arg5) (Memref.isWhole_whole _) arg7 harg7 (Memref.whole main_arg7) (Memref.isWhole_whole _) arg9 harg9 arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4

variable (x0 : Vec F S512x512 .i32) (x1 : Vec F S1x1x1x2048 .f32) (x2 : Vec F S1x1x1x1024 .f32)
  (xt0 : TbBuf0 (F := F) c tbM0_0) (xt1 : TbBuf0 (F := F) c tbM0_1) (xt2 : TbBuf0 (F := F) c tbM0_2) (xt3 : TbBuf0 (F := F) c tbM0_3)

/-- What a tile reads and keeps: its input blocks and the tables. -/
def kept : sProp 𝕄 :=
  iprop(owns (c : Thread nD τ) arg5 fullShare x0 ∗ owns (c : Thread nD τ) arg7 fullShare x1 ∗ owns (c : Thread nD τ) arg9 fullShare x2
    ∗ tbPt0 c tbM0_0 xt0 ∗ tbPt0 c tbM0_1 xt1 ∗ tbPt0 c tbM0_2 xt2 ∗ tbPt0 c tbM0_3 xt3)

/-- The two products' weights. -/
def wts (w2 : Vec F S1024x2048 .bf16) (w3 : Vec F S1024x1024 .bf16) : sProp 𝕄 :=
  iprop(owns (c : Thread nD τ) scM0_2 fullShare w2 ∗ owns (c : Thread nD τ) scM0_3 fullShare w3)

/-- A tile that keeps the expert: the weights are as the tile before left them, and no copy is touched. -/
theorem run_keep (w2 : Vec F S1024x2048 .bf16) (w3 : Vec F S1024x1024 .bf16)
    (hnew : ¬ k0_cond1 (wNew i xt1) = 1#1) (hlive : k0_cond4 (wLive i xt2) = 1#1 ∧ ¬ k0_cond5 (wLive' i xt2) = 1#1)
    (W : Waits sig Unit) (K : PUnit → sProp 𝕄) :
    iprop(kept c arg5 arg7 arg9 x0 x1 x2 xt0 xt1 xt2 xt3 ∗ (∃ d, owns (c : Thread nD τ) arg10 fullShare d) ∗ wts c w2 w3 ∗ owes (c : Thread nD τ) 0 W
        ∗ (iprop(kept c arg5 arg7 arg9 x0 x1 x2 xt0 xt1 xt2 xt3 ∗ owns (c : Thread nD τ) arg10 fullShare (yOut (wLive i xt2) x0 w2 x1 w3 x2) ∗ wts c w2 w3
            ∗ (∃ W', owes (c : Thread nD τ) 0 W')) -∗ K ⟨⟩))
      ⊢ wp frame (wpE (defs₀ (F := F)) Variants.none c none) Set.univ (prog i arg5 harg5 arg7 harg7 arg9 harg9 arg10 harg10) K := by
  obtain ⟨hl4, hl5⟩ := hlive
  unfold prog kept wts
  simp only [cc0_moe_experts_eq_skeleton]; unfold cc0_moe_experts_skel
  simp only [k0_part1_eq_skeleton]; unfold k0_part1_skel
  unfold owns
  iintro ⟨⟨⟨%g0, %hf0, H0⟩, ⟨%g1, %hf1, H1⟩, ⟨%g2, %hf2, H2⟩, HT0, HT1, HT2, HT3⟩, ⟨%d3, %g3, -, H3⟩, ⟨⟨%fs2, %hfs2, HS2⟩, ⟨%fs3, %hfs3, HS3⟩⟩, HW, Hk⟩
  obtain rfl := harg5.eq_unread hf0; obtain rfl := harg7.eq_unread hf1; obtain rfl := harg9.eq_unread hf2
  obtain rfl := (Memref.isWhole_whole cc0_scratch2).eq_unread hfs2; obtain rfl := (Memref.isWhole_whole cc0_scratch3).eq_unread hfs3
  sl_exec (disch := first | sl_exact hnew | sl_exact hl4 | sl_exact hl5)
  sl_step
  iapply Hk
  isplitl [H0 H1 H2 HT0 HT1 HT2 HT3]
  · isplitl [H0]
    · iexists _; isplitr; · ipureintro; exact harg5.read_unread _
      iexact H0
    isplitl [H1]
    · iexists _; isplitr; · ipureintro; exact harg7.read_unread _
      iexact H1
    isplitl [H2]
    · iexists _; isplitr; · ipureintro; exact harg9.read_unread _
      iexact H2
    isplitl [HT0]; · iexact HT0
    isplitl [HT1]; · iexact HT1
    isplitl [HT2]; · iexact HT2
    iexact HT3
  isplitl [H3]
  · iexists _; isplitr; swap; · iexact H3
    ipureintro
    refine (store_all _ _ _ _ _).trans ?_
    exact yOut_live hl4 (load_unread harg5 _ _ x0) (load_unread (Memref.isWhole_whole cc0_scratch2) _ _ w2) (load_unread harg7 _ _ x1) (load_unread (Memref.isWhole_whole cc0_scratch3) _ _ w3) (load_unread harg9 _ _ x2)
  isplitl [HS2 HS3]
  · isplitl [HS2]
    · iexists _; isplitr; swap; · iexact HS2
      ipureintro; exact (Memref.isWhole_whole _).read_unread _
    · iexists _; isplitr; swap; · iexact HS3
      ipureintro; exact (Memref.isWhole_whole _).read_unread _
  iexists _; iexact HW

/-- A tile that keeps the expert: the weights are as the tile before left them, and no copy is touched, the tile having no live slot. -/
theorem run_keep_dead (w2 : Vec F S1024x2048 .bf16) (w3 : Vec F S1024x1024 .bf16)
    (hnew : ¬ k0_cond1 (wNew i xt1) = 1#1) (hlive : ¬ k0_cond4 (wLive i xt2) = 1#1 ∧ k0_cond5 (wLive' i xt2) = 1#1)
    (W : Waits sig Unit) (K : PUnit → sProp 𝕄) :
    iprop(kept c arg5 arg7 arg9 x0 x1 x2 xt0 xt1 xt2 xt3 ∗ (∃ d, owns (c : Thread nD τ) arg10 fullShare d) ∗ wts c w2 w3 ∗ owes (c : Thread nD τ) 0 W
        ∗ (iprop(kept c arg5 arg7 arg9 x0 x1 x2 xt0 xt1 xt2 xt3 ∗ owns (c : Thread nD τ) arg10 fullShare (yOut (wLive i xt2) x0 w2 x1 w3 x2) ∗ wts c w2 w3
            ∗ (∃ W', owes (c : Thread nD τ) 0 W')) -∗ K ⟨⟩))
      ⊢ wp frame (wpE (defs₀ (F := F)) Variants.none c none) Set.univ (prog i arg5 harg5 arg7 harg7 arg9 harg9 arg10 harg10) K := by
  obtain ⟨hl4, hl5⟩ := hlive
  unfold prog kept wts
  simp only [cc0_moe_experts_eq_skeleton]; unfold cc0_moe_experts_skel
  simp only [k0_part1_eq_skeleton]; unfold k0_part1_skel
  unfold owns
  iintro ⟨⟨⟨%g0, %hf0, H0⟩, ⟨%g1, %hf1, H1⟩, ⟨%g2, %hf2, H2⟩, HT0, HT1, HT2, HT3⟩, ⟨%d3, %g3, -, H3⟩, ⟨⟨%fs2, %hfs2, HS2⟩, ⟨%fs3, %hfs3, HS3⟩⟩, HW, Hk⟩
  obtain rfl := harg5.eq_unread hf0; obtain rfl := harg7.eq_unread hf1; obtain rfl := harg9.eq_unread hf2
  obtain rfl := (Memref.isWhole_whole cc0_scratch2).eq_unread hfs2; obtain rfl := (Memref.isWhole_whole cc0_scratch3).eq_unread hfs3
  sl_exec (disch := first | sl_exact hnew | sl_exact hl4 | sl_exact hl5)
  sl_step
  iapply Hk
  isplitl [H0 H1 H2 HT0 HT1 HT2 HT3]
  · isplitl [H0]
    · iexists _; isplitr; · ipureintro; exact harg5.read_unread _
      iexact H0
    isplitl [H1]
    · iexists _; isplitr; · ipureintro; exact harg7.read_unread _
      iexact H1
    isplitl [H2]
    · iexists _; isplitr; · ipureintro; exact harg9.read_unread _
      iexact H2
    isplitl [HT0]; · iexact HT0
    isplitl [HT1]; · iexact HT1
    isplitl [HT2]; · iexact HT2
    iexact HT3
  isplitl [H3]
  · iexists _; isplitr; swap; · iexact H3
    ipureintro
    refine (store_all _ _ _ _ _).trans ?_
    exact yOut_dead (F := F) hl4 _ _ _ _ _
  isplitl [HS2 HS3]
  · isplitl [HS2]
    · iexists _; isplitr; swap; · iexact HS2
      ipureintro; exact (Memref.isWhole_whole _).read_unread _
    · iexists _; isplitr; swap; · iexact HS3
      ipureintro; exact (Memref.isWhole_whole _).read_unread _
  iexists _; iexact HW

set_option maxHeartbeats 2000000 in
/-- A tile that begins the expert whose weights are on their way, and sends for the next one. -/
theorem run_next (f0 : HbBuf0 (F := F) c hbM0_0) (f1 : HbBuf0 (F := F) c hbM0_1)
    (hnew : k0_cond1 (wNew i xt1) = 1#1) (hfirst : ¬ k0_cond2 i = 1#1) (hex : Fits (wEx i xt0))
    (hchk1 : k0_chk1 i (wNew i xt1) (wEx i xt0)) (hchk2 : k0_chk2 (wNew i xt1) (wNxt i xt3))
    (hn : k0_cond3 (wNxt i xt3) = 1#1) (hlive : k0_cond4 (wLive i xt2) = 1#1 ∧ ¬ k0_cond5 (wLive' i xt2) = 1#1)
    (W : Waits sig Unit) (K : PUnit → sProp 𝕄) :
    iprop(kept c arg5 arg7 arg9 x0 x1 x2 xt0 xt1 xt2 xt3 ∗ (∃ d, owns (c : Thread nD τ) arg10 fullShare d)
        ∗ iprop((∃ d, owns (c : Thread nD τ) scM0_2 fullShare d) ∗ (∃ d, owns (c : Thread nD τ) scM0_3 fullShare d))
        ∗ flying c f0 f1 (wEx i xt0) ∗ owes (c : Thread nD τ) 0 W
        ∗ (iprop(kept c arg5 arg7 arg9 x0 x1 x2 xt0 xt1 xt2 xt3
            ∗ owns (c : Thread nD τ) arg10 fullShare (yOut (wLive i xt2) x0 (k0_pay1 (blk0 f0 (wEx i xt0) hex)) x1 (k0_pay2 (blk1 f1 (wEx i xt0) hex)) x2)
            ∗ wts c (k0_pay1 (blk0 f0 (wEx i xt0) hex)) (k0_pay2 (blk1 f1 (wEx i xt0) hex))
            ∗ copies c f0 f1 (wNxt i xt3) ∗ (∃ W', owes (c : Thread nD τ) 0 W')) -∗ K ⟨⟩))
      ⊢ wp frame (wpE (defs₀ (F := F)) Variants.none c none) Set.univ (prog i arg5 harg5 arg7 harg7 arg9 harg9 arg10 harg10) K := by
  obtain ⟨hl4, hl5⟩ := hlive
  unfold prog kept wts flying Fl
  simp only [cc0_moe_experts_eq_skeleton]; unfold cc0_moe_experts_skel
  simp only [k0_part1_eq_skeleton]; unfold k0_part1_skel
  unfold owns
  iintro ⟨⟨⟨%g0, %hf0, H0⟩, ⟨%g1, %hf1, H1⟩, ⟨%g2, %hf2, H2⟩, HT0, HT1, HT2, HT3⟩, ⟨%d3, %g3, -, H3⟩, ⟨⟨%ds2, %fs2, -, HS2⟩, ⟨%ds3, %fs3, -, HS3⟩⟩, ⟨%hw, HF0, HF1⟩, HW, Hk⟩
  obtain rfl := harg5.eq_unread hf0; obtain rfl := harg7.eq_unread hf1; obtain rfl := harg9.eq_unread hf2
  sl_exec (disch := first | sl_exact hnew | sl_exact hfirst | sl_exact hchk1 | sl_exact hchk2 | sl_exact hn | sl_exact hl4 | sl_exact hl5)
  sl_step
  iapply Hk
  isplitl [H0 H1 H2 HT0 HT1 HT2 HT3]
  · isplitl [H0]
    · iexists _; isplitr; · ipureintro; exact harg5.read_unread _
      iexact H0
    isplitl [H1]
    · iexists _; isplitr; · ipureintro; exact harg7.read_unread _
      iexact H1
    isplitl [H2]
    · iexists _; isplitr; · ipureintro; exact harg9.read_unread _
      iexact H2
    isplitl [HT0]; · iexact HT0
    isplitl [HT1]; · iexact HT1
    isplitl [HT2]; · iexact HT2
    iexact HT3
  isplitl [H3]
  · iexists _; isplitr; swap; · iexact H3
    ipureintro
    refine (store_all _ _ _ _ _).trans ?_
    refine yOut_live hl4 (load_unread harg5 _ _ x0) ?_ (load_unread harg7 _ _ x1) ?_ (load_unread harg9 _ _ x2)
    · unfold run_next.sl.v25 run_next.sl.HS2_1
      exact (load_cov scM0_2.view _ _ _ _ _).trans (congrArg k0_pay1 (load_unread (Memref.isWhole_whole cc0_scratch0) _ _ _))
    · dsimp only
      unfold run_next.sl.v53 run_next.sl.HS3_1
      exact (load_cov scM0_3.view _ _ _ _ _).trans (congrArg k0_pay2 (load_unread (Memref.isWhole_whole cc0_scratch1) _ _ _))
  isplitl [HS2 HS3]
  · isplitl [HS2]
    · iexists _; isplitr; swap; · iexact HS2
      ipureintro; exact (store_all _ _ _ _ _).trans (congrArg k0_pay1 (load_unread (Memref.isWhole_whole cc0_scratch0) _ _ _))
    · iexists _; isplitr; swap; · iexact HS3
      ipureintro; exact (store_all _ _ _ _ _).trans (congrArg k0_pay2 (load_unread (Memref.isWhole_whole cc0_scratch1) _ _ _))
  isplitl [HF0 HF0_src HF1 HF1_src]
  · unfold copies; rw [if_pos hn]; unfold flying
    iexists (⟨hchk2.1 hnew hn, hchk2.2 hnew hn⟩ : Fits (wNxt i xt3))
    isplitl [HF0 HF0_src]
    · iapply (Fl_with (fold0 f0 (wNxt i xt3) ⟨hchk2.1 hnew hn, hchk2.2 hnew hn⟩ _ (View.read_writes_whole scM0_0.view _ _)))
      isplitl [HF0]; · iexact HF0
      iexact HF0_src
    · iapply (Fl_with (fold1 f1 (wNxt i xt3) ⟨hchk2.1 hnew hn, hchk2.2 hnew hn⟩ _ (View.read_writes_whole scM0_1.view _ _)))
      isplitl [HF1]; · iexact HF1
      iexact HF1_src
  iexists _; iexact HW

set_option maxHeartbeats 2000000 in
/-- A tile that begins the expert whose weights are on their way, and sends for the next one, the tile having no live slot. -/
theorem run_next_dead (f0 : HbBuf0 (F := F) c hbM0_0) (f1 : HbBuf0 (F := F) c hbM0_1)
    (hnew : k0_cond1 (wNew i xt1) = 1#1) (hfirst : ¬ k0_cond2 i = 1#1) (hex : Fits (wEx i xt0))
    (hchk1 : k0_chk1 i (wNew i xt1) (wEx i xt0)) (hchk2 : k0_chk2 (wNew i xt1) (wNxt i xt3))
    (hn : k0_cond3 (wNxt i xt3) = 1#1) (hlive : ¬ k0_cond4 (wLive i xt2) = 1#1 ∧ k0_cond5 (wLive' i xt2) = 1#1)
    (W : Waits sig Unit) (K : PUnit → sProp 𝕄) :
    iprop(kept c arg5 arg7 arg9 x0 x1 x2 xt0 xt1 xt2 xt3 ∗ (∃ d, owns (c : Thread nD τ) arg10 fullShare d)
        ∗ iprop((∃ d, owns (c : Thread nD τ) scM0_2 fullShare d) ∗ (∃ d, owns (c : Thread nD τ) scM0_3 fullShare d))
        ∗ flying c f0 f1 (wEx i xt0) ∗ owes (c : Thread nD τ) 0 W
        ∗ (iprop(kept c arg5 arg7 arg9 x0 x1 x2 xt0 xt1 xt2 xt3
            ∗ owns (c : Thread nD τ) arg10 fullShare (yOut (wLive i xt2) x0 (k0_pay1 (blk0 f0 (wEx i xt0) hex)) x1 (k0_pay2 (blk1 f1 (wEx i xt0) hex)) x2)
            ∗ wts c (k0_pay1 (blk0 f0 (wEx i xt0) hex)) (k0_pay2 (blk1 f1 (wEx i xt0) hex))
            ∗ copies c f0 f1 (wNxt i xt3) ∗ (∃ W', owes (c : Thread nD τ) 0 W')) -∗ K ⟨⟩))
      ⊢ wp frame (wpE (defs₀ (F := F)) Variants.none c none) Set.univ (prog i arg5 harg5 arg7 harg7 arg9 harg9 arg10 harg10) K := by
  obtain ⟨hl4, hl5⟩ := hlive
  unfold prog kept wts flying Fl
  simp only [cc0_moe_experts_eq_skeleton]; unfold cc0_moe_experts_skel
  simp only [k0_part1_eq_skeleton]; unfold k0_part1_skel
  unfold owns
  iintro ⟨⟨⟨%g0, %hf0, H0⟩, ⟨%g1, %hf1, H1⟩, ⟨%g2, %hf2, H2⟩, HT0, HT1, HT2, HT3⟩, ⟨%d3, %g3, -, H3⟩, ⟨⟨%ds2, %fs2, -, HS2⟩, ⟨%ds3, %fs3, -, HS3⟩⟩, ⟨%hw, HF0, HF1⟩, HW, Hk⟩
  obtain rfl := harg5.eq_unread hf0; obtain rfl := harg7.eq_unread hf1; obtain rfl := harg9.eq_unread hf2
  sl_exec (disch := first | sl_exact hnew | sl_exact hfirst | sl_exact hchk1 | sl_exact hchk2 | sl_exact hn | sl_exact hl4 | sl_exact hl5)
  sl_step
  iapply Hk
  isplitl [H0 H1 H2 HT0 HT1 HT2 HT3]
  · isplitl [H0]
    · iexists _; isplitr; · ipureintro; exact harg5.read_unread _
      iexact H0
    isplitl [H1]
    · iexists _; isplitr; · ipureintro; exact harg7.read_unread _
      iexact H1
    isplitl [H2]
    · iexists _; isplitr; · ipureintro; exact harg9.read_unread _
      iexact H2
    isplitl [HT0]; · iexact HT0
    isplitl [HT1]; · iexact HT1
    isplitl [HT2]; · iexact HT2
    iexact HT3
  isplitl [H3]
  · iexists _; isplitr; swap; · iexact H3
    ipureintro
    refine (store_all _ _ _ _ _).trans ?_
    exact yOut_dead (F := F) hl4 _ _ _ _ _
  isplitl [HS2 HS3]
  · isplitl [HS2]
    · iexists _; isplitr; swap; · iexact HS2
      ipureintro; exact (store_all _ _ _ _ _).trans (congrArg k0_pay1 (load_unread (Memref.isWhole_whole cc0_scratch0) _ _ _))
    · iexists _; isplitr; swap; · iexact HS3
      ipureintro; exact (store_all _ _ _ _ _).trans (congrArg k0_pay2 (load_unread (Memref.isWhole_whole cc0_scratch1) _ _ _))
  isplitl [HF0 HF0_src HF1 HF1_src]
  · unfold copies; rw [if_pos hn]; unfold flying
    iexists (⟨hchk2.1 hnew hn, hchk2.2 hnew hn⟩ : Fits (wNxt i xt3))
    isplitl [HF0 HF0_src]
    · iapply (Fl_with (fold0 f0 (wNxt i xt3) ⟨hchk2.1 hnew hn, hchk2.2 hnew hn⟩ _ (View.read_writes_whole scM0_0.view _ _)))
      isplitl [HF0]; · iexact HF0
      iexact HF0_src
    · iapply (Fl_with (fold1 f1 (wNxt i xt3) ⟨hchk2.1 hnew hn, hchk2.2 hnew hn⟩ _ (View.read_writes_whole scM0_1.view _ _)))
      isplitl [HF1]; · iexact HF1
      iexact HF1_src
  iexists _; iexact HW

set_option maxHeartbeats 2000000 in
/-- A tile that begins the expert whose weights are on their way, with no expert after it. -/
theorem run_last (f0 : HbBuf0 (F := F) c hbM0_0) (f1 : HbBuf0 (F := F) c hbM0_1)
    (hnew : k0_cond1 (wNew i xt1) = 1#1) (hfirst : ¬ k0_cond2 i = 1#1) (hex : Fits (wEx i xt0))
    (hchk1 : k0_chk1 i (wNew i xt1) (wEx i xt0)) (hchk2 : k0_chk2 (wNew i xt1) (wNxt i xt3))
    (hn : ¬ k0_cond3 (wNxt i xt3) = 1#1) (hlive : k0_cond4 (wLive i xt2) = 1#1 ∧ ¬ k0_cond5 (wLive' i xt2) = 1#1)
    (W : Waits sig Unit) (K : PUnit → sProp 𝕄) :
    iprop(kept c arg5 arg7 arg9 x0 x1 x2 xt0 xt1 xt2 xt3 ∗ (∃ d, owns (c : Thread nD τ) arg10 fullShare d)
        ∗ iprop((∃ d, owns (c : Thread nD τ) scM0_2 fullShare d) ∗ (∃ d, owns (c : Thread nD τ) scM0_3 fullShare d))
        ∗ flying c f0 f1 (wEx i xt0) ∗ owes (c : Thread nD τ) 0 W
        ∗ (iprop(kept c arg5 arg7 arg9 x0 x1 x2 xt0 xt1 xt2 xt3
            ∗ owns (c : Thread nD τ) arg10 fullShare (yOut (wLive i xt2) x0 (k0_pay1 (blk0 f0 (wEx i xt0) hex)) x1 (k0_pay2 (blk1 f1 (wEx i xt0) hex)) x2)
            ∗ wts c (k0_pay1 (blk0 f0 (wEx i xt0) hex)) (k0_pay2 (blk1 f1 (wEx i xt0) hex))
            ∗ copies c f0 f1 (wNxt i xt3) ∗ (∃ W', owes (c : Thread nD τ) 0 W')) -∗ K ⟨⟩))
      ⊢ wp frame (wpE (defs₀ (F := F)) Variants.none c none) Set.univ (prog i arg5 harg5 arg7 harg7 arg9 harg9 arg10 harg10) K := by
  obtain ⟨hl4, hl5⟩ := hlive
  unfold prog kept wts flying Fl
  simp only [cc0_moe_experts_eq_skeleton]; unfold cc0_moe_experts_skel
  simp only [k0_part1_eq_skeleton]; unfold k0_part1_skel
  unfold owns
  iintro ⟨⟨⟨%g0, %hf0, H0⟩, ⟨%g1, %hf1, H1⟩, ⟨%g2, %hf2, H2⟩, HT0, HT1, HT2, HT3⟩, ⟨%d3, %g3, -, H3⟩, ⟨⟨%ds2, %fs2, -, HS2⟩, ⟨%ds3, %fs3, -, HS3⟩⟩, ⟨%hw, HF0, HF1⟩, HW, Hk⟩
  obtain rfl := harg5.eq_unread hf0; obtain rfl := harg7.eq_unread hf1; obtain rfl := harg9.eq_unread hf2
  sl_exec (disch := first | sl_exact hnew | sl_exact hfirst | sl_exact hchk1 | sl_exact hchk2 | sl_exact hn | sl_exact hl4 | sl_exact hl5)
  sl_step
  iapply Hk
  isplitl [H0 H1 H2 HT0 HT1 HT2 HT3]
  · isplitl [H0]
    · iexists _; isplitr; · ipureintro; exact harg5.read_unread _
      iexact H0
    isplitl [H1]
    · iexists _; isplitr; · ipureintro; exact harg7.read_unread _
      iexact H1
    isplitl [H2]
    · iexists _; isplitr; · ipureintro; exact harg9.read_unread _
      iexact H2
    isplitl [HT0]; · iexact HT0
    isplitl [HT1]; · iexact HT1
    isplitl [HT2]; · iexact HT2
    iexact HT3
  isplitl [H3]
  · iexists _; isplitr; swap; · iexact H3
    ipureintro
    refine (store_all _ _ _ _ _).trans ?_
    refine yOut_live hl4 (load_unread harg5 _ _ x0) ?_ (load_unread harg7 _ _ x1) ?_ (load_unread harg9 _ _ x2)
    · unfold run_last.sl.v25 run_last.sl.HS2_1
      exact (load_cov scM0_2.view _ _ _ _ _).trans (congrArg k0_pay1 (load_unread (Memref.isWhole_whole cc0_scratch0) _ _ _))
    · dsimp only
      unfold run_last.sl.v53 run_last.sl.HS3_1
      exact (load_cov scM0_3.view _ _ _ _ _).trans (congrArg k0_pay2 (load_unread (Memref.isWhole_whole cc0_scratch1) _ _ _))
  isplitl [HS2 HS3]
  · isplitl [HS2]
    · iexists _; isplitr; swap; · iexact HS2
      ipureintro; exact (store_all _ _ _ _ _).trans (congrArg k0_pay1 (load_unread (Memref.isWhole_whole cc0_scratch0) _ _ _))
    · iexists _; isplitr; swap; · iexact HS3
      ipureintro; exact (store_all _ _ _ _ _).trans (congrArg k0_pay2 (load_unread (Memref.isWhole_whole cc0_scratch1) _ _ _))
  isplitl [HF0_dst HF0_src HF0 HF1_dst HF1_src HF1]
  · unfold copies; rw [if_neg hn]; unfold grounded owns
    isplitl [HF0_dst]
    · iexists _; iexists _; isplitr; swap; · iexact HF0_dst
      ipureintro; rfl
    isplitl [HF1_dst]
    · iexists _; iexists _; isplitr; swap; · iexact HF1_dst
      ipureintro; rfl
    isplitl [HF0]; · iexact HF0
    isplitl [HF1]; · iexact HF1
    isplitl [HF0_src]; · iexact HF0_src
    iexact HF1_src
  iexists _; iexact HW

set_option maxHeartbeats 2000000 in
/-- A tile that begins the expert whose weights are on their way, with no expert after it, the tile having no live slot. -/
theorem run_last_dead (f0 : HbBuf0 (F := F) c hbM0_0) (f1 : HbBuf0 (F := F) c hbM0_1)
    (hnew : k0_cond1 (wNew i xt1) = 1#1) (hfirst : ¬ k0_cond2 i = 1#1) (hex : Fits (wEx i xt0))
    (hchk1 : k0_chk1 i (wNew i xt1) (wEx i xt0)) (hchk2 : k0_chk2 (wNew i xt1) (wNxt i xt3))
    (hn : ¬ k0_cond3 (wNxt i xt3) = 1#1) (hlive : ¬ k0_cond4 (wLive i xt2) = 1#1 ∧ k0_cond5 (wLive' i xt2) = 1#1)
    (W : Waits sig Unit) (K : PUnit → sProp 𝕄) :
    iprop(kept c arg5 arg7 arg9 x0 x1 x2 xt0 xt1 xt2 xt3 ∗ (∃ d, owns (c : Thread nD τ) arg10 fullShare d)
        ∗ iprop((∃ d, owns (c : Thread nD τ) scM0_2 fullShare d) ∗ (∃ d, owns (c : Thread nD τ) scM0_3 fullShare d))
        ∗ flying c f0 f1 (wEx i xt0) ∗ owes (c : Thread nD τ) 0 W
        ∗ (iprop(kept c arg5 arg7 arg9 x0 x1 x2 xt0 xt1 xt2 xt3
            ∗ owns (c : Thread nD τ) arg10 fullShare (yOut (wLive i xt2) x0 (k0_pay1 (blk0 f0 (wEx i xt0) hex)) x1 (k0_pay2 (blk1 f1 (wEx i xt0) hex)) x2)
            ∗ wts c (k0_pay1 (blk0 f0 (wEx i xt0) hex)) (k0_pay2 (blk1 f1 (wEx i xt0) hex))
            ∗ copies c f0 f1 (wNxt i xt3) ∗ (∃ W', owes (c : Thread nD τ) 0 W')) -∗ K ⟨⟩))
      ⊢ wp frame (wpE (defs₀ (F := F)) Variants.none c none) Set.univ (prog i arg5 harg5 arg7 harg7 arg9 harg9 arg10 harg10) K := by
  obtain ⟨hl4, hl5⟩ := hlive
  unfold prog kept wts flying Fl
  simp only [cc0_moe_experts_eq_skeleton]; unfold cc0_moe_experts_skel
  simp only [k0_part1_eq_skeleton]; unfold k0_part1_skel
  unfold owns
  iintro ⟨⟨⟨%g0, %hf0, H0⟩, ⟨%g1, %hf1, H1⟩, ⟨%g2, %hf2, H2⟩, HT0, HT1, HT2, HT3⟩, ⟨%d3, %g3, -, H3⟩, ⟨⟨%ds2, %fs2, -, HS2⟩, ⟨%ds3, %fs3, -, HS3⟩⟩, ⟨%hw, HF0, HF1⟩, HW, Hk⟩
  obtain rfl := harg5.eq_unread hf0; obtain rfl := harg7.eq_unread hf1; obtain rfl := harg9.eq_unread hf2
  sl_exec (disch := first | sl_exact hnew | sl_exact hfirst | sl_exact hchk1 | sl_exact hchk2 | sl_exact hn | sl_exact hl4 | sl_exact hl5)
  sl_step
  iapply Hk
  isplitl [H0 H1 H2 HT0 HT1 HT2 HT3]
  · isplitl [H0]
    · iexists _; isplitr; · ipureintro; exact harg5.read_unread _
      iexact H0
    isplitl [H1]
    · iexists _; isplitr; · ipureintro; exact harg7.read_unread _
      iexact H1
    isplitl [H2]
    · iexists _; isplitr; · ipureintro; exact harg9.read_unread _
      iexact H2
    isplitl [HT0]; · iexact HT0
    isplitl [HT1]; · iexact HT1
    isplitl [HT2]; · iexact HT2
    iexact HT3
  isplitl [H3]
  · iexists _; isplitr; swap; · iexact H3
    ipureintro
    refine (store_all _ _ _ _ _).trans ?_
    exact yOut_dead (F := F) hl4 _ _ _ _ _
  isplitl [HS2 HS3]
  · isplitl [HS2]
    · iexists _; isplitr; swap; · iexact HS2
      ipureintro; exact (store_all _ _ _ _ _).trans (congrArg k0_pay1 (load_unread (Memref.isWhole_whole cc0_scratch0) _ _ _))
    · iexists _; isplitr; swap; · iexact HS3
      ipureintro; exact (store_all _ _ _ _ _).trans (congrArg k0_pay2 (load_unread (Memref.isWhole_whole cc0_scratch1) _ _ _))
  isplitl [HF0_dst HF0_src HF0 HF1_dst HF1_src HF1]
  · unfold copies; rw [if_neg hn]; unfold grounded owns
    isplitl [HF0_dst]
    · iexists _; iexists _; isplitr; swap; · iexact HF0_dst
      ipureintro; rfl
    isplitl [HF1_dst]
    · iexists _; iexists _; isplitr; swap; · iexact HF1_dst
      ipureintro; rfl
    isplitl [HF0]; · iexact HF0
    isplitl [HF1]; · iexact HF1
    isplitl [HF0_src]; · iexact HF0_src
    iexact HF1_src
  iexists _; iexact HW

set_option maxHeartbeats 2000000 in
/-- The first tile, which sends for its own expert's weights and waits for them, and sends for the next one. -/
theorem run_first (f0 : HbBuf0 (F := F) c hbM0_0) (f1 : HbBuf0 (F := F) c hbM0_1)
    (hnew : k0_cond1 (wNew i xt1) = 1#1) (hfirst : k0_cond2 i = 1#1) (hex : Fits (wEx i xt0))
    (hchk1 : k0_chk1 i (wNew i xt1) (wEx i xt0)) (hchk2 : k0_chk2 (wNew i xt1) (wNxt i xt3))
    (hn : k0_cond3 (wNxt i xt3) = 1#1) (hlive : k0_cond4 (wLive i xt2) = 1#1 ∧ ¬ k0_cond5 (wLive' i xt2) = 1#1)
    (W : Waits sig Unit) (K : PUnit → sProp 𝕄) :
    iprop(kept c arg5 arg7 arg9 x0 x1 x2 xt0 xt1 xt2 xt3 ∗ (∃ d, owns (c : Thread nD τ) arg10 fullShare d)
        ∗ iprop((∃ d, owns (c : Thread nD τ) scM0_2 fullShare d) ∗ (∃ d, owns (c : Thread nD τ) scM0_3 fullShare d))
        ∗ grounded c f0 f1 ∗ owes (c : Thread nD τ) 0 W
        ∗ (iprop(kept c arg5 arg7 arg9 x0 x1 x2 xt0 xt1 xt2 xt3
            ∗ owns (c : Thread nD τ) arg10 fullShare (yOut (wLive i xt2) x0 (k0_pay1 (blk0 f0 (wEx i xt0) hex)) x1 (k0_pay2 (blk1 f1 (wEx i xt0) hex)) x2)
            ∗ wts c (k0_pay1 (blk0 f0 (wEx i xt0) hex)) (k0_pay2 (blk1 f1 (wEx i xt0) hex))
            ∗ copies c f0 f1 (wNxt i xt3) ∗ (∃ W', owes (c : Thread nD τ) 0 W')) -∗ K ⟨⟩))
      ⊢ wp frame (wpE (defs₀ (F := F)) Variants.none c none) Set.univ (prog i arg5 harg5 arg7 harg7 arg9 harg9 arg10 harg10) K := by
  obtain ⟨hl4, hl5⟩ := hlive
  unfold prog kept wts grounded
  simp only [cc0_moe_experts_eq_skeleton]; unfold cc0_moe_experts_skel
  simp only [k0_part1_eq_skeleton]; unfold k0_part1_skel
  unfold owns
  iintro ⟨⟨⟨%g0, %hf0, H0⟩, ⟨%g1, %hf1, H1⟩, ⟨%g2, %hf2, H2⟩, HT0, HT1, HT2, HT3⟩, ⟨%d3, %g3, -, H3⟩, ⟨⟨%ds2, %fs2, -, HS2⟩, ⟨%ds3, %fs3, -, HS3⟩⟩, ⟨⟨%d0, %fs0, -, HS0⟩, ⟨%d1, %fs1, -, HS1⟩, HQ0, HQ1, HA0, HA1⟩, HW, Hk⟩
  obtain rfl := harg5.eq_unread hf0; obtain rfl := harg7.eq_unread hf1; obtain rfl := harg9.eq_unread hf2
  sl_exec (disch := first | sl_exact hnew | sl_exact hfirst | sl_exact hchk1 | sl_exact hchk2 | sl_exact hn | sl_exact hl4 | sl_exact hl5)
  sl_step
  iapply Hk
  isplitl [H0 H1 H2 HT0 HT1 HT2 HT3]
  · isplitl [H0]
    · iexists _; isplitr; · ipureintro; exact harg5.read_unread _
      iexact H0
    isplitl [H1]
    · iexists _; isplitr; · ipureintro; exact harg7.read_unread _
      iexact H1
    isplitl [H2]
    · iexists _; isplitr; · ipureintro; exact harg9.read_unread _
      iexact H2
    isplitl [HT0]; · iexact HT0
    isplitl [HT1]; · iexact HT1
    isplitl [HT2]; · iexact HT2
    iexact HT3
  isplitl [H3]
  · iexists _; isplitr; swap; · iexact H3
    ipureintro
    refine (store_all _ _ _ _ _).trans ?_
    refine yOut_live hl4 (load_unread harg5 _ _ x0) ?_ (load_unread harg7 _ _ x1) ?_ (load_unread harg9 _ _ x2)
    · unfold run_first.sl.v25 run_first.sl.HS2_1
      exact (load_cov scM0_2.view _ _ _ _ _).trans (congrArg k0_pay1 (load_copied scM0_0.view _ _ _ _))
    · dsimp only
      unfold run_first.sl.v53 run_first.sl.HS3_1
      exact (load_cov scM0_3.view _ _ _ _ _).trans (congrArg k0_pay2 (load_copied scM0_1.view _ _ _ _))
  isplitl [HS2 HS3]
  · isplitl [HS2]
    · iexists _; isplitr; swap; · iexact HS2
      ipureintro; exact (store_all _ _ _ _ _).trans (congrArg k0_pay1 (load_copied scM0_0.view _ _ _ _))
    · iexists _; isplitr; swap; · iexact HS3
      ipureintro; exact (store_all _ _ _ _ _).trans (congrArg k0_pay2 (load_copied scM0_1.view _ _ _ _))
  isplitl [HQ0 HA0 HQ1 HA1]
  · unfold copies; rw [if_pos hn]; unfold flying
    iexists (⟨hchk2.1 hnew hn, hchk2.2 hnew hn⟩ : Fits (wNxt i xt3))
    isplitl [HQ0 HA0]
    · iapply (Fl_with (fold0 f0 (wNxt i xt3) ⟨hchk2.1 hnew hn, hchk2.2 hnew hn⟩ _ (read_writes_head scM0_0.view _ _ _)))
      isplitl [HQ0]; · iexact HQ0
      iexact HA0
    · iapply (Fl_with (fold1 f1 (wNxt i xt3) ⟨hchk2.1 hnew hn, hchk2.2 hnew hn⟩ _ (read_writes_head scM0_1.view _ _ _)))
      isplitl [HQ1]; · iexact HQ1
      iexact HA1
  iexists _; iexact HW

set_option maxHeartbeats 2000000 in
/-- The first tile, which sends for its own expert's weights and waits for them, and sends for the next one, the tile having no live slot. -/
theorem run_first_dead (f0 : HbBuf0 (F := F) c hbM0_0) (f1 : HbBuf0 (F := F) c hbM0_1)
    (hnew : k0_cond1 (wNew i xt1) = 1#1) (hfirst : k0_cond2 i = 1#1) (hex : Fits (wEx i xt0))
    (hchk1 : k0_chk1 i (wNew i xt1) (wEx i xt0)) (hchk2 : k0_chk2 (wNew i xt1) (wNxt i xt3))
    (hn : k0_cond3 (wNxt i xt3) = 1#1) (hlive : ¬ k0_cond4 (wLive i xt2) = 1#1 ∧ k0_cond5 (wLive' i xt2) = 1#1)
    (W : Waits sig Unit) (K : PUnit → sProp 𝕄) :
    iprop(kept c arg5 arg7 arg9 x0 x1 x2 xt0 xt1 xt2 xt3 ∗ (∃ d, owns (c : Thread nD τ) arg10 fullShare d)
        ∗ iprop((∃ d, owns (c : Thread nD τ) scM0_2 fullShare d) ∗ (∃ d, owns (c : Thread nD τ) scM0_3 fullShare d))
        ∗ grounded c f0 f1 ∗ owes (c : Thread nD τ) 0 W
        ∗ (iprop(kept c arg5 arg7 arg9 x0 x1 x2 xt0 xt1 xt2 xt3
            ∗ owns (c : Thread nD τ) arg10 fullShare (yOut (wLive i xt2) x0 (k0_pay1 (blk0 f0 (wEx i xt0) hex)) x1 (k0_pay2 (blk1 f1 (wEx i xt0) hex)) x2)
            ∗ wts c (k0_pay1 (blk0 f0 (wEx i xt0) hex)) (k0_pay2 (blk1 f1 (wEx i xt0) hex))
            ∗ copies c f0 f1 (wNxt i xt3) ∗ (∃ W', owes (c : Thread nD τ) 0 W')) -∗ K ⟨⟩))
      ⊢ wp frame (wpE (defs₀ (F := F)) Variants.none c none) Set.univ (prog i arg5 harg5 arg7 harg7 arg9 harg9 arg10 harg10) K := by
  obtain ⟨hl4, hl5⟩ := hlive
  unfold prog kept wts grounded
  simp only [cc0_moe_experts_eq_skeleton]; unfold cc0_moe_experts_skel
  simp only [k0_part1_eq_skeleton]; unfold k0_part1_skel
  unfold owns
  iintro ⟨⟨⟨%g0, %hf0, H0⟩, ⟨%g1, %hf1, H1⟩, ⟨%g2, %hf2, H2⟩, HT0, HT1, HT2, HT3⟩, ⟨%d3, %g3, -, H3⟩, ⟨⟨%ds2, %fs2, -, HS2⟩, ⟨%ds3, %fs3, -, HS3⟩⟩, ⟨⟨%d0, %fs0, -, HS0⟩, ⟨%d1, %fs1, -, HS1⟩, HQ0, HQ1, HA0, HA1⟩, HW, Hk⟩
  obtain rfl := harg5.eq_unread hf0; obtain rfl := harg7.eq_unread hf1; obtain rfl := harg9.eq_unread hf2
  sl_exec (disch := first | sl_exact hnew | sl_exact hfirst | sl_exact hchk1 | sl_exact hchk2 | sl_exact hn | sl_exact hl4 | sl_exact hl5)
  sl_step
  iapply Hk
  isplitl [H0 H1 H2 HT0 HT1 HT2 HT3]
  · isplitl [H0]
    · iexists _; isplitr; · ipureintro; exact harg5.read_unread _
      iexact H0
    isplitl [H1]
    · iexists _; isplitr; · ipureintro; exact harg7.read_unread _
      iexact H1
    isplitl [H2]
    · iexists _; isplitr; · ipureintro; exact harg9.read_unread _
      iexact H2
    isplitl [HT0]; · iexact HT0
    isplitl [HT1]; · iexact HT1
    isplitl [HT2]; · iexact HT2
    iexact HT3
  isplitl [H3]
  · iexists _; isplitr; swap; · iexact H3
    ipureintro
    refine (store_all _ _ _ _ _).trans ?_
    exact yOut_dead (F := F) hl4 _ _ _ _ _
  isplitl [HS2 HS3]
  · isplitl [HS2]
    · iexists _; isplitr; swap; · iexact HS2
      ipureintro; exact (store_all _ _ _ _ _).trans (congrArg k0_pay1 (load_copied scM0_0.view _ _ _ _))
    · iexists _; isplitr; swap; · iexact HS3
      ipureintro; exact (store_all _ _ _ _ _).trans (congrArg k0_pay2 (load_copied scM0_1.view _ _ _ _))
  isplitl [HQ0 HA0 HQ1 HA1]
  · unfold copies; rw [if_pos hn]; unfold flying
    iexists (⟨hchk2.1 hnew hn, hchk2.2 hnew hn⟩ : Fits (wNxt i xt3))
    isplitl [HQ0 HA0]
    · iapply (Fl_with (fold0 f0 (wNxt i xt3) ⟨hchk2.1 hnew hn, hchk2.2 hnew hn⟩ _ (read_writes_head scM0_0.view _ _ _)))
      isplitl [HQ0]; · iexact HQ0
      iexact HA0
    · iapply (Fl_with (fold1 f1 (wNxt i xt3) ⟨hchk2.1 hnew hn, hchk2.2 hnew hn⟩ _ (read_writes_head scM0_1.view _ _ _)))
      isplitl [HQ1]; · iexact HQ1
      iexact HA1
  iexists _; iexact HW

set_option maxHeartbeats 2000000 in
/-- The first tile, which sends for its own expert's weights and waits for them, with no expert after it. -/
theorem run_only (f0 : HbBuf0 (F := F) c hbM0_0) (f1 : HbBuf0 (F := F) c hbM0_1)
    (hnew : k0_cond1 (wNew i xt1) = 1#1) (hfirst : k0_cond2 i = 1#1) (hex : Fits (wEx i xt0))
    (hchk1 : k0_chk1 i (wNew i xt1) (wEx i xt0)) (hchk2 : k0_chk2 (wNew i xt1) (wNxt i xt3))
    (hn : ¬ k0_cond3 (wNxt i xt3) = 1#1) (hlive : k0_cond4 (wLive i xt2) = 1#1 ∧ ¬ k0_cond5 (wLive' i xt2) = 1#1)
    (W : Waits sig Unit) (K : PUnit → sProp 𝕄) :
    iprop(kept c arg5 arg7 arg9 x0 x1 x2 xt0 xt1 xt2 xt3 ∗ (∃ d, owns (c : Thread nD τ) arg10 fullShare d)
        ∗ iprop((∃ d, owns (c : Thread nD τ) scM0_2 fullShare d) ∗ (∃ d, owns (c : Thread nD τ) scM0_3 fullShare d))
        ∗ grounded c f0 f1 ∗ owes (c : Thread nD τ) 0 W
        ∗ (iprop(kept c arg5 arg7 arg9 x0 x1 x2 xt0 xt1 xt2 xt3
            ∗ owns (c : Thread nD τ) arg10 fullShare (yOut (wLive i xt2) x0 (k0_pay1 (blk0 f0 (wEx i xt0) hex)) x1 (k0_pay2 (blk1 f1 (wEx i xt0) hex)) x2)
            ∗ wts c (k0_pay1 (blk0 f0 (wEx i xt0) hex)) (k0_pay2 (blk1 f1 (wEx i xt0) hex))
            ∗ copies c f0 f1 (wNxt i xt3) ∗ (∃ W', owes (c : Thread nD τ) 0 W')) -∗ K ⟨⟩))
      ⊢ wp frame (wpE (defs₀ (F := F)) Variants.none c none) Set.univ (prog i arg5 harg5 arg7 harg7 arg9 harg9 arg10 harg10) K := by
  obtain ⟨hl4, hl5⟩ := hlive
  unfold prog kept wts grounded
  simp only [cc0_moe_experts_eq_skeleton]; unfold cc0_moe_experts_skel
  simp only [k0_part1_eq_skeleton]; unfold k0_part1_skel
  unfold owns
  iintro ⟨⟨⟨%g0, %hf0, H0⟩, ⟨%g1, %hf1, H1⟩, ⟨%g2, %hf2, H2⟩, HT0, HT1, HT2, HT3⟩, ⟨%d3, %g3, -, H3⟩, ⟨⟨%ds2, %fs2, -, HS2⟩, ⟨%ds3, %fs3, -, HS3⟩⟩, ⟨⟨%d0, %fs0, -, HS0⟩, ⟨%d1, %fs1, -, HS1⟩, HQ0, HQ1, HA0, HA1⟩, HW, Hk⟩
  obtain rfl := harg5.eq_unread hf0; obtain rfl := harg7.eq_unread hf1; obtain rfl := harg9.eq_unread hf2
  sl_exec (disch := first | sl_exact hnew | sl_exact hfirst | sl_exact hchk1 | sl_exact hchk2 | sl_exact hn | sl_exact hl4 | sl_exact hl5)
  sl_step
  iapply Hk
  isplitl [H0 H1 H2 HT0 HT1 HT2 HT3]
  · isplitl [H0]
    · iexists _; isplitr; · ipureintro; exact harg5.read_unread _
      iexact H0
    isplitl [H1]
    · iexists _; isplitr; · ipureintro; exact harg7.read_unread _
      iexact H1
    isplitl [H2]
    · iexists _; isplitr; · ipureintro; exact harg9.read_unread _
      iexact H2
    isplitl [HT0]; · iexact HT0
    isplitl [HT1]; · iexact HT1
    isplitl [HT2]; · iexact HT2
    iexact HT3
  isplitl [H3]
  · iexists _; isplitr; swap; · iexact H3
    ipureintro
    refine (store_all _ _ _ _ _).trans ?_
    refine yOut_live hl4 (load_unread harg5 _ _ x0) ?_ (load_unread harg7 _ _ x1) ?_ (load_unread harg9 _ _ x2)
    · unfold run_only.sl.v25 run_only.sl.HS2_1
      exact (load_cov scM0_2.view _ _ _ _ _).trans (congrArg k0_pay1 (load_copied scM0_0.view _ _ _ _))
    · dsimp only
      unfold run_only.sl.v53 run_only.sl.HS3_1
      exact (load_cov scM0_3.view _ _ _ _ _).trans (congrArg k0_pay2 (load_copied scM0_1.view _ _ _ _))
  isplitl [HS2 HS3]
  · isplitl [HS2]
    · iexists _; isplitr; swap; · iexact HS2
      ipureintro; exact (store_all _ _ _ _ _).trans (congrArg k0_pay1 (load_copied scM0_0.view _ _ _ _))
    · iexists _; isplitr; swap; · iexact HS3
      ipureintro; exact (store_all _ _ _ _ _).trans (congrArg k0_pay2 (load_copied scM0_1.view _ _ _ _))
  isplitl [HS0 HA0 HQ0 HS1 HA1 HQ1]
  · unfold copies; rw [if_neg hn]; unfold grounded owns
    isplitl [HS0]
    · iexists _; iexists _; isplitr; swap; · iexact HS0
      ipureintro; rfl
    isplitl [HS1]
    · iexists _; iexists _; isplitr; swap; · iexact HS1
      ipureintro; rfl
    isplitl [HQ0]; · iexact HQ0
    isplitl [HQ1]; · iexact HQ1
    isplitl [HA0]; · iexact HA0
    iexact HA1
  iexists _; iexact HW

set_option maxHeartbeats 2000000 in
/-- The first tile, which sends for its own expert's weights and waits for them, with no expert after it, the tile having no live slot. -/
theorem run_only_dead (f0 : HbBuf0 (F := F) c hbM0_0) (f1 : HbBuf0 (F := F) c hbM0_1)
    (hnew : k0_cond1 (wNew i xt1) = 1#1) (hfirst : k0_cond2 i = 1#1) (hex : Fits (wEx i xt0))
    (hchk1 : k0_chk1 i (wNew i xt1) (wEx i xt0)) (hchk2 : k0_chk2 (wNew i xt1) (wNxt i xt3))
    (hn : ¬ k0_cond3 (wNxt i xt3) = 1#1) (hlive : ¬ k0_cond4 (wLive i xt2) = 1#1 ∧ k0_cond5 (wLive' i xt2) = 1#1)
    (W : Waits sig Unit) (K : PUnit → sProp 𝕄) :
    iprop(kept c arg5 arg7 arg9 x0 x1 x2 xt0 xt1 xt2 xt3 ∗ (∃ d, owns (c : Thread nD τ) arg10 fullShare d)
        ∗ iprop((∃ d, owns (c : Thread nD τ) scM0_2 fullShare d) ∗ (∃ d, owns (c : Thread nD τ) scM0_3 fullShare d))
        ∗ grounded c f0 f1 ∗ owes (c : Thread nD τ) 0 W
        ∗ (iprop(kept c arg5 arg7 arg9 x0 x1 x2 xt0 xt1 xt2 xt3
            ∗ owns (c : Thread nD τ) arg10 fullShare (yOut (wLive i xt2) x0 (k0_pay1 (blk0 f0 (wEx i xt0) hex)) x1 (k0_pay2 (blk1 f1 (wEx i xt0) hex)) x2)
            ∗ wts c (k0_pay1 (blk0 f0 (wEx i xt0) hex)) (k0_pay2 (blk1 f1 (wEx i xt0) hex))
            ∗ copies c f0 f1 (wNxt i xt3) ∗ (∃ W', owes (c : Thread nD τ) 0 W')) -∗ K ⟨⟩))
      ⊢ wp frame (wpE (defs₀ (F := F)) Variants.none c none) Set.univ (prog i arg5 harg5 arg7 harg7 arg9 harg9 arg10 harg10) K := by
  obtain ⟨hl4, hl5⟩ := hlive
  unfold prog kept wts grounded
  simp only [cc0_moe_experts_eq_skeleton]; unfold cc0_moe_experts_skel
  simp only [k0_part1_eq_skeleton]; unfold k0_part1_skel
  unfold owns
  iintro ⟨⟨⟨%g0, %hf0, H0⟩, ⟨%g1, %hf1, H1⟩, ⟨%g2, %hf2, H2⟩, HT0, HT1, HT2, HT3⟩, ⟨%d3, %g3, -, H3⟩, ⟨⟨%ds2, %fs2, -, HS2⟩, ⟨%ds3, %fs3, -, HS3⟩⟩, ⟨⟨%d0, %fs0, -, HS0⟩, ⟨%d1, %fs1, -, HS1⟩, HQ0, HQ1, HA0, HA1⟩, HW, Hk⟩
  obtain rfl := harg5.eq_unread hf0; obtain rfl := harg7.eq_unread hf1; obtain rfl := harg9.eq_unread hf2
  sl_exec (disch := first | sl_exact hnew | sl_exact hfirst | sl_exact hchk1 | sl_exact hchk2 | sl_exact hn | sl_exact hl4 | sl_exact hl5)
  sl_step
  iapply Hk
  isplitl [H0 H1 H2 HT0 HT1 HT2 HT3]
  · isplitl [H0]
    · iexists _; isplitr; · ipureintro; exact harg5.read_unread _
      iexact H0
    isplitl [H1]
    · iexists _; isplitr; · ipureintro; exact harg7.read_unread _
      iexact H1
    isplitl [H2]
    · iexists _; isplitr; · ipureintro; exact harg9.read_unread _
      iexact H2
    isplitl [HT0]; · iexact HT0
    isplitl [HT1]; · iexact HT1
    isplitl [HT2]; · iexact HT2
    iexact HT3
  isplitl [H3]
  · iexists _; isplitr; swap; · iexact H3
    ipureintro
    refine (store_all _ _ _ _ _).trans ?_
    exact yOut_dead (F := F) hl4 _ _ _ _ _
  isplitl [HS2 HS3]
  · isplitl [HS2]
    · iexists _; isplitr; swap; · iexact HS2
      ipureintro; exact (store_all _ _ _ _ _).trans (congrArg k0_pay1 (load_copied scM0_0.view _ _ _ _))
    · iexists _; isplitr; swap; · iexact HS3
      ipureintro; exact (store_all _ _ _ _ _).trans (congrArg k0_pay2 (load_copied scM0_1.view _ _ _ _))
  isplitl [HS0 HA0 HQ0 HS1 HA1 HQ1]
  · unfold copies; rw [if_neg hn]; unfold grounded owns
    isplitl [HS0]
    · iexists _; iexists _; isplitr; swap; · iexact HS0
      ipureintro; rfl
    isplitl [HS1]
    · iexists _; iexists _; isplitr; swap; · iexact HS1
      ipureintro; rfl
    isplitl [HQ0]; · iexact HQ0
    isplitl [HQ1]; · iexact HQ1
    isplitl [HA0]; · iexact HA0
    iexact HA1
  iexists _; iexact HW

end

end Cert.Kernel2Ideal.Experts

end
-- ==== Proof.ExpertsIdealLaunch.lean ====
module

public import proofs.«01_k».proof.Proof.ExpertsIdealRun
public import Idealize.ShloMosaic.Lib.Claim

@[expose] public section

set_option maxRecDepth 16384

/-! # The experts' call: its launch -/

noncomputable section

namespace Cert.Kernel2Ideal.Experts

open Cert.Kernel2Ideal.Gen Cert.WholeBuffers
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Whether a tile is live: its two readings of the table agree. -/
def Alive (i : grid0.Coords) {c : Dev nD} (xt2 : TbBuf0 (F := F) c tbM0_2) : Prop :=
  (k0_cond4 (wLive i xt2) = 1#1 ∧ ¬ k0_cond5 (wLive' i xt2) = 1#1) ∨ (¬ k0_cond4 (wLive i xt2) = 1#1 ∧ k0_cond5 (wLive' i xt2) = 1#1)

/-- What a tile that begins an expert finds of the copies: the first tile none, any other the expert's own. -/
def ready (c : Dev nD) (i : grid0.Coords) (f0 : HbBuf0 (F := F) c hbM0_0) (f1 : HbBuf0 (F := F) c hbM0_1) (w : BitVec 32) : sProp 𝕄 :=
  if k0_cond2 i = 1#1 then grounded c f0 f1 else flying c f0 f1 w

section
variable (c : Dev nD) (i : grid0.Coords) (arg5 : Memref sig .tc .vmem S512x512 .i32) (harg5 : arg5.IsWhole)
  (arg7 : Memref sig .tc .vmem S1x1x1x2048 .f32) (harg7 : arg7.IsWhole) (arg9 : Memref sig .tc .vmem S1x1x1x1024 .f32) (harg9 : arg9.IsWhole)
  (arg10 : Memref sig .tc .vmem S512x1024 .bf16) (harg10 : arg10.IsWhole)

variable (x0 : Vec F S512x512 .i32) (x1 : Vec F S1x1x1x2048 .f32) (x2 : Vec F S1x1x1x1024 .f32)
  (xt0 : TbBuf0 (F := F) c tbM0_0) (xt1 : TbBuf0 (F := F) c tbM0_1) (xt2 : TbBuf0 (F := F) c tbM0_2) (xt3 : TbBuf0 (F := F) c tbM0_3)

/-- A tile that keeps the expert. -/
theorem run_old (w2 : Vec F S1024x2048 .bf16) (w3 : Vec F S1024x1024 .bf16)
    (hnew : ¬ k0_cond1 (wNew i xt1) = 1#1) (hlive : Alive i xt2)
    (W : Waits sig Unit) (K : PUnit → sProp 𝕄) :
    iprop(kept c arg5 arg7 arg9 x0 x1 x2 xt0 xt1 xt2 xt3 ∗ (∃ d, owns (c : Thread nD τ) arg10 fullShare d) ∗ wts c w2 w3 ∗ owes (c : Thread nD τ) 0 W
        ∗ (iprop(kept c arg5 arg7 arg9 x0 x1 x2 xt0 xt1 xt2 xt3 ∗ owns (c : Thread nD τ) arg10 fullShare (yOut (wLive i xt2) x0 w2 x1 w3 x2) ∗ wts c w2 w3
            ∗ (∃ W', owes (c : Thread nD τ) 0 W')) -∗ K ⟨⟩))
      ⊢ wp frame (wpE (defs₀ (F := F)) Variants.none c none) Set.univ (prog i arg5 harg5 arg7 harg7 arg9 harg9 arg10 harg10) K := by
  rcases hlive with h | h
  · exact run_keep c i arg5 harg5 arg7 harg7 arg9 harg9 arg10 harg10 x0 x1 x2 xt0 xt1 xt2 xt3 w2 w3 hnew h W K
  · exact run_keep_dead c i arg5 harg5 arg7 harg7 arg9 harg9 arg10 harg10 x0 x1 x2 xt0 xt1 xt2 xt3 w2 w3 hnew h W K

/-- A tile that begins an expert. -/
theorem run_new (f0 : HbBuf0 (F := F) c hbM0_0) (f1 : HbBuf0 (F := F) c hbM0_1)
    (hnew : k0_cond1 (wNew i xt1) = 1#1) (hex : Fits (wEx i xt0))
    (hchk1 : k0_chk1 i (wNew i xt1) (wEx i xt0)) (hchk2 : k0_chk2 (wNew i xt1) (wNxt i xt3)) (hlive : Alive i xt2)
    (W : Waits sig Unit) (K : PUnit → sProp 𝕄) :
    iprop(kept c arg5 arg7 arg9 x0 x1 x2 xt0 xt1 xt2 xt3 ∗ (∃ d, owns (c : Thread nD τ) arg10 fullShare d)
        ∗ iprop((∃ d, owns (c : Thread nD τ) scM0_2 fullShare d) ∗ (∃ d, owns (c : Thread nD τ) scM0_3 fullShare d))
        ∗ ready c i f0 f1 (wEx i xt0) ∗ owes (c : Thread nD τ) 0 W
        ∗ (iprop(kept c arg5 arg7 arg9 x0 x1 x2 xt0 xt1 xt2 xt3
            ∗ owns (c : Thread nD τ) arg10 fullShare (yOut (wLive i xt2) x0 (k0_pay1 (blk0 f0 (wEx i xt0) hex)) x1 (k0_pay2 (blk1 f1 (wEx i xt0) hex)) x2)
            ∗ wts c (k0_pay1 (blk0 f0 (wEx i xt0) hex)) (k0_pay2 (blk1 f1 (wEx i xt0) hex))
            ∗ copies c f0 f1 (wNxt i xt3) ∗ (∃ W', owes (c : Thread nD τ) 0 W')) -∗ K ⟨⟩))
      ⊢ wp frame (wpE (defs₀ (F := F)) Variants.none c none) Set.univ (prog i arg5 harg5 arg7 harg7 arg9 harg9 arg10 harg10) K := by
  unfold ready
  by_cases hfirst : k0_cond2 i = 1#1 <;> by_cases hn : k0_cond3 (wNxt i xt3) = 1#1 <;> rcases hlive with h | h
  · rw [if_pos hfirst]
    exact run_first c i arg5 harg5 arg7 harg7 arg9 harg9 arg10 harg10 x0 x1 x2 xt0 xt1 xt2 xt3 f0 f1 hnew hfirst hex hchk1 hchk2 hn h W K
  · rw [if_pos hfirst]
    exact run_first_dead c i arg5 harg5 arg7 harg7 arg9 harg9 arg10 harg10 x0 x1 x2 xt0 xt1 xt2 xt3 f0 f1 hnew hfirst hex hchk1 hchk2 hn h W K
  · rw [if_pos hfirst]
    exact run_only c i arg5 harg5 arg7 harg7 arg9 harg9 arg10 harg10 x0 x1 x2 xt0 xt1 xt2 xt3 f0 f1 hnew hfirst hex hchk1 hchk2 hn h W K
  · rw [if_pos hfirst]
    exact run_only_dead c i arg5 harg5 arg7 harg7 arg9 harg9 arg10 harg10 x0 x1 x2 xt0 xt1 xt2 xt3 f0 f1 hnew hfirst hex hchk1 hchk2 hn h W K
  · rw [if_neg hfirst]
    exact run_next c i arg5 harg5 arg7 harg7 arg9 harg9 arg10 harg10 x0 x1 x2 xt0 xt1 xt2 xt3 f0 f1 hnew hfirst hex hchk1 hchk2 hn h W K
  · rw [if_neg hfirst]
    exact run_next_dead c i arg5 harg5 arg7 harg7 arg9 harg9 arg10 harg10 x0 x1 x2 xt0 xt1 xt2 xt3 f0 f1 hnew hfirst hex hchk1 hchk2 hn h W K
  · rw [if_neg hfirst]
    exact run_last c i arg5 harg5 arg7 harg7 arg9 harg9 arg10 harg10 x0 x1 x2 xt0 xt1 xt2 xt3 f0 f1 hnew hfirst hex hchk1 hchk2 hn h W K
  · rw [if_neg hfirst]
    exact run_last_dead c i arg5 harg5 arg7 harg7 arg9 harg9 arg10 harg10 x0 x1 x2 xt0 xt1 xt2 xt3 f0 f1 hnew hfirst hex hchk1 hchk2 hn h W K

end

variable (m : (ℓ : Loc nD τ sig) → Buf (Elt F) ℓ) (ρ : Dev nD → PrngReg)

/-! ## The tables' words, tile by tile -/

/-- Tile `t`'s entry of each table. -/
abbrev exAt (t : Fin grid0.N) : BitVec 32 := wEx (c := (0 : Dev nD)) (grid0.coords t) (tbl m 0)
abbrev newAt (t : Fin grid0.N) : BitVec 32 := wNew (c := (0 : Dev nD)) (grid0.coords t) (tbl m 1)
abbrev liveAt (t : Fin grid0.N) : BitVec 32 := wLive (c := (0 : Dev nD)) (grid0.coords t) (tbl m 2)
abbrev nxtAt (t : Fin grid0.N) : BitVec 32 := wNxt (c := (0 : Dev nD)) (grid0.coords t) (tbl m 3)

/-- The tile before `t`. -/
abbrev pred (t : Fin grid0.N) : Fin grid0.N := ⟨t.val - 1, by have := t.isLt; omega⟩

/-- The tables are a schedule: the first tile begins an expert; every later one either begins the expert announced by
    the tile before it or keeps that tile's expert and announcement; the last tile announces none; an expert or an
    announced expert is one of the 32; a tile is live or dead. -/
structure Sched : Prop where
  fits : ∀ t, Fits (exAt m t)
  chk1 : ∀ t, k0_chk1 (grid0.coords t) (newAt m t) (exAt m t)
  chk2 : ∀ t, k0_chk2 (newAt m t) (nxtAt m t)
  alive : ∀ t, Alive (c := (0 : Dev nD)) (grid0.coords t) (tbl m 2)
  first : ∀ t, t.val = 0 → k0_cond2 (grid0.coords t) = 1#1 ∧ k0_cond1 (newAt m t) = 1#1
  later : ∀ t, t.val ≠ 0 → ¬ k0_cond2 (grid0.coords t) = 1#1
    ∧ ((k0_cond1 (newAt m t) = 1#1 ∧ nxtAt m (pred t) = exAt m t ∧ k0_cond3 (exAt m t) = 1#1)
      ∨ (¬ k0_cond1 (newAt m t) = 1#1 ∧ exAt m (pred t) = exAt m t ∧ nxtAt m (pred t) = nxtAt m t))
  last : ∀ t, t.val + 1 = grid0.N → ¬ k0_cond3 (nxtAt m t) = 1#1

/-! ## The pipeline's proof data -/

/-- What tile `t` leaves in the output's buffer. -/
def outAt (hO : Ok m) (hS : Sched m) (c : Dev nD) (t : Fin grid0.N) : Vec F S512x1024 .bf16 :=
  yOut (liveAt m t) (iblk m hO c 0 t) (k0_pay1 (blk0 (c := c) (V m c main_arg5) (exAt m t) (hS.fits t))) (iblk m hO c 1 t)
    (k0_pay2 (blk1 (c := c) (V m c main_arg7) (exAt m t) (hS.fits t))) (iblk m hO c 2 t)

/-- What is held between two tiles, of which the first had expert `w` and announced `w'`. -/
def held (c : Dev nD) (w w' : BitVec 32) : sProp 𝕄 :=
  iprop((∃ r, prngReg c r) ∗ iprop(tbPt0 c tbM0_0 (tbl m 0) ∗ tbPt0 c tbM0_1 (tbl m 1) ∗ tbPt0 c tbM0_2 (tbl m 2) ∗ tbPt0 c tbM0_3 (tbl m 3))
    ∗ (∃ h : Fits w, wts c (k0_pay1 (blk0 (c := c) (V m c main_arg5) w h)) (k0_pay2 (blk1 (c := c) (V m c main_arg7) w h)))
    ∗ copies c (V m c main_arg5) (V m c main_arg7) w')

/-- What is held before tile `p`. -/
def inv (c : Dev nD) (p : Fin (grid0.N + 1)) : sProp 𝕄 :=
  if h : p.val = 0 then iprop(Pipeline.ΦD osem0 spec0 H0 (V m) c ∗ Pipeline.ΦT pre0 (tbl m) c)
  else held m c (exAt m ⟨p.val - 1, by have := p.isLt; omega⟩) (nxtAt m ⟨p.val - 1, by have := p.isLt; omega⟩)

theorem inv_first (c : Dev nD) (t : Fin grid0.N) (h : t.val = 0) :
    inv m c t.castSucc = iprop(Pipeline.ΦD osem0 spec0 H0 (V m) c ∗ Pipeline.ΦT pre0 (tbl m) c) := dif_pos h
theorem inv_later (c : Dev nD) (t : Fin grid0.N) (h : t.val ≠ 0) :
    inv m c t.castSucc = held m c (exAt m (pred t)) (nxtAt m (pred t)) := dif_neg h
theorem inv_succ (c : Dev nD) (t : Fin grid0.N) : inv m c t.succ = held m c (exAt m t) (nxtAt m t) := dif_neg (Nat.succ_ne_zero _)

def dats (hO : Ok m) (hS : Sched m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO hS c t
  Φ p := inv m c p
  q _ := fullShare
  owed _ := 0

theorem A_eq (hO : Ok m) (hS : Sched m) (c : Dev nD) (w : Fin (cfgM m hO).W) : (dats m hO hS 0 c).A w = V m c (Pipeline.arrRef spec0 w) := by
  dsimp only [dats]
theorem after0_0 (hO : Ok m) (hS : Sched m) (c : Dev nD) (t : Fin (cfgM m hO).N) : (dats m hO hS 0 c).after 0 t = iblk m hO c 0 t := by dsimp only [dats]; try rfl
theorem after0_1 (hO : Ok m) (hS : Sched m) (c : Dev nD) (t : Fin (cfgM m hO).N) : (dats m hO hS 0 c).after 1 t = iblk m hO c 1 t := by dsimp only [dats]; try rfl
theorem after0_2 (hO : Ok m) (hS : Sched m) (c : Dev nD) (t : Fin (cfgM m hO).N) : (dats m hO hS 0 c).after 2 t = iblk m hO c 2 t := by dsimp only [dats]; try rfl
theorem after0_3 (hO : Ok m) (hS : Sched m) (c : Dev nD) (t : Fin (cfgM m hO).N) : (dats m hO hS 0 c).after 3 t = outAt m hO hS c t := by dsimp only [dats]; try rfl
theorem before0_0 (hO : Ok m) (hS : Sched m) (c : Dev nD) (t : Fin (cfgM m hO).N) (d) : (dats m hO hS 0 c).before 0 t d = iblk m hO c 0 t :=
  before0_0_of m hO (dats m hO hS 0 c) (A_eq m hO hS c 0) (after0_0 m hO hS c) t d
theorem before0_1 (hO : Ok m) (hS : Sched m) (c : Dev nD) (t : Fin (cfgM m hO).N) (d) : (dats m hO hS 0 c).before 1 t d = iblk m hO c 1 t :=
  before0_1_of m hO (dats m hO hS 0 c) (A_eq m hO hS c 1) (after0_1 m hO hS c) t d
theorem before0_2 (hO : Ok m) (hS : Sched m) (c : Dev nD) (t : Fin (cfgM m hO).N) (d) : (dats m hO hS 0 c).before 2 t d = iblk m hO c 2 t :=
  before0_2_of m hO (dats m hO hS 0 c) (A_eq m hO hS c 2) (after0_2 m hO hS c) t d

/-! ## The body at a tile -/

def bodyPre (hO : Ok m) (hS : Sched m) (c : Dev nD) (t : Fin (cfgM m hO).N) : sProp 𝕄 :=
  iprop((dats m hO hS 0 c).Φ t.castSucc ∗ (dats m hO hS 0 c).owesAt () t.castSucc
    ∗ (∃ d, owns (c : Thread nD τ) (ms0_0 m hO t) fullShare ((dats m hO hS 0 c).before 0 t d))
    ∗ (∃ d, owns (c : Thread nD τ) (ms0_1 m hO t) fullShare ((dats m hO hS 0 c).before 1 t d))
    ∗ (∃ d, owns (c : Thread nD τ) (ms0_2 m hO t) fullShare ((dats m hO hS 0 c).before 2 t d))
    ∗ (∃ d, owns (c : Thread nD τ) (ms0_3 m hO t) fullShare ((dats m hO hS 0 c).before 3 t d)))
def bodyPost (hO : Ok m) (hS : Sched m) (c : Dev nD) (t : Fin (cfgM m hO).N) : sProp 𝕄 :=
  iprop((dats m hO hS 0 c).Φ t.succ ∗ (dats m hO hS 0 c).owesAt () t.succ
    ∗ owns (c : Thread nD τ) (ms0_0 m hO t) fullShare ((dats m hO hS 0 c).after 0 t)
    ∗ owns (c : Thread nD τ) (ms0_1 m hO t) fullShare ((dats m hO hS 0 c).after 1 t)
    ∗ owns (c : Thread nD τ) (ms0_2 m hO t) fullShare ((dats m hO hS 0 c).after 2 t)
    ∗ owns (c : Thread nD τ) (ms0_3 m hO t) fullShare ((dats m hO hS 0 c).after 3 t))

theorem sound_body (hO : Ok m) (hS : Sched m) (c : Dev nD) (t : Fin (cfgM m hO).N) :
    bodyPre m hO hS c t ⊢ wp frame (wpE (defs₀ (F := F)) Variants.none c none) Set.univ (bodyAt0 (adm m hO) t) (fun _ => bodyPost m hO hS c t) := by
  unfold bodyPre bodyPost bodyAt0
  simp only [before0_0, before0_1, before0_2]
  rw [after0_0, after0_1, after0_2, after0_3]
  rw [show (dats m hO hS 0 c).Φ t.castSucc = inv m c (Fin.castSucc (n := grid0.N) t) from rfl, show (dats m hO hS 0 c).Φ t.succ = inv m c (Fin.succ (n := grid0.N) t) from rfl, inv_succ]
  unfold Dat.owesAt Pipeline.owesWithin
  rw [show (dats m hO hS 0 c).owed t.castSucc = 0 from rfl, show (dats m hO hS 0 c).owed t.succ = 0 from rfl]
  unfold outAt
  obtain rfl : c = 0 := Subsingleton.elim _ _
  by_cases ht : t.val = 0
  · obtain ⟨hfirst, hnew⟩ := hS.first t ht
    rw [inv_first m 0 t ht, PhiD0_eq, PhiT0_eq]
    iintro ⟨⟨⟨⟨HS0, HS1, HS2, HS3⟩, Hg, ⟨Hq0, Hq1⟩, ⟨Hh0, Hh1⟩⟩, ⟨HT0, HT1, HT2, HT3⟩⟩, ⟨%W, -, HW⟩, ⟨%d0, H0⟩, ⟨%d1, H1⟩, ⟨%d2, H2⟩, ⟨%d3, H3⟩⟩
    iapply (run_new (0 : Dev nD) (grid0.coords t) _ _ _ _ _ _ _ _ (iblk m hO 0 0 t) (iblk m hO 0 1 t) (iblk m hO 0 2 t) (tbl m 0) (tbl m 1) (tbl m 2) (tbl m 3) (V m 0 main_arg5) (V m 0 main_arg7) hnew (hS.fits t) (hS.chk1 t) (hS.chk2 t) (hS.alive t) W _)
    unfold kept
    isplitl [H0 H1 H2 HT0 HT1 HT2 HT3]
    · isplitl [H0]; · iexact H0
      isplitl [H1]; · iexact H1
      isplitl [H2]; · iexact H2
      isplitl [HT0]; · iexact HT0
      isplitl [HT1]; · iexact HT1
      isplitl [HT2]; · iexact HT2
      iexact HT3
    isplitl [H3]; · iexists _; iexact H3
    isplitl [HS2 HS3]
    · isplitl [HS2]; · iexact HS2
      iexact HS3
    isplitl [HS0 HS1 Hq0 Hq1 Hh0 Hh1]
    · unfold ready; rw [if_pos hfirst]; unfold grounded
      isplitl [HS0]; · iexact HS0
      isplitl [HS1]; · iexact HS1
      isplitl [Hq0]; · iexact Hq0
      isplitl [Hq1]; · iexact Hq1
      isplitl [Hh0]; · iexact Hh0
      iexact Hh1
    isplitl [HW]; · iexact HW
    iintro ⟨⟨H0, H1, H2, HT0, HT1, HT2, HT3⟩, H3, Hw, Hc, ⟨%W', HW'⟩⟩
    isplitl [Hg HT0 HT1 HT2 HT3 Hw Hc]
    · unfold held
      isplitl [Hg]; · iexact Hg
      isplitl [HT0 HT1 HT2 HT3]
      · isplitl [HT0]; · iexact HT0
        isplitl [HT1]; · iexact HT1
        isplitl [HT2]; · iexact HT2
        iexact HT3
      isplitl [Hw]; · iexists (hS.fits t); iexact Hw
      iexact Hc
    isplitl [HW']
    · iexists W'; isplitr; · ipureintro; exact fun _ _ => Or.inl trivial
      iexact HW'
    isplitl [H0]; · iexact H0
    isplitl [H1]; · iexact H1
    isplitl [H2]; · iexact H2
    iexact H3
  obtain ⟨hfirst, ⟨hnew, hex, hc3⟩ | ⟨hnew, hex, hnx⟩⟩ := hS.later t ht
  · rw [inv_later m 0 t ht, hex]
    unfold held
    iintro ⟨⟨Hg, ⟨HT0, HT1, HT2, HT3⟩, ⟨%hf, Hw⟩, Hc⟩, ⟨%W, -, HW⟩, ⟨%d0, H0⟩, ⟨%d1, H1⟩, ⟨%d2, H2⟩, ⟨%d3, H3⟩⟩
    iapply (run_new (0 : Dev nD) (grid0.coords t) _ _ _ _ _ _ _ _ (iblk m hO 0 0 t) (iblk m hO 0 1 t) (iblk m hO 0 2 t) (tbl m 0) (tbl m 1) (tbl m 2) (tbl m 3) (V m 0 main_arg5) (V m 0 main_arg7) hnew (hS.fits t) (hS.chk1 t) (hS.chk2 t) (hS.alive t) W _)
    unfold kept wts
    icases Hw with ⟨HS2, HS3⟩
    isplitl [H0 H1 H2 HT0 HT1 HT2 HT3]
    · isplitl [H0]; · iexact H0
      isplitl [H1]; · iexact H1
      isplitl [H2]; · iexact H2
      isplitl [HT0]; · iexact HT0
      isplitl [HT1]; · iexact HT1
      isplitl [HT2]; · iexact HT2
      iexact HT3
    isplitl [H3]; · iexists _; iexact H3
    isplitl [HS2 HS3]
    · isplitl [HS2]; · iexists _; iexact HS2
      iexists _; iexact HS3
    isplitl [Hc]
    · unfold ready copies; rw [if_neg hfirst, if_pos hc3]
      exact .rfl
    isplitl [HW]; · iexact HW
    iintro ⟨⟨H0, H1, H2, HT0, HT1, HT2, HT3⟩, H3, Hw, Hc, ⟨%W', HW'⟩⟩
    isplitl [Hg HT0 HT1 HT2 HT3 Hw Hc]
    · isplitl [Hg]; · iexact Hg
      isplitl [HT0 HT1 HT2 HT3]
      · isplitl [HT0]; · iexact HT0
        isplitl [HT1]; · iexact HT1
        isplitl [HT2]; · iexact HT2
        iexact HT3
      isplitl [Hw]; · iexists (hS.fits t); iexact Hw
      iexact Hc
    isplitl [HW']
    · iexists W'; isplitr; · ipureintro; exact fun _ _ => Or.inl trivial
      iexact HW'
    isplitl [H0]; · iexact H0
    isplitl [H1]; · iexact H1
    isplitl [H2]; · iexact H2
    iexact H3
  · rw [inv_later m 0 t ht, hex, hnx]
    unfold held
    iintro ⟨⟨Hg, ⟨HT0, HT1, HT2, HT3⟩, ⟨%hf, Hw⟩, Hc⟩, ⟨%W, -, HW⟩, ⟨%d0, H0⟩, ⟨%d1, H1⟩, ⟨%d2, H2⟩, ⟨%d3, H3⟩⟩
    iapply (run_old (0 : Dev nD) (grid0.coords t) _ _ _ _ _ _ _ _ (iblk m hO 0 0 t) (iblk m hO 0 1 t) (iblk m hO 0 2 t) (tbl m 0) (tbl m 1) (tbl m 2) (tbl m 3) _ _ hnew (hS.alive t) W _)
    unfold kept
    isplitl [H0 H1 H2 HT0 HT1 HT2 HT3]
    · isplitl [H0]; · iexact H0
      isplitl [H1]; · iexact H1
      isplitl [H2]; · iexact H2
      isplitl [HT0]; · iexact HT0
      isplitl [HT1]; · iexact HT1
      isplitl [HT2]; · iexact HT2
      iexact HT3
    isplitl [H3]; · iexists _; iexact H3
    isplitl [Hw]; · iexact Hw
    isplitl [HW]; · iexact HW
    iintro ⟨⟨H0, H1, H2, HT0, HT1, HT2, HT3⟩, H3, Hw, ⟨%W', HW'⟩⟩
    isplitl [Hg HT0 HT1 HT2 HT3 Hw Hc]
    · isplitl [Hg]; · iexact Hg
      isplitl [HT0 HT1 HT2 HT3]
      · isplitl [HT0]; · iexact HT0
        isplitl [HT1]; · iexact HT1
        isplitl [HT2]; · iexact HT2
        iexact HT3
      isplitl [Hw]; · iexists hf; iexact Hw
      iexact Hc
    isplitl [HW']
    · iexists W'; isplitr; · ipureintro; exact fun _ _ => Or.inl trivial
      iexact HW'
    isplitl [H0]; · iexact H0
    isplitl [H1]; · iexact H1
    isplitl [H2]; · iexact H2
    iexact H3

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output's buffer is left as computed whether or not the launch counts the tile as one that stores nothing. -/
theorem leaves_out (hO : Ok m) (hS : Sched m) (c : Dev nD) (t : Fin (cfgM m hO).N) :
    (owns (c : Thread nD τ) (ms0_3 m hO t) fullShare ((dats m hO hS 0 c).after 3 t) : sProp 𝕄) ⊢
      (match (cfgM m hO).idle 3 ((cfgM m hO).grid.coords t) with
        | true => match ((cfgM m hO).win 3).flush t with
          | false => iprop(∃ d, owns (c : Thread nD τ) (((cfgM m hO).win 3).stage ((cfgM m hO).slots t 3)) fullShare ((dats m hO hS 0 c).before 3 t d))
          | true => owns (c : Thread nD τ) (((cfgM m hO).win 3).stage ((cfgM m hO).slots t 3)) fullShare ((dats m hO hS 0 c).after 3 t)
        | false => owns (c : Thread nD τ) (((cfgM m hO).win 3).stage ((cfgM m hO).slots t 3)) fullShare ((dats m hO hS 0 c).after 3 t) : sProp 𝕄) := by
  rw [flush0_3]
  split <;> exact .rfl

theorem body_obligation (hO : Ok m) (hS : Sched m) (c : Dev nD) : BodyObligation (dats (F := F) m hO hS 0 c) (defs₀ (F := F)) Variants.none () Set.univ := fun t => by
  rw [bigSep_W0, bigSep_W0, defs₀_row m hO]
  refine triple_restated (sound_body m hO hS c t) rfl .rfl fun _ => ?_
  unfold bodyPost
  have kept {P Q : sProp 𝕄} (h : P = Q) : P ⊢ Q := h ▸ BI.Entails.refl _
  exact BI.sep_mono (kept rfl) (BI.sep_mono (kept rfl) (BI.sep_mono (kept rfl) (BI.sep_mono (kept rfl) (BI.sep_mono (kept rfl) (leaves_out m hO hS c t)))))

/-! ## The run and the frame -/

theorem inv_start (c : Dev nD) : iprop(Pipeline.ΦD osem0 spec0 H0 (V m) c ∗ Pipeline.ΦT pre0 (tbl m) c) ⊢ inv m c 0 := .rfl

/-- After the last tile no copy is in flight, and everything is as a call must leave it. -/
theorem inv_end (hS : Sched m) (c : Dev nD) : inv m c (Fin.last _) ⊢ Pipeline.ΦD osem0 spec0 H0 (V m) c := by
  have hN := N_0
  rw [show inv m c (Fin.last _) = held m c (exAt m ⟨grid0.N - 1, by omega⟩) (nxtAt m ⟨grid0.N - 1, by omega⟩) from dif_neg (by show grid0.N ≠ 0; omega), PhiD0_eq]
  unfold held copies wts
  rw [if_neg (hS.last _ (by show grid0.N - 1 + 1 = grid0.N; omega))]
  unfold grounded
  iintro ⟨Hg, -, ⟨%hf, HS2, HS3⟩, HS0, HS1, Hq0, Hq1, Hh0, Hh1⟩
  isplitl [HS0 HS1 HS2 HS3]
  · isplitl [HS0]; · iexact HS0
    isplitl [HS1]; · iexact HS1
    isplitl [HS2]; · iexists _; iexact HS2
    iexists _; iexact HS3
  isplitl [Hg]; · iexact Hg
  isplitl [Hq0 Hq1]
  · isplitl [Hq0]; · iexact Hq0
    iexact Hq1
  isplitl [Hh0]; · iexact Hh0
  iexact Hh1

set_option backward.isDefEq.respectTransparency.types false in
theorem run_main_quiescent (hO : Ok m) (hS : Sched m) : θ_run defs (onTc (τ := τ) (main (F := F))) (s₀ m ρ) (fun r => (Pipeline.FramePost (Pipeline.pin pcfgs fun _ => adm m hO) (dats m hO hS) 0 (V m)) r ∧ r.2.sem = fun _ => 0) :=
  Pipeline.θ_run_frameP_dma (Q' := _) pcfgs (fun _ => adm m hO) (dats m hO hS) (0 : Fin 1) launch0 osem0 defs₀ Variants.none ownSemFacts0 H0 H0_sub m ρ main
    (hbody := fun c => (body_obligation m hO hS c).loose) (hshare := fun c => (dats m hO hS 0 c).share_full fun _ => rfl)
    (howed := fun _ _ => rfl) (V := V m) (hmain := hmain m Variants.none) (hA := A_eq m hO hS) (hpf := V_pre m)
    (hin := inv_start m) (hout := inv_end m hS)

/-- The call ends; its output's array holds the blocks the tiles leave, and nothing else in memory has changed. -/
theorem run_main (hO : Ok m) (hS : Sched m) : θ_run defs (onTc (τ := τ) (main (F := F))) (s₀ m ρ) (Pipeline.FramePost (Pipeline.pin pcfgs fun _ => adm m hO) (dats m hO hS) 0 (V m)) :=
  (θ_run defs _ _).mono (fun _ h => h.1) (run_main_quiescent m ρ hO hS)

theorem args_kept (hO : Ok m) (hS : Sched m) (r : PUnit × MemSt nD τ sig (Elt F)) (h : Pipeline.FramePost (Pipeline.pin pcfgs fun _ => adm m hO) (dats m hO hS) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  have rest : ∀ b : Ref sig .tc, b ∈ Pipeline.restRefs sig spec0 → b ≠ main_v0 → b ≠ main_v1 → r.2.mem ((c.tc : Thread nD τ).loc b) = m ((c.tc : Thread nD τ).loc b) :=
    fun b hb h0 h1 => ((h c).2 b hb).trans (V_kept m c b h0 h1)
  exact ⟨rest main_arg0 (by decide) (by decide) (by decide), rest main_arg1 (by decide) (by decide) (by decide), rest main_arg2 (by decide) (by decide) (by decide),
    rest main_arg3 (by decide) (by decide) (by decide),
    ((h c).1 0).trans (((dats m hO hS 0 c).arrAt_in 0 rfl _).trans ((A_eq m hO hS c 0).trans (V_kept m c main_arg4 (by decide) (by decide)))),
    rest main_arg5 (by decide) (by decide) (by decide), rest main_arg6 (by decide) (by decide) (by decide), rest main_arg7 (by decide) (by decide) (by decide),
    rest main_arg8 (by decide) (by decide) (by decide)⟩

theorem frame (hO : Ok m) (hS : Sched m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => args_kept m hO hS r h.1 c, h.2⟩) (run_main_quiescent m ρ hO hS)

end Cert.Kernel2Ideal.Experts

end
-- ==== Proof.ExpertsIdealSched.lean ====
module

public import proofs.«01_k».proof.Proof.ExpertsIdealLaunch
public import proofs.«01_k».proof.Proof.Tables
public import Idealize.ShloMosaic.Lib.Claim

@[expose] public section

set_option maxRecDepth 16384

/-! # The experts' call: the precondition at its tiles -/

noncomputable section

namespace Cert.Kernel2Ideal.Experts

open Cert.Kernel2Ideal.Gen Cert.WholeBuffers
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Experts (Listed place)

/-- The tile at grid point `i`. -/
def tileOf (i : grid0.Coords) : Fin 174 := ⟨(i 0).val, (i 0).isLt⟩

section
variable {c : Dev nD} (i : grid0.Coords)

theorem wEx_eq (xt : TbBuf0 (F := F) c tbM0_0) : wEx i xt = (show IVec S174 32 from xt) (place (tileOf i)) := by
  refine congrArg (show IVec S174 32 from xt) (funext fun (a : Fin 1) => Fin.ext ?_)
  obtain rfl : a = 0 := Subsingleton.elim _ _
  show k0_off2 i 0 + 1 * 0 = (i 0).val
  rw [k0_off2_eq]; rfl
theorem wNew_eq (xt : TbBuf0 (F := F) c tbM0_1) : wNew i xt = (show IVec S174 32 from xt) (place (tileOf i)) := by
  refine congrArg (show IVec S174 32 from xt) (funext fun (a : Fin 1) => Fin.ext ?_)
  obtain rfl : a = 0 := Subsingleton.elim _ _
  show k0_off1 i 0 + 1 * 0 = (i 0).val
  rw [k0_off1_eq]; rfl
theorem wNxt_eq (xt : TbBuf0 (F := F) c tbM0_3) : wNxt i xt = (show IVec S174 32 from xt) (place (tileOf i)) := by
  refine congrArg (show IVec S174 32 from xt) (funext fun (a : Fin 1) => Fin.ext ?_)
  obtain rfl : a = 0 := Subsingleton.elim _ _
  show k0_off7 i 0 + 1 * 0 = (i 0).val
  rw [k0_off7_eq]; rfl
theorem wLive_eq (xt : TbBuf0 (F := F) c tbM0_2) : wLive i xt = (show IVec S174 32 from xt) (place (tileOf i)) := by
  refine congrArg (show IVec S174 32 from xt) (funext fun (a : Fin 1) => Fin.ext ?_)
  obtain rfl : a = 0 := Subsingleton.elim _ _
  show k0_off10 i 0 + 1 * 0 = (i 0).val
  rw [k0_off10_eq]; rfl
theorem wLive'_eq (xt : TbBuf0 (F := F) c tbM0_2) : wLive' i xt = (show IVec S174 32 from xt) (place (tileOf i)) := by
  refine congrArg (show IVec S174 32 from xt) (funext fun (a : Fin 1) => Fin.ext ?_)
  obtain rfl : a = 0 := Subsingleton.elim _ _
  show k0_off11 i 0 + 1 * 0 = (i 0).val
  rw [k0_off11_eq]; rfl
end

/-! ## The conditions the body computes -/

theorem cond1_iff (x : BitVec 32) : k0_cond1 x = 1#1 ↔ x = 1#32 := by
  unfold k0_cond1; dsimp only
  by_cases h : x = 1#32
  · subst h; decide
  · have : Scalar.cmpi .eq x 1#32 = 0#1 := by
      show IntOp.cmpi .eq x 1#32 = 0#1
      rw [WordCmp.cmpi_eq_eq]; simp [h]
    rw [this]; simp only [h, iff_false]; decide
theorem cond2_iff : ∀ i : grid0.Coords, k0_cond2 i = 1#1 ↔ (i 0).val = 0 := by decide +kernel
theorem cond3_iff (x : BitVec 32) : k0_cond3 x = 1#1 ↔ 0 ≤ x.toInt := by
  unfold k0_cond3; dsimp only
  have e : (0#32).toInt = 0 := by decide
  by_cases h : 0 ≤ x.toInt
  · have : Scalar.cmpi .sge x 0#32 = 1#1 := by
      show IntOp.cmpi .sge x 0#32 = 1#1
      rw [WordCmp.cmpi_sge_eq, e]; simp [h]
    rw [this]; simp only [h, iff_true]; decide
  · have : Scalar.cmpi .sge x 0#32 = 0#1 := by
      show IntOp.cmpi .sge x 0#32 = 0#1
      rw [WordCmp.cmpi_sge_eq, e]; simp only [h, decide_false]; rfl
    rw [this]; simp only [h, iff_false]; decide

theorem nonneg_of_lt {x : BitVec 32} (h : x.toNat < 32) : 0 ≤ x.toInt := by
  rw [BitVec.toInt_eq_toNat_cond]
  split <;> omega

theorem fits_of {x : BitVec 32} (h : x.toNat < 32) : Fits x := by
  constructor
  · intro a; show (![0, x.toNat, 0, 0] : Fin 4 → Nat) a + (![1, 1, 1024, 2048] : Fin 4 → Nat) a ≤ (![4, 32, 1024, 2048] : Fin 4 → Nat) a
    fin_cases a <;> simp <;> omega
  · intro a; show (![0, x.toNat, 0, 0] : Fin 4 → Nat) a + (![1, 1, 1024, 1024] : Fin 4 → Nat) a ≤ (![4, 32, 1024, 1024] : Fin 4 → Nat) a
    fin_cases a <;> simp <;> omega

theorem alive_of (i : grid0.Coords) {c : Dev nD} (xt : TbBuf0 (F := F) c tbM0_2)
    (h : (show IVec S174 32 from xt) (place (tileOf i)) = 0#32 ∨ (show IVec S174 32 from xt) (place (tileOf i)) = 1#32) : Alive i xt := by
  unfold Alive
  rw [wLive_eq, wLive'_eq]
  rcases h with h | h <;> rw [h] <;> decide

variable (m : (ℓ : Loc nD τ sig) → Buf (Elt F) ℓ)

/-- The tables the call finds are the arguments. -/
theorem tbl_0 : tbl m 0 = m (((0 : Dev nD) : Thread nD τ).loc main_arg0) := V_kept m 0 main_arg0 (by decide) (by decide)
theorem tbl_1 : tbl m 1 = m (((0 : Dev nD) : Thread nD τ).loc main_arg1) := V_kept m 0 main_arg1 (by decide) (by decide)
theorem tbl_2 : tbl m 2 = m (((0 : Dev nD) : Thread nD τ).loc main_arg2) := V_kept m 0 main_arg2 (by decide) (by decide)
theorem tbl_3 : tbl m 3 = m (((0 : Dev nD) : Thread nD τ).loc main_arg3) := V_kept m 0 main_arg3 (by decide) (by decide)

/-- The tables list the tiles. -/
def Lists : Prop := Listed (show IVec S174 32 from tbl m 0) (show IVec S174 32 from tbl m 1) (show IVec S174 32 from tbl m 2) (show IVec S174 32 from tbl m 3)

variable {m}

theorem lists_of (h : Listed (show IVec S174 32 from m (((0 : Dev nD) : Thread nD τ).loc main_arg0)) (show IVec S174 32 from m (((0 : Dev nD) : Thread nD τ).loc main_arg1))
    (show IVec S174 32 from m (((0 : Dev nD) : Thread nD τ).loc main_arg2)) (show IVec S174 32 from m (((0 : Dev nD) : Thread nD τ).loc main_arg3))) : Lists m := by
  unfold Lists; rw [tbl_0, tbl_1, tbl_2, tbl_3]; exact h

theorem exAt_eq (t : Fin grid0.N) : exAt m t = (show IVec S174 32 from tbl m 0) (place (tileOf (grid0.coords t))) := wEx_eq _ _
theorem newAt_eq (t : Fin grid0.N) : newAt m t = (show IVec S174 32 from tbl m 1) (place (tileOf (grid0.coords t))) := wNew_eq _ _
theorem liveAt_eq (t : Fin grid0.N) : liveAt m t = (show IVec S174 32 from tbl m 2) (place (tileOf (grid0.coords t))) := wLive_eq _ _
theorem nxtAt_eq (t : Fin grid0.N) : nxtAt m t = (show IVec S174 32 from tbl m 3) (place (tileOf (grid0.coords t))) := wNxt_eq _ _

theorem tile_lt (t : Fin grid0.N) : t.val < 174 := lt_of_lt_of_eq t.isLt N_0

theorem row_lt (h : Lists m) (i : grid0.Coords) : (wEx (c := (0 : Dev nD)) i (tbl m 0)).toNat < 32 := lt_of_eq_of_lt (congrArg BitVec.toNat (wEx_eq i (tbl m 0))) (h.ex_lt _)

/-- The block index of a bias is layer 0, expert `exAt`. -/
theorem transform2_eq (i : grid0.Coords) : cc0_transform_2 k0_off1_inb numel1_S1 (tbl m) i = ![0, (wEx (c := (0 : Dev nD)) i (tbl m 0)).toNat, 0, 0] := by
  rfl
theorem transform4_eq (i : grid0.Coords) : cc0_transform_4 k0_off1_inb numel1_S1 (tbl m) i = ![0, (wEx (c := (0 : Dev nD)) i (tbl m 0)).toNat, 0, 0] := by
  rfl

theorem ok_of (h : Lists m) : Ok m := by
  refine ⟨fun i => ⟨fun a => ?_, Or.inl rfl⟩, fun i => ⟨fun a => ?_, Or.inl rfl⟩⟩
  · rw [transform2_eq]
    have := row_lt h i
    show ((![0, _, 0, 0] : Fin 4 → Nat) a + 1) * (![1, 1, 1, 2048] : Fin 4 → Nat) a ≤ (![4, 32, 1, 2048] : Fin 4 → Nat) a
    fin_cases a <;> simp <;> omega
  · rw [transform4_eq]
    have := row_lt h i
    show ((![0, _, 0, 0] : Fin 4 → Nat) a + 1) * (![1, 1, 1, 1024] : Fin 4 → Nat) a ≤ (![4, 32, 1, 1024] : Fin 4 → Nat) a
    fin_cases a <;> simp <;> omega

theorem tileOf_coords (t : Fin grid0.N) : (tileOf (grid0.coords t)).val = t.val := by
  have h := tile_lt t
  show ((grid0.coords t) 0).val = t.val
  rw [Pipeline.Grid.coords_val t 0 (S := 1) (B := 174) (by decide) rfl]
  omega

theorem sched_of (h : Lists m) : Sched m := by
  have fits : ∀ t, Fits (exAt m t) := fun t => fits_of (row_lt h _)
  refine ⟨fits, fun t => ⟨fun _ _ => (fits t).1, fun _ _ => (fits t).2, fun _ => (fits t).1, fun _ => (fits t).2⟩, fun t => ?_, fun t => alive_of _ _ (h.live _),
    fun t ht => ?_, fun t ht => ?_, fun t ht => ?_⟩
  · have : k0_cond3 (nxtAt m t) = 1#1 → Fits (nxtAt m t) := fun h3 => fits_of (by
      have h0 := (cond3_iff _).mp h3
      have h1 : (nxtAt m t).toInt < 32 := by rw [nxtAt_eq]; exact h.nxt_lt _
      rw [BitVec.toInt_eq_toNat_cond] at h0 h1
      have := (nxtAt m t).isLt
      split at h1 <;> omega)
    exact ⟨fun _ h3 => (this h3).1, fun _ h3 => (this h3).2⟩
  · have e : tileOf (grid0.coords t) = 0 := Fin.ext ((tileOf_coords t).trans ht)
    refine ⟨(cond2_iff _).mpr ((tileOf_coords t).trans ht), (cond1_iff _).mpr ?_⟩
    rw [newAt_eq, e]; exact h.new_first
  · have hlt := tile_lt t
    have es : tileOf (grid0.coords t) = Fin.succ (⟨t.val - 1, by omega⟩ : Fin 173) := Fin.ext ((tileOf_coords t).trans (by show t.val = t.val - 1 + 1; omega))
    have ec : tileOf (grid0.coords (pred t)) = Fin.castSucc (⟨t.val - 1, by omega⟩ : Fin 173) := Fin.ext ((tileOf_coords (pred t)).trans rfl)
    refine ⟨fun hc => ht ((tileOf_coords t).symm.trans ((cond2_iff _).mp hc)), ?_⟩
    rw [cond1_iff, cond3_iff, newAt_eq, nxtAt_eq, nxtAt_eq, exAt_eq, exAt_eq, es, ec]
    rcases h.step ⟨t.val - 1, by omega⟩ with ⟨a, b⟩ | ⟨a, b, d⟩
    · exact Or.inl ⟨a, b, nonneg_of_lt (h.ex_lt _)⟩
    · exact Or.inr ⟨a, b, d⟩
  · have hlt : t.val = 173 := by have := ht.trans N_0; omega
    have e : tileOf (grid0.coords t) = 173 := Fin.ext ((tileOf_coords t).trans hlt)
    rw [cond3_iff]
    rw [nxtAt_eq, e]
    exact not_le.mpr h.nxt_last

end Cert.Kernel2Ideal.Experts

end
-- ==== Proof.ExpertsPay.lean ====
/- The idealised body's stored block, read at an index. -/
module

public import proofs.«01_k».proof.Proof.ExpertsMath
public import proofs.«01_k».proof.Proof.ExpertsIdealSched
public import proofs.«01_k».proof.Proof.Array

@[expose] public section

set_option maxRecDepth 16384

noncomputable section

namespace Cert.Kernel2Ideal.Experts

open Cert.Kernel2Ideal Cert.Kernel2Ideal.Gen Idealize.ShloMosaic Idealize.ShloMosaic.TcCoe Idealize.SL.Sem Cert.Experts

theorem pay1_eq (v : Vec Ideal S1024x2048 .f32) (k : Fin 1024) (j : Fin 2048) : k0_pay1 v (ix2 k j) = v (ix2 k j) := by
  unfold k0_pay1
  pointwise []

theorem pay2_eq (v : Vec Ideal S1024x1024 .f32) (k j : Fin 1024) : k0_pay2 v (ix2 k j) = v (ix2 k j) := by
  unfold k0_pay2
  pointwise []

theorem pay5_eq (x0 : Vec Ideal S512x512 .i32) (w2 : Vec Ideal S1024x2048 .bf16) (x1 : Vec Ideal S1x1x1x2048 .f32) (r : Fin 512) (f : Fin 1024) :
    k0_pay5 x0 w2 x1 (ix2 r f) = gated
      (layer1 (fun j => x0 (ix2 r j)) (fun k j => w2 (ix2 k j)) (fun j => x1 (ix4 0 0 0 j)) ⟨f.val, by omega⟩)
      (layer1 (fun j => x0 (ix2 r j)) (fun k j => w2 (ix2 k j)) (fun j => x1 (ix4 0 0 0 j)) ⟨1024 + f.val, by omega⟩) := by
  unfold k0_pay5
  pointwise []
  unfold gated layer1 low high
  rw [zero_sub]
  rfl

theorem pay3_eq (v : FVec Ideal S512x1024 .bf16) (w3 : Vec Ideal S1024x1024 .bf16) (x2 : Vec Ideal S1x1x1x1024 .f32) (r : Fin 512) (d : Fin 1024) :
    k0_pay3 v w3 x2 (ix2 r d) = ∑ f : Fin 1024, v (ix2 r f) * w3 (ix2 f d) + x2 (ix4 0 0 0 d) := by
  unfold k0_pay3
  pointwise []

theorem pay4_eq (y : S512x1024.Idx) : k0_pay4 (F := Ideal) y = (0 : EReal) := by
  unfold k0_pay4
  pointwise []

theorem cond4_iff (x : BitVec 32) : k0_cond4 x = 1#1 ↔ x = 1#32 := by
  unfold k0_cond4; dsimp only
  by_cases h : x = 1#32
  · subst h; decide
  · have : Scalar.cmpi .eq x 1#32 = 0#1 := by
      show IntOp.cmpi .eq x 1#32 = 0#1
      rw [WordCmp.cmpi_eq_eq]; simp [h]
    rw [this]; simp only [h, iff_false]; decide

theorem yOut_eq (l : BitVec 32) (x0 : Vec Ideal S512x512 .i32) (w2 : Vec Ideal S1024x2048 .bf16) (x1 : Vec Ideal S1x1x1x2048 .f32)
    (w3 : Vec Ideal S1024x1024 .bf16) (x2 : Vec Ideal S1x1x1x1024 .f32) (r : Fin 512) (d : Fin 1024) :
    yOut l x0 w2 x1 w3 x2 (ix2 r d) = if l = 1#32 then
      network (fun j => x0 (ix2 r j)) (fun k j => w2 (ix2 k j)) (fun j => x1 (ix4 0 0 0 j)) (fun f d => w3 (ix2 f d)) (fun d => x2 (ix4 0 0 0 d)) d
      else (0 : EReal) := by
  unfold yOut
  by_cases h : l = 1#32
  · rw [if_pos ((cond4_iff l).mpr h), if_pos h, pay3_eq]
    unfold network
    refine congrArg (· + _) (Finset.sum_congr rfl fun f _ => ?_)
    rw [pay5_eq]
  · rw [if_neg fun hc => h ((cond4_iff l).mp hc), if_neg h, pay4_eq]

variable (m : (ℓ : Loc nD τ sig) → Buf (Elt Ideal) ℓ)

theorem cast0 (g : Vec Ideal S1x1x1024x2048 .f32) (h : S1x1x1024x2048.ShapeCasts S1024x2048) (k : Fin 1024) (j : Fin 2048) :
    shapeCast S1024x2048 g h (ix2 k j) = g (ix4 0 0 k j) := by
  pointwise []
theorem cast1 (g : Vec Ideal S1x1x1024x1024 .f32) (h : S1x1x1024x1024.ShapeCasts S1024x1024) (k j : Fin 1024) :
    shapeCast S1024x1024 g h (ix2 k j) = g (ix4 0 0 k j) := by
  pointwise []

/-- An expert's block of the first layer's weights is that expert's slice. -/
theorem blk0_eq {c : Dev nD} (f : Vec Ideal S4x32x1024x2048 .f32) (w : BitVec 32) (h : Fits w) (hw : w.toNat < 32) (k : Fin 1024) (j : Fin 2048) :
    blk0 (F := Ideal) (c := c) f w h (ix2 k j) = f (ix4 0 ⟨w.toNat, hw⟩ k j) := by
  refine (congrFun (Memref.read_squeeze_slice hbM0_0 _ _ squeezes_S1x1x1024x2048_S1024x2048 (by show S1x1x1024x2048.ShapeCasts S1024x2048; decide) f) (ix2 k j)).trans ?_
  refine (cast0 _ _ k j).trans ?_
  refine congrArg f (Cert.KernelIdeal.Att.ix2_ext _ _ fun (x : Fin 4) => ?_)
  match x with
  | ⟨0, _⟩ => rfl
  | ⟨1, _⟩ => show w.toNat + 1 * 0 = w.toNat; omega
  | ⟨2, _⟩ => show 0 + 1 * k.val = k.val; omega
  | ⟨3, _⟩ => show 0 + 1 * j.val = j.val; omega

theorem blk1_eq {c : Dev nD} (f : Vec Ideal S4x32x1024x1024 .f32) (w : BitVec 32) (h : Fits w) (hw : w.toNat < 32) (k j : Fin 1024) :
    blk1 (F := Ideal) (c := c) f w h (ix2 k j) = f (ix4 0 ⟨w.toNat, hw⟩ k j) := by
  refine (congrFun (Memref.read_squeeze_slice hbM0_1 _ _ squeezes_S1x1x1024x1024_S1024x1024 (by show S1x1x1024x1024.ShapeCasts S1024x1024; decide) f) (ix2 k j)).trans ?_
  refine (cast1 _ _ k j).trans ?_
  refine congrArg f (Cert.KernelIdeal.Att.ix2_ext _ _ fun (x : Fin 4) => ?_)
  match x with
  | ⟨0, _⟩ => rfl
  | ⟨1, _⟩ => show w.toNat + 1 * 0 = w.toNat; omega
  | ⟨2, _⟩ => show 0 + 1 * k.val = k.val; omega
  | ⟨3, _⟩ => show 0 + 1 * j.val = j.val; omega

/-- The reshaped biases, as the call finds them. -/
theorem V_v0 (c : Dev nD) (e : Fin 32) (j : Fin 2048) :
    (show Vec Ideal S4x32x1x2048 .f32 from V m c main_v0) (ix4 0 e 0 j) = (show Vec Ideal S4x32x2048 .f32 from m ((c : Thread nD τ).loc main_arg6)) (ix3 0 e j) := by
  have h : V m c main_v0 = shapeCast S4x32x1x2048 (show Vec Ideal S4x32x2048 .f32 from m ((c : Thread nD τ).loc main_arg6)) shapeCasts_S4x32x2048_S4x32x1x2048 := by
    show StableHlo.after hostOps0 (fun b => m (c, b)) (Proc.devRef .tc main_v0) = _
    simp only [hostOps0, StableHlo.after_cons, StableHlo.after_nil]
    rw [StableHlo.reshape_result_ne _ _ _ _ _ _ _ (by decide), StableHlo.reshape_result]
    rfl
  refine (congrFun h _).trans ?_
  pointwise []

theorem V_v1 (c : Dev nD) (e : Fin 32) (j : Fin 1024) :
    (show Vec Ideal S4x32x1x1024 .f32 from V m c main_v1) (ix4 0 e 0 j) = (show Vec Ideal S4x32x1024 .f32 from m ((c : Thread nD τ).loc main_arg8)) (ix3 0 e j) := by
  have h : V m c main_v1 = shapeCast S4x32x1x1024 (show Vec Ideal S4x32x1024 .f32 from m ((c : Thread nD τ).loc main_arg8)) shapeCasts_S4x32x1024_S4x32x1x1024 := by
    show StableHlo.after hostOps0 (fun b => m (c, b)) (Proc.devRef .tc main_v1) = _
    simp only [hostOps0, StableHlo.after_cons, StableHlo.after_nil]
    rw [StableHlo.reshape_result, StableHlo.reshape_result_ne _ _ _ _ _ _ _ (by decide)]
    rfl
  refine (congrFun h _).trans ?_
  pointwise []

theorem transform0_at : ∀ i : grid0.Coords, cc0_transform_0 i 0 = (i 0).val ∧ cc0_transform_0 i 1 = 0 := by decide +kernel
theorem transform5_at : ∀ i : grid0.Coords, cc0_transform_5 i 0 = (i 0).val ∧ cc0_transform_5 i 1 = 0 := by decide +kernel

theorem coord_eq (t : Fin grid0.N) : ((grid0.coords t) 0).val = t.val := tileOf_coords t

/-- The output's blocks cover its array. -/
theorem covers_out (hO : Ok m) : ((cfgM m hO).win 3).Covers := by
  refine ⟨fun (a : Fin 2) => (by decide : ∀ a : Fin 2, 0 < (![512, 1024] : Fin 2 → Nat) a) a, fun β => ?_⟩
  have b0 : (β (0 : Fin 2)).val < 174 := lt_of_lt_of_eq (β (0 : Fin 2)).isLt (show (89088 + 512 - 1) / 512 = 174 from rfl)
  have b1 : (β (1 : Fin 2)).val < 1 := lt_of_lt_of_eq (β (1 : Fin 2)).isLt (show (1024 + 1024 - 1) / 1024 = 1 from rfl)
  refine ⟨(⟨(β (0 : Fin 2)).val, lt_of_lt_of_eq b0 N_0.symm⟩ : Fin grid0.N), flush0_3 (adm m hO) _, fun (a : Fin 2) => ⟨?_, Or.inl rfl⟩⟩
  show cc0_transform_5 (grid0.coords _) a = _
  match a with
  | ⟨0, _⟩ => exact (transform5_at _).1.trans (coord_eq _)
  | ⟨1, _⟩ => refine (transform5_at _).2.trans ?_; show 0 = (β (1 : Fin 2)).val; omega

theorem iblk0_eq (hO : Ok m) (c : Dev nD) (t : Fin grid0.N) (r k : Fin 512) (R : Fin 89088) (hR : R.val = 512 * t.val + r.val) :
    (iblk m hO c 0 t (ix2 r k) : BitVec 32) = (show Vec Ideal S89088x512 .i32 from m ((c : Thread nD τ).loc main_arg4)) (ix2 R k) := by
  show V m c main_arg4 ((((cfgM m hO).win 0).blk t).view.emb (ix2 r k)) = _
  rw [V_kept m c main_arg4 (by decide) (by decide)]
  refine congrArg (show Vec Ideal S89088x512 .i32 from m ((c : Thread nD τ).loc main_arg4)) (Cert.KernelIdeal.Att.ix2_ext _ _ fun x => ?_)
  match x with
  | ⟨0, _⟩ =>
    refine (Pipeline.Window.rect_emb_val ((cfgM m hO).win 0) t _ (0 : Fin 2)).trans ?_
    show cc0_transform_0 (grid0.coords t) 0 * 512 + r.val = R.val
    rw [(transform0_at _).1, coord_eq]; omega
  | ⟨1, _⟩ =>
    refine (Pipeline.Window.rect_emb_val ((cfgM m hO).win 0) t _ (1 : Fin 2)).trans ?_
    show cc0_transform_0 (grid0.coords t) 1 * 512 + k.val = k.val
    rw [(transform0_at _).2]; omega

theorem iblk1_eq (hO : Ok m) (c : Dev nD) (t : Fin grid0.N) (j : Fin 2048) (e : Fin 32) (he : e.val = (exAt m t).toNat) :
    (iblk m hO c 1 t (ix4 0 0 0 j) : EReal) = (show Vec Ideal S4x32x2048 .f32 from m ((c : Thread nD τ).loc main_arg6)) (ix3 0 e j) := by
  refine Eq.trans ?_ (V_v0 m c e j)
  show V m c main_v0 ((((cfgM m hO).win 1).blk t).view.emb (ix4 0 0 0 j)) = _
  refine congrArg (show Vec Ideal S4x32x1x2048 .f32 from V m c main_v0) (Cert.KernelIdeal.Att.ix2_ext _ _ fun x => ?_)
  match x with
  | ⟨0, _⟩ =>
    refine (Pipeline.Window.rect_emb_val ((cfgM m hO).win 1) t _ (0 : Fin 4)).trans ?_
    show 0 * 1 + 0 = 0
    omega
  | ⟨1, _⟩ =>
    refine (Pipeline.Window.rect_emb_val ((cfgM m hO).win 1) t _ (1 : Fin 4)).trans ?_
    show (exAt m t).toNat * 1 + 0 = e.val
    omega
  | ⟨2, _⟩ =>
    refine (Pipeline.Window.rect_emb_val ((cfgM m hO).win 1) t _ (2 : Fin 4)).trans ?_
    show 0 * 1 + 0 = 0
    omega
  | ⟨3, _⟩ =>
    refine (Pipeline.Window.rect_emb_val ((cfgM m hO).win 1) t _ (3 : Fin 4)).trans ?_
    show 0 * 2048 + j.val = j.val
    omega

theorem iblk2_eq (hO : Ok m) (c : Dev nD) (t : Fin grid0.N) (j : Fin 1024) (e : Fin 32) (he : e.val = (exAt m t).toNat) :
    (iblk m hO c 2 t (ix4 0 0 0 j) : EReal) = (show Vec Ideal S4x32x1024 .f32 from m ((c : Thread nD τ).loc main_arg8)) (ix3 0 e j) := by
  refine Eq.trans ?_ (V_v1 m c e j)
  show V m c main_v1 ((((cfgM m hO).win 2).blk t).view.emb (ix4 0 0 0 j)) = _
  refine congrArg (show Vec Ideal S4x32x1x1024 .f32 from V m c main_v1) (Cert.KernelIdeal.Att.ix2_ext _ _ fun x => ?_)
  match x with
  | ⟨0, _⟩ =>
    refine (Pipeline.Window.rect_emb_val ((cfgM m hO).win 2) t _ (0 : Fin 4)).trans ?_
    show 0 * 1 + 0 = 0
    omega
  | ⟨1, _⟩ =>
    refine (Pipeline.Window.rect_emb_val ((cfgM m hO).win 2) t _ (1 : Fin 4)).trans ?_
    show (exAt m t).toNat * 1 + 0 = e.val
    omega
  | ⟨2, _⟩ =>
    refine (Pipeline.Window.rect_emb_val ((cfgM m hO).win 2) t _ (2 : Fin 4)).trans ?_
    show 0 * 1 + 0 = 0
    omega
  | ⟨3, _⟩ =>
    refine (Pipeline.Window.rect_emb_val ((cfgM m hO).win 2) t _ (3 : Fin 4)).trans ?_
    show 0 * 1024 + j.val = j.val
    omega

/-- The result array, as a function of the argument arrays. -/
def result (c : Dev nD) (y : S89088x1024.Idx) : EReal :=
  moe (fun v => (show IVec S174 32 from m ((c : Thread nD τ).loc main_arg0)) (place v)) (fun v => (show IVec S174 32 from m ((c : Thread nD τ).loc main_arg2)) (place v))
    (fun r k => (show Vec Ideal S89088x512 .i32 from m ((c : Thread nD τ).loc main_arg4)) (ix2 r k))
    (fun e k j => (show Vec Ideal S4x32x1024x2048 .f32 from m ((c : Thread nD τ).loc main_arg5)) (ix4 0 e k j))
    (fun e j => (show Vec Ideal S4x32x2048 .f32 from m ((c : Thread nD τ).loc main_arg6)) (ix3 0 e j))
    (fun e k j => (show Vec Ideal S4x32x1024x1024 .f32 from m ((c : Thread nD τ).loc main_arg7)) (ix4 0 e k j))
    (fun e j => (show Vec Ideal S4x32x1024 .f32 from m ((c : Thread nD τ).loc main_arg8)) (ix3 0 e j)) (y 0) (y 1)

theorem point (hO : Ok m) (hS : Sched m) (hL : Lists m) (c : Dev nD) (t : Fin grid0.N) (y : S512x1024.Idx) (z : S89088x1024.Idx)
    (hz0 : (z 0).val = 512 * t.val + (y 0).val) (hz1 : (z 1).val = (y 1).val) : outAt m hO hS c t y = result m c z := by
  obtain rfl : c = 0 := Subsingleton.elim _ _
  have y0 : (y 0).val < 512 := (y 0).isLt
  have ht := tile_lt t
  have hy : y = ix2 (y 0) (y 1) := Cert.KernelIdeal.Att.ix2_ext _ _ fun x => by
    match x with
    | ⟨0, _⟩ => rfl
    | ⟨1, _⟩ => rfl
  have hz1' : y 1 = z 1 := Fin.ext hz1.symm
  have hex : (exAt m t).toNat < 32 := row_lt hL _
  unfold outAt result
  refine (congrArg _ hy).trans ((yOut_eq _ _ _ _ _ _ (y 0) (y 1)).trans ?_)
  refine Eq.trans (if_congr Iff.rfl ?_ rfl) (moe_of (z 0) (z 1) (tileOf (grid0.coords t)) (by rw [tileOf_coords]; show (z 0).val / 512 = t.val; omega)
    ⟨(exAt m t).toNat, hex⟩ ?_ (liveAt m t) ?_)
  · refine Eq.trans (congrArg _ hz1') ?_
    refine network_congr (z 1) (fun k => ?_) (fun k j => ?_) (fun j => ?_) (fun k j => ?_) (fun j => ?_)
    · exact iblk0_eq m hO 0 t (y 0) k (z 0) hz0
    · rw [pay1_eq, V_kept m 0 main_arg5 (by decide) (by decide)]
      exact blk0_eq _ _ _ hex k j
    · exact iblk1_eq m hO 0 t j _ rfl
    · rw [pay2_eq, V_kept m 0 main_arg7 (by decide) (by decide)]
      exact blk1_eq _ _ _ hex k j
    · exact iblk2_eq m hO 0 t j _ rfl
  · exact congrArg BitVec.toNat ((exAt_eq t).trans (congrFun (tbl_0 m) _))
  · exact (liveAt_eq t).trans (congrFun (tbl_2 m) _)

theorem final (hO : Ok m) (hS : Sched m) (hL : Lists m) (c : Dev nD) :
    (dats m hO hS 0 c).arrAt 3 (cfgM m hO).N = result m c := by
  refine (dats m hO hS 0 c).arrAt_eq_of_covers 3 (result m c) (covers_out m hO) fun t hf (y : S512x1024.Idx) => ?_
  refine (cast_eq _ _).trans ?_
  rw [after0_3]
  refine point m hO hS hL c t _ _ ?_ ?_
  · refine (Pipeline.Window.rect_emb_val ((cfgM m hO).win 3) t _ (0 : Fin 2)).trans ?_
    show cc0_transform_5 (grid0.coords t) 0 * 512 + (y 0).val = _ + (y 0).val
    rw [(transform5_at _).1, coord_eq]; omega
  · refine (Pipeline.Window.rect_emb_val ((cfgM m hO).win 3) t _ (1 : Fin 2)).trans ?_
    show cc0_transform_5 (grid0.coords t) 1 * 1024 + (y 1).val = (y 1).val
    rw [(transform5_at _).2]; omega

end Cert.Kernel2Ideal.Experts
-- ==== Proof.ExpertsRef.lean ====
/- The reference's result array of the experts, read as the same network. -/
module

public import proofs.«01_k».proof.Proof.ExpertsMath
public import proofs.«01_k».proof.Proof.Tables
public import proofs.«01_k».proof.Proof.Array
public import proofs.«01_k».proof.Proof.Gen.Reference2Ideal.Run
public import Idealize.ShloMosaic.Lib.ReduceAll
public import Idealize.ShloMosaic.Lib.WordCmp

@[expose] public section

set_option maxRecDepth 16384

noncomputable section

namespace Cert.Reference2Ideal.Moe

open Cert.Reference2Ideal Cert.Reference2Ideal.Gen Cert.Reference2Ideal.Value Idealize.ShloMosaic Idealize.ShloMosaic.TcCoe Idealize.SL.Sem Cert.Experts
open Cert.KernelIdeal.Att (ix2_ext)

/-- Each tile's expert, a negative one counted from the end. -/
def rows (a0 : IVec S174 32) : IVec S174x1 32 :=
  broadcastInDim S174x1 ![0] bcast_S174_S174x1_0 (select (cmpi .slt a0 (broadcastInDim S174 ![] bcast_S_S174 (constantI S_ 32 0#32))) (addi a0 (broadcastInDim S174 ![] bcast_S_S174 (constantI S_ 32 32#32))) a0)

/-- Whether each tile's expert is in range. -/
def inside (a0 : IVec S174 32) : IVec S174 1 :=
  Host.reduce IntOp.andi (andi (cmpi .sge (rows a0) (broadcastInDim S174x1 ![] bcast_S_S174x1 (constantI S_ 32 0#32))) (cmpi .sle (rows a0) (broadcastInDim S174x1 ![0, 1] bcast_S1x1_S174x1_0_1 (broadcastInDim S1x1 ![1] bcast_S1_S1x1_1 (constantI S1 32 31#32))))) (constantI S_ 1 1#1) reducesTo_S174x1_S174_d1 h_S_

/-- Each tile's first-layer weights. -/
def takeU (a0 : IVec S174 32) (a5 : FVec Ideal S4x32x1024x2048 .f32) : FVec Ideal S174x1024x2048 .f32 :=
  select (broadcastInDim S174x1024x2048 ![0] bcast_S174_S174x1024x2048_0 (inside a0)) (Host.gather gather_S32x1024x2048_S174x1_S174x1024x2048_12_0_n_n_0_1_110242048 (shapeCast _ (extractStridedSlice S1x32x1024x2048 ![0, 0, 0, 0] a5 slices_S4x32x1024x2048_S1x32x1024x2048_0_0_0_0) shapeCasts_S1x32x1024x2048_S32x1024x2048) (rows a0)) (broadcastInDim S174x1024x2048 ![] bcast_S_S174x1024x2048 (constant S_ .f32 0x7FC00000#32))

/-- Each tile's first bias. -/
def takeBu (a0 : IVec S174 32) (a6 : FVec Ideal S4x32x2048 .f32) : FVec Ideal S174x2048 .f32 :=
  select (broadcastInDim S174x2048 ![0] bcast_S174_S174x2048_0 (inside a0)) (Host.gather gather_S32x2048_S174x1_S174x2048_1_0_n_n_0_1_12048 (shapeCast _ (extractStridedSlice S1x32x2048 ![0, 0, 0] a6 slices_S4x32x2048_S1x32x2048_0_0_0) shapeCasts_S1x32x2048_S32x2048) (rows a0)) (broadcastInDim S174x2048 ![] bcast_S_S174x2048 (constant S_ .f32 0x7FC00000#32))

/-- Each tile's second-layer weights. -/
def takeD (a0 : IVec S174 32) (a7 : FVec Ideal S4x32x1024x1024 .f32) : FVec Ideal S174x1024x1024 .f32 :=
  select (broadcastInDim S174x1024x1024 ![0] bcast_S174_S174x1024x1024_0 (inside a0)) (Host.gather gather_S32x1024x1024_S174x1_S174x1024x1024_12_0_n_n_0_1_110241024 (shapeCast _ (extractStridedSlice S1x32x1024x1024 ![0, 0, 0, 0] a7 slices_S4x32x1024x1024_S1x32x1024x1024_0_0_0_0) shapeCasts_S1x32x1024x1024_S32x1024x1024) (rows a0)) (broadcastInDim S174x1024x1024 ![] bcast_S_S174x1024x1024 (constant S_ .f32 0x7FC00000#32))

/-- Each tile's second bias. -/
def takeBd (a0 : IVec S174 32) (a8 : FVec Ideal S4x32x1024 .f32) : FVec Ideal S174x1024 .f32 :=
  select (broadcastInDim S174x1024 ![0] bcast_S174_S174x1024_0 (inside a0)) (Host.gather gather_S32x1024_S174x1_S174x1024_1_0_n_n_0_1_11024 (shapeCast _ (extractStridedSlice S1x32x1024 ![0, 0, 0] a8 slices_S4x32x1024_S1x32x1024_0_0_0) shapeCasts_S1x32x1024_S32x1024) (rows a0)) (broadcastInDim S174x1024 ![] bcast_S_S174x1024 (constant S_ .f32 0x7FC00000#32))

/-- The tokens, unpacked from their words. -/
def tokens (a4 : IVec S89088x512 32) : FVec Ideal S174x512x1024 .f32 :=
  shapeCast _ (concatenate S89088x1024 1 [⟨S89088x512, (bitcastToFloat (F := Ideal) .f32 (Host.shli a4 (broadcastInDim S89088x512 ![] bcast_S_S89088x512 (constantI S_ 32 16#32))))⟩, ⟨S89088x512, (bitcastToFloat (F := Ideal) .f32 (andi a4 (broadcastInDim S89088x512 ![] bcast_S_S89088x512 (constantI S_ 32 4294901760#32))))⟩] concatenates_S89088x512_S89088x512_S89088x1024_d1) shapeCasts_S89088x1024_S174x512x1024

/-- The first layer. -/
def layer (x : FVec Ideal S174x512x1024 .f32) (wu : FVec Ideal S174x1024x2048 .f32) (bu : FVec Ideal S174x2048 .f32) : FVec Ideal S174x512x2048 .f32 :=
  addf (Host.dotGeneral dot_S174x512x1024_S174x1024x2048_S174x512x2048_2_1_1_2_0_0 none x wu) (broadcastInDim S174x512x2048 ![0, 1, 2] bcast_S174x1x2048_S174x512x2048_0_1_2 (broadcastInDim S174x1x2048 ![0, 2] bcast_S174x2048_S174x1x2048_0_2 bu))

/-- The gated activation. -/
def act (h : FVec Ideal S174x512x2048 .f32) : FVec Ideal S174x512x1024 .f32 :=
  mulf (mulf (minimumf (extractStridedSlice S174x512x1024 ![0, 0, 0] h slices_S174x512x2048_S174x512x1024_0_0_0) (broadcastInDim S174x512x1024 ![] bcast_S_S174x512x1024 (constant S_ .f32 0x40E00000#32))) (Host.divf (broadcastInDim S174x512x1024 ![] bcast_S_S174x512x1024 (constant S_ .f32 0x3F800000#32)) (addf (broadcastInDim S174x512x1024 ![] bcast_S_S174x512x1024 (constant S_ .f32 0x3F800000#32)) (Host.exp (Host.negf (mulf (broadcastInDim S174x512x1024 ![] bcast_S_S174x512x1024 (constant S_ .f32 0x3FD9DB23#32)) (minimumf (extractStridedSlice S174x512x1024 ![0, 0, 0] h slices_S174x512x2048_S174x512x1024_0_0_0) (broadcastInDim S174x512x1024 ![] bcast_S_S174x512x1024 (constant S_ .f32 0x40E00000#32))))))))) (addf (minimumf (broadcastInDim S174x512x1024 ![] bcast_S_S174x512x1024 (id (constant S_ .f32 0x40E00000#32))) (maximumf (broadcastInDim S174x512x1024 ![] bcast_S_S174x512x1024 (id (constant S_ .f32 0xC0E00000#32))) (extractStridedSlice S174x512x1024 ![0, 0, 1024] h slices_S174x512x2048_S174x512x1024_0_0_1024))) (broadcastInDim S174x512x1024 ![] bcast_S_S174x512x1024 (constant S_ .f32 0x3F800000#32)))

/-- The second layer. -/
def layer2 (h : FVec Ideal S174x512x1024 .f32) (wd : FVec Ideal S174x1024x1024 .f32) (bd : FVec Ideal S174x1024 .f32) : FVec Ideal S174x512x1024 .f32 :=
  addf (Host.dotGeneral dot_S174x512x1024_S174x1024x1024_S174x512x1024_2_1_1_2_0_0 none h wd) (broadcastInDim S174x512x1024 ![0, 1, 2] bcast_S174x1x1024_S174x512x1024_0_1_2 (broadcastInDim S174x1x1024 ![0, 2] bcast_S174x1024_S174x1x1024_0_2 bd))

/-- The live tiles' rows, zero elsewhere. -/
def kept (a2 : IVec S174 32) (y : FVec Ideal S174x512x1024 .f32) : FVec Ideal S89088x1024 .bf16 :=
  truncf .bf16 (shapeCast _ (select (broadcastInDim S174x512x1024 ![0, 1, 2] bcast_S174x1x1_S174x512x1024_0_1_2 (cmpi .eq (broadcastInDim S174x1x1 ![0] bcast_S174_S174x1x1_0 a2) (broadcastInDim S174x1x1 ![] bcast_S_S174x1x1 (constantI S_ 32 1#32)))) y (broadcastInDim S174x512x1024 ![] bcast_S_S174x512x1024 (id (constant S_ .f32 0x00000000#32)))) shapeCasts_S174x512x1024_S89088x1024) bitsLt_bf16_f32
theorem res_eq (m : (ℓ : Loc nD τ sig) → Buf (Elt Ideal) ℓ) (c : Dev nD) :
    res_main_v50 (F := Ideal) m c = kept (m ((c.tc : Thread nD τ).loc main_arg2))
      (layer2 (act (layer (tokens (m ((c.tc : Thread nD τ).loc main_arg4))) (takeU (m ((c.tc : Thread nD τ).loc main_arg0)) (m ((c.tc : Thread nD τ).loc main_arg5)))
        (takeBu (m ((c.tc : Thread nD τ).loc main_arg0)) (m ((c.tc : Thread nD τ).loc main_arg6)))))
        (takeD (m ((c.tc : Thread nD τ).loc main_arg0)) (m ((c.tc : Thread nD τ).loc main_arg7)))
        (takeBd (m ((c.tc : Thread nD τ).loc main_arg0)) (m ((c.tc : Thread nD τ).loc main_arg8)))) := by
  unfold res_main_v50 kept layer2 act layer tokens takeU takeBu takeD takeBd inside rows
  rfl

/-! ## Which expert -/

theorem toInt_small {x : BitVec 32} (h : x.toNat < 32) : x.toInt = x.toNat := by
  rw [BitVec.toInt_eq_toNat_cond]
  split <;> omega

theorem rows_at (a0 : IVec S174 32) (v : Fin 174) (h : (a0 (ix1 v)).toNat < 32) : rows a0 (ix2 v 0) = a0 (ix1 v) := by
  unfold rows
  pointwise []
  have e : IntOp.cmpi .slt (a0 (ix1 v)) 0#32 = 0#1 := by
    rw [WordCmp.cmpi_slt_eq, toInt_small h]
    have z : (0#32).toInt = 0 := by decide
    rw [z, decide_eq_false (by omega)]; rfl
  rw [e]
  rfl

theorem inside_at (a0 : IVec S174 32) (h : ∀ v : Fin 174, (a0 (ix1 v)).toNat < 32) (v : Fin 174) : inside a0 (ix1 v) = 1#1 := by
  unfold inside
  refine Host.reduce_andi_one _ _ _ _ _ rfl fun i => ?_
  have hi : i = ix2 (i 0) 0 := ix2_ext _ _ fun x => by
    match x with
    | ⟨0, _⟩ => rfl
    | ⟨1, _⟩ =>
      have : (i 1).val < 1 := (i 1).isLt
      show (i 1).val = 0
      omega
  rw [hi]
  have e := h (i 0)
  pointwise []
  rw [rows_at a0 (i 0) e, WordCmp.cmpi_sge_eq, WordCmp.cmpi_sle_eq, toInt_small e]
  have z : (0#32).toInt = 0 := by decide
  have w : (31#32).toInt = 31 := by decide
  rw [z, w]
  refine IntOp.andi_eq_one.mpr ⟨?_, ?_⟩
  · rw [decide_eq_true (by omega)]; rfl
  · rw [decide_eq_true (by omega)]; rfl

/-! ## The rows taken -/

/-- Blocks of a table of 32 taken at a list of 174 places, read at an index. -/
theorem take3_at {A B : ℕ} (wf : GatherDims.WF ⟨3, ![32, A, B]⟩ ⟨2, ![174, 1]⟩ ⟨3, ![174, A, B]⟩ [1, 2] [0] [] [0] [] 1 ![1, A, B])
    (x : (⟨3, ![32, A, B]⟩ : Shape).Idx → EReal) (idx : IVec ⟨2, ![174, 1]⟩ 32) (v : Fin 174) (a : Fin A) (b : Fin B) (e : Fin 32)
    (he : (idx (ix2 v 0)).toNat = e.val) :
    Host.gather (⟨[1, 2], [0], [], [], [0], 1, ![1, A, B], wf⟩ : GatherDims ⟨3, ![32, A, B]⟩ ⟨2, ![174, 1]⟩ ⟨3, ![174, A, B]⟩) x idx (ix3 v a b) = x (ix3 e a b) := by
  unfold Host.gather
  refine congrArg x (ix2_ext _ _ fun (y : Fin 3) => ?_)
  generalize hd : (⟨[1, 2], [0], [], [], [0], 1, ![1, A, B], wf⟩ : GatherDims ⟨3, ![32, A, B]⟩ ⟨2, ![174, 1]⟩ ⟨3, ![174, A, B]⟩) = d
  show d.start (ix3 v a b) idx y + d.batchCoord (ix3 v a b) y + d.offCoord (ix3 v a b) y = _
  subst hd
  rw [GatherDims.batchCoord_eq_zero _ _ _ List.not_mem_nil, Nat.add_zero]
  match y with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    have hs : ∀ k, GatherDims.siIdx (⟨[1, 2], [0], [], [], [0], 1, ![1, A, B], wf⟩ : GatherDims ⟨3, ![32, A, B]⟩ ⟨2, ![174, 1]⟩ ⟨3, ![174, A, B]⟩) (ix3 v a b) k = ix2 v 0 := by
      intro k
      refine ix2_ext _ _ fun (z : Fin 2) => ?_
      match z with
      | ⟨0, _⟩ => rfl
      | ⟨1, _⟩ => show k.val = 0; have h1 : k.val < 1 := k.isLt; omega
    rw [hs, toInt_small (by omega)]
    show min ((idx (ix2 v 0)).toNat : ℤ).toNat 31 = e.val
    omega
  | ⟨1, _⟩ =>
    unfold GatherDims.start
    rw [dif_neg (fun hm => absurd (congrArg Fin.val (List.mem_singleton.mp hm)) (Nat.succ_ne_zero _)), Nat.zero_add]
    rfl
  | ⟨2, _⟩ =>
    unfold GatherDims.start
    rw [dif_neg (fun hm => absurd (congrArg Fin.val (List.mem_singleton.mp hm)) (Nat.succ_ne_zero _)), Nat.zero_add]
    rfl

/-- Rows of a table of 32 taken at a list of 174 places, read at an index. -/
theorem take2_at {B : ℕ} (wf : GatherDims.WF ⟨2, ![32, B]⟩ ⟨2, ![174, 1]⟩ ⟨2, ![174, B]⟩ [1] [0] [] [0] [] 1 ![1, B])
    (x : (⟨2, ![32, B]⟩ : Shape).Idx → EReal) (idx : IVec ⟨2, ![174, 1]⟩ 32) (v : Fin 174) (b : Fin B) (e : Fin 32)
    (he : (idx (ix2 v 0)).toNat = e.val) :
    Host.gather (⟨[1], [0], [], [], [0], 1, ![1, B], wf⟩ : GatherDims ⟨2, ![32, B]⟩ ⟨2, ![174, 1]⟩ ⟨2, ![174, B]⟩) x idx (ix2 v b) = x (ix2 e b) := by
  unfold Host.gather
  refine congrArg x (ix2_ext _ _ fun (y : Fin 2) => ?_)
  generalize hd : (⟨[1], [0], [], [], [0], 1, ![1, B], wf⟩ : GatherDims ⟨2, ![32, B]⟩ ⟨2, ![174, 1]⟩ ⟨2, ![174, B]⟩) = d
  show d.start (ix2 v b) idx y + d.batchCoord (ix2 v b) y + d.offCoord (ix2 v b) y = _
  subst hd
  rw [GatherDims.batchCoord_eq_zero _ _ _ List.not_mem_nil, Nat.add_zero]
  match y with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    have hs : ∀ k, GatherDims.siIdx (⟨[1], [0], [], [], [0], 1, ![1, B], wf⟩ : GatherDims ⟨2, ![32, B]⟩ ⟨2, ![174, 1]⟩ ⟨2, ![174, B]⟩) (ix2 v b) k = ix2 v 0 := by
      intro k
      refine ix2_ext _ _ fun (z : Fin 2) => ?_
      match z with
      | ⟨0, _⟩ => rfl
      | ⟨1, _⟩ => show k.val = 0; have h1 : k.val < 1 := k.isLt; omega
    rw [hs, toInt_small (by omega)]
    show min ((idx (ix2 v 0)).toNat : ℤ).toNat 31 = e.val
    omega
  | ⟨1, _⟩ =>
    unfold GatherDims.start
    rw [dif_neg (fun hm => absurd (congrArg Fin.val (List.mem_singleton.mp hm)) (Nat.succ_ne_zero _)), Nat.zero_add]
    rfl

section
variable (a0 : IVec S174 32) (h : ∀ v : Fin 174, (a0 (ix1 v)).toNat < 32) (v : Fin 174)

/-- Tile `v`'s expert. -/
def expert : Fin 32 := ⟨(a0 (ix1 v)).toNat, h v⟩

include h in
theorem rows_nat : (rows a0 (ix2 v 0)).toNat = (a0 (ix1 v)).toNat := congrArg BitVec.toNat (rows_at a0 v (h v))

theorem select_one (x y : EReal) : Scalar.select 1#1 x y = x := rfl

theorem takeU_at (a5 : FVec Ideal S4x32x1024x2048 .f32) (k : Fin 1024) (j : Fin 2048) :
    takeU a0 a5 (ix3 v k j) = a5 (ix4 0 (expert a0 h v) k j) := by
  unfold takeU
  generalize hg : Host.gather _ _ _ = g
  pointwise []
  rw [inside_at a0 h v]
  refine (select_one _ _).trans ?_
  subst hg
  refine (take3_at _ _ (rows a0) v k j (expert a0 h v) (rows_nat a0 h v)).trans ?_
  pointwise []

theorem takeD_at (a7 : FVec Ideal S4x32x1024x1024 .f32) (k j : Fin 1024) :
    takeD a0 a7 (ix3 v k j) = a7 (ix4 0 (expert a0 h v) k j) := by
  unfold takeD
  generalize hg : Host.gather _ _ _ = g
  pointwise []
  rw [inside_at a0 h v]
  refine (select_one _ _).trans ?_
  subst hg
  refine (take3_at _ _ (rows a0) v k j (expert a0 h v) (rows_nat a0 h v)).trans ?_
  pointwise []

theorem takeBu_at (a6 : FVec Ideal S4x32x2048 .f32) (j : Fin 2048) : takeBu a0 a6 (ix2 v j) = a6 (ix3 0 (expert a0 h v) j) := by
  unfold takeBu
  generalize hg : Host.gather _ _ _ = g
  pointwise []
  rw [inside_at a0 h v]
  refine (select_one _ _).trans ?_
  subst hg
  refine (take2_at _ _ (rows a0) v j (expert a0 h v) (rows_nat a0 h v)).trans ?_
  pointwise []

theorem takeBd_at (a8 : FVec Ideal S4x32x1024 .f32) (j : Fin 1024) : takeBd a0 a8 (ix2 v j) = a8 (ix3 0 (expert a0 h v) j) := by
  unfold takeBd
  generalize hg : Host.gather _ _ _ = g
  pointwise []
  rw [inside_at a0 h v]
  refine (select_one _ _).trans ?_
  subst hg
  refine (take2_at _ _ (rows a0) v j (expert a0 h v) (rows_nat a0 h v)).trans ?_
  pointwise []
end

/-! ## The network -/

theorem tokens_low (a4 : IVec S89088x512 32) (v : Fin 174) (r k : Fin 512) :
    tokens a4 (ix3 v r ⟨k.val, by omega⟩) = low (a4 (ix2 ⟨v.val * 512 + r.val, by omega⟩ k)) := by
  unfold tokens
  pointwise []
  rfl

theorem tokens_high (a4 : IVec S89088x512 32) (v : Fin 174) (r k : Fin 512) :
    tokens a4 (ix3 v r ⟨512 + k.val, by omega⟩) = high (a4 (ix2 ⟨v.val * 512 + r.val, by omega⟩ k)) := by
  unfold tokens
  pointwise []
  rfl

theorem layer_at (x : FVec Ideal S174x512x1024 .f32) (wu : FVec Ideal S174x1024x2048 .f32) (bu : FVec Ideal S174x2048 .f32) (v : Fin 174) (r : Fin 512) (j : Fin 2048) :
    layer x wu bu (ix3 v r j) = ∑ k : Fin 1024, x (ix3 v r k) * wu (ix3 v k j) + bu (ix2 v j) := by
  unfold layer
  pointwise []

theorem act_at (l : FVec Ideal S174x512x2048 .f32) (v : Fin 174) (r : Fin 512) (f : Fin 1024) :
    act l (ix3 v r f) = gated (l (ix3 v r ⟨f.val, by omega⟩)) (l (ix3 v r ⟨1024 + f.val, by omega⟩)) := by
  unfold act gated
  pointwise []
  rfl

theorem layer2_at (x : FVec Ideal S174x512x1024 .f32) (wd : FVec Ideal S174x1024x1024 .f32) (bd : FVec Ideal S174x1024 .f32) (v : Fin 174) (r : Fin 512) (j : Fin 1024) :
    layer2 x wd bd (ix3 v r j) = ∑ k : Fin 1024, x (ix3 v r k) * wd (ix3 v k j) + bd (ix2 v j) := by
  unfold layer2
  pointwise []

theorem kept_at (a2 : IVec S174 32) (y : FVec Ideal S174x512x1024 .f32) (r : Fin 89088) (d : Fin 1024) :
    kept a2 y (ix2 r d) = if a2 (ix1 ⟨r.val / 512, by omega⟩) = 1#32 then y (ix3 ⟨r.val / 512, by omega⟩ ⟨r.val % 512, by omega⟩ d) else (0 : EReal) := by
  unfold kept
  pointwise []
  rw [WordCmp.cmpi_eq_eq]
  by_cases h : a2 (ix1 ⟨r.val / 512, by omega⟩) = 1#32
  · rw [if_pos h, decide_eq_true h]; rfl
  · rw [if_neg h, decide_eq_false h]
    have hz : id (constant (F := Ideal) S_ FTy.f32 0#32) ix0 = (0 : EReal) := by
      show Ideal.ofBits .f32 0#32 = 0
      simp [Ideal.ofBits, Ideal.ieee]
    exact hz

theorem sum_halves (f : Fin 1024 → EReal) :
    ∑ k : Fin 1024, f k = ∑ k : Fin 512, f ⟨k.val, by omega⟩ + ∑ k : Fin 512, f ⟨512 + k.val, by omega⟩ :=
  Fin.sum_univ_add (a := 512) (b := 512) f

theorem place_eq (v : Fin 174) : place v = ix1 v := funext fun (a : Fin 1) => by
  obtain rfl : a = 0 := Subsingleton.elim _ _
  rfl

theorem result_at (a0 a2 : IVec S174 32) (a4 : IVec S89088x512 32) (a5 : FVec Ideal S4x32x1024x2048 .f32) (a6 : FVec Ideal S4x32x2048 .f32)
    (a7 : FVec Ideal S4x32x1024x1024 .f32) (a8 : FVec Ideal S4x32x1024 .f32) (h : ∀ v : Fin 174, (a0 (ix1 v)).toNat < 32) (r : Fin 89088) (d : Fin 1024) :
    kept a2 (layer2 (act (layer (tokens a4) (takeU a0 a5) (takeBu a0 a6))) (takeD a0 a7) (takeBd a0 a8)) (ix2 r d)
      = moe (fun v => a0 (place v)) (fun v => a2 (place v)) (fun r k => a4 (ix2 r k)) (fun e k j => a5 (ix4 0 e k j)) (fun e j => a6 (ix3 0 e j))
          (fun e k j => a7 (ix4 0 e k j)) (fun e j => a8 (ix3 0 e j)) r d := by
  have hv : r.val / 512 < 174 := by omega
  refine (kept_at a2 _ r d).trans ?_
  refine Eq.trans (if_congr Iff.rfl ?_ rfl) (moe_of (ex := fun v => a0 (place v)) (live := fun v => a2 (place v)) r d ⟨r.val / 512, hv⟩ rfl (expert a0 h ⟨r.val / 512, hv⟩)
    (congrArg (fun i => (a0 i).toNat) (place_eq _).symm) (a2 (ix1 ⟨r.val / 512, hv⟩)) (congrArg a2 (place_eq _).symm))
  rw [layer2_at]
  unfold network
  rw [takeBd_at a0 h]
  refine congrArg (· + _) (Finset.sum_congr rfl fun f _ => ?_)
  rw [takeD_at a0 h, act_at]
  have hl : ∀ j : Fin 2048, layer (tokens a4) (takeU a0 a5) (takeBu a0 a6) (ix3 ⟨r.val / 512, hv⟩ ⟨r.val % 512, by omega⟩ j)
      = layer1 (fun k => a4 (ix2 r k)) (fun k j => a5 (ix4 0 (expert a0 h ⟨r.val / 512, hv⟩) k j)) (fun j => a6 (ix3 0 (expert a0 h ⟨r.val / 512, hv⟩) j)) j := by
    intro j
    have hr : (⟨r.val / 512 * 512 + r.val % 512, by omega⟩ : Fin 89088) = r := Fin.ext (by show r.val / 512 * 512 + r.val % 512 = r.val; omega)
    rw [layer_at, takeBu_at a0 h, sum_halves]
    unfold layer1
    refine congrArg (· + _) (congrArg₂ (· + ·) (Finset.sum_congr rfl fun k _ => ?_) (Finset.sum_congr rfl fun k _ => ?_))
    · rw [takeU_at a0 h, tokens_low, hr]
    · rw [takeU_at a0 h, tokens_high, hr]
  rw [hl, hl]

theorem result_eq (m : (ℓ : Loc nD τ sig) → Buf (Elt Ideal) ℓ) (c : Dev nD)
    (h : ∀ v : Fin 174, ((show IVec S174 32 from m ((c.tc : Thread nD τ).loc main_arg0)) (place v)).toNat < 32) (y : S89088x1024.Idx) :
    res_main_v50 (F := Ideal) m c y
      = moe (fun v => (show IVec S174 32 from m ((c.tc : Thread nD τ).loc main_arg0)) (place v)) (fun v => (show IVec S174 32 from m ((c.tc : Thread nD τ).loc main_arg2)) (place v))
          (fun r k => (show Vec Ideal S89088x512 .i32 from m ((c.tc : Thread nD τ).loc main_arg4)) (ix2 r k))
          (fun e k j => (show Vec Ideal S4x32x1024x2048 .f32 from m ((c.tc : Thread nD τ).loc main_arg5)) (ix4 0 e k j))
          (fun e j => (show Vec Ideal S4x32x2048 .f32 from m ((c.tc : Thread nD τ).loc main_arg6)) (ix3 0 e j))
          (fun e k j => (show Vec Ideal S4x32x1024x1024 .f32 from m ((c.tc : Thread nD τ).loc main_arg7)) (ix4 0 e k j))
          (fun e j => (show Vec Ideal S4x32x1024 .f32 from m ((c.tc : Thread nD τ).loc main_arg8)) (ix3 0 e j)) (y 0) (y 1) := by
  have hy : y = ix2 (y 0) (y 1) := ix2_ext _ _ fun x => by
    match x with
    | ⟨0, _⟩ => rfl
    | ⟨1, _⟩ => rfl
  rw [res_eq]
  refine (congrArg _ hy).trans ?_
  exact result_at _ _ _ _ _ _ _ (fun v => by rw [← place_eq]; exact h v) (y 0) (y 1)

end Cert.Reference2Ideal.Moe
-- ==== Proof.ExpertsClaims.lean ====
/- The claims of the experts: the frames of the call, of its ideal program and of the reference, and the value claim. -/
module

public import proofs.«01_k».proof.Defs
public import proofs.«01_k».proof.Proof.ExpertsSched
public import proofs.«01_k».proof.Proof.ExpertsPay
public import proofs.«01_k».proof.Proof.ExpertsRef
public import Idealize.ShloMosaic.Lib.Quiescent

@[expose] public section

set_option maxRecDepth 16384

noncomputable section

namespace Cert.Experts

open Idealize.ShloMosaic Idealize.ShloMosaic.TcCoe Idealize.SL.Sem

/-- The precondition says the tables list tiles expert by expert. -/
theorem lists_kernel (m : (ℓ : Loc Cert.Kernel2.nD Cert.Kernel2.τ Cert.Kernel2.sig) → Buf (Elt Bits) ℓ) (h : Cert.Pre_Kernel2 m) : Cert.Kernel2.Experts.Lists m :=
  Cert.Kernel2.Experts.lists_of (listed _ _ _ _ _ _ _ _ _ (h 0))

theorem lists_ideal (m : (ℓ : Loc Cert.Kernel2Ideal.nD Cert.Kernel2Ideal.τ Cert.Kernel2Ideal.sig) → Buf (Elt Ideal) ℓ) (h : Cert.Pre_Kernel2Ideal m) : Cert.Kernel2Ideal.Experts.Lists m :=
  Cert.Kernel2Ideal.Experts.lists_of (listed _ _ _ _ _ _ _ _ _ (h 0))

theorem frame_kernel : Cert.quiescent_Kernel2 := fun m g h =>
  Cert.Kernel2.Experts.frame m g (Cert.Kernel2.Experts.ok_of (lists_kernel m h)) (Cert.Kernel2.Experts.sched_of (lists_kernel m h))

theorem frame_ideal : Cert.quiescent_Kernel2Ideal := fun m g h =>
  Cert.Kernel2Ideal.Experts.frame m g (Cert.Kernel2Ideal.Experts.ok_of (lists_ideal m h)) (Cert.Kernel2Ideal.Experts.sched_of (lists_ideal m h))

theorem frame_reference : Cert.quiescent_Reference2Ideal := fun m g _ =>
  (θ_run _ _ _).mono (fun r h => ⟨fun c => (h c).2, sem_eq_zero_of_no_sems (by decide) r.2⟩) (Cert.Reference2Ideal.Value.run (F := Ideal) m g)

theorem frame_reference_pre : Cert.quiescent_Reference2Ideal_pre_scheduled := fun m g _ => frame_reference m g trivial

/-- The call's output and the reference's are one function of the arguments. -/
theorem same_result (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD) (hL : Cert.Kernel2Ideal.Experts.Lists m)
    (e0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (e2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (e4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (e5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (e6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (e7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (e8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) :
    Cert.Reference2Ideal.Value.res_main_v50 (F := Ideal) m' c = Cert.Kernel2Ideal.Experts.result m c := by
  funext y
  obtain rfl : c = 0 := Subsingleton.elim _ _
  unfold Cert.Kernel2Ideal.Experts.Lists at hL
  rw [Cert.Kernel2Ideal.Experts.tbl_0] at hL
  refine (Cert.Reference2Ideal.Moe.result_eq m' 0 (fun v => ?_) y).trans ?_
  · rw [e0]
    exact hL.ex_lt v
  · unfold Cert.Kernel2Ideal.Experts.result
    rw [e0, e2, e4, e5, e6, e7, e8]

theorem algebraic : Cert.algebraic_Kernel2Ideal_Reference2Ideal := by
  intro m g m' g' hpre hagree
  have hL := lists_ideal m hpre
  refine ⟨fun c => Cert.Kernel2Ideal.Experts.result m c, ?_, ?_⟩
  · refine (θ_run _ _ _).mono (fun r h c => ⟨?_, Cert.Kernel2Ideal.Experts.args_kept m _ _ r h c⟩)
      (Cert.Kernel2Ideal.Experts.run_main m g (Cert.Kernel2Ideal.Experts.ok_of hL) (Cert.Kernel2Ideal.Experts.sched_of hL))
    exact ((h c).1 3).trans (Cert.Kernel2Ideal.Experts.final m _ _ hL c)
  · refine (θ_run _ _ _).mono (fun r h c => ⟨(h c).1.trans ?_, (h c).2⟩) (Cert.Reference2Ideal.Value.run (F := Ideal) m' g')
    obtain ⟨e0, _, e2, _, e4, e5, e6, e7, e8⟩ := hagree c
    exact same_result m m' c hL e0 e2 e4 e5 e6 e7 e8

end Cert.Experts

end
-- ==== Proof.ConvMath.lean ====
/- One row of the convolution's projection, and the unit heads, as functions of numbers. -/
module

public import Idealize.ShloMosaic.Lib.Pointwise

@[expose] public section

noncomputable section

namespace Cert.Conv

open Idealize.ShloMosaic

/-- A row of 1024 numbers over its root mean square, weighted, then scaled and shifted. -/
def normed (x nw sc sh : Fin 1024 → EReal) (j : Fin 1024) : EReal :=
  x j * Ideal.rsqrt (Ideal.div (∑ k : Fin 1024, x k * x k) (Ideal.ofBits .f32 0x44800000#32) + Ideal.ofBits .f32 0x358637BD#32) * nw j * (1 + sc j) + sh j

/-- Four rows, latest first, weighted by four weights and summed. -/
def conv (w : Fin 4 → EReal) (p : Fin 4 → EReal) : EReal := w 3 * p 0 + w 2 * p 1 + w 1 * p 2 + w 0 * p 3

/-- A number times its logistic function. -/
def silu (a : EReal) : EReal := a * Ideal.div 1 (1 + Ideal.exp (-a))

/-- A head of 128 numbers over its length. -/
def unit (a : Fin 128 → EReal) (l : Fin 128) : EReal :=
  a l * Ideal.rsqrt (∑ k : Fin 128, a k * a k + Ideal.ofBits .f32 0x358637BD#32)

/-- The factor of the first result. -/
def scale : EReal := Ideal.ofBits .f32 0x3DB504F3#32

/-! ## The results, as functions of the arguments -/

section
variable (x : (⟨2, ![16384, 1024]⟩ : Shape).Idx → EReal) (md : (⟨3, ![8, 6, 1024]⟩ : Shape).Idx → EReal) (nw : (⟨1, ![1024]⟩ : Shape).Idx → EReal)
  (w : (⟨2, ![1024, 6176]⟩ : Shape).Idx → EReal) (cw : (⟨2, ![4, 4096]⟩ : Shape).Idx → EReal)

/-- Row `s` of sequence `b`, normed. -/
def row (b : Fin 8) (s : Fin 2048) : Fin 1024 → EReal :=
  normed (fun k => x (ix2 (⟨2048 * b.val + s.val, by omega⟩ : Fin 16384) k)) (fun k => nw (ix1 k)) (fun k => md (ix3 b 1 k)) (fun k => md (ix3 b 0 k))

/-- The row's projection. -/
def lin (b : Fin 8) (s : Fin 2048) (n : Fin 4096) : EReal :=
  ∑ j : Fin 1024, row x md nw b s j * w (ix2 j (⟨n.val, by omega⟩ : Fin 6176))

/-- The projection `d` rows earlier in the sequence; zero before it begins. -/
def earlier (b : Fin 8) (s : Fin 2048) (n : Fin 4096) (d : Fin 4) : EReal :=
  if d.val ≤ s.val then lin x md nw w b ⟨s.val - d.val, by omega⟩ n else 0

/-- The convolution's activation. -/
def active (b : Fin 8) (s : Fin 2048) (n : Fin 4096) : EReal :=
  silu (conv (fun k => cw (ix2 k n)) (earlier x md nw w b s n))

/-- The sequence of a token, and its place there. -/
def seqOf (T : Fin 16384) : Fin 8 := ⟨T.val / 2048, by omega⟩
def posOf (T : Fin 16384) : Fin 2048 := ⟨T.val % 2048, by omega⟩

/-- Column `n` of the activation of token `T`. -/
def tok (T : Fin 16384) (n : Fin 4096) : EReal := active x md nw w cw (seqOf T) (posOf T) n

/-- Head `h` of token `T`'s first and second results, and a column of its third. -/
def qHeads (T : Fin 16384) (h : Fin 8) (l : Fin 128) : EReal := unit (fun k => tok x md nw w cw T ⟨128 * h.val + k.val, by omega⟩) l * scale
def kHeads (T : Fin 16384) (h : Fin 8) (l : Fin 128) : EReal := unit (fun k => tok x md nw w cw T ⟨1024 + 128 * h.val + k.val, by omega⟩) l

def qAll (z : (⟨2, ![16384, 1024]⟩ : Shape).Idx) : EReal :=
  qHeads x md nw w cw (z 0) ⟨(z 1).val / 128, by have : (z 1).val < 1024 := (z 1).isLt; omega⟩ ⟨(z 1).val % 128, by omega⟩
def kAll (z : (⟨2, ![16384, 1024]⟩ : Shape).Idx) : EReal :=
  kHeads x md nw w cw (z 0) ⟨(z 1).val / 128, by have : (z 1).val < 1024 := (z 1).isLt; omega⟩ ⟨(z 1).val % 128, by omega⟩
def vAll (z : (⟨2, ![16384, 2048]⟩ : Shape).Idx) : EReal :=
  tok x md nw w cw (z 0) ⟨2048 + (z 1).val, by have : (z 1).val < 2048 := (z 1).isLt; omega⟩

end

end Cert.Conv

end
-- ==== Proof.ConvIdealSetup.lean ====
module

public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import Idealize.ShloMosaic.Lib.Pipeline.Kit
public import Idealize.ShloMosaic.Lib.Pipeline.Frame
public import Idealize.ShloMosaic.Lib.Pipeline.FrameBody
public import Idealize.ShloMosaic.Lib.Ring
public import Idealize.ShloMosaic.Lib.WritesUnit
public import proofs.«01_k».proof.Proof.WholeBuffers
public import Idealize.ShloMosaic.Lib.Tactic
public import Idealize.ShloMosaic.Lib.WordCmp
public import Idealize.ShloMosaic.Lib.Pointwise.Index

@[expose] public section

set_option maxRecDepth 16384

/-! # The convolution's call: what one tile computes, and set-up of its launch -/

noncomputable section

namespace Cert.Kernel3Ideal.Conv

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory when the call begins -/

/-- What the buffers of core `c` hold when the call begins. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that none of the operations before the call writes is as it was. -/
theorem V_kept (c : Dev nD) (b : Ref sig .tc) (h0 : b ≠ main_v0) (h1 : b ≠ main_v1) (h2 : b ≠ main_v2) : V m c b = m ((c : Thread nD τ).loc b) :=
  StableHlo.after_of_forall_not_mem (b := Proc.devRef .tc b) _ _ (List.forall_iff_forall_mem.mp (by
    simp only [hostOps0, List.Forall, StableHlo.reshape_writes, StableHlo.unary_writes, Finset.mem_singleton]
    exact ⟨StableHlo.devRef_ne_of_ne h0, StableHlo.devRef_ne_of_ne h1, StableHlo.devRef_ne_of_ne h2⟩))

/-! ## The windows' blocks -/

/-- Window `w`'s block at tile `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
abbrev ms0_0 (t : Fin cfg0.N) : Memref sig .tc .vmem S256x1024 .f32 := win0_0.stage (cfg0.slots t 0)
abbrev ms0_1 (t : Fin cfg0.N) : Memref sig .tc .vmem S1x6x1024 .f32 := win0_1.stage (cfg0.slots t 1)
abbrev ms0_2 (t : Fin cfg0.N) : Memref sig .tc .vmem S1x1024 .f32 := win0_2.stage (cfg0.slots t 2)
abbrev ms0_3 (t : Fin cfg0.N) : Memref sig .tc .vmem S1024x4096 .bf16 := win0_3.stage (cfg0.slots t 3)
abbrev ms0_4 (t : Fin cfg0.N) : Memref sig .tc .vmem S4x4096 .f32 := win0_4.stage (cfg0.slots t 4)
abbrev ms0_5 (t : Fin cfg0.N) : Memref sig .tc .vmem S256x1024 .bf16 := win0_5.stage (cfg0.slots t 5)
abbrev ms0_6 (t : Fin cfg0.N) : Memref sig .tc .vmem S256x1024 .bf16 := win0_6.stage (cfg0.slots t 6)
abbrev ms0_7 (t : Fin cfg0.N) : Memref sig .tc .vmem S256x2048 .bf16 := win0_7.stage (cfg0.slots t 7)

abbrev scM : Memref sig .tc .vmem S272x4096 .f32 := Memref.whole cc0_scratch0
abbrev hscM : (scM : Memref sig .tc .vmem S272x4096 .f32).IsWhole := Memref.isWhole_whole _

/-! ## One tile -/

/-- Whether a tile begins a sequence, as the body tests it. -/
abbrev fresh (i : grid0.Coords) : BitVec 1 :=
  Scalar.cmpi .ne ((Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32) : BitVec 32)) 0#32

/-- The tile's projection. -/
def proj (x0 : Vec F S256x1024 .f32) (x1 : Vec F S1x6x1024 .f32) (x2 : Vec F S1x1024 .f32) (x3 : Vec F S1024x4096 .bf16) : FVec F S256x4096 .f32 :=
  k0_pay7 (k0_pay6 x1 x0 x2) x3

/-- The eight rows before a tile, then the tile's own. -/
def win (tl : Vec F S8x4096 .f32) (p : FVec F S256x4096 .f32) : Vec F S264x4096 .f32 := fun y =>
  if h : (y 0).val < 8 then tl (ix2 (⟨(y 0).val, h⟩ : Fin 8) (y 1))
  else p (ix2 (⟨(y 0).val - 8, by have : (y 0).val < 264 := (y 0).isLt; omega⟩ : Fin 256) (y 1))

/-- A tile's last eight rows. -/
def lastRows (p : FVec F S256x4096 .f32) : Vec F S8x4096 .f32 := fun y =>
  p (ix2 (⟨248 + (y 0).val, by have : (y 0).val < 8 := (y 0).isLt; omega⟩ : Fin 256) (y 1))

/-- The first eight rows of the body's buffer. -/
def top (g : Vec F S272x4096 .f32) : Vec F S8x4096 .f32 := fun y =>
  g (ix2 (⟨(y 0).val, by have : (y 0).val < 8 := (y 0).isLt; omega⟩ : Fin 272) (y 1))

/-- The convolution's activation. -/
def act (x4 : Vec F S4x4096 .f32) (w : Vec F S264x4096 .f32) : FVec F S256x4096 .f32 :=
  k0_pay11 (k0_pay8 x4 w) (k0_pay10 x4 w) (Scalar.ofBits .f32 0x3F800000#32)

/-- One head of the second result: the columns from `o`, each row divided by its length. -/
def kHead (o : ℕ) (ho : S256x4096.Slices ![0, o] S256x128) (y : FVec F S256x4096 .f32) : FVec F S256x128 .bf16 :=
  have a : FVec F S256x128 .f32 := extractStridedSlice S256x128 ![0, o] y ho
  truncf .bf16 (mulf a (broadcastTo S256x128 (rsqrt (addf (shapeCast S256x1 (multiReduction .add [1] S256 (mulf a a) 0x00000000#32 reduces_S256x128_S256 (.inl rfl) rfl) shapeCasts_S256_S256x1) (broadcast S256x1 (Scalar.ofBits .f32 0x358637BD#32)))) broadcasts_S256x1_S256x128)) bitsLt_bf16_f32

/-- One head of the first result: as the second's, then scaled. -/
def qHead (o : ℕ) (ho : S256x4096.Slices ![0, o] S256x128) (y : FVec F S256x4096 .f32) : FVec F S256x128 .bf16 :=
  have a : FVec F S256x128 .f32 := extractStridedSlice S256x128 ![0, o] y ho
  truncf .bf16 (mulf (mulf a (broadcastTo S256x128 (rsqrt (addf (shapeCast S256x1 (multiReduction .add [1] S256 (mulf a a) 0x00000000#32 reduces_S256x128_S256 (.inl rfl) rfl) shapeCasts_S256_S256x1) (broadcast S256x1 (Scalar.ofBits .f32 0x358637BD#32)))) broadcasts_S256x1_S256x128)) (broadcast S256x128 (Scalar.ofBits .f32 0x3DB504F3#32))) bitsLt_bf16_f32

/-- The stores of the first result's heads, last first, and of the second's. -/
def qPieces (y : FVec F S256x4096 .f32) : List (View.Piece (Elt F) S256x1024 .bf16) :=
  [⟨Rect.unit (s := S256x1024) ![0, 896] S256x128.size inb_S256x1024_S256x128_0_896, qHead 896 slices_S256x4096_o0_896_S256x128 y⟩,
    ⟨Rect.unit (s := S256x1024) ![0, 768] S256x128.size inb_S256x1024_S256x128_0_768, qHead 768 slices_S256x4096_o0_768_S256x128 y⟩,
    ⟨Rect.unit (s := S256x1024) ![0, 640] S256x128.size inb_S256x1024_S256x128_0_640, qHead 640 slices_S256x4096_o0_640_S256x128 y⟩,
    ⟨Rect.unit (s := S256x1024) ![0, 512] S256x128.size inb_S256x1024_S256x128_0_512, qHead 512 slices_S256x4096_o0_512_S256x128 y⟩,
    ⟨Rect.unit (s := S256x1024) ![0, 384] S256x128.size inb_S256x1024_S256x128_0_384, qHead 384 slices_S256x4096_o0_384_S256x128 y⟩,
    ⟨Rect.unit (s := S256x1024) ![0, 256] S256x128.size inb_S256x1024_S256x128_0_256, qHead 256 slices_S256x4096_o0_256_S256x128 y⟩,
    ⟨Rect.unit (s := S256x1024) ![0, 128] S256x128.size inb_S256x1024_S256x128_0_128, qHead 128 slices_S256x4096_o0_128_S256x128 y⟩,
    ⟨Rect.unit (s := S256x1024) ![0, 0] S256x128.size inb_S256x1024_S256x128_0_0, qHead 0 slices_S256x4096_o0_0_S256x128 y⟩]
def kPieces (y : FVec F S256x4096 .f32) : List (View.Piece (Elt F) S256x1024 .bf16) :=
  [⟨Rect.unit (s := S256x1024) ![0, 896] S256x128.size inb_S256x1024_S256x128_0_896, kHead 1920 slices_S256x4096_o0_1920_S256x128 y⟩,
    ⟨Rect.unit (s := S256x1024) ![0, 768] S256x128.size inb_S256x1024_S256x128_0_768, kHead 1792 slices_S256x4096_o0_1792_S256x128 y⟩,
    ⟨Rect.unit (s := S256x1024) ![0, 640] S256x128.size inb_S256x1024_S256x128_0_640, kHead 1664 slices_S256x4096_o0_1664_S256x128 y⟩,
    ⟨Rect.unit (s := S256x1024) ![0, 512] S256x128.size inb_S256x1024_S256x128_0_512, kHead 1536 slices_S256x4096_o0_1536_S256x128 y⟩,
    ⟨Rect.unit (s := S256x1024) ![0, 384] S256x128.size inb_S256x1024_S256x128_0_384, kHead 1408 slices_S256x4096_o0_1408_S256x128 y⟩,
    ⟨Rect.unit (s := S256x1024) ![0, 256] S256x128.size inb_S256x1024_S256x128_0_256, kHead 1280 slices_S256x4096_o0_1280_S256x128 y⟩,
    ⟨Rect.unit (s := S256x1024) ![0, 128] S256x128.size inb_S256x1024_S256x128_0_128, kHead 1152 slices_S256x4096_o0_1152_S256x128 y⟩,
    ⟨Rect.unit (s := S256x1024) ![0, 0] S256x128.size inb_S256x1024_S256x128_0_0, kHead 1024 slices_S256x4096_o0_1024_S256x128 y⟩]

abbrev VO5 : View sig .tc .vmem S256x1024 .bf16 := (Memref.whole cc0_stg5_0 : Memref sig .tc .vmem S256x1024 .bf16).view
abbrev VO6 : View sig .tc .vmem S256x1024 .bf16 := (Memref.whole cc0_stg6_0 : Memref sig .tc .vmem S256x1024 .bf16).view

/-- What the tile leaves in each result's buffer. -/
def qOut (y : FVec F S256x4096 .f32) : Vec F S256x1024 .bf16 := VO5.read (Elt F) (VO5.writes (Elt F) VO5.junk (qPieces y))
def kOut (y : FVec F S256x4096 .f32) : Vec F S256x1024 .bf16 := VO6.read (Elt F) (VO6.writes (Elt F) VO6.junk (kPieces y))
def vOut (y : FVec F S256x4096 .f32) : Vec F S256x2048 .bf16 := k0_pay4 y

theorem qPieces_cover (y : FVec F S256x4096 .f32) (z : S256x1024.Idx) : ∃ pc ∈ qPieces y, z ∈ pc.1.set :=
  View.cover_of_tiledL (qPieces y) S256x128.size (by sl_kernel_rfl) z
theorem kPieces_cover (y : FVec F S256x4096 .f32) (z : S256x1024.Idx) : ∃ pc ∈ kPieces y, z ∈ pc.1.set :=
  View.cover_of_tiledL (kPieces y) S256x128.size (by sl_kernel_rfl) z

theorem q_left (v : View sig .tc .vmem S256x1024 .bf16) (f : v.ty.Contents (Elt F)) {x4 x4' : Vec F S4x4096 .f32} {w w' : Vec F S264x4096 .f32}
    (h4 : x4' = x4) (hw : w' = w) : v.read (Elt F) (v.writes (Elt F) f (qPieces (act x4' w'))) = qOut (act x4 w) := by
  subst h4 hw
  exact View.read_writes_of_cover _ _ _ _ _ (qPieces_cover _)
theorem k_left (v : View sig .tc .vmem S256x1024 .bf16) (f : v.ty.Contents (Elt F)) {x4 x4' : Vec F S4x4096 .f32} {w w' : Vec F S264x4096 .f32}
    (h4 : x4' = x4) (hw : w' = w) : v.read (Elt F) (v.writes (Elt F) f (kPieces (act x4' w'))) = kOut (act x4 w) := by
  subst h4 hw
  exact View.read_writes_of_cover _ _ _ _ _ (kPieces_cover _)
theorem v_left {x4 x4' : Vec F S4x4096 .f32} {w w' : Vec F S264x4096 .f32} (h4 : x4' = x4) (hw : w' = w) : k0_pay4 (act x4' w') = vOut (act x4 w) := by
  subst h4 hw; rfl
theorem proj_eq {x0 x0' : Vec F S256x1024 .f32} {x1 x1' : Vec F S1x6x1024 .f32} {x2 x2' : Vec F S1x1024 .f32} {x3 x3' : Vec F S1024x4096 .bf16}
    (h0 : x0' = x0) (h1 : x1' = x1) (h2 : x2' = x2) (h3 : x3' = x3) : k0_pay7 (k0_pay6 x1' x0' x2') x3' = proj x0 x1 x2 x3 := by
  subst h0 h1 h2 h3; rfl

end Cert.Kernel3Ideal.Conv

end
-- ==== Proof.ConvIdealRun.lean ====
module

public import proofs.«01_k».proof.Proof.ConvIdealSetup

@[expose] public section

set_option maxRecDepth 16384

/-! # The convolution's call: one tile's run -/

noncomputable section

namespace Cert.Kernel3Ideal.Conv

open Cert.Kernel3Ideal.Gen Cert.WholeBuffers
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section
variable (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S4x4096 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x2048 .bf16) (harg8 : arg8.IsWhole)

/-- The body on these buffers. -/
abbrev prog : Prog (TpuEff nD τ sig (Elt F) Λ₀ .tc) PUnit :=
  cc0_gdn_conv_proj i arg1 harg1 arg2 harg2 arg3 harg3 arg4 harg4 arg5 harg5 arg6 harg6 arg7 harg7 arg8 harg8 (Memref.whole cc0_scratch0) (Memref.isWhole_whole _)

variable (x0 : Vec F S256x1024 .f32) (x1 : Vec F S1x6x1024 .f32) (x2 : Vec F S1x1024 .f32) (x3 : Vec F S1024x4096 .bf16) (x4 : Vec F S4x4096 .f32)

/-- The tile's input blocks. -/
def ins : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4)
/-- The results' buffers at anything. -/
def outs0 : sProp 𝕄 :=
  iprop((∃ d, owns (c : Thread nD τ) arg6 fullShare d) ∗ (∃ d, owns (c : Thread nD τ) arg7 fullShare d) ∗ (∃ d, owns (c : Thread nD τ) arg8 fullShare d))
/-- The results' buffers at what the tile computes from the window `w`. -/
def outs (w : Vec F S264x4096 .f32) : sProp 𝕄 :=
  iprop(owns (c : Thread nD τ) arg6 fullShare (qOut (act x4 w)) ∗ owns (c : Thread nD τ) arg7 fullShare (kOut (act x4 w)) ∗ owns (c : Thread nD τ) arg8 fullShare (vOut (act x4 w)))
/-- The body's buffer, its first eight rows being `tl`. -/
def carried (tl : Vec F S8x4096 .f32) : sProp 𝕄 := iprop(∃ g : Vec F S272x4096 .f32, ⌜top g = tl⌝ ∗ owns (c : Thread nD τ) scM fullShare g)

/-- A load of 264 rows after the tile's projection is stored from row 8 reads the window. -/
theorem window_left (v : View sig .tc .vmem S272x4096 .f32) (f : v.ty.Contents (Elt F)) (L : List (View.Piece (Elt F) S272x4096 .f32))
    {p p' : FVec F S256x4096 .f32} {tl : Vec F S8x4096 .f32} (hp : p' = p)
    (h : ∀ (y : S272x4096.Idx) (hy : (y 0).val < 8), v.read (Elt F) (v.writes (Elt F) f L) y = tl (ix2 (⟨(y 0).val, hy⟩ : Fin 8) (y 1))) :
    v.readAt (Elt F) (Rect.unit (s := S272x4096) ![0, 0] S264x4096.size inb_S272x4096_S264x4096_0_0).toLoadRect
      (v.writes (Elt F) f (⟨Rect.unit (s := S272x4096) ![8, 0] S256x4096.size inb_S272x4096_S256x4096_8_0, p'⟩ :: L)) = win tl p := by
  subst hp
  funext y
  rw [View.readAt_apply]
  have e0 : ((Rect.unit (s := S272x4096) ![0, 0] S264x4096.size inb_S272x4096_S264x4096_0_0).toLoadRect.idx y (0 : Fin 2)).val = (y (0 : Fin 2)).val := by
    show 0 + 1 * (y (0 : Fin 2)).val = _; omega
  have e1 : (Rect.unit (s := S272x4096) ![0, 0] S264x4096.size inb_S272x4096_S264x4096_0_0).toLoadRect.idx y (1 : Fin 2) = y (1 : Fin 2) :=
    Fin.ext (show 0 + 1 * (y (1 : Fin 2)).val = _ by omega)
  generalize (Rect.unit (s := S272x4096) ![0, 0] S264x4096.size inb_S272x4096_S264x4096_0_0).toLoadRect.idx y = z at e0 e1 ⊢
  unfold win
  by_cases hy : (y (0 : Fin 2)).val < 8
  · rw [dif_pos hy]
    refine (View.read_writes_cons_rows_of_not_mem v f _ p' L z rfl rfl (.inl (by omega))).trans ?_
    refine (h z (by omega)).trans (congrArg tl ?_)
    exact congrArg₂ ix2 (Fin.ext e0) e1
  · rw [dif_neg hy]
    exact View.read_writes_cons_rows_of_mem v f _ p' L z (ix2 (⟨(y 0).val - 8, by have : (y 0).val < 264 := (y 0).isLt; omega⟩ : Fin 256) (y 1)) rfl
      (by show z (0 : Fin 2) = 8 + ((y (0 : Fin 2)).val - 8); omega) (congrArg Fin.val e1)

/-- Rows 256 to 264 of the body's buffer, after the tile's projection is stored from row 8, are its last. -/
theorem last_rows (v : View sig .tc .vmem S272x4096 .f32) (f : v.ty.Contents (Elt F)) (L : List (View.Piece (Elt F) S272x4096 .f32)) (p : FVec F S256x4096 .f32) (y : S8x4096.Idx) (z : S272x4096.Idx)
    (e0 : (z (0 : Fin 2)).val = 256 + (y (0 : Fin 2)).val) (e1 : z (1 : Fin 2) = y (1 : Fin 2)) :
    v.read (Elt F) (v.writes (Elt F) f (⟨Rect.unit (s := S272x4096) ![8, 0] S256x4096.size inb_S272x4096_S256x4096_8_0, p⟩ :: L)) z = lastRows p y := by
  have hy : (y (0 : Fin 2)).val < 8 := (y (0 : Fin 2)).isLt
  exact View.read_writes_cons_rows_of_mem v f _ p L z (ix2 (⟨248 + (y (0 : Fin 2)).val, by omega⟩ : Fin 256) (y (1 : Fin 2))) rfl
    (e0.trans (Nat.add_assoc 8 248 _)) (congrArg Fin.val e1)

/-- A load of rows 256 to 264 after it reads the tile's last rows. -/
theorem last_left (v : View sig .tc .vmem S272x4096 .f32) (L : List (View.Piece (Elt F) S272x4096 .f32)) {p p' : FVec F S256x4096 .f32} (hp : p' = p) :
    v.readCov (⟨Rect.unit (s := S272x4096) ![8, 0] S256x4096.size inb_S272x4096_S256x4096_8_0, p'⟩ :: L)
      (Rect.unit (s := S272x4096) ![256, 0] S8x4096.size inb_S272x4096_S8x4096_256_0).toLoadRect = lastRows p := by
  subst hp
  funext y
  refine last_rows v v.junk L p' y ((Rect.unit (s := S272x4096) ![256, 0] S8x4096.size inb_S272x4096_S8x4096_256_0).toLoadRect.idx y) ?_ ?_
  · exact congrArg (256 + ·) (Nat.one_mul (y (0 : Fin 2)).val)
  · exact Fin.ext ((Nat.zero_add _).trans (Nat.one_mul (y (1 : Fin 2)).val))

/-- The first eight rows after a store of them. -/
theorem top_left (v : View sig .tc .vmem S272x4096 .f32) (f : v.ty.Contents (Elt F)) (L : List (View.Piece (Elt F) S272x4096 .f32)) {q q' : Vec F S8x4096 .f32} (hq : q' = q) :
    top (v.read (Elt F) (v.writes (Elt F) f (⟨Rect.unit (s := S272x4096) ![0, 0] S8x4096.size inb_S272x4096_S8x4096_0_0, k0_pay9 q'⟩ :: L))) = q := by
  subst hq
  funext y
  refine (View.read_writes_cons_rows_of_mem v f _ _ L _ y rfl (Nat.zero_add _).symm rfl).trans ?_
  exact congrFun (shapeCast_self q' _) y

/-- Rows before the eighth after a store of the first eight rows. -/
theorem start_left (v : View sig .tc .vmem S272x4096 .f32) (f : v.ty.Contents (Elt F)) (q : Vec F S8x4096 .f32) (y : S272x4096.Idx) (hy : (y 0).val < 8) :
    v.read (Elt F) (v.writes (Elt F) f [⟨Rect.unit (s := S272x4096) ![0, 0] S8x4096.size inb_S272x4096_S8x4096_0_0, q⟩]) y = q (ix2 (⟨(y 0).val, hy⟩ : Fin 8) (y 1)) :=
  View.read_writes_cons_rows_of_mem v f _ q [] y (ix2 (⟨(y 0).val, hy⟩ : Fin 8) (y 1)) rfl (Nat.zero_add _).symm rfl

/-- The same of the rows as they were. -/
theorem kept_left (g : Vec F S272x4096 .f32) {tl : Vec F S8x4096 .f32} (hg : top g = tl) (y : S272x4096.Idx) (hy : (y 0).val < 8) :
    scM.view.read (Elt F) (scM.view.writes (Elt F) (hscM.unread g) []) y = tl (ix2 (⟨(y 0).val, hy⟩ : Fin 8) (y 1)) := by
  subst hg
  refine (congrFun (hscM.read_unread g) y).trans (congrArg g ?_)
  funext a; match a with | ⟨0, _⟩ => rfl | ⟨1, _⟩ => rfl

set_option maxHeartbeats 4000000 in
/-- A tile in the middle of a sequence. -/
theorem run_on (tl : Vec F S8x4096 .f32) (hn : ¬ fresh i = 1#1) (K : PUnit → sProp 𝕄) :
    iprop(ins c arg1 arg2 arg3 arg4 arg5 x0 x1 x2 x3 x4 ∗ outs0 c arg6 arg7 arg8 ∗ carried c tl
        ∗ (iprop(ins c arg1 arg2 arg3 arg4 arg5 x0 x1 x2 x3 x4 ∗ outs c arg6 arg7 arg8 x4 (win tl (proj x0 x1 x2 x3)) ∗ carried c (lastRows (proj x0 x1 x2 x3))) -∗ K ⟨⟩))
      ⊢ wp frame (wpE (defs₀ (F := F)) Variants.none c none) Set.univ (prog i arg1 harg1 arg2 harg2 arg3 harg3 arg4 harg4 arg5 harg5 arg6 harg6 arg7 harg7 arg8 harg8) K := by
  unfold prog ins outs0 outs carried
  simp only [cc0_gdn_conv_proj_eq_skeleton]; unfold cc0_gdn_conv_proj_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨⟨⟨%g0, %hf0, H0⟩, ⟨%g1, %hf1, H1⟩, ⟨%g2, %hf2, H2⟩, ⟨%g3, %hf3, H3⟩, ⟨%g4, %hf4, H4⟩⟩, ⟨⟨%d5, %g5, -, H5⟩, ⟨%d6, %g6, -, H6⟩, ⟨%d7, %g7, -, H7⟩⟩, ⟨%g, %hg, %fs, %hfs, HS⟩, Hk⟩
  obtain rfl := harg1.eq_unread hf0; obtain rfl := harg2.eq_unread hf1; obtain rfl := harg3.eq_unread hf2; obtain rfl := harg4.eq_unread hf3; obtain rfl := harg5.eq_unread hf4
  obtain rfl := (Memref.isWhole_whole cc0_scratch0).eq_unread hfs
  sl_exec (disch := sl_exact hn)
  sl_step
  iapply Hk
  have hp := proj_eq (load_unread harg1 ![0, 0] inb_S256x1024_S256x1024_0_0 x0) (load_unread harg2 ![0, 0, 0] inb_S1x6x1024_S1x6x1024_0_0_0 x1)
    (load_unread harg3 ![0, 0] inb_S1x1024_S1x1024_0_0 x2) (load_unread harg4 ![0, 0] inb_S1024x4096_S1024x4096_0_0 x3)
  have h4 := load_unread harg5 ![0, 0] inb_S4x4096_S4x4096_0_0 x4
  have hw := window_left scM.view (hscM.unread g) [] hp (kept_left g hg)
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5 H6 H7]
  · isplitl [H5]
    · iexists _; isplitr; swap; · iexact H5
      ipureintro
      exact q_left arg6.view g5 h4 hw
    isplitl [H6]
    · iexists _; isplitr; swap; · iexact H6
      ipureintro
      exact k_left arg7.view g6 h4 hw
    iexists _; isplitr; swap; · iexact H7
    ipureintro
    exact (store_all arg8.view ![0, 0] inb_S256x2048_S256x2048_0_0 g7 _).trans (v_left h4 hw)
  iexists _; isplitr
  swap
  · iexists _; isplitr; swap; · iexact HS
    ipureintro; rfl
  ipureintro
  exact top_left scM.view _ _ (last_left scM.view [] hp)

set_option maxHeartbeats 4000000 in
/-- A tile that begins a sequence. -/
theorem run_start (hn : fresh i = 1#1) (K : PUnit → sProp 𝕄) :
    iprop(ins c arg1 arg2 arg3 arg4 arg5 x0 x1 x2 x3 x4 ∗ outs0 c arg6 arg7 arg8 ∗ (∃ d, owns (c : Thread nD τ) scM fullShare d)
        ∗ (iprop(ins c arg1 arg2 arg3 arg4 arg5 x0 x1 x2 x3 x4 ∗ outs c arg6 arg7 arg8 x4 (win k0_pay5 (proj x0 x1 x2 x3)) ∗ carried c (lastRows (proj x0 x1 x2 x3))) -∗ K ⟨⟩))
      ⊢ wp frame (wpE (defs₀ (F := F)) Variants.none c none) Set.univ (prog i arg1 harg1 arg2 harg2 arg3 harg3 arg4 harg4 arg5 harg5 arg6 harg6 arg7 harg7 arg8 harg8) K := by
  unfold prog ins outs0 outs carried
  simp only [cc0_gdn_conv_proj_eq_skeleton]; unfold cc0_gdn_conv_proj_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨⟨⟨%g0, %hf0, H0⟩, ⟨%g1, %hf1, H1⟩, ⟨%g2, %hf2, H2⟩, ⟨%g3, %hf3, H3⟩, ⟨%g4, %hf4, H4⟩⟩, ⟨⟨%d5, %g5, -, H5⟩, ⟨%d6, %g6, -, H6⟩, ⟨%d7, %g7, -, H7⟩⟩, ⟨%gS, %fs, -, HS⟩, Hk⟩
  obtain rfl := harg1.eq_unread hf0; obtain rfl := harg2.eq_unread hf1; obtain rfl := harg3.eq_unread hf2; obtain rfl := harg4.eq_unread hf3; obtain rfl := harg5.eq_unread hf4
  sl_exec (disch := sl_exact hn)
  sl_step
  iapply Hk
  have hp := proj_eq (load_unread harg1 ![0, 0] inb_S256x1024_S256x1024_0_0 x0) (load_unread harg2 ![0, 0, 0] inb_S1x6x1024_S1x6x1024_0_0_0 x1)
    (load_unread harg3 ![0, 0] inb_S1x1024_S1x1024_0_0 x2) (load_unread harg4 ![0, 0] inb_S1024x4096_S1024x4096_0_0 x3)
  have h4 := load_unread harg5 ![0, 0] inb_S4x4096_S4x4096_0_0 x4
  have hw := window_left scM.view scM.view.junk [⟨Rect.unit (s := S272x4096) ![0, 0] S8x4096.size inb_S272x4096_S8x4096_0_0, k0_pay5 (F := F)⟩] hp (start_left scM.view scM.view.junk k0_pay5)
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5 H6 H7]
  · isplitl [H5]
    · iexists _; isplitr; swap; · iexact H5
      ipureintro
      exact q_left arg6.view g5 h4 hw
    isplitl [H6]
    · iexists _; isplitr; swap; · iexact H6
      ipureintro
      exact k_left arg7.view g6 h4 hw
    iexists _; isplitr; swap; · iexact H7
    ipureintro
    exact (store_all arg8.view ![0, 0] inb_S256x2048_S256x2048_0_0 g7 _).trans (v_left h4 hw)
  iexists _; isplitr
  swap
  · iexists _; isplitr; swap; · iexact HS
    ipureintro; rfl
  ipureintro
  exact top_left scM.view _ _ (last_left scM.view [⟨Rect.unit (s := S272x4096) ![0, 0] S8x4096.size inb_S272x4096_S8x4096_0_0, k0_pay5 (F := F)⟩] hp)

end

end Cert.Kernel3Ideal.Conv

end
-- ==== Proof.ConvIdealLaunch.lean ====
module

public import proofs.«01_k».proof.Proof.ConvIdealRun
public import Idealize.ShloMosaic.Lib.Claim

@[expose] public section

set_option maxRecDepth 16384

/-! # The convolution's call: its launch -/

noncomputable section

namespace Cert.Kernel3Ideal.Conv

open Cert.Kernel3Ideal.Gen Cert.WholeBuffers
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the tiles compute -/

/-- A sequence begins every eighth tile. -/
theorem fresh_iff : ∀ t : Fin grid0.N, fresh (grid0.coords t) = 1#1 ↔ t.val % 8 = 0 := by decide +kernel

/-- Tile `t`'s projection. -/
def projAt (c : Dev nD) (t : Fin cfg0.N) : FVec F S256x4096 .f32 := proj (iblk m c 0 t) (iblk m c 1 t) (iblk m c 2 t) (iblk m c 3 t)
/-- The tile before `t`. -/
abbrev pred (t : Fin cfg0.N) : Fin cfg0.N := ⟨t.val - 1, by have := t.isLt; omega⟩
/-- The eight rows before tile `t`: zeros where a sequence begins. -/
def tailAt (c : Dev nD) (t : Fin cfg0.N) : Vec F S8x4096 .f32 := if fresh (grid0.coords t) = 1#1 then k0_pay5 else lastRows (projAt m c (pred t))
/-- Tile `t`'s activation. -/
def actAt (c : Dev nD) (t : Fin cfg0.N) : FVec F S256x4096 .f32 := act (iblk m c 4 t) (win (tailAt m c t) (projAt m c t))

/-! ## The pipeline's proof data -/

/-- What is held before tile `p`. -/
def inv (c : Dev nD) (p : Fin (grid0.N + 1)) : sProp 𝕄 :=
  if h : p.val = 0 then Pipeline.ΦA spec0 c
  else iprop(carried c (lastRows (projAt m c ⟨p.val - 1, by have := p.isLt; show p.val - 1 < grid0.N; omega⟩)) ∗ ∃ r, prngReg c r)

theorem inv_first (c : Dev nD) (t : Fin cfg0.N) (h : t.val = 0) : inv m c (Fin.castSucc (n := grid0.N) t) = Pipeline.ΦA spec0 c := dif_pos h
theorem inv_later (c : Dev nD) (t : Fin cfg0.N) (h : t.val ≠ 0) :
    inv m c (Fin.castSucc (n := grid0.N) t) = iprop(carried c (lastRows (projAt m c (pred t))) ∗ ∃ r, prngReg c r) := dif_neg h
theorem inv_succ (c : Dev nD) (t : Fin cfg0.N) : inv m c (Fin.succ (n := grid0.N) t) = iprop(carried c (lastRows (projAt m c t)) ∗ ∃ r, prngReg c r) := dif_neg (Nat.succ_ne_zero _)

theorem PhiA_eq (c : Dev nD) : (Pipeline.ΦA spec0 c : sProp 𝕄) = iprop((∃ d, owns (c : Thread nD τ) scM fullShare d) ∗ ∃ r, prngReg c r) := by
  unfold Pipeline.ΦA; rw [scopedRest0_eq]; simp only [scM, owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => qOut (actAt m c t)
    | ⟨6, _⟩ => kOut (actAt m c t)
    | ⟨7, _⟩ => vOut (actAt m c t)
  Φ p := inv m c p
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = qOut (actAt m c t) := by dsimp only [dats]
theorem after0_6 (c : Dev nD) (t : Fin cfg0.N) : (dats m 0 c).after 6 t = kOut (actAt m c t) := by dsimp only [dats]
theorem after0_7 (c : Dev nD) (t : Fin cfg0.N) : (dats m 0 c).after 7 t = vOut (actAt m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a tile -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [after0_0, after0_1, after0_2, after0_3, after0_4, after0_5, after0_6, after0_7]
  rw [show (dats m 0 c).Φ t.castSucc = inv m c (Fin.castSucc (n := grid0.N) t) from rfl, show (dats m 0 c).Φ t.succ = inv m c (Fin.succ (n := grid0.N) t) from rfl, inv_succ,
    show (dats m 0 c).owesAt () t.succ = (dats m 0 c).owesAt () t.castSucc from rfl]
  by_cases hf : fresh (grid0.coords t) = 1#1
  · have hA : actAt m c t = act (iblk m c 4 t) (win k0_pay5 (proj (iblk m c 0 t) (iblk m c 1 t) (iblk m c 2 t) (iblk m c 3 t))) := by
      unfold actAt tailAt; rw [if_pos hf]; try rfl
    rw [hA]
    have hi : inv m c (Fin.castSucc (n := grid0.N) t) ⊢ iprop((∃ d, owns (c : Thread nD τ) scM fullShare d) ∗ ∃ r, prngReg c r) := by
      by_cases ht : t.val = 0
      · rw [inv_first m c t ht, PhiA_eq]
      · rw [inv_later m c t ht]; unfold carried
        iintro ⟨⟨%g, -, HS⟩, Hg⟩
        isplitl [HS]; · iexists _; iexact HS
        iexact Hg
    refine BI.Entails.trans (BI.sep_mono hi (BI.Entails.refl _)) ?_
    show iprop(iprop((∃ d, owns (c : Thread nD τ) scM fullShare d) ∗ ∃ r, prngReg c r) ∗ _) ⊢ _
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_start c (grid0.coords t) _ _ _ _ _ _ _ _ _ _ _ _ _ _ _ _ (iblk m c 0 t) (iblk m c 1 t) (iblk m c 2 t) (iblk m c 3 t) (iblk m c 4 t) hf _)
    unfold ins outs0 outs carried
    isplitl [H0 H1 H2 H3 H4]
    · isplitl [H0]; · iexact H0
      isplitl [H1]; · iexact H1
      isplitl [H2]; · iexact H2
      isplitl [H3]; · iexact H3
      iexact H4
    isplitl [H5 H6 H7]
    · isplitl [H5]; · iexists _; iexact H5
      isplitl [H6]; · iexists _; iexact H6
      iexists _; iexact H7
    isplitl [HS]; · iexact HS
    iintro ⟨⟨H0, H1, H2, H3, H4⟩, ⟨H5, H6, H7⟩, HS⟩
    isplitl [Hg HS]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h8 := (not_congr (fresh_iff t)).mp hf
    have ht : t.val ≠ 0 := fun h => h8 (by rw [h])
    have hA : actAt m c t = act (iblk m c 4 t) (win (lastRows (projAt m c (pred t))) (proj (iblk m c 0 t) (iblk m c 1 t) (iblk m c 2 t) (iblk m c 3 t))) := by
      unfold actAt tailAt; rw [if_neg hf]; try rfl
    rw [hA, inv_later m c t ht]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_on c (grid0.coords t) _ _ _ _ _ _ _ _ _ _ _ _ _ _ _ _ (iblk m c 0 t) (iblk m c 1 t) (iblk m c 2 t) (iblk m c 3 t) (iblk m c 4 t) _ hf _)
    unfold ins outs0 outs carried
    isplitl [H0 H1 H2 H3 H4]
    · isplitl [H0]; · iexact H0
      isplitl [H1]; · iexact H1
      isplitl [H2]; · iexact H2
      isplitl [H3]; · iexact H3
      iexact H4
    isplitl [H5 H6 H7]
    · isplitl [H5]; · iexists _; iexact H5
      isplitl [H6]; · iexists _; iexact H6
      iexists _; iexact H7
    isplitl [HS]; · iexact HS
    iintro ⟨⟨H0, H1, H2, H3, H4⟩, ⟨H5, H6, H7⟩, HS⟩
    isplitl [Hg HS]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem inv_start (c : Dev nD) : Pipeline.ΦA spec0 c ⊢ inv m c 0 := .rfl

theorem inv_end (c : Dev nD) : inv m c (Fin.last _) ⊢ Pipeline.ΦA spec0 c := by
  have hN := N_0
  refine (show inv m c (Fin.last _) ⊢ iprop(carried c (lastRows (projAt m c ⟨grid0.N - 1, by show grid0.N - 1 < grid0.N; omega⟩)) ∗ ∃ r, prngReg c r) from ?_).trans ?_
  · unfold inv; rw [dif_neg (by show grid0.N ≠ 0; omega)]; exact .rfl
  rw [PhiA_eq]; unfold carried
  iintro ⟨⟨%g, -, HS⟩, Hg⟩
  isplitl [HS]; · iexists _; iexact HS
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_start m) (hout := inv_end m)

/-- The call ends; its results' arrays hold the blocks the tiles leave, and nothing else in memory has changed. -/
theorem run_main : θ_run defs (onTc (τ := τ) (main (F := F))) (s₀ m ρ) (Pipeline.FramePost cfgs (dats m) 0 (V m)) :=
  (θ_run defs _ _).mono (fun _ h => h.1) (run_main_quiescent m ρ)

theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have rest : ∀ b : Ref sig .tc, b ∈ Pipeline.restRefs sig spec0 → b ≠ main_v0 → b ≠ main_v1 → b ≠ main_v2 → r.2.mem ((c.tc : Thread nD τ).loc b) = m ((c.tc : Thread nD τ).loc b) :=
    fun b hb h0 h1 h2 => ((h c).2 b hb).trans (V_kept m c b h0 h1 h2)
  exact ⟨((h c).1 0).trans (((dats m 0 c).arrAt_in 0 rfl _).trans ((A_eq m c 0).trans (V_kept m c main_arg0 (by decide) (by decide) (by decide)))),
    ((h c).1 1).trans (((dats m 0 c).arrAt_in 1 rfl _).trans ((A_eq m c 1).trans (V_kept m c main_arg1 (by decide) (by decide) (by decide)))),
    rest main_arg2 (by decide) (by decide) (by decide) (by decide), rest main_arg3 (by decide) (by decide) (by decide) (by decide),
    ((h c).1 4).trans (((dats m 0 c).arrAt_in 4 rfl _).trans ((A_eq m c 4).trans (V_kept m c main_arg4 (by decide) (by decide) (by decide))))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => args_kept m r h.1 c, h.2⟩) (run_main_quiescent m ρ)

end Cert.Kernel3Ideal.Conv

end
-- ==== Proof.ConvPay.lean ====
/- The idealised body's rows, read at an index. -/
module

public import proofs.«01_k».proof.Proof.ConvMath
public import proofs.«01_k».proof.Proof.ConvIdealLaunch
public import proofs.«01_k».proof.Proof.Array

@[expose] public section

set_option maxRecDepth 16384

noncomputable section

namespace Cert.Kernel3Ideal.Conv

open Cert.Kernel3Ideal Cert.Kernel3Ideal.Gen Idealize.ShloMosaic Idealize.ShloMosaic.TcCoe Idealize.SL.Sem Cert.Conv
open Cert.KernelIdeal.Att (ix2_ext)

theorem pay6_at (x1 : Vec Ideal S1x6x1024 .f32) (x0 : Vec Ideal S256x1024 .f32) (x2 : Vec Ideal S1x1024 .f32) (r : Fin 256) (j : Fin 1024) :
    k0_pay6 x1 x0 x2 (ix2 r j) = normed (fun k => x0 (ix2 r k)) (fun k => x2 (ix2 0 k)) (fun k => x1 (ix3 0 1 k)) (fun k => x1 (ix3 0 0 k)) j := by
  unfold k0_pay6 normed
  pointwise []

theorem proj_at (x0 : Vec Ideal S256x1024 .f32) (x1 : Vec Ideal S1x6x1024 .f32) (x2 : Vec Ideal S1x1024 .f32) (x3 : Vec Ideal S1024x4096 .bf16) (r : Fin 256) (n : Fin 4096) :
    proj x0 x1 x2 x3 (ix2 r n)
      = ∑ j : Fin 1024, normed (fun k => x0 (ix2 r k)) (fun k => x2 (ix2 0 k)) (fun k => x1 (ix3 0 1 k)) (fun k => x1 (ix3 0 0 k)) j * x3 (ix2 j n) := by
  unfold proj k0_pay7
  pointwise []
  simp only [pay6_at]

theorem pay8_at (x4 : Vec Ideal S4x4096 .f32) (w : Vec Ideal S264x4096 .f32) (r : Fin 256) (n : Fin 4096) :
    k0_pay8 x4 w (ix2 r n) = conv (fun k => x4 (ix2 k n)) (fun b => w (ix2 (⟨8 + r.val - b.val, by omega⟩ : Fin 264) n)) := by
  have hw : ∀ {a b : Fin 264}, a.val = b.val → w (ix2 a n) = w (ix2 b n) := fun h => congrArg (fun z => w (ix2 z n)) (Fin.ext h)
  unfold k0_pay8 conv
  pointwise []
  refine congrArg₂ (· + ·) (congrArg₂ (· + ·) (congrArg₂ (· + ·) rfl ?_) ?_) ?_
  all_goals refine congrArg (_ * ·) (hw ?_)
  all_goals simp only []
  all_goals omega

theorem act_at (x4 : Vec Ideal S4x4096 .f32) (w : Vec Ideal S264x4096 .f32) (r : Fin 256) (n : Fin 4096) :
    act x4 w (ix2 r n) = silu (conv (fun k => x4 (ix2 k n)) (fun b => w (ix2 (⟨8 + r.val - b.val, by omega⟩ : Fin 264) n))) := by
  unfold act k0_pay11 k0_pay10 silu
  pointwise []
  simp only [pay8_at, zero_sub]

theorem kHead_at (o : ℕ) (ho : S256x4096.Slices ![0, o] S256x128) (y : FVec Ideal S256x4096 .f32) (hb : o + 128 ≤ 4096) (r : Fin 256) (l : Fin 128) :
    kHead o ho y (ix2 r l) = unit (fun k => y (ix2 r ⟨o + k.val, by omega⟩)) l := by
  unfold kHead unit
  pointwise []

theorem qHead_at (o : ℕ) (ho : S256x4096.Slices ![0, o] S256x128) (y : FVec Ideal S256x4096 .f32) (hb : o + 128 ≤ 4096) (r : Fin 256) (l : Fin 128) :
    qHead o ho y (ix2 r l) = unit (fun k => y (ix2 r ⟨o + k.val, by omega⟩)) l * scale := by
  unfold qHead unit scale
  pointwise []

theorem vOut_at (y : FVec Ideal S256x4096 .f32) (r : Fin 256) (l : Fin 2048) : vOut y (ix2 r l) = y (ix2 r ⟨2048 + l.val, by omega⟩) := by
  unfold vOut k0_pay4
  pointwise []

end Cert.Kernel3Ideal.Conv

end
-- ==== Proof.ConvValue.lean ====
/- The idealised call's result arrays as functions of the argument arrays. -/
module

public import proofs.«01_k».proof.Proof.ConvPay

@[expose] public section

set_option maxRecDepth 16384

noncomputable section

namespace Cert.Kernel3Ideal.Conv

open Cert.Kernel3Ideal Cert.Kernel3Ideal.Gen Idealize.ShloMosaic Idealize.ShloMosaic.TcCoe Idealize.SL.Sem Cert.Conv
open Cert.KernelIdeal.Att (ix2_ext)

variable (m : (ℓ : Loc nD τ sig) → Buf (Elt Ideal) ℓ)

/-! ## The arrays the call finds -/

/-- The weights' first 4096 columns. -/
theorem V_v1 (c : Dev nD) (j : Fin 1024) (n : Fin 4096) :
    (show Vec Ideal S1024x4096 .bf16 from V m c main_v1) (ix2 j n) = (show Vec Ideal S1024x6176 .f32 from m ((c : Thread nD τ).loc main_arg3)) (ix2 j (⟨n.val, by omega⟩ : Fin 6176)) := by
  have h : V m c main_v1 = (truncf (F := Ideal) .bf16 (extractStridedSlice (s := S1024x6176) S1024x4096 ![0, 0] (m ((c : Thread nD τ).loc main_arg3)) slices_S1024x6176_S1024x4096_0_0) bitsLt_bf16_f32 : FVec Ideal S1024x4096 .bf16) := by
    show StableHlo.after hostOps0 (fun b => m (c, b)) (Proc.devRef .tc main_v1) = _
    simp only [hostOps0, StableHlo.after_cons, StableHlo.after_nil]
    rw [StableHlo.reshape_result_ne _ _ _ _ _ _ _ (by decide), StableHlo.unary_result, StableHlo.unary_result]
  refine (congrFun h _).trans ?_
  pointwise []

/-- The norm's weights, as a row. -/
theorem V_v2 (c : Dev nD) (k : Fin 1024) :
    (show Vec Ideal S1x1024 .f32 from V m c main_v2) (ix2 0 k) = (show Vec Ideal S1024 .f32 from m ((c : Thread nD τ).loc main_arg2)) (ix1 k) := by
  have h : V m c main_v2 = shapeCast S1x1024 (show Vec Ideal S1024 .f32 from m ((c : Thread nD τ).loc main_arg2)) shapeCasts_S1024_S1x1024 := by
    show StableHlo.after hostOps0 (fun b => m (c, b)) (Proc.devRef .tc main_v2) = _
    simp only [hostOps0, StableHlo.after_cons, StableHlo.after_nil]
    rw [StableHlo.reshape_result, StableHlo.unary_result_ne _ _ _ _ _ _ (by decide), StableHlo.unary_result_ne _ _ _ _ _ _ (by decide)]
    rfl
  refine (congrFun h _).trans ?_
  pointwise []

/-! ## The windows' blocks -/

theorem idx0 : ∀ t : Fin grid0.N, win0_0.index t 0 = t.val ∧ win0_0.index t 1 = 0 := by decide +kernel
theorem idx1 : ∀ t : Fin grid0.N, win0_1.index t 0 = t.val / 8 ∧ win0_1.index t 1 = 0 ∧ win0_1.index t 2 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 := by decide +kernel

theorem lt_64 (t : Fin cfg0.N) : t.val < 64 := lt_of_lt_of_eq t.isLt N_0

theorem blk0 (c : Dev nD) (t : Fin cfg0.N) (r : Fin 256) (k : Fin 1024) (T : Fin 16384) (hT : T.val = 256 * t.val + r.val) :
    (iblk m c 0 t (ix2 r k) : EReal) = (show Vec Ideal S16384x1024 .f32 from m ((c : Thread nD τ).loc main_arg0)) (ix2 T k) := by
  show V m c main_arg0 ((win0_0.blk t).view.emb (ix2 r k)) = _
  rw [V_kept m c main_arg0 (by decide) (by decide) (by decide)]
  refine congrArg (show Vec Ideal S16384x1024 .f32 from m ((c : Thread nD τ).loc main_arg0)) (ix2_ext _ _ fun x => ?_)
  match x with
  | ⟨0, _⟩ =>
    refine (Pipeline.Window.rect_emb_val win0_0 t _ (0 : Fin 2)).trans ?_
    show win0_0.index t 0 * 256 + r.val = T.val
    rw [(idx0 t).1]; omega
  | ⟨1, _⟩ =>
    refine (Pipeline.Window.rect_emb_val win0_0 t _ (1 : Fin 2)).trans ?_
    show win0_0.index t 1 * 1024 + k.val = k.val
    rw [(idx0 t).2]; omega

theorem blk1 (c : Dev nD) (t : Fin cfg0.N) (a : Fin 6) (k : Fin 1024) (b : Fin 8) (hb : b.val = t.val / 8) :
    (iblk m c 1 t (ix3 0 a k) : EReal) = (show Vec Ideal S8x6x1024 .f32 from m ((c : Thread nD τ).loc main_arg1)) (ix3 b a k) := by
  show V m c main_arg1 ((win0_1.blk t).view.emb (ix3 0 a k)) = _
  rw [V_kept m c main_arg1 (by decide) (by decide) (by decide)]
  refine congrArg (show Vec Ideal S8x6x1024 .f32 from m ((c : Thread nD τ).loc main_arg1)) (ix2_ext _ _ fun x => ?_)
  match x with
  | ⟨0, _⟩ =>
    refine (Pipeline.Window.rect_emb_val win0_1 t _ (0 : Fin 3)).trans ?_
    show win0_1.index t 0 * 1 + 0 = b.val
    rw [(idx1 t).1]; omega
  | ⟨1, _⟩ =>
    refine (Pipeline.Window.rect_emb_val win0_1 t _ (1 : Fin 3)).trans ?_
    show win0_1.index t 1 * 6 + a.val = a.val
    rw [(idx1 t).2.1]; omega
  | ⟨2, _⟩ =>
    refine (Pipeline.Window.rect_emb_val win0_1 t _ (2 : Fin 3)).trans ?_
    show win0_1.index t 2 * 1024 + k.val = k.val
    rw [(idx1 t).2.2]; omega

theorem blk2 (c : Dev nD) (t : Fin cfg0.N) (k : Fin 1024) :
    (iblk m c 2 t (ix2 0 k) : EReal) = (show Vec Ideal S1024 .f32 from m ((c : Thread nD τ).loc main_arg2)) (ix1 k) := by
  refine Eq.trans ?_ (V_v2 m c k)
  show V m c main_v2 ((win0_2.blk t).view.emb (ix2 0 k)) = _
  refine congrArg (show Vec Ideal S1x1024 .f32 from V m c main_v2) (ix2_ext _ _ fun x => ?_)
  match x with
  | ⟨0, _⟩ =>
    refine (Pipeline.Window.rect_emb_val win0_2 t _ (0 : Fin 2)).trans ?_
    show win0_2.index t 0 * 1 + 0 = 0
    rw [(idx2 t).1]
  | ⟨1, _⟩ =>
    refine (Pipeline.Window.rect_emb_val win0_2 t _ (1 : Fin 2)).trans ?_
    show win0_2.index t 1 * 1024 + k.val = k.val
    rw [(idx2 t).2]; omega

theorem blk3 (c : Dev nD) (t : Fin cfg0.N) (j : Fin 1024) (n : Fin 4096) :
    (iblk m c 3 t (ix2 j n) : EReal) = (show Vec Ideal S1024x6176 .f32 from m ((c : Thread nD τ).loc main_arg3)) (ix2 j (⟨n.val, by omega⟩ : Fin 6176)) := by
  refine Eq.trans ?_ (V_v1 m c j n)
  show V m c main_v1 ((win0_3.blk t).view.emb (ix2 j n)) = _
  refine congrArg (show Vec Ideal S1024x4096 .bf16 from V m c main_v1) (ix2_ext _ _ fun x => ?_)
  match x with
  | ⟨0, _⟩ =>
    refine (Pipeline.Window.rect_emb_val win0_3 t _ (0 : Fin 2)).trans ?_
    show win0_3.index t 0 * 1024 + j.val = j.val
    rw [(idx3 t).1]; omega
  | ⟨1, _⟩ =>
    refine (Pipeline.Window.rect_emb_val win0_3 t _ (1 : Fin 2)).trans ?_
    show win0_3.index t 1 * 4096 + n.val = n.val
    rw [(idx3 t).2]; omega

theorem blk4 (c : Dev nD) (t : Fin cfg0.N) (k : Fin 4) (n : Fin 4096) :
    (iblk m c 4 t (ix2 k n) : EReal) = (show Vec Ideal S4x4096 .f32 from m ((c : Thread nD τ).loc main_arg4)) (ix2 k n) := by
  show V m c main_arg4 ((win0_4.blk t).view.emb (ix2 k n)) = _
  rw [V_kept m c main_arg4 (by decide) (by decide) (by decide)]
  refine congrArg (show Vec Ideal S4x4096 .f32 from m ((c : Thread nD τ).loc main_arg4)) (ix2_ext _ _ fun x => ?_)
  match x with
  | ⟨0, _⟩ =>
    refine (Pipeline.Window.rect_emb_val win0_4 t _ (0 : Fin 2)).trans ?_
    show win0_4.index t 0 * 4 + k.val = k.val
    rw [(idx4 t).1]; omega
  | ⟨1, _⟩ =>
    refine (Pipeline.Window.rect_emb_val win0_4 t _ (1 : Fin 2)).trans ?_
    show win0_4.index t 1 * 4096 + n.val = n.val
    rw [(idx4 t).2]; omega

/-! ## One tile -/

section
variable (c : Dev nD)

/-- The arguments' arrays. -/
abbrev aX : S16384x1024.Idx → EReal := m ((c : Thread nD τ).loc main_arg0)
abbrev aM : S8x6x1024.Idx → EReal := m ((c : Thread nD τ).loc main_arg1)
abbrev aN : S1024.Idx → EReal := m ((c : Thread nD τ).loc main_arg2)
abbrev aW : S1024x6176.Idx → EReal := m ((c : Thread nD τ).loc main_arg3)
abbrev aC : S4x4096.Idx → EReal := m ((c : Thread nD τ).loc main_arg4)

/-- Tile `t`'s projection at row `r` is the projection of its token. -/
theorem projAt_at (t : Fin cfg0.N) (r : Fin 256) (n : Fin 4096) (b : Fin 8) (s : Fin 2048) (hb : b.val = t.val / 8) (hs : s.val = 256 * (t.val % 8) + r.val) :
    projAt m c t (ix2 r n) = lin (aX m c) (aM m c) (aN m c) (aW m c) b s n := by
  unfold projAt
  refine (proj_at _ _ _ _ r n).trans ?_
  unfold lin row
  refine Finset.sum_congr rfl fun j _ => ?_
  have e0 : (fun k => iblk m c 0 t (ix2 r k)) = fun k => aX m c (ix2 (⟨2048 * b.val + s.val, by omega⟩ : Fin 16384) k) :=
    funext fun k => blk0 m c t r k _ (by show 2048 * b.val + s.val = _; omega)
  have e1 : ∀ a : Fin 6, (fun k => iblk m c 1 t (ix3 0 a k)) = fun k => aM m c (ix3 b a k) := fun a => funext fun k => blk1 m c t a k b hb
  have e2 : (fun k => iblk m c 2 t (ix2 0 k)) = fun k => aN m c (ix1 k) := funext fun k => blk2 m c t k
  exact congrArg₂ (· * ·) (by rw [e0, e1 1, e1 0, e2]) (blk3 m c t j n)

/-- The rows a tile's convolution sees are the sequence's, zero before it begins. -/
theorem win_at (t : Fin cfg0.N) (r : Fin 256) (n : Fin 4096) (d : Fin 4) (b : Fin 8) (s : Fin 2048) (hb : b.val = t.val / 8) (hs : s.val = 256 * (t.val % 8) + r.val) :
    win (tailAt m c t) (projAt m c t) (ix2 (⟨8 + r.val - d.val, by omega⟩ : Fin 264) n) = earlier (aX m c) (aM m c) (aN m c) (aW m c) b s n d := by
  have ht := lt_64 t
  unfold win earlier
  by_cases h : d.val ≤ r.val
  · rw [if_pos (by omega)]
    refine (dif_neg (by show ¬ 8 + r.val - d.val < 8; omega)).trans ?_
    exact projAt_at m c t (⟨8 + r.val - d.val - 8, by omega⟩ : Fin 256) n b _ hb (by show s.val - d.val = _ + (8 + r.val - d.val - 8); omega)
  · refine (dif_pos (by show 8 + r.val - d.val < 8; omega)).trans ?_
    unfold tailAt
    by_cases hf : fresh (grid0.coords t) = 1#1
    · have h8 := (fresh_iff t).mp hf
      rw [if_pos hf, if_neg (by omega)]
      unfold k0_pay5
      pointwise []
    · have h8 := (not_congr (fresh_iff t)).mp hf
      rw [if_neg hf, if_pos (by omega)]
      unfold lastRows
      exact projAt_at m c (pred t) (⟨248 + (8 + r.val - d.val), by omega⟩ : Fin 256) n b _ (by show b.val = (t.val - 1) / 8; omega)
        (by show s.val - d.val = 256 * ((t.val - 1) % 8) + (248 + (8 + r.val - d.val)); omega)

theorem actAt_at (t : Fin cfg0.N) (r : Fin 256) (n : Fin 4096) (T : Fin 16384) (hT : T.val = 256 * t.val + r.val) :
    actAt m c t (ix2 r n) = tok (aX m c) (aM m c) (aN m c) (aW m c) (aC m c) T n := by
  have ht := lt_64 t
  unfold actAt
  refine (act_at _ _ r n).trans ?_
  unfold tok active
  have e : (fun k => iblk m c 4 t (ix2 k n)) = fun k => aC m c (ix2 k n) := funext fun k => blk4 m c t k n
  rw [e]
  exact congrArg (fun f => silu (conv _ f)) (funext fun d => win_at m c t r n d (seqOf T) (posOf T) (by show T.val / 2048 = _; omega) (by show T.val % 2048 = _; omega))

/-! ## The heads side by side -/

/-- Head by head, the columns of the second and the first result's tile. -/
def kTile (y : FVec Ideal S256x4096 .f32) (z : S256x1024.Idx) : EReal :=
  unit (fun k => y (ix2 (z 0) (⟨1024 + 128 * ((z 1).val / 128) + k.val, by have : (z 1).val < 1024 := (z 1).isLt; omega⟩ : Fin 4096))) ⟨(z 1).val % 128, by omega⟩
def qTile (y : FVec Ideal S256x4096 .f32) (z : S256x1024.Idx) : EReal :=
  unit (fun k => y (ix2 (z 0) (⟨128 * ((z 1).val / 128) + k.val, by have : (z 1).val < 1024 := (z 1).isLt; omega⟩ : Fin 4096))) ⟨(z 1).val % 128, by omega⟩ * scale

theorem kPiece_at (y : FVec Ideal S256x4096 .f32) (h : ℕ) (hh : h < 8) (ho : S256x4096.Slices ![0, 1024 + 128 * h] S256x128)
    (z : S256x1024.Idx) (x : S256x128.Idx) (h0 : (z 0).val = (x 0).val) (h1 : (z 1).val = 128 * h + (x 1).val) : kHead (1024 + 128 * h) ho y x = kTile y z := by
  have x1 : (x 1).val < 128 := (x 1).isLt
  have hx : x = ix2 (x 0) (x 1) := ix2_ext _ _ fun a => by
    match a with
    | ⟨0, _⟩ => rfl
    | ⟨1, _⟩ => rfl
  rw [hx]
  refine (kHead_at _ ho y (by omega) (x 0) (x 1)).trans ?_
  unfold kTile
  refine congrArg₂ unit (funext fun k => congrArg y (ix2_ext _ _ fun a => ?_)) (Fin.ext (by show (x 1).val = (z 1).val % 128; omega))
  match a with
  | ⟨0, _⟩ => exact h0.symm
  | ⟨1, _⟩ => show 1024 + 128 * h + k.val = 1024 + 128 * ((z 1).val / 128) + k.val; omega

theorem qPiece_at (y : FVec Ideal S256x4096 .f32) (h : ℕ) (hh : h < 8) (ho : S256x4096.Slices ![0, 128 * h] S256x128)
    (z : S256x1024.Idx) (x : S256x128.Idx) (h0 : (z 0).val = (x 0).val) (h1 : (z 1).val = 128 * h + (x 1).val) : qHead (128 * h) ho y x = qTile y z := by
  have x1 : (x 1).val < 128 := (x 1).isLt
  have hx : x = ix2 (x 0) (x 1) := ix2_ext _ _ fun a => by
    match a with
    | ⟨0, _⟩ => rfl
    | ⟨1, _⟩ => rfl
  rw [hx]
  refine (qHead_at _ ho y (by omega) (x 0) (x 1)).trans ?_
  unfold qTile
  refine congrArg (· * scale) (congrArg₂ unit (funext fun k => congrArg y (ix2_ext _ _ fun a => ?_)) (Fin.ext (by show (x 1).val = (z 1).val % 128; omega)))
  match a with
  | ⟨0, _⟩ => exact h0.symm
  | ⟨1, _⟩ => show 128 * h + k.val = 128 * ((z 1).val / 128) + k.val; omega

theorem kOut_eq (y : FVec Ideal S256x4096 .f32) (z : S256x1024.Idx) : kOut y z = kTile y z := by
  unfold kOut
  refine View.read_writes_apply_of_pieces VO6 _ (kTile y) (kPieces y) (fun p hp => ?_) z (kPieces_cover y z)
  unfold kPieces at hp
  simp only [List.mem_cons, List.not_mem_nil, or_false] at hp
  rcases hp with rfl | rfl | rfl | rfl | rfl | rfl | rfl | rfl
  · exact fun (x : S256x128.Idx) => kPiece_at y 7 (by omega) _ _ x (by show 0 + 1 * (x 0).val = (x 0).val; omega) (by show 896 + 1 * (x 1).val = 128 * 7 + (x 1).val; omega)
  · exact fun (x : S256x128.Idx) => kPiece_at y 6 (by omega) _ _ x (by show 0 + 1 * (x 0).val = (x 0).val; omega) (by show 768 + 1 * (x 1).val = 128 * 6 + (x 1).val; omega)
  · exact fun (x : S256x128.Idx) => kPiece_at y 5 (by omega) _ _ x (by show 0 + 1 * (x 0).val = (x 0).val; omega) (by show 640 + 1 * (x 1).val = 128 * 5 + (x 1).val; omega)
  · exact fun (x : S256x128.Idx) => kPiece_at y 4 (by omega) _ _ x (by show 0 + 1 * (x 0).val = (x 0).val; omega) (by show 512 + 1 * (x 1).val = 128 * 4 + (x 1).val; omega)
  · exact fun (x : S256x128.Idx) => kPiece_at y 3 (by omega) _ _ x (by show 0 + 1 * (x 0).val = (x 0).val; omega) (by show 384 + 1 * (x 1).val = 128 * 3 + (x 1).val; omega)
  · exact fun (x : S256x128.Idx) => kPiece_at y 2 (by omega) _ _ x (by show 0 + 1 * (x 0).val = (x 0).val; omega) (by show 256 + 1 * (x 1).val = 128 * 2 + (x 1).val; omega)
  · exact fun (x : S256x128.Idx) => kPiece_at y 1 (by omega) _ _ x (by show 0 + 1 * (x 0).val = (x 0).val; omega) (by show 128 + 1 * (x 1).val = 128 * 1 + (x 1).val; omega)
  · exact fun (x : S256x128.Idx) => kPiece_at y 0 (by omega) _ _ x (by show 0 + 1 * (x 0).val = (x 0).val; omega) (by show 0 + 1 * (x 1).val = 128 * 0 + (x 1).val; omega)

theorem qOut_eq (y : FVec Ideal S256x4096 .f32) (z : S256x1024.Idx) : qOut y z = qTile y z := by
  unfold qOut
  refine View.read_writes_apply_of_pieces VO5 _ (qTile y) (qPieces y) (fun p hp => ?_) z (qPieces_cover y z)
  unfold qPieces at hp
  simp only [List.mem_cons, List.not_mem_nil, or_false] at hp
  rcases hp with rfl | rfl | rfl | rfl | rfl | rfl | rfl | rfl
  · exact fun (x : S256x128.Idx) => qPiece_at y 7 (by omega) _ _ x (by show 0 + 1 * (x 0).val = (x 0).val; omega) (by show 896 + 1 * (x 1).val = 128 * 7 + (x 1).val; omega)
  · exact fun (x : S256x128.Idx) => qPiece_at y 6 (by omega) _ _ x (by show 0 + 1 * (x 0).val = (x 0).val; omega) (by show 768 + 1 * (x 1).val = 128 * 6 + (x 1).val; omega)
  · exact fun (x : S256x128.Idx) => qPiece_at y 5 (by omega) _ _ x (by show 0 + 1 * (x 0).val = (x 0).val; omega) (by show 640 + 1 * (x 1).val = 128 * 5 + (x 1).val; omega)
  · exact fun (x : S256x128.Idx) => qPiece_at y 4 (by omega) _ _ x (by show 0 + 1 * (x 0).val = (x 0).val; omega) (by show 512 + 1 * (x 1).val = 128 * 4 + (x 1).val; omega)
  · exact fun (x : S256x128.Idx) => qPiece_at y 3 (by omega) _ _ x (by show 0 + 1 * (x 0).val = (x 0).val; omega) (by show 384 + 1 * (x 1).val = 128 * 3 + (x 1).val; omega)
  · exact fun (x : S256x128.Idx) => qPiece_at y 2 (by omega) _ _ x (by show 0 + 1 * (x 0).val = (x 0).val; omega) (by show 256 + 1 * (x 1).val = 128 * 2 + (x 1).val; omega)
  · exact fun (x : S256x128.Idx) => qPiece_at y 1 (by omega) _ _ x (by show 0 + 1 * (x 0).val = (x 0).val; omega) (by show 128 + 1 * (x 1).val = 128 * 1 + (x 1).val; omega)
  · exact fun (x : S256x128.Idx) => qPiece_at y 0 (by omega) _ _ x (by show 0 + 1 * (x 0).val = (x 0).val; omega) (by show 0 + 1 * (x 1).val = 128 * 0 + (x 1).val; omega)

/-! ## The result arrays -/

theorem q_point (t : Fin cfg0.N) (y : S256x1024.Idx) (z : S16384x1024.Idx) (h0 : (z 0).val = 256 * t.val + (y 0).val) (h1 : (z 1).val = (y 1).val) :
    qTile (actAt m c t) y = qAll (aX m c) (aM m c) (aN m c) (aW m c) (aC m c) z := by
  unfold qTile qAll qHeads
  refine congrArg (· * scale) (congrArg₂ unit (funext fun k => ?_) (Fin.ext (by show (y 1).val % 128 = (z 1).val % 128; rw [h1])))
  refine (actAt_at m c t (y 0) _ (z 0) h0).trans (congrArg (tok (aX m c) (aM m c) (aN m c) (aW m c) (aC m c) (z 0)) (Fin.ext ?_))
  show 128 * ((y 1).val / 128) + k.val = 128 * ((z 1).val / 128) + k.val
  rw [h1]

theorem k_point (t : Fin cfg0.N) (y : S256x1024.Idx) (z : S16384x1024.Idx) (h0 : (z 0).val = 256 * t.val + (y 0).val) (h1 : (z 1).val = (y 1).val) :
    kTile (actAt m c t) y = kAll (aX m c) (aM m c) (aN m c) (aW m c) (aC m c) z := by
  unfold kTile kAll kHeads
  refine congrArg₂ unit (funext fun k => ?_) (Fin.ext (by show (y 1).val % 128 = (z 1).val % 128; rw [h1]))
  refine (actAt_at m c t (y 0) _ (z 0) h0).trans (congrArg (tok (aX m c) (aM m c) (aN m c) (aW m c) (aC m c) (z 0)) (Fin.ext ?_))
  show 1024 + 128 * ((y 1).val / 128) + k.val = 1024 + 128 * ((z 1).val / 128) + k.val
  rw [h1]

theorem v_point (t : Fin cfg0.N) (y : S256x2048.Idx) (z : S16384x2048.Idx) (h0 : (z 0).val = 256 * t.val + (y 0).val) (h1 : (z 1).val = (y 1).val) :
    vOut (actAt m c t) y = vAll (aX m c) (aM m c) (aN m c) (aW m c) (aC m c) z := by
  have hy : y = ix2 (y 0) (y 1) := ix2_ext _ _ fun a => by
    match a with
    | ⟨0, _⟩ => rfl
    | ⟨1, _⟩ => rfl
  rw [hy]
  refine (vOut_at _ (y 0) (y 1)).trans ?_
  unfold vAll
  refine (actAt_at m c t (y 0) _ (z 0) h0).trans (congrArg (tok (aX m c) (aM m c) (aN m c) (aW m c) (aC m c) (z 0)) (Fin.ext ?_))
  show 2048 + (y 1).val = 2048 + (z 1).val
  rw [h1]

theorem q_final : (dats m 0 c).arrAt 5 cfg0.N = qAll (aX m c) (aM m c) (aN m c) (aW m c) (aC m c) := by
  refine (dats m 0 c).arrAt_eq_of_covers 5 (qAll (aX m c) (aM m c) (aN m c) (aW m c) (aC m c)) (by decide +kernel) fun t hf (y : S256x1024.Idx) => ?_
  refine (cast_eq _ _).trans ?_
  rw [after0_5]
  refine (qOut_eq _ _).trans (q_point m c t _ _ ?_ ?_)
  · refine (Pipeline.Window.rect_emb_val win0_5 t _ (0 : Fin 2)).trans ?_
    rw [(idx5 t).1]
    show t.val * 256 + (y 0).val = 256 * t.val + (y 0).val
    omega
  · refine (Pipeline.Window.rect_emb_val win0_5 t _ (1 : Fin 2)).trans ?_
    rw [(idx5 t).2]
    show 0 * 1024 + (y 1).val = (y 1).val
    omega

theorem k_final : (dats m 0 c).arrAt 6 cfg0.N = kAll (aX m c) (aM m c) (aN m c) (aW m c) (aC m c) := by
  refine (dats m 0 c).arrAt_eq_of_covers 6 (kAll (aX m c) (aM m c) (aN m c) (aW m c) (aC m c)) (by decide +kernel) fun t hf (y : S256x1024.Idx) => ?_
  refine (cast_eq _ _).trans ?_
  rw [after0_6]
  refine (kOut_eq _ _).trans (k_point m c t _ _ ?_ ?_)
  · refine (Pipeline.Window.rect_emb_val win0_6 t _ (0 : Fin 2)).trans ?_
    rw [(idx6 t).1]
    show t.val * 256 + (y 0).val = 256 * t.val + (y 0).val
    omega
  · refine (Pipeline.Window.rect_emb_val win0_6 t _ (1 : Fin 2)).trans ?_
    rw [(idx6 t).2]
    show 0 * 1024 + (y 1).val = (y 1).val
    omega

theorem v_final : (dats m 0 c).arrAt 7 cfg0.N = vAll (aX m c) (aM m c) (aN m c) (aW m c) (aC m c) := by
  refine (dats m 0 c).arrAt_eq_of_covers 7 (vAll (aX m c) (aM m c) (aN m c) (aW m c) (aC m c)) (by decide +kernel) fun t hf (y : S256x2048.Idx) => ?_
  refine (cast_eq _ _).trans ?_
  rw [after0_7]
  refine (v_point m c t _ _ ?_ ?_)
  · refine (Pipeline.Window.rect_emb_val win0_7 t _ (0 : Fin 2)).trans ?_
    rw [(idx7 t).1]
    show t.val * 256 + (y 0).val = 256 * t.val + (y 0).val
    omega
  · refine (Pipeline.Window.rect_emb_val win0_7 t _ (1 : Fin 2)).trans ?_
    rw [(idx7 t).2]
    show 0 * 2048 + (y 1).val = (y 1).val
    omega

end

end Cert.Kernel3Ideal.Conv

end
-- ==== Proof.ConvRef.lean ====
/- The reference's results of the convolution, read at an index. -/
module

public import proofs.«01_k».proof.Proof.ConvMath
public import proofs.«01_k».proof.Proof.Array
public import proofs.«01_k».proof.Proof.Gen.Reference3Ideal.Run
public import Idealize.ShloMosaic.Lib.KernelVsHost

@[expose] public section

set_option maxRecDepth 16384

noncomputable section

namespace Cert.Reference3Ideal.Conv

open Cert.Reference3Ideal Cert.Reference3Ideal.Gen Cert.Reference3Ideal.Value Idealize.ShloMosaic Idealize.ShloMosaic.TcCoe Idealize.SL.Sem Cert.Conv
open Cert.KernelIdeal.Att (ix2_ext)

/-- The tokens by sequence. -/
def seqs (a0 : FVec Ideal S16384x1024 .f32) : FVec Ideal S8x2048x1024 .f32 :=
  shapeCast _ a0 shapeCasts_S16384x1024_S8x2048x1024

/-- The normed rows. -/
def hidden (a0 : FVec Ideal S16384x1024 .f32) (a1 : FVec Ideal S8x6x1024 .f32) (a2 : FVec Ideal S1024 .f32) : FVec Ideal S8x2048x1024 .f32 :=
  addf (mulf (mulf (mulf (seqs a0) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (seqs a0) (seqs a0)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 a2))) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1024 ![0, 1, 0] a1 slices_S8x6x1024_S8x1x1024_0_1_0) shapeCasts_S8x1x1024_S8x1024))))) (broadcastInDim S8x2048x1024 ![0, 1, 2] bcast_S8x1x1024_S8x2048x1024_0_1_2 (broadcastInDim S8x1x1024 ![0, 2] bcast_S8x1024_S8x1x1024_0_2 (shapeCast _ (extractStridedSlice S8x1x1024 ![0, 0, 0] a1 slices_S8x6x1024_S8x1x1024_0_0_0) shapeCasts_S8x1x1024_S8x1024)))

/-- Their projection. -/
def projected (h : FVec Ideal S8x2048x1024 .f32) (a3 : FVec Ideal S1024x6176 .f32) : FVec Ideal S8x2048x4096 .f32 :=
  extractStridedSlice S8x2048x4096 ![0, 0, 0] (Host.dotGeneral dot_S8x2048x1024_S1024x6176_S8x2048x6176_2_0_01_1_n_n none h a3) slices_S8x2048x6176_S8x2048x4096_0_0_0

/-- The projection after three rows of zeros. -/
def padded (p : FVec Ideal S8x2048x4096 .f32) : FVec Ideal S8x2051x4096 .f32 :=
  pad S8x2051x4096 ![0, 3, 0] ![0, 0, 0] ![0, 0, 0] p (sitofp .f32 (constantI S_ 32 0#32)) pads_S8x2048x4096_S8x2051x4096_000_300_000 h_S_

/-- The convolution. -/
def conved (p : FVec Ideal S8x2051x4096 .f32) (a4 : FVec Ideal S4x4096 .f32) : FVec Ideal S8x2048x4096 .f32 :=
  addf (addf (addf (addf (broadcastInDim S8x2048x4096 ![] bcast_S_S8x2048x4096 (constant S_ .f32 0x00000000#32)) (mulf (extractStridedSlice S8x2048x4096 ![0, 0, 0] p slices_S8x2051x4096_S8x2048x4096_0_0_0) (broadcastInDim S8x2048x4096 ![0, 1, 2] bcast_S1x1x4096_S8x2048x4096_0_1_2 (broadcastInDim S1x1x4096 ![2] bcast_S4096_S1x1x4096_2 (shapeCast _ (extractStridedSlice S1x4096 ![0, 0] a4 slices_S4x4096_S1x4096_0_0) shapeCasts_S1x4096_S4096))))) (mulf (extractStridedSlice S8x2048x4096 ![0, 1, 0] p slices_S8x2051x4096_S8x2048x4096_0_1_0) (broadcastInDim S8x2048x4096 ![0, 1, 2] bcast_S1x1x4096_S8x2048x4096_0_1_2 (broadcastInDim S1x1x4096 ![2] bcast_S4096_S1x1x4096_2 (shapeCast _ (extractStridedSlice S1x4096 ![1, 0] a4 slices_S4x4096_S1x4096_1_0) shapeCasts_S1x4096_S4096))))) (mulf (extractStridedSlice S8x2048x4096 ![0, 2, 0] p slices_S8x2051x4096_S8x2048x4096_0_2_0) (broadcastInDim S8x2048x4096 ![0, 1, 2] bcast_S1x1x4096_S8x2048x4096_0_1_2 (broadcastInDim S1x1x4096 ![2] bcast_S4096_S1x1x4096_2 (shapeCast _ (extractStridedSlice S1x4096 ![2, 0] a4 slices_S4x4096_S1x4096_2_0) shapeCasts_S1x4096_S4096))))) (mulf (extractStridedSlice S8x2048x4096 ![0, 3, 0] p slices_S8x2051x4096_S8x2048x4096_0_3_0) (broadcastInDim S8x2048x4096 ![0, 1, 2] bcast_S1x1x4096_S8x2048x4096_0_1_2 (broadcastInDim S1x1x4096 ![2] bcast_S4096_S1x1x4096_2 (shapeCast _ (extractStridedSlice S1x4096 ![3, 0] a4 slices_S4x4096_S1x4096_3_0) shapeCasts_S1x4096_S4096))))

/-- Its activation. -/
def acted (c : FVec Ideal S8x2048x4096 .f32) : FVec Ideal S8x2048x4096 .f32 :=
  mulf c (Host.divf (broadcastInDim S8x2048x4096 ![] bcast_S_S8x2048x4096 (constant S_ .f32 0x3F800000#32)) (addf (broadcastInDim S8x2048x4096 ![] bcast_S_S8x2048x4096 (constant S_ .f32 0x3F800000#32)) (Host.exp (Host.negf c))))

/-- The heads of the first result. -/
def heads0 (Y : FVec Ideal S8x2048x4096 .f32) : FVec Ideal S16384x8x128 .f32 :=
  shapeCast _ (extractStridedSlice S8x2048x1024 ![0, 0, 0] Y slices_S8x2048x4096_S8x2048x1024_0_0_0) shapeCasts_S8x2048x1024_S16384x8x128

/-- The heads of the second result. -/
def heads1 (Y : FVec Ideal S8x2048x4096 .f32) : FVec Ideal S16384x8x128 .f32 :=
  shapeCast _ (extractStridedSlice S8x2048x1024 ![0, 0, 1024] Y slices_S8x2048x4096_S8x2048x1024_0_0_1024) shapeCasts_S8x2048x1024_S16384x8x128

/-- Each head over its length. -/
def units (g : FVec Ideal S16384x8x128 .f32) : FVec Ideal S16384x8x128 .f32 :=
  mulf g (broadcastInDim S16384x8x128 ![0, 1, 2] bcast_S16384x8x1_S16384x8x128_0_1_2 (Host.rsqrt (addf (broadcastInDim S16384x8x1 ![0, 1] bcast_S16384x8_S16384x8x1_0_1 (Host.reduceAdd (mulf g g) (constant S_ .f32 0x00000000#32) reducesTo_S16384x8x128_S16384x8_d2 h_S_)) (broadcastInDim S16384x8x1 ![] bcast_S_S16384x8x1 (constant S_ .f32 0x358637BD#32)))))

/-- The first result. -/
def qRes (u : FVec Ideal S16384x8x128 .f32) : FVec Ideal S16384x1024 .bf16 :=
  truncf .bf16 (shapeCast _ (mulf u (broadcastInDim S16384x8x128 ![] bcast_S_S16384x8x128 (constant S_ .f32 0x3DB504F3#32))) shapeCasts_S16384x8x128_S16384x1024) bitsLt_bf16_f32

/-- The second result. -/
def kRes (u : FVec Ideal S16384x8x128 .f32) : FVec Ideal S16384x1024 .bf16 :=
  truncf .bf16 (shapeCast _ u shapeCasts_S16384x8x128_S16384x1024) bitsLt_bf16_f32

/-- The third result. -/
def vRes (Y : FVec Ideal S8x2048x4096 .f32) : FVec Ideal S16384x2048 .bf16 :=
  truncf .bf16 (shapeCast _ (extractStridedSlice S8x2048x2048 ![0, 0, 2048] Y slices_S8x2048x4096_S8x2048x2048_0_0_2048) shapeCasts_S8x2048x2048_S16384x2048) bitsLt_bf16_f32

/-- The activation of the arguments. -/
def activated (m : (ℓ : Loc nD τ sig) → Buf (Elt Ideal) ℓ) (c : Dev nD) : FVec Ideal S8x2048x4096 .f32 :=
  acted (conved (padded (projected (hidden (m ((c.tc : Thread nD τ).loc main_arg0)) (m ((c.tc : Thread nD τ).loc main_arg1)) (m ((c.tc : Thread nD τ).loc main_arg2)))
    (m ((c.tc : Thread nD τ).loc main_arg3)))) (m ((c.tc : Thread nD τ).loc main_arg4)))

theorem q_eq (m : (ℓ : Loc nD τ sig) → Buf (Elt Ideal) ℓ) (c : Dev nD) : res_main_v83 (F := Ideal) m c = qRes (units (heads0 (activated m c))) := by
  unfold res_main_v83 qRes units heads0 activated acted conved padded projected hidden seqs
  rfl

theorem k_eq (m : (ℓ : Loc nD τ sig) → Buf (Elt Ideal) ℓ) (c : Dev nD) : res_main_v85 (F := Ideal) m c = kRes (units (heads1 (activated m c))) := by
  unfold res_main_v85 kRes units heads1 activated acted conved padded projected hidden seqs
  rfl

theorem v_eq (m : (ℓ : Loc nD τ sig) → Buf (Elt Ideal) ℓ) (c : Dev nD) : res_main_v87 (F := Ideal) m c = vRes (activated m c) := by
  unfold res_main_v87 vRes activated acted conved padded projected hidden seqs
  rfl

theorem seqs_at (a0 : FVec Ideal S16384x1024 .f32) (b : Fin 8) (s : Fin 2048) (j : Fin 1024) :
    seqs a0 (ix3 b s j) = a0 (ix2 (⟨2048 * b.val + s.val, by omega⟩ : Fin 16384) j) := by
  unfold seqs
  pointwise []
  exact congrArg (fun z => a0 (ix2 z j)) (Fin.ext (by show b.val * 2048 + s.val = 2048 * b.val + s.val; omega))

theorem hidden_at (a0 : FVec Ideal S16384x1024 .f32) (a1 : FVec Ideal S8x6x1024 .f32) (a2 : FVec Ideal S1024 .f32) (b : Fin 8) (s : Fin 2048) (j : Fin 1024) :
    hidden a0 a1 a2 (ix3 b s j) = row a0 a1 a2 b s j := by
  unfold hidden row normed
  pointwise []
  simp only [seqs_at]

theorem projected_at (h : FVec Ideal S8x2048x1024 .f32) (a3 : FVec Ideal S1024x6176 .f32) (b : Fin 8) (s : Fin 2048) (n : Fin 4096) :
    projected h a3 (ix3 b s n) = ∑ j : Fin 1024, h (ix3 b s j) * a3 (ix2 j (⟨n.val, by omega⟩ : Fin 6176)) := by
  unfold projected
  pointwise []

theorem padded_at (p : FVec Ideal S8x2048x4096 .f32) (b : Fin 8) (s : Fin 2051) (n : Fin 4096) :
    padded p (ix3 b s n) = if h : 3 ≤ s.val then p (ix3 b (⟨s.val - 3, by omega⟩ : Fin 2048) n) else 0 := by
  unfold padded
  split
  · rename_i h
    refine pad_apply_of_inside _ _ _ _ _ _ _ _ _ fun a => ?_
    match a with
    | ⟨0, _⟩ => show b.val = 0 + b.val * 1; omega
    | ⟨1, _⟩ => show s.val = 3 + (s.val - 3) * 1; omega
    | ⟨2, _⟩ => show n.val = 0 + n.val * 1; omega
  · rename_i h
    refine (pad_apply_of_not_inside _ _ _ _ _ _ _ _ (1 : Fin 3) fun hin => h hin.1).trans ?_
    pointwise []
    show (((0#32 : BitVec 32).toInt : ℝ) : EReal) = 0
    simp

theorem conved_at (p : FVec Ideal S8x2051x4096 .f32) (a4 : FVec Ideal S4x4096 .f32) (b : Fin 8) (s : Fin 2048) (n : Fin 4096) :
    conved p a4 (ix3 b s n) = conv (fun k => a4 (ix2 k n)) (fun d => p (ix3 b (⟨s.val + 3 - d.val, by omega⟩ : Fin 2051) n)) := by
  have hp : ∀ {u v : Fin 2051} (k : Fin 4), u.val = v.val → p (ix3 b u n) * a4 (ix2 k n) = a4 (ix2 k n) * p (ix3 b v n) := fun k h => by
    rw [Fin.ext h, mul_comm]
  unfold conved conv
  pointwise []
  rw [hp 0 (v := ⟨s.val + 3 - (3 : Fin 4).val, by omega⟩) (Nat.add_sub_cancel _ 3).symm, hp 1 (v := ⟨s.val + 3 - (2 : Fin 4).val, by omega⟩) (by show 1 + s.val = s.val + 3 - 2; omega),
    hp 2 (v := ⟨s.val + 3 - (1 : Fin 4).val, by omega⟩) (by show 2 + s.val = s.val + 3 - 1; omega), hp 3 (v := ⟨s.val + 3 - (0 : Fin 4).val, by omega⟩) (by show 3 + s.val = s.val + 3; omega)]
  generalize a4 (ix2 0 n) * _ = A
  generalize a4 (ix2 1 n) * _ = B
  generalize a4 (ix2 2 n) * _ = C
  generalize a4 (ix2 3 n) * _ = D
  rw [add_comm (A + B + C) D, add_comm (A + B) C, add_comm A B, ← add_assoc, ← add_assoc]

theorem acted_at (c : FVec Ideal S8x2048x4096 .f32) (b : Fin 8) (s : Fin 2048) (n : Fin 4096) : acted c (ix3 b s n) = silu (c (ix3 b s n)) := by
  unfold acted silu
  pointwise []

theorem heads0_at (Y : FVec Ideal S8x2048x4096 .f32) (T : Fin 16384) (h : Fin 8) (l : Fin 128) :
    heads0 Y (ix3 T h l) = Y (ix3 (seqOf T) (posOf T) (⟨128 * h.val + l.val, by omega⟩ : Fin 4096)) := by
  unfold heads0 seqOf posOf
  pointwise []
  exact congrArg (fun z => Y (ix3 _ _ z)) (Fin.ext (by show h.val * 128 + l.val = 128 * h.val + l.val; omega))

theorem heads1_at (Y : FVec Ideal S8x2048x4096 .f32) (T : Fin 16384) (h : Fin 8) (l : Fin 128) :
    heads1 Y (ix3 T h l) = Y (ix3 (seqOf T) (posOf T) (⟨1024 + 128 * h.val + l.val, by omega⟩ : Fin 4096)) := by
  unfold heads1 seqOf posOf
  pointwise []
  exact congrArg (fun z => Y (ix3 _ _ z)) (Fin.ext (by show 1024 + (h.val * 128 + l.val) = 1024 + 128 * h.val + l.val; omega))

theorem units_at (g : FVec Ideal S16384x8x128 .f32) (T : Fin 16384) (h : Fin 8) (l : Fin 128) :
    units g (ix3 T h l) = unit (fun k => g (ix3 T h k)) l := by
  unfold units unit
  pointwise []

theorem qRes_at (u : FVec Ideal S16384x8x128 .f32) (T : Fin 16384) (n : Fin 1024) :
    qRes u (ix2 T n) = u (ix3 T (⟨n.val / 128, by omega⟩ : Fin 8) (⟨n.val % 128, by omega⟩ : Fin 128)) * scale := by
  unfold qRes scale
  pointwise []

theorem kRes_at (u : FVec Ideal S16384x8x128 .f32) (T : Fin 16384) (n : Fin 1024) :
    kRes u (ix2 T n) = u (ix3 T (⟨n.val / 128, by omega⟩ : Fin 8) (⟨n.val % 128, by omega⟩ : Fin 128)) := by
  unfold kRes
  pointwise []

theorem vRes_at (Y : FVec Ideal S8x2048x4096 .f32) (T : Fin 16384) (n : Fin 2048) :
    vRes Y (ix2 T n) = Y (ix3 (seqOf T) (posOf T) (⟨2048 + n.val, by omega⟩ : Fin 4096)) := by
  unfold vRes seqOf posOf
  pointwise []

/-! ## The results -/

section
variable (m : (ℓ : Loc nD τ sig) → Buf (Elt Ideal) ℓ) (c : Dev nD)

theorem activated_at (b : Fin 8) (s : Fin 2048) (n : Fin 4096) :
    activated m c (ix3 b s n) = active (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) b s n := by
  unfold activated active
  rw [acted_at, conved_at]
  refine congrArg (fun f => silu (conv _ f)) (funext fun d => ?_)
  rw [padded_at]
  unfold earlier lin
  by_cases h : d.val ≤ s.val
  · rw [if_pos h, dif_pos (by show 3 ≤ s.val + 3 - d.val; omega), projected_at]
    refine Finset.sum_congr rfl fun j _ => ?_
    rw [hidden_at]
    exact congrArg (fun z => row _ _ _ b z j * _) (Fin.ext (by show s.val + 3 - d.val - 3 = s.val - d.val; omega))
  · rw [if_neg h, dif_neg (by show ¬ 3 ≤ s.val + 3 - d.val; omega)]

theorem ix2_self {a b : ℕ} (z : (⟨2, ![a, b]⟩ : Shape).Idx) : z = ix2 (z 0) (z 1) := ix2_ext _ _ fun x => by
  match x with
  | ⟨0, _⟩ => rfl
  | ⟨1, _⟩ => rfl

theorem q_result : res_main_v83 (F := Ideal) m c = qAll (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  rw [q_eq]
  have H : ∀ (T : Fin 16384) (n : Fin 1024), qRes (units (heads0 (activated m c))) (ix2 T n) = qAll (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (ix2 T n) := fun T n => by
    rw [qRes_at, units_at]
    unfold qAll qHeads tok
    simp only [heads0_at, activated_at]
    rfl
  refine funext fun (z : S16384x1024.Idx) => ?_
  rw [ix2_self z]
  exact H (z 0) (z 1)

theorem k_result : res_main_v85 (F := Ideal) m c = kAll (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  rw [k_eq]
  have H : ∀ (T : Fin 16384) (n : Fin 1024), kRes (units (heads1 (activated m c))) (ix2 T n) = kAll (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (ix2 T n) := fun T n => by
    rw [kRes_at, units_at]
    unfold kAll kHeads tok
    simp only [heads1_at, activated_at]
    rfl
  refine funext fun (z : S16384x1024.Idx) => ?_
  rw [ix2_self z]
  exact H (z 0) (z 1)

theorem v_result : res_main_v87 (F := Ideal) m c = vAll (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  rw [v_eq]
  refine funext fun (z : S16384x2048.Idx) => ?_
  rw [ix2_self z]
  refine (vRes_at _ (z 0) (z 1)).trans ?_
  unfold vAll tok
  rw [activated_at]
  rfl

end

end Cert.Reference3Ideal.Conv

end
-- ==== Proof.ConvClaims.lean ====
/- The claims of the convolution: the reference's frame and the value claim. -/
module

public import proofs.«01_k».proof.Defs
public import proofs.«01_k».proof.Proof.ConvLaunch
public import proofs.«01_k».proof.Proof.ConvValue
public import proofs.«01_k».proof.Proof.ConvRef
public import Idealize.ShloMosaic.Lib.Quiescent

@[expose] public section

set_option maxRecDepth 16384

noncomputable section

namespace Cert.Conv

open Idealize.ShloMosaic Idealize.ShloMosaic.TcCoe Idealize.SL.Sem

theorem frame_kernel : Cert.quiescent_Kernel3 := fun m g _ => Cert.Kernel3.Conv.frame m g

theorem frame_ideal : Cert.quiescent_Kernel3Ideal := fun m g _ => Cert.Kernel3Ideal.Conv.frame m g

theorem frame_reference : Cert.quiescent_Reference3Ideal := fun m g _ =>
  (θ_run _ _ _).mono (fun r h => ⟨fun c => (h c).2.2.2, sem_eq_zero_of_no_sems (by decide) r.2⟩) (Cert.Reference3Ideal.Value.run (F := Ideal) m g)

open Cert.Kernel3Ideal.Conv in
theorem algebraic : Cert.algebraic_Kernel3Ideal_Reference3Ideal := by
  intro m g m' g' _ hagree
  refine ⟨fun c => qAll (aX m c) (aM m c) (aN m c) (aW m c) (aC m c), fun c => kAll (aX m c) (aM m c) (aN m c) (aW m c) (aC m c),
    fun c => vAll (aX m c) (aM m c) (aN m c) (aW m c) (aC m c), ?_, ?_⟩
  · exact (θ_run _ _ _).mono (fun r h c => ⟨((h c).1 5).trans (q_final m c), ((h c).1 6).trans (k_final m c), ((h c).1 7).trans (v_final m c), args_kept m r h c⟩)
      (run_main m g)
  · refine (θ_run _ _ _).mono (fun r h c => ⟨(h c).1.trans ?_, (h c).2.1.trans ?_, (h c).2.2.1.trans ?_, (h c).2.2.2⟩) (Cert.Reference3Ideal.Value.run (F := Ideal) m' g')
    all_goals obtain ⟨e0, e1, e2, e3, e4⟩ := hagree c
    · refine (Cert.Reference3Ideal.Conv.q_result m' c).trans ?_
      rw [e0, e1, e2, e3, e4]
    · refine (Cert.Reference3Ideal.Conv.k_result m' c).trans ?_
      rw [e0, e1, e2, e3, e4]
    · refine (Cert.Reference3Ideal.Conv.v_result m' c).trans ?_
      rw [e0, e1, e2, e3, e4]

end Cert.Conv

end
-- ==== Proof.GateMath.lean ====
/- The recurrent layer's gates as functions of numbers. -/
module

public import proofs.«01_k».proof.Proof.ConvMath

@[expose] public section

noncomputable section

namespace Cert.Gate

open Idealize.ShloMosaic
open Cert.Conv (normed row seqOf posOf)

/-! ## Sums over the rows since a chunk began -/

/-- The sum of the last `K` of the rows from the start of `r`'s chunk of 64 to `r`. -/
def runs (f : ℕ → EReal) (K r : ℕ) : EReal := ∑ d ∈ Finset.range K, if d ≤ r % 64 then f (r - d) else 0

theorem runs_one (f : ℕ → EReal) (r : ℕ) : runs f 1 r = f r := by
  simp [runs]

/-- Twice as many rows: those, and as many that lie `K` rows before. -/
theorem runs_double (f : ℕ → EReal) (K r : ℕ) : runs f (K + K) r = runs f K r + if K ≤ r % 64 then runs f K (r - K) else 0 := by
  unfold runs
  rw [Finset.sum_range_add]
  refine congrArg (_ + ·) ?_
  split
  · rename_i h
    refine Finset.sum_congr rfl fun d _ => ?_
    have e : (r - K) % 64 = r % 64 - K := by omega
    rw [e, show r - (K + d) = r - K - d by omega]
    exact if_congr (by omega) rfl rfl
  · exact Finset.sum_eq_zero fun d _ => if_neg (by omega)

/-- The sum depends only on the chunk's rows. -/
theorem runs_congr (f g : ℕ → EReal) (K r s : ℕ) (h : r % 64 = s % 64) (hfg : ∀ d, d ≤ r % 64 → f (r - d) = g (s - d)) : runs f K r = runs g K s := by
  unfold runs
  refine Finset.sum_congr rfl fun d _ => ?_
  rw [← h]
  split
  · rename_i hd
    exact hfg d hd
  · rfl

/-! ## The gates -/

/-- The logistic function. -/
def gate (a : EReal) : EReal := Ideal.div 1 (1 + Ideal.exp (-a))

/-- The logarithm of one plus an exponential. -/
def softplus (a : EReal) : EReal := max a 0 + Ideal.log (1 + Ideal.exp (-(max a (-a))))

/-- The logarithm of a row's decay, from its logit, the bias and the rate. -/
def decay (al dt a : EReal) : EReal := -(Ideal.exp al) * softplus (a + dt)

section
variable (x : (⟨2, ![16384, 1024]⟩ : Shape).Idx → EReal) (md : (⟨3, ![8, 6, 1024]⟩ : Shape).Idx → EReal) (nw : (⟨1, ![1024]⟩ : Shape).Idx → EReal)
  (w : (⟨2, ![1024, 6176]⟩ : Shape).Idx → EReal) (al dt : (⟨1, ![16]⟩ : Shape).Idx → EReal)

/-- A row's projection to one of all columns. -/
def lin (b : Fin 8) (s : Fin 2048) (n : Fin 6176) : EReal := ∑ j : Fin 1024, row x md nw b s j * w (ix2 j n)

/-- Lane `l` of a row's logits: 32 of them, and zeros. -/
def logit (b : Fin 8) (s : Fin 2048) (l : Fin 128) : EReal := if h : l.val < 32 then lin x md nw w b s ⟨6144 + l.val, by omega⟩ else 0

/-- The weights' columns from 4096 on, and zeros. -/
def tailCols (j : Fin 1024) (n : Fin 2176) : EReal := if h : n.val < 2080 then w (ix2 j ⟨4096 + n.val, by omega⟩) else 0

theorem tailCols_pos (j : Fin 1024) (n : Fin 2176) (h : n.val < 2080) (k : Fin 6176) (hk : k.val = 4096 + n.val) : tailCols w j n = w (ix2 j k) := by
  unfold tailCols
  rw [dif_pos h]
  exact congrArg (fun k => w (ix2 j k)) (Fin.ext hk.symm)

theorem tailCols_neg (j : Fin 1024) (n : Fin 2176) (h : ¬ n.val < 2080) : tailCols w j n = 0 := by
  unfold tailCols
  rw [dif_neg h]

theorem lin_tail (b : Fin 8) (s : Fin 2048) (n : Fin 2048) :
    ∑ j : Fin 1024, row x md nw b s j * tailCols w j ⟨n.val, by omega⟩ = lin x md nw w b s ⟨4096 + n.val, by omega⟩ := by
  have h : n.val < 2080 := by omega
  unfold lin
  exact Finset.sum_congr rfl fun j _ => congrArg (row x md nw b s j * ·) (tailCols_pos w j _ h _ rfl)

theorem logit_tail (b : Fin 8) (s : Fin 2048) (l : Fin 128) :
    ∑ j : Fin 1024, row x md nw b s j * tailCols w j ⟨2048 + l.val, by omega⟩ = logit x md nw w b s l := by
  unfold logit
  split
  · rename_i h
    have h' : 2048 + l.val < 2080 := by omega
    have e : 6144 + l.val = 4096 + (2048 + l.val) := by omega
    unfold lin
    exact Finset.sum_congr rfl fun j _ => congrArg (row x md nw b s j * ·) (tailCols_pos w j _ h' _ e)
  · rename_i h
    have h' : ¬ 2048 + l.val < 2080 := by omega
    exact Finset.sum_eq_zero fun j _ => (congrArg (row x md nw b s j * ·) (tailCols_neg w j _ h')).trans (mul_zero _)

/-- A number per head, in lanes 16 to 31, and zeros. -/
def lane (a : (⟨1, ![16]⟩ : Shape).Idx → EReal) (l : Fin 128) : EReal := if h : 16 ≤ l.val ∧ l.val < 32 then a (ix1 ⟨l.val - 16, by omega⟩) else 0

/-- The logarithm of the decay of row `s`. -/
def logDecay (b : Fin 8) (l : Fin 128) (s : ℕ) : EReal :=
  if h : s < 2048 then decay (lane al l) (lane dt l) (logit x md nw w b ⟨s, h⟩ l) else 0

/-- The two results. -/
def zAll (z : (⟨2, ![16384, 2048]⟩ : Shape).Idx) : EReal :=
  lin x md nw w (seqOf (z 0)) (posOf (z 0)) ⟨4096 + (z 1).val, by have : (z 1).val < 2048 := (z 1).isLt; omega⟩
def gAll (z : (⟨2, ![16384, 128]⟩ : Shape).Idx) : EReal :=
  if (z 1).val < 16 then gate (logit x md nw w (seqOf (z 0)) (posOf (z 0)) (z 1))
  else runs (logDecay x md nw w al dt (seqOf (z 0)) (z 1)) 64 (posOf (z 0)).val

end

end Cert.Gate

end
-- ==== Proof.GatePay.lean ====
/- The idealised body's two results, read at an index. -/
module

public import proofs.«01_k».proof.Proof.GateMath
public import proofs.«01_k».proof.Proof.Array
public import proofs.«01_k».proof.Proof.Gen.Kernel4Ideal.Value
public import Idealize.ShloMosaic.Lib.KernelVsHost

@[expose] public section

set_option maxRecDepth 16384

noncomputable section

namespace Cert.Kernel4Ideal.Gate

open Cert.Kernel4Ideal Cert.Kernel4Ideal.Gen Idealize.ShloMosaic Idealize.ShloMosaic.TcCoe Idealize.SL.Sem Cert.Gate
open Cert.Conv (normed row seqOf posOf)
open Cert.KernelIdeal.Att (ix2_ext)

theorem pay2_at (x1 : Vec Ideal S1x6x1024 .f32) (x0 : Vec Ideal S256x1024 .f32) (x2 : Vec Ideal S1x1024 .f32) (x3 : Vec Ideal S1024x2176 .bf16) (r : Fin 256) (n : Fin 2176) :
    k0_pay2 x1 x0 x2 x3 (ix2 r n)
      = ∑ j : Fin 1024, normed (fun k => x0 (ix2 r k)) (fun k => x2 (ix2 0 k)) (fun k => x1 (ix3 0 1 k)) (fun k => x1 (ix3 0 0 k)) j * x3 (ix2 j n) := by
  unfold k0_pay2 normed
  pointwise []

theorem pay3_at (x1 : Vec Ideal S1x6x1024 .f32) (x0 : Vec Ideal S256x1024 .f32) (x2 : Vec Ideal S1x1024 .f32) (x3 : Vec Ideal S1024x2176 .bf16) (r : Fin 256) (n : Fin 2048) :
    k0_pay3 x1 x0 x2 x3 (ix2 r n) = k0_pay2 x1 x0 x2 x3 (ix2 r (⟨n.val, by omega⟩ : Fin 2176)) := by
  unfold k0_pay3
  pointwise []

theorem pay4_at (x1 : Vec Ideal S1x6x1024 .f32) (x0 : Vec Ideal S256x1024 .f32) (x2 : Vec Ideal S1x1024 .f32) (x3 : Vec Ideal S1024x2176 .bf16) (r : Fin 256) (l : Fin 128) :
    k0_pay4 x1 x0 x2 x3 (ix2 r l) = k0_pay2 x1 x0 x2 x3 (ix2 r (⟨2048 + l.val, by omega⟩ : Fin 2176)) := by
  unfold k0_pay4
  pointwise []

theorem pay8_at (a : FVec Ideal S256x128 .f32) (r : Fin 256) (l : Fin 128) : k0_pay8 a (ix2 r l) = gate (a (ix2 r l)) := by
  unfold k0_pay8 gate
  pointwise []
  simp only [zero_sub]

/-! ## The running sum -/

/-- One step of the running sum. -/
def step (k : BitVec 32) (v : FVec Ideal S256x128 .f32) : FVec Ideal S256x128 .f32 :=
  addf v (select (cmpi .sge k0_pay9 (broadcast S256x128 k)) (dynamicRotate 0 k none v rotates_S256x128_d0) (broadcast S256x128 (Scalar.ofBits .f32 0x00000000#32)))

/-- The tile's log-decays. -/
def dec (x5 x4 : Vec Ideal S1x128 .f32) (a : FVec Ideal S256x128 .f32) : FVec Ideal S256x128 .f32 :=
  have v36 := addf a (broadcastTo S256x128 (shapeCast S1x128 x5 shapeCasts_S1x128_S1x128) broadcasts_S1x128_S256x128)
  mulf (broadcastTo S256x128 (subf (broadcast S1x128 (Scalar.ofBits .f32 0x00000000#32)) (exp (shapeCast S1x128 x4 shapeCasts_S1x128_S1x128))) broadcasts_S1x128_S256x128)
    (addf (maximumf v36 (broadcast S256x128 (Scalar.ofBits .f32 0x00000000#32)))
      (log (addf (broadcast S256x128 (Scalar.ofBits .f32 0x3F800000#32)) (exp (subf (broadcast S256x128 (Scalar.ofBits .f32 0x00000000#32)) (absf v36))))))

/-- The tile of the second result. -/
def gates (x5 x4 : Vec Ideal S1x128 .f32) (a : FVec Ideal S256x128 .f32) : FVec Ideal S256x128 .f32 :=
  select (broadcastTo S256x128 (shapeCast S1x128 k0_pay7 shapeCasts_S1x128_S1x128) broadcasts_S1x128_S256x128) (k0_pay8 a)
    (step 32#32 (step 16#32 (step 8#32 (step 4#32 (step 2#32 (step 1#32 (dec x5 x4 a)))))))

theorem gates_eq (x1 : Vec Ideal S1x6x1024 .f32) (x0 : Vec Ideal S256x1024 .f32) (x2 : Vec Ideal S1x1024 .f32) (x3 : Vec Ideal S1024x2176 .bf16) (x4 x5 : Vec Ideal S1x128 .f32) :
    k0_pay1 k0_pay7 (k0_pay8 (k0_pay4 x1 x0 x2 x3)) k0_pay9 (k0_pay10 (k0_pay5 x1 x0 x2 x3 x5) (k0_pay6 x1 x0 x2 x3 x5) x4) k0_pay11 4#32
      = gates x5 x4 (k0_pay4 x1 x0 x2 x3) := by
  unfold k0_pay1 k0_pay10 k0_pay11 k0_pay6 k0_pay5 gates step dec
  rfl

theorem dec_at (x5 x4 : Vec Ideal S1x128 .f32) (a : FVec Ideal S256x128 .f32) (r : Fin 256) (l : Fin 128) :
    dec x5 x4 a (ix2 r l) = decay (x4 (ix2 0 l)) (x5 (ix2 0 l)) (a (ix2 r l)) := by
  unfold dec decay softplus
  pointwise []
  simp only [zero_sub]
  rfl

theorem mask_at (k : BitVec 32) (r : Fin 256) (l : Fin 128) : cmpi .sge k0_pay9 (broadcast S256x128 k) (ix2 r l) = IntOp.cmpi .sge (IntOp.andi (BitVec.ofNat 32 r.val) 63#32) k := by
  unfold k0_pay9
  pointwise []

theorem rot_at (k : ℕ) (hk : k < 256) (v : FVec Ideal S256x128 .f32) (r : Fin 256) (l : Fin 128) (h : k ≤ r.val) :
    dynamicRotate 0 (BitVec.ofNat 32 k) none v rotates_S256x128_d0 (ix2 r l) = v (ix2 (⟨r.val - k, by omega⟩ : Fin 256) l) := by
  unfold dynamicRotate
  refine congrArg v (ix2_ext _ _ fun x => ?_)
  match x with
  | ⟨0, _⟩ =>
    show (r.val + 256 - ((BitVec.ofNat 32 k).toNat + 0) % 256) % 256 = r.val - k
    rw [BitVec.toNat_ofNat]; omega
  | ⟨1, _⟩ => rfl

theorem first_at (r : Fin 256) (l : Fin 128) (p : IVec S1x128 1) : broadcastTo S256x128 (shapeCast S1x128 p shapeCasts_S1x128_S1x128) broadcasts_S1x128_S256x128 (ix2 r l) = p (ix2 0 l) := by
  pointwise []

theorem pay7_at (l : Fin 128) : k0_pay7 (ix2 0 l) = if l.val < 16 then 1#1 else 0#1 := by
  have h : k0_pay7 (ix2 0 l) = IntOp.cmpi .slt (BitVec.ofNat 32 l.val) 16#32 := by
    unfold k0_pay7
    pointwise []
  rw [h]
  revert l
  decide +kernel

/-- A step by a number of rows below 64. -/
theorem step_at (k : ℕ) (hk : k < 64) (hm : ∀ r : Fin 256, IntOp.cmpi .sge (IntOp.andi (BitVec.ofNat 32 r.val) 63#32) (BitVec.ofNat 32 k) = if k ≤ r.val % 64 then 1#1 else 0#1)
    (v : FVec Ideal S256x128 .f32) (r : Fin 256) (l : Fin 128) :
    step (BitVec.ofNat 32 k) v (ix2 r l) = v (ix2 r l) + if k ≤ r.val % 64 then v (ix2 (⟨r.val - k, by omega⟩ : Fin 256) l) else 0 := by
  unfold step
  refine congrArg (v (ix2 r l) + ·) ?_
  show (if cmpi .sge k0_pay9 (broadcast S256x128 (BitVec.ofNat 32 k)) (ix2 r l) = 1#1 then dynamicRotate 0 (BitVec.ofNat 32 k) none v rotates_S256x128_d0 (ix2 r l) else Scalar.ofBits .f32 0x00000000#32) = _
  rw [mask_at, hm]
  by_cases h : k ≤ r.val % 64
  · rw [if_pos h, if_pos rfl, if_pos h]
    exact rot_at k (by omega) v r l (by omega)
  · rw [if_neg h, if_neg (by decide), if_neg h]
    exact Ideal.ofBits_zero_f32

/-- Column `l` of a tile, by row. -/
def col (v : FVec Ideal S256x128 .f32) (l : Fin 128) (r : ℕ) : EReal := if h : r < 256 then v (ix2 (⟨r, h⟩ : Fin 256) l) else 0

theorem col_at (v : FVec Ideal S256x128 .f32) (l : Fin 128) (r : Fin 256) : col v l r.val = v (ix2 r l) := dif_pos r.isLt

theorem step_runs (k : ℕ) (hk : k < 64) (hm : ∀ r : Fin 256, IntOp.cmpi .sge (IntOp.andi (BitVec.ofNat 32 r.val) 63#32) (BitVec.ofNat 32 k) = if k ≤ r.val % 64 then 1#1 else 0#1)
    (f : ℕ → EReal) (v : FVec Ideal S256x128 .f32) (l : Fin 128) (hv : ∀ r : Fin 256, v (ix2 r l) = runs f k r.val) (r : Fin 256) :
    step (BitVec.ofNat 32 k) v (ix2 r l) = runs f (k + k) r.val := by
  rw [step_at k hk hm, runs_double, hv, hv]

theorem sums_at (v : FVec Ideal S256x128 .f32) (r : Fin 256) (l : Fin 128) :
    step 32#32 (step 16#32 (step 8#32 (step 4#32 (step 2#32 (step 1#32 v))))) (ix2 r l) = runs (col v l) 64 r.val := by
  have h0 : ∀ r : Fin 256, v (ix2 r l) = runs (col v l) 1 r.val := fun r => by rw [runs_one, col_at]
  have h1 := step_runs 1 (by omega) (by decide +kernel) _ _ l h0
  have h2 := step_runs 2 (by omega) (by decide +kernel) _ _ l h1
  have h3 := step_runs 4 (by omega) (by decide +kernel) _ _ l h2
  have h4 := step_runs 8 (by omega) (by decide +kernel) _ _ l h3
  have h5 := step_runs 16 (by omega) (by decide +kernel) _ _ l h4
  exact step_runs 32 (by omega) (by decide +kernel) _ _ l h5 r

theorem gates_at (x5 x4 : Vec Ideal S1x128 .f32) (a : FVec Ideal S256x128 .f32) (r : Fin 256) (l : Fin 128) :
    gates x5 x4 a (ix2 r l) = if l.val < 16 then gate (a (ix2 r l)) else runs (col (dec x5 x4 a) l) 64 r.val := by
  unfold gates
  show (if broadcastTo S256x128 (shapeCast S1x128 k0_pay7 shapeCasts_S1x128_S1x128) broadcasts_S1x128_S256x128 (ix2 r l) = 1#1 then k0_pay8 a (ix2 r l) else _) = _
  rw [first_at, pay7_at, pay8_at, sums_at]
  by_cases h : l.val < 16
  · rw [if_pos h, if_pos rfl, if_pos h]
  · rw [if_neg h, if_neg (by decide), if_neg h]

/-! ## What the body leaves -/

theorem zOut_at (x0 : Vec Ideal S256x1024 .f32) (x1 : Vec Ideal S1x6x1024 .f32) (x2 : Vec Ideal S1x1024 .f32) (x3 : Vec Ideal S1024x2176 .bf16) (x4 x5 : Vec Ideal S1x128 .f32) (r : Fin 256) (n : Fin 2048) :
    out0_6 x0 x1 x2 x3 x4 x5 (ix2 r n) = k0_pay2 x1 x0 x2 x3 (ix2 r (⟨n.val, by omega⟩ : Fin 2176)) := by
  unfold out0_6
  rw [View.ld_unit_lit _ x0 (by decide), View.ld_unit_lit _ x1 (by decide), View.ld_unit_lit _ x2 (by decide), View.ld_unit_lit _ x3 (by decide)]
  refine (congrFun (View.canon_cons_unit_lit _ _ _ (by decide)) _).trans ?_
  exact pay3_at _ _ _ _ r n

theorem gOut_at (x0 : Vec Ideal S256x1024 .f32) (x1 : Vec Ideal S1x6x1024 .f32) (x2 : Vec Ideal S1x1024 .f32) (x3 : Vec Ideal S1024x2176 .bf16) (x4 x5 : Vec Ideal S1x128 .f32) (r : Fin 256) (l : Fin 128) :
    out0_7 x0 x1 x2 x3 x4 x5 (ix2 r l) = gates x5 x4 (k0_pay4 x1 x0 x2 x3) (ix2 r l) := by
  unfold out0_7
  rw [View.ld_unit_lit _ x0 (by decide), View.ld_unit_lit _ x1 (by decide), View.ld_unit_lit _ x2 (by decide), View.ld_unit_lit _ x3 (by decide), View.ld_unit_lit _ x4 (by decide), View.ld_unit_lit _ x5 (by decide)]
  refine (congrFun (View.canon_cons_unit_lit _ _ _ (by decide)) _).trans ?_
  rw [gates_eq]

end Cert.Kernel4Ideal.Gate

end
-- ==== Proof.GateHost.lean ====
/- The arrays the idealised call finds: the weights' last columns and the heads' numbers, each among zeros. -/
module

public import proofs.«01_k».proof.Proof.GatePay
public import Idealize.ShloMosaic.Lib.Routing.OpsSet
public import Idealize.ShloMosaic.Lib.Routing.OpsOne

@[expose] public section

set_option maxRecDepth 16384

noncomputable section

namespace Cert.Kernel4Ideal.Gate

open Cert.Kernel4Ideal Cert.Kernel4Ideal.Gen Idealize.ShloMosaic Idealize.ShloMosaic.TcCoe Idealize.SL.Sem Cert.Gate
open Cert.KernelIdeal.Att (ix2_ext)
open Idealize.ShloMosaic.Routing (resultIdx?_ix2 start_pair scatter_set_hit scatter_set_miss)

/-! ## The two scatters -/

theorem cols_lands (idx : IVec S1 32) (hidx : ∀ i, idx i = 0#32) (k : S1024x2080.Idx) (j : Fin 1024) (n : Fin 2176) :
    scatter_S1024x2176_S1_S1024x2080_01_n_1_0.resultIdx? k idx = some (ix2 j n) ↔ (k 0).val = j.val ∧ (k 1).val = n.val := by
  have hw0 : scatter_S1024x2176_S1_S1024x2080_01_n_1_0.window k 0 = (k 0).val := rfl
  have hw1 : scatter_S1024x2176_S1_S1024x2080_01_n_1_0.window k 1 = (k 1).val := rfl
  have hs0 : scatter_S1024x2176_S1_S1024x2080_01_n_1_0.start k idx 0 = 0 := rfl
  have hs1 : scatter_S1024x2176_S1_S1024x2080_01_n_1_0.start k idx 1 = 0 := by
    refine (show _ = (idx _).toInt from rfl).trans ?_
    rw [hidx]
    rfl
  refine (resultIdx?_ix2 _ _ _ _ _).trans ?_
  rw [hw0, hw1, hs0, hs1]
  omega

theorem cols_at {α : Type} (x0 : S1024x2176.Idx → α) (idx : IVec S1 32) (hidx : ∀ i, idx i = 0#32) (u : S1024x2080.Idx → α) (j : Fin 1024) (n : Fin 2176) :
    Host.scatter scatter_S1024x2176_S1_S1024x2080_01_n_1_0 (fun _ b => b) x0 idx u (ix2 j n)
      = if h : n.val < 2080 then u (ix2 j (⟨n.val, h⟩ : Fin 2080)) else x0 (ix2 j n) := by
  split
  · rename_i h
    refine scatter_set_hit _ x0 idx u _ _ (fun k hk => ?_) (ix2 j (⟨n.val, h⟩ : Fin 2080)) ((cols_lands idx hidx _ j n).2 ⟨rfl, rfl⟩)
    obtain ⟨h0, h1⟩ := (cols_lands idx hidx k j n).1 hk
    refine congrArg u (ix2_ext _ _ fun a => ?_)
    match a with
    | ⟨0, _⟩ => exact h0
    | ⟨1, _⟩ => exact h1
  · rename_i h
    refine scatter_set_miss _ x0 idx u _ fun k hk => h ?_
    rw [← ((cols_lands idx hidx k j n).1 hk).2]
    exact (k 1).isLt

theorem heads_lands (idx : IVec S2 32) (h0 : idx (ix1 0) = 0#32) (h1 : idx (ix1 1) = 16#32) (k : S16.Idx) (z : Fin 1) (l : Fin 128) :
    scatter_S1x128_S2_S16_0_0_01_0.resultIdx? k idx = some (ix2 z l) ↔ 16 + (k 0).val = l.val := by
  have hw0 : scatter_S1x128_S2_S16_0_0_01_0.window k 0 = 0 := rfl
  have hw1 : scatter_S1x128_S2_S16_0_0_01_0.window k 1 = (k 0).val := rfl
  have e0 : (idx (ix1 (0 : Fin 2))).toInt = 0 := by rw [h0]; rfl
  have e1 : (idx (ix1 (1 : Fin 2))).toInt = 16 := by rw [h1]; rfl
  have hs0 : scatter_S1x128_S2_S16_0_0_01_0.start k idx 0 = 0 := (start_pair _ rfl rfl idx k 0).trans e0
  have hs1 : scatter_S1x128_S2_S16_0_0_01_0.start k idx 1 = 16 := (start_pair _ rfl rfl idx k 1).trans e1
  refine (resultIdx?_ix2 _ _ _ _ _).trans ?_
  rw [hw0, hw1, hs0, hs1]
  have := z.isLt
  omega

theorem heads_at (x0 : S1x128.Idx → EReal) (hx0 : ∀ i, x0 i = 0) (idx : IVec S2 32) (h0 : idx (ix1 0) = 0#32) (h1 : idx (ix1 1) = 16#32) (u : S16.Idx → EReal) (l : Fin 128) :
    Host.scatter scatter_S1x128_S2_S16_0_0_01_0 (fun _ b => b) x0 idx u (ix2 0 l) = lane u l := by
  unfold lane
  split
  · rename_i h
    refine scatter_set_hit _ x0 idx u _ _ (fun k hk => ?_) (ix1 (⟨l.val - 16, by omega⟩ : Fin 16)) ((heads_lands idx h0 h1 _ 0 l).2 (by show 16 + (l.val - 16) = l.val; omega))
    have e := (heads_lands idx h0 h1 k 0 l).1 hk
    refine congrArg u (ix2_ext _ _ fun a => ?_)
    match a with
    | ⟨0, _⟩ => show (k 0).val = l.val - 16; omega
  · rename_i h
    refine (scatter_set_miss _ x0 idx u _ fun k hk => h ?_).trans (hx0 _)
    have e := (heads_lands idx h0 h1 k 0 l).1 hk
    have : (k 0).val < 16 := (k 0).isLt
    omega

/-! ## The arrays -/

variable (m : (ℓ : Loc nD τ sig) → Buf (Elt Ideal) ℓ)

/-- The pair of indices 0 and 16. -/
def pair : IVec S2 32 := concatenate S2 0 [⟨S1, broadcastInDim S1 ![] bcast_S_S1 (constantI S_ 32 0#32)⟩, ⟨S1, broadcastInDim S1 ![] bcast_S_S1 (constantI S_ 32 16#32)⟩] concatenates_S1_S1_S2_d0

theorem pair_0 : pair (ix1 0) = 0#32 := by
  unfold pair
  pointwise []

theorem pair_1 : pair (ix1 1) = 16#32 := by
  unfold pair
  pointwise []

/-- The weights' last columns. -/
theorem V_v4 (c : Dev nD) (j : Fin 1024) (n : Fin 2176) :
    (show Vec Ideal S1024x2176 .bf16 from V m c main_v4) (ix2 j n)
      = tailCols (show Vec Ideal S1024x6176 .f32 from m ((c : Thread nD τ).loc main_arg3)) j n := by
  have h : V m c main_v4 = Host.scatter scatter_S1024x2176_S1_S1024x2080_01_n_1_0 (fun _ b => b) (broadcastInDim S1024x2176 ![] bcast_S_S1024x2176 (constant (F := Ideal) S_ .bf16 0x0000#16))
      (broadcastInDim S1 ![] bcast_S_S1 (constantI S_ 32 0#32))
      (truncf (F := Ideal) .bf16 (extractStridedSlice (s := S1024x6176) S1024x2080 ![0, 4096] (m ((c : Thread nD τ).loc main_arg3)) slices_S1024x6176_S1024x2080_0_4096) bitsLt_bf16_f32 : FVec Ideal S1024x2080 .bf16) := by
    show StableHlo.after hostOps0 (fun b => m (c, b)) (Proc.devRef .tc main_v4) = _
    simp only [hostOps0]
    after_results
    all_goals rfl
  refine (congrFun h _).trans ((cols_at _ _ (fun _ => rfl) _ j n).trans ?_)
  unfold tailCols
  split
  · pointwise []
  · pointwise []

theorem V_v9 (c : Dev nD) (l : Fin 128) :
    (show Vec Ideal S1x128 .f32 from V m c main_v9) (ix2 0 l) = lane (show Vec Ideal S16 .f32 from m ((c : Thread nD τ).loc main_arg4)) l := by
  have h : V m c main_v9 = Host.scatter scatter_S1x128_S2_S16_0_0_01_0 (fun _ b => b) (broadcastInDim S1x128 ![] bcast_S_S1x128 (constant (F := Ideal) S_ .f32 0x00000000#32)) pair
      (show Vec Ideal S16 .f32 from m ((c : Thread nD τ).loc main_arg4)) := by
    show StableHlo.after hostOps0 (fun b => m (c, b)) (Proc.devRef .tc main_v9) = _
    simp only [hostOps0]
    after_results
    all_goals rfl
  refine (congrFun h _).trans (heads_at _ (fun _ => Ideal.ofBits_zero_f32) _ pair_0 pair_1 _ l)

theorem V_v13 (c : Dev nD) (l : Fin 128) :
    (show Vec Ideal S1x128 .f32 from V m c main_v13) (ix2 0 l) = lane (show Vec Ideal S16 .f32 from m ((c : Thread nD τ).loc main_arg5)) l := by
  have h : V m c main_v13 = Host.scatter scatter_S1x128_S2_S16_0_0_01_0 (fun _ b => b) (broadcastInDim S1x128 ![] bcast_S_S1x128 (constant (F := Ideal) S_ .f32 0x00000000#32)) pair
      (show Vec Ideal S16 .f32 from m ((c : Thread nD τ).loc main_arg5)) := by
    show StableHlo.after hostOps0 (fun b => m (c, b)) (Proc.devRef .tc main_v13) = _
    simp only [hostOps0]
    after_results
    all_goals rfl
  refine (congrFun h _).trans (heads_at _ (fun _ => Ideal.ofBits_zero_f32) _ pair_0 pair_1 _ l)

/-- The norm's weights, as a row. -/
theorem V_v14 (c : Dev nD) (k : Fin 1024) :
    (show Vec Ideal S1x1024 .f32 from V m c main_v14) (ix2 0 k) = (show Vec Ideal S1024 .f32 from m ((c : Thread nD τ).loc main_arg2)) (ix1 k) := by
  have h : V m c main_v14 = shapeCast S1x1024 (show Vec Ideal S1024 .f32 from m ((c : Thread nD τ).loc main_arg2)) shapeCasts_S1024_S1x1024 := by
    show StableHlo.after hostOps0 (fun b => m (c, b)) (Proc.devRef .tc main_v14) = _
    simp only [hostOps0]
    after_results
    all_goals rfl
  refine (congrFun h _).trans ?_
  pointwise []

end Cert.Kernel4Ideal.Gate

end
-- ==== Proof.GateValue.lean ====
/- The idealised call's result arrays as functions of the argument arrays. -/
module

public import proofs.«01_k».proof.Proof.GateHost

@[expose] public section

set_option maxRecDepth 16384

noncomputable section

namespace Cert.Kernel4Ideal.Gate

open Cert.Kernel4Ideal Cert.Kernel4Ideal.Gen Idealize.ShloMosaic Idealize.ShloMosaic.TcCoe Idealize.SL.Sem Cert.Gate
open Cert.Conv (normed row seqOf posOf)
open Cert.KernelIdeal.Att (ix2_ext)

variable (m : (ℓ : Loc nD τ sig) → Buf (Elt Ideal) ℓ)

/-! ## The windows' blocks -/

theorem idx0 : ∀ t : Fin grid0.N, win0_0.index t 0 = t.val ∧ win0_0.index t 1 = 0 := by decide +kernel
theorem idx1 : ∀ t : Fin grid0.N, win0_1.index t 0 = t.val / 8 ∧ win0_1.index t 1 = 0 ∧ win0_1.index t 2 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 := by decide +kernel

theorem lt_64 (t : Fin cfg0.N) : t.val < 64 := lt_of_lt_of_eq t.isLt N_0

theorem blk0 (c : Dev nD) (t : Fin cfg0.N) (r : Fin 256) (k : Fin 1024) (T : Fin 16384) (hT : T.val = 256 * t.val + r.val) :
    (iblk m c 0 t (ix2 r k) : EReal) = (show Vec Ideal S16384x1024 .f32 from m ((c : Thread nD τ).loc main_arg0)) (ix2 T k) := by
  show V m c main_arg0 ((win0_0.blk t).view.emb (ix2 r k)) = _
  rw [V_main_arg0 m c]
  refine congrArg (show Vec Ideal S16384x1024 .f32 from m ((c : Thread nD τ).loc main_arg0)) (ix2_ext _ _ fun x => ?_)
  match x with
  | ⟨0, _⟩ =>
    refine (Pipeline.Window.rect_emb_val win0_0 t _ (0 : Fin 2)).trans ?_
    show win0_0.index t 0 * 256 + r.val = T.val
    rw [(idx0 t).1]; omega
  | ⟨1, _⟩ =>
    refine (Pipeline.Window.rect_emb_val win0_0 t _ (1 : Fin 2)).trans ?_
    show win0_0.index t 1 * 1024 + k.val = k.val
    rw [(idx0 t).2]; omega

theorem blk1 (c : Dev nD) (t : Fin cfg0.N) (a : Fin 6) (k : Fin 1024) (b : Fin 8) (hb : b.val = t.val / 8) :
    (iblk m c 1 t (ix3 0 a k) : EReal) = (show Vec Ideal S8x6x1024 .f32 from m ((c : Thread nD τ).loc main_arg1)) (ix3 b a k) := by
  show V m c main_arg1 ((win0_1.blk t).view.emb (ix3 0 a k)) = _
  rw [V_main_arg1 m c]
  refine congrArg (show Vec Ideal S8x6x1024 .f32 from m ((c : Thread nD τ).loc main_arg1)) (ix2_ext _ _ fun x => ?_)
  match x with
  | ⟨0, _⟩ =>
    refine (Pipeline.Window.rect_emb_val win0_1 t _ (0 : Fin 3)).trans ?_
    show win0_1.index t 0 * 1 + 0 = b.val
    rw [(idx1 t).1]; omega
  | ⟨1, _⟩ =>
    refine (Pipeline.Window.rect_emb_val win0_1 t _ (1 : Fin 3)).trans ?_
    show win0_1.index t 1 * 6 + a.val = a.val
    rw [(idx1 t).2.1]; omega
  | ⟨2, _⟩ =>
    refine (Pipeline.Window.rect_emb_val win0_1 t _ (2 : Fin 3)).trans ?_
    show win0_1.index t 2 * 1024 + k.val = k.val
    rw [(idx1 t).2.2]; omega

theorem blk2 (c : Dev nD) (t : Fin cfg0.N) (k : Fin 1024) :
    (iblk m c 2 t (ix2 0 k) : EReal) = (show Vec Ideal S1024 .f32 from m ((c : Thread nD τ).loc main_arg2)) (ix1 k) := by
  refine Eq.trans ?_ (V_v14 m c k)
  show V m c main_v14 ((win0_2.blk t).view.emb (ix2 0 k)) = _
  refine congrArg (show Vec Ideal S1x1024 .f32 from V m c main_v14) (ix2_ext _ _ fun x => ?_)
  match x with
  | ⟨0, _⟩ =>
    refine (Pipeline.Window.rect_emb_val win0_2 t _ (0 : Fin 2)).trans ?_
    show win0_2.index t 0 * 1 + 0 = 0
    rw [(idx2 t).1]
  | ⟨1, _⟩ =>
    refine (Pipeline.Window.rect_emb_val win0_2 t _ (1 : Fin 2)).trans ?_
    show win0_2.index t 1 * 1024 + k.val = k.val
    rw [(idx2 t).2]; omega

theorem read3 (c : Dev nD) (W : Buf (Elt Ideal) ((c : Thread nD τ).loc (Pipeline.arrRef spec0 3))) (t : Fin cfg0.N) (j : Fin 1024) (n : Fin 2176) :
    (((cfg0.win 3).blk t).view.read (Elt Ideal) W (ix2 j n) : EReal) = (show Vec Ideal S1024x2176 .bf16 from W) (ix2 j n) := by
  show (show Vec Ideal S1024x2176 .bf16 from W) ((win0_3.blk t).view.emb (ix2 j n)) = _
  refine congrArg (show Vec Ideal S1024x2176 .bf16 from W) (ix2_ext _ _ fun x => ?_)
  match x with
  | ⟨0, _⟩ =>
    refine (Pipeline.Window.rect_emb_val win0_3 t _ (0 : Fin 2)).trans ?_
    show win0_3.index t 0 * 1024 + j.val = j.val
    rw [(idx3 t).1]; omega
  | ⟨1, _⟩ =>
    refine (Pipeline.Window.rect_emb_val win0_3 t _ (1 : Fin 2)).trans ?_
    show win0_3.index t 1 * 2176 + n.val = n.val
    rw [(idx3 t).2]; omega

theorem blk3 (c : Dev nD) (t : Fin cfg0.N) (j : Fin 1024) (n : Fin 2176) :
    (iblk m c 3 t (ix2 j n) : EReal) = tailCols (show Vec Ideal S1024x6176 .f32 from m ((c : Thread nD τ).loc main_arg3)) j n := by
  unfold iblk
  exact (read3 c (V m c (Pipeline.arrRef spec0 3)) t j n).trans (V_v4 m c j n)

theorem blk4 (c : Dev nD) (t : Fin cfg0.N) (l : Fin 128) :
    (iblk m c 4 t (ix2 0 l) : EReal) = lane (show Vec Ideal S16 .f32 from m ((c : Thread nD τ).loc main_arg4)) l := by
  refine Eq.trans ?_ (V_v9 m c l)
  show V m c main_v9 ((win0_4.blk t).view.emb (ix2 0 l)) = _
  refine congrArg (show Vec Ideal S1x128 .f32 from V m c main_v9) (ix2_ext _ _ fun x => ?_)
  match x with
  | ⟨0, _⟩ =>
    refine (Pipeline.Window.rect_emb_val win0_4 t _ (0 : Fin 2)).trans ?_
    show win0_4.index t 0 * 1 + 0 = 0
    rw [(idx4 t).1]
  | ⟨1, _⟩ =>
    refine (Pipeline.Window.rect_emb_val win0_4 t _ (1 : Fin 2)).trans ?_
    show win0_4.index t 1 * 128 + l.val = l.val
    rw [(idx4 t).2]; omega

theorem blk5 (c : Dev nD) (t : Fin cfg0.N) (l : Fin 128) :
    (iblk m c 5 t (ix2 0 l) : EReal) = lane (show Vec Ideal S16 .f32 from m ((c : Thread nD τ).loc main_arg5)) l := by
  refine Eq.trans ?_ (V_v13 m c l)
  show V m c main_v13 ((win0_5.blk t).view.emb (ix2 0 l)) = _
  refine congrArg (show Vec Ideal S1x128 .f32 from V m c main_v13) (ix2_ext _ _ fun x => ?_)
  match x with
  | ⟨0, _⟩ =>
    refine (Pipeline.Window.rect_emb_val win0_5 t _ (0 : Fin 2)).trans ?_
    show win0_5.index t 0 * 1 + 0 = 0
    rw [(idx5 t).1]
  | ⟨1, _⟩ =>
    refine (Pipeline.Window.rect_emb_val win0_5 t _ (1 : Fin 2)).trans ?_
    show win0_5.index t 1 * 128 + l.val = l.val
    rw [(idx5 t).2]; omega

/-! ## One tile -/

section
variable (c : Dev nD)

/-- The arguments' arrays. -/
abbrev aX : S16384x1024.Idx → EReal := m ((c : Thread nD τ).loc main_arg0)
abbrev aM : S8x6x1024.Idx → EReal := m ((c : Thread nD τ).loc main_arg1)
abbrev aN : S1024.Idx → EReal := m ((c : Thread nD τ).loc main_arg2)
abbrev aW : S1024x6176.Idx → EReal := m ((c : Thread nD τ).loc main_arg3)
abbrev aA : S16.Idx → EReal := m ((c : Thread nD τ).loc main_arg4)
abbrev aD : S16.Idx → EReal := m ((c : Thread nD τ).loc main_arg5)

/-- A tile's projection from its blocks. -/
theorem projAt_of (M : FVec Ideal S1x6x1024 .f32) (X : FVec Ideal S256x1024 .f32) (N : FVec Ideal S1x1024 .f32) (W : FVec Ideal S1024x2176 .bf16)
    (x : S16384x1024.Idx → EReal) (md : S8x6x1024.Idx → EReal) (nw : S1024.Idx → EReal) (w : S1024x6176.Idx → EReal) (r : Fin 256) (n : Fin 2176) (b : Fin 8) (s : Fin 2048)
    (e0 : ∀ k : Fin 1024, X (ix2 r k) = x (ix2 (⟨2048 * b.val + s.val, by omega⟩ : Fin 16384) k)) (e1 : ∀ (a : Fin 6) (k : Fin 1024), M (ix3 0 a k) = md (ix3 b a k))
    (e2 : ∀ k : Fin 1024, N (ix2 0 k) = nw (ix1 k)) (e3 : ∀ j : Fin 1024, W (ix2 j n) = tailCols w j n) :
    (k0_pay2 (F := Ideal) M X N W (ix2 r n) : EReal) = ∑ j : Fin 1024, row x md nw b s j * tailCols w j n := by
  refine (pay2_at _ _ _ _ r n).trans ?_
  have f0 : (fun k => X (ix2 r k)) = fun k => x (ix2 (⟨2048 * b.val + s.val, by omega⟩ : Fin 16384) k) := funext e0
  have f1 : ∀ a : Fin 6, (fun k => M (ix3 0 a k)) = fun k => md (ix3 b a k) := fun a => funext (e1 a)
  have f2 : (fun k => N (ix2 0 k)) = fun k => nw (ix1 k) := funext e2
  rw [f0, f1 1, f1 0, f2]
  unfold row
  exact Finset.sum_congr rfl fun j _ => congrArg (_ * ·) (e3 j)

/-- Tile `t`'s projection at row `r` is the projection of its token. -/
theorem projAt_at (t : Fin cfg0.N) (r : Fin 256) (n : Fin 2176) (b : Fin 8) (s : Fin 2048) (hb : b.val = t.val / 8) (hs : s.val = 256 * (t.val % 8) + r.val) :
    k0_pay2 (iblk m c 1 t) (iblk m c 0 t) (iblk m c 2 t) (iblk m c 3 t) (ix2 r n)
      = ∑ j : Fin 1024, row (aX m c) (aM m c) (aN m c) b s j * tailCols (aW m c) j n :=
  projAt_of (iblk m c 1 t) (iblk m c 0 t) (iblk m c 2 t) (iblk m c 3 t) (aX m c) (aM m c) (aN m c) (aW m c) r n b s
    (fun k => blk0 m c t r k _ (by show 2048 * b.val + s.val = _; omega)) (fun a k => blk1 m c t a k b hb) (fun k => blk2 m c t k) (fun j => blk3 m c t j n)

theorem logits_at (t : Fin cfg0.N) (r : Fin 256) (l : Fin 128) (b : Fin 8) (s : Fin 2048) (hb : b.val = t.val / 8) (hs : s.val = 256 * (t.val % 8) + r.val) :
    k0_pay4 (iblk m c 1 t) (iblk m c 0 t) (iblk m c 2 t) (iblk m c 3 t) (ix2 r l) = logit (aX m c) (aM m c) (aN m c) (aW m c) b s l :=
  (pay4_at _ _ _ _ r l).trans ((projAt_at m c t r _ b s hb hs).trans (logit_tail _ _ _ _ b s l))

theorem z_point (t : Fin cfg0.N) (r : Fin 256) (n : Fin 2048) (z : S16384x2048.Idx) (h0 : (z 0).val = 256 * t.val + r.val) (h1 : (z 1).val = n.val) :
    out0_6 (iblk m c 0 t) (iblk m c 1 t) (iblk m c 2 t) (iblk m c 3 t) (iblk m c 4 t) (iblk m c 5 t) (ix2 r n) = zAll (aX m c) (aM m c) (aN m c) (aW m c) z := by
  have ht := lt_64 t
  refine (zOut_at _ _ _ _ _ _ r n).trans ?_
  refine (projAt_at m c t r _ (seqOf (z 0)) (posOf (z 0)) (by show (z 0).val / 2048 = _; omega) (by show (z 0).val % 2048 = _; omega)).trans ?_
  refine (lin_tail _ _ _ _ _ _ n).trans ?_
  unfold zAll
  exact congrArg (lin (aX m c) (aM m c) (aN m c) (aW m c) _ _) (Fin.ext (by show 4096 + n.val = 4096 + (z 1).val; rw [h1]))

theorem g_point (t : Fin cfg0.N) (r : Fin 256) (l : Fin 128) (z : S16384x128.Idx) (h0 : (z 0).val = 256 * t.val + r.val) (h1 : z 1 = l) :
    out0_7 (iblk m c 0 t) (iblk m c 1 t) (iblk m c 2 t) (iblk m c 3 t) (iblk m c 4 t) (iblk m c 5 t) (ix2 r l) = gAll (aX m c) (aM m c) (aN m c) (aW m c) (aA m c) (aD m c) z := by
  have ht := lt_64 t
  refine (gOut_at _ _ _ _ _ _ r l).trans ((gates_at _ _ _ r l).trans ?_)
  unfold gAll
  rw [h1]
  refine if_congr Iff.rfl ?_ ?_
  · rw [logits_at m c t r l (seqOf (z 0)) (posOf (z 0)) (by show (z 0).val / 2048 = _; omega) (by show (z 0).val % 2048 = _; omega)]
  · refine runs_congr _ _ 64 r.val (posOf (z 0)).val (by show r.val % 64 = (z 0).val % 2048 % 64; omega) fun d hd => ?_
    have hp : (posOf (z 0)).val = 256 * (t.val % 8) + r.val := by show (z 0).val % 2048 = _; omega
    unfold col logDecay
    rw [dif_pos (by omega), dif_pos (by omega), dec_at, blk4 m c t l, blk5 m c t l]
    rw [logits_at m c t (⟨r.val - d, by omega⟩ : Fin 256) l (seqOf (z 0)) ⟨(posOf (z 0)).val - d, by omega⟩ (by show (z 0).val / 2048 = _; omega)
      (by show (posOf (z 0)).val - d = 256 * (t.val % 8) + (r.val - d); omega)]

theorem z_final : (dats m 0 c).arrAt 6 cfg0.N = zAll (aX m c) (aM m c) (aN m c) (aW m c) := by
  refine (dats m 0 c).arrAt_eq_of_covers 6 (zAll (aX m c) (aM m c) (aN m c) (aW m c)) (by decide +kernel) fun t hf (y : S256x2048.Idx) => ?_
  refine (cast_eq _ _).trans ?_
  rw [after0_6]
  have hy : y = ix2 (y 0) (y 1) := ix2_ext _ _ fun a => by
    match a with
    | ⟨0, _⟩ => rfl
    | ⟨1, _⟩ => rfl
  refine (congrArg (out0_6 _ _ _ _ _ _) hy).trans (z_point m c t (y 0) (y 1) _ ?_ ?_)
  · refine (Pipeline.Window.rect_emb_val win0_6 t _ (0 : Fin 2)).trans ?_
    rw [(idx6 t).1]
    show t.val * 256 + (y 0).val = 256 * t.val + (y 0).val
    omega
  · refine (Pipeline.Window.rect_emb_val win0_6 t _ (1 : Fin 2)).trans ?_
    rw [(idx6 t).2]
    show 0 * 2048 + (y 1).val = (y 1).val
    omega

theorem g_final : (dats m 0 c).arrAt 7 cfg0.N = gAll (aX m c) (aM m c) (aN m c) (aW m c) (aA m c) (aD m c) := by
  refine (dats m 0 c).arrAt_eq_of_covers 7 (gAll (aX m c) (aM m c) (aN m c) (aW m c) (aA m c) (aD m c)) (by decide +kernel) fun t hf (y : S256x128.Idx) => ?_
  refine (cast_eq _ _).trans ?_
  rw [after0_7]
  have hy : y = ix2 (y 0) (y 1) := ix2_ext _ _ fun a => by
    match a with
    | ⟨0, _⟩ => rfl
    | ⟨1, _⟩ => rfl
  refine (congrArg (out0_7 _ _ _ _ _ _) hy).trans (g_point m c t (y 0) (y 1) _ ?_ (Fin.ext ?_))
  · refine (Pipeline.Window.rect_emb_val win0_7 t _ (0 : Fin 2)).trans ?_
    rw [(idx7 t).1]
    show t.val * 256 + (y 0).val = 256 * t.val + (y 0).val
    omega
  · refine (Pipeline.Window.rect_emb_val win0_7 t _ (1 : Fin 2)).trans ?_
    rw [(idx7 t).2]
    show 0 * 128 + (y 1).val = (y 1).val
    omega

end

end Cert.Kernel4Ideal.Gate

end
-- ==== Proof.GateRef.lean ====
/- The reference's results of the gates, read at an index. -/
module

public import proofs.«01_k».proof.Proof.GateMath
public import proofs.«01_k».proof.Proof.Array
public import proofs.«01_k».proof.Proof.Gen.Reference4Ideal.Run
public import Idealize.ShloMosaic.Lib.KernelVsHost

@[expose] public section

set_option maxRecDepth 16384

noncomputable section

namespace Cert.Reference4Ideal.Gate

open Cert.Reference4Ideal Cert.Reference4Ideal.Gen Cert.Reference4Ideal.Value Idealize.ShloMosaic Idealize.ShloMosaic.TcCoe Idealize.SL.Sem Cert.Gate
open Cert.Conv (normed row seqOf posOf)
open Cert.KernelIdeal.Att (ix2_ext)

/-- The tokens by sequence. -/
def seqs (a0 : FVec Ideal S16384x1024 .f32) : FVec Ideal S8x2048x1024 .f32 :=
  shapeCast _ a0 shapeCasts_S16384x1024_S8x2048x1024

/-- The normed rows. -/
def hidden (a0 : FVec Ideal S16384x1024 .f32) (a1 : FVec Ideal S8x6x1024 .f32) (a2 : FVec Ideal S1024 .f32) : FVec Ideal S8x2048x1024 .f32 :=
  addf (mulf (mulf (mulf (seqs a0) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (seqs a0) (seqs a0)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 a2))) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1024 ![0, 1, 0] a1 slices_S8x6x1024_S8x1x1024_0_1_0) shapeCasts_S8x1x1024_S8x1024))))) (broadcastInDim S8x2048x1024 ![0, 1, 2] bcast_S8x1x1024_S8x2048x1024_0_1_2 (broadcastInDim S8x1x1024 ![0, 2] bcast_S8x1024_S8x1x1024_0_2 (shapeCast _ (extractStridedSlice S8x1x1024 ![0, 0, 0] a1 slices_S8x6x1024_S8x1x1024_0_0_0) shapeCasts_S8x1x1024_S8x1024)))

/-- Their projection. -/
def projected (h : FVec Ideal S8x2048x1024 .f32) (a3 : FVec Ideal S1024x6176 .f32) : FVec Ideal S8x2048x6176 .f32 :=
  Host.dotGeneral dot_S8x2048x1024_S1024x6176_S8x2048x6176_2_0_01_1_n_n none h a3

/-- The first result. -/
def zRes (P : FVec Ideal S8x2048x6176 .f32) : FVec Ideal S16384x2048 .bf16 :=
  truncf .bf16 (shapeCast _ (extractStridedSlice S8x2048x2048 ![0, 0, 4096] P slices_S8x2048x6176_S8x2048x2048_0_0_4096) shapeCasts_S8x2048x2048_S16384x2048) bitsLt_bf16_f32

/-- The first sixteen lanes. -/
def firsts (P : FVec Ideal S8x2048x6176 .f32) : FVec Ideal S8x2048x16 .f32 :=
  Host.divf (broadcastInDim S8x2048x16 ![] bcast_S_S8x2048x16 (constant S_ .f32 0x3F800000#32)) (addf (broadcastInDim S8x2048x16 ![] bcast_S_S8x2048x16 (constant S_ .f32 0x3F800000#32)) (Host.exp (Host.negf (extractStridedSlice S8x2048x16 ![0, 0, 6144] P slices_S8x2048x6176_S8x2048x16_0_0_6144))))

/-- A number per head, then zeros. -/
def heads (a : FVec Ideal S16 .f32) : FVec Ideal S112 .f32 :=
  pad S112 ![0] ![96] ![0] a (sitofp .f32 (constantI S_ 32 0#32)) pads_S16_S112_0960 h_S_

/-- The other lanes' logits, then zeros. -/
def logits (P : FVec Ideal S8x2048x6176 .f32) : FVec Ideal S8x2048x112 .f32 :=
  pad S8x2048x112 ![0, 0, 0] ![0, 0, 96] ![0, 0, 0] (extractStridedSlice S8x2048x16 ![0, 0, 6160] P slices_S8x2048x6176_S8x2048x16_0_0_6160) (sitofp .f32 (constantI S_ 32 0#32)) pads_S8x2048x16_S8x2048x112_000_000_0960 h_S_

/-- The logits with their biases. -/
def biased (L : FVec Ideal S8x2048x112 .f32) (d : FVec Ideal S112 .f32) : FVec Ideal S8x2048x112 .f32 :=
  addf L (broadcastInDim S8x2048x112 ![0, 1, 2] bcast_S1x1x112_S8x2048x112_0_1_2 (broadcastInDim S1x1x112 ![2] bcast_S112_S1x1x112_2 d))

/-- A zero everywhere. -/
def none112 : FVec Ideal S8x2048x112 .f32 := broadcastInDim S8x2048x112 ![] bcast_S_S8x2048x112 (constant S_ .f32 0x00000000#32)

/-- The logarithms of the decays. -/
def decays (SP : FVec Ideal S8x2048x112 .f32) (a : FVec Ideal S112 .f32) : FVec Ideal S8x2048x112 .f32 :=
  mulf (broadcastInDim S8x2048x112 ![0, 1, 2] bcast_S1x1x112_S8x2048x112_0_1_2 (broadcastInDim S1x1x112 ![2] bcast_S112_S1x1x112_2 (Host.negf (Host.exp a))))
    (select (cmpf .une (subf SP none112) (subf SP none112)) (addf SP none112) (addf (maximumf SP none112) (Host.log1p (Host.exp (Host.negf (Host.absf (subf SP none112)))))))

/-- Their running sums in chunks. -/
def sums (G : FVec Ideal S8x2048x112 .f32) : FVec Ideal S8x2048x112 .f32 :=
  shapeCast _ (Host.reduceWindowAdd ![1, 1, 64, 1] ![1, 1, 1, 1] ![0, 0, 63, 0] ![0, 0, 0, 0] (shapeCast _ G shapeCasts_S8x2048x112_S8x32x64x112) (broadcastInDim S_ ![] bcast_S_S_ (constant S_ .f32 0x00000000#32)) reduceWindows_S8x32x64x112_S8x32x64x112_w1s1p0_0_w1s1p0_0_w64s1p63_0_w1s1p0_0 h_S_) shapeCasts_S8x32x64x112_S8x2048x112

/-- The second result. -/
def gRes (A : FVec Ideal S8x2048x16 .f32) (B : FVec Ideal S8x2048x112 .f32) : FVec Ideal S16384x128 .f32 :=
  shapeCast _ (concatenate S8x2048x128 2 [⟨S8x2048x16, A⟩, ⟨S8x2048x112, B⟩] concatenates_S8x2048x16_S8x2048x112_S8x2048x128_d2) shapeCasts_S8x2048x128_S16384x128

/-- The projection of the arguments. -/
def proj (m : (ℓ : Loc nD τ sig) → Buf (Elt Ideal) ℓ) (c : Dev nD) : FVec Ideal S8x2048x6176 .f32 :=
  projected (hidden (m ((c.tc : Thread nD τ).loc main_arg0)) (m ((c.tc : Thread nD τ).loc main_arg1)) (m ((c.tc : Thread nD τ).loc main_arg2))) (m ((c.tc : Thread nD τ).loc main_arg3))

theorem g_eq (m : (ℓ : Loc nD τ sig) → Buf (Elt Ideal) ℓ) (c : Dev nD) : res_main_v54 (F := Ideal) m c
    = gRes (firsts (proj m c)) (sums (decays (biased (logits (proj m c)) (heads (m ((c.tc : Thread nD τ).loc main_arg5)))) (heads (m ((c.tc : Thread nD τ).loc main_arg4))))) := by
  unfold res_main_v54 gRes firsts sums decays biased logits heads none112 proj projected hidden seqs
  rfl

theorem seqs_at (a0 : FVec Ideal S16384x1024 .f32) (b : Fin 8) (s : Fin 2048) (j : Fin 1024) :
    seqs a0 (ix3 b s j) = a0 (ix2 (⟨2048 * b.val + s.val, by omega⟩ : Fin 16384) j) := by
  unfold seqs
  pointwise []
  exact congrArg (fun z => a0 (ix2 z j)) (Fin.ext (by show b.val * 2048 + s.val = 2048 * b.val + s.val; omega))

theorem hidden_at (a0 : FVec Ideal S16384x1024 .f32) (a1 : FVec Ideal S8x6x1024 .f32) (a2 : FVec Ideal S1024 .f32) (b : Fin 8) (s : Fin 2048) (j : Fin 1024) :
    hidden a0 a1 a2 (ix3 b s j) = row a0 a1 a2 b s j := by
  unfold hidden row normed
  pointwise []
  simp only [seqs_at]

theorem projected_at (h : FVec Ideal S8x2048x1024 .f32) (a3 : FVec Ideal S1024x6176 .f32) (b : Fin 8) (s : Fin 2048) (n : Fin 6176) :
    projected h a3 (ix3 b s n) = ∑ j : Fin 1024, h (ix3 b s j) * a3 (ix2 j n) := by
  unfold projected
  pointwise []

theorem zRes_at (P : FVec Ideal S8x2048x6176 .f32) (T : Fin 16384) (n : Fin 2048) :
    zRes P (ix2 T n) = P (ix3 (seqOf T) (posOf T) (⟨4096 + n.val, by omega⟩ : Fin 6176)) := by
  unfold zRes seqOf posOf
  pointwise []

theorem firsts_at (P : FVec Ideal S8x2048x6176 .f32) (b : Fin 8) (s : Fin 2048) (l : Fin 16) :
    firsts P (ix3 b s l) = gate (P (ix3 b s (⟨6144 + l.val, by omega⟩ : Fin 6176))) := by
  unfold firsts gate
  pointwise []

theorem heads_at (a : FVec Ideal S16 .f32) (l : Fin 112) : heads a (ix1 l) = if h : l.val < 16 then a (ix1 (⟨l.val, h⟩ : Fin 16)) else 0 := by
  unfold heads
  split
  · rename_i h
    refine pad_apply_of_inside _ _ _ _ _ _ _ _ _ fun a => ?_
    match a with
    | ⟨0, _⟩ => show l.val = 0 + l.val * 1; omega
  · rename_i h
    refine (pad_apply_of_not_inside _ _ _ _ _ _ _ _ (0 : Fin 1) fun hin => h ?_).trans ?_
    · have h2 : (l.val - 0) / 1 < 16 := hin.2.2
      omega
    · pointwise []
      show (((0#32 : BitVec 32).toInt : ℝ) : EReal) = 0
      simp

theorem logits_at (P : FVec Ideal S8x2048x6176 .f32) (b : Fin 8) (s : Fin 2048) (l : Fin 112) :
    logits P (ix3 b s l) = if h : l.val < 16 then P (ix3 b s (⟨6160 + l.val, by omega⟩ : Fin 6176)) else 0 := by
  unfold logits
  split
  · rename_i h
    refine (pad_apply_of_inside _ _ _ _ _ _ _ _ (ix3 b s (⟨l.val, h⟩ : Fin 16)) fun a => ?_).trans ?_
    · match a with
      | ⟨0, _⟩ => show b.val = 0 + b.val * 1; omega
      | ⟨1, _⟩ => show s.val = 0 + s.val * 1; omega
      | ⟨2, _⟩ => show l.val = 0 + l.val * 1; omega
    · pointwise []
  · rename_i h
    refine (pad_apply_of_not_inside _ _ _ _ _ _ _ _ (2 : Fin 3) fun hin => h ?_).trans ?_
    · have h2 : (l.val - 0) / 1 < 16 := hin.2.2
      omega
    · pointwise []
      show (((0#32 : BitVec 32).toInt : ℝ) : EReal) = 0
      simp

theorem biased_at (L : FVec Ideal S8x2048x112 .f32) (d : FVec Ideal S112 .f32) (b : Fin 8) (s : Fin 2048) (l : Fin 112) :
    biased L d (ix3 b s l) = L (ix3 b s l) + d (ix1 l) := by
  unfold biased
  pointwise []

theorem decays_at (SP : FVec Ideal S8x2048x112 .f32) (a : FVec Ideal S112 .f32) (b : Fin 8) (s : Fin 2048) (l : Fin 112) :
    decays SP a (ix3 b s l) = -(Ideal.exp (a (ix1 l))) * softplus (SP (ix3 b s l)) := by
  unfold decays softplus none112
  pointwise []
  rw [if_neg (fun h => h rfl)]
  rfl

theorem foldl_sum {ι : Type} (g : ι → EReal) (L : List ι) (v : EReal) : L.foldl (fun r n => r + g n) v = v + (L.map g).sum := by
  induction L generalizing v with
  | nil => simp
  | cons n L ih => rw [List.foldl_cons, ih, List.map_cons, List.sum_cons, add_assoc]

/-- A position of the window. -/
def place (n : Fin (⟨4, ![1, 1, 64, 1]⟩ : Shape).numel) (a : Fin 4) : ℕ := ((⟨4, ![1, 1, 64, 1]⟩ : Shape).rowMajor.symm n a).val

theorem place_at (n : Fin (⟨4, ![1, 1, 64, 1]⟩ : Shape).numel) : place n 0 = 0 ∧ place n 1 = 0 ∧ place n 2 = n.val ∧ place n 3 = 0 := by
  have e := Shape.rowMajor_val_four ((⟨4, ![1, 1, 64, 1]⟩ : Shape).rowMajor.symm n)
  rw [Equiv.apply_symm_apply] at e
  unfold place
  generalize (⟨4, ![1, 1, 64, 1]⟩ : Shape).rowMajor.symm n = w at e ⊢
  have w0 : (w 0).val < 1 := (w 0).isLt
  have w1 : (w 1).val < 1 := (w 1).isLt
  have w2 : (w 2).val < 64 := (w 2).isLt
  have w3 : (w 3).val < 1 := (w 3).isLt
  change n.val = (((w 0).val * 1 + (w 1).val) * 64 + (w 2).val) * 1 + (w 3).val at e
  exact ⟨by omega, by omega, by omega, by omega⟩

/-- The window's sum: the entry and those before it in its chunk. -/
theorem window_at (x : FVec Ideal S8x32x64x112 .f32) (v : FVec Ideal S_ .f32) (hv : v (Shape.Idx.first h_S_) = 0) (b : Fin 8) (k : Fin 32) (q : Fin 64) (l : Fin 112) :
    Host.reduceWindowAdd ![1, 1, 64, 1] ![1, 1, 1, 1] ![0, 0, 63, 0] ![0, 0, 0, 0] x v reduceWindows_S8x32x64x112_S8x32x64x112_w1s1p0_0_w1s1p0_0_w64s1p63_0_w1s1p0_0 h_S_ (ix4 b k q l)
      = ∑ d ∈ Finset.range 64, if d ≤ q.val then x (ix4 b k (⟨q.val - d, by omega⟩ : Fin 64) l) else 0 := by
  refine (foldl_sum _ _ _).trans ?_
  rw [← Fin.sum_univ_def]
  refine (congrArg (· + _) hv).trans ((zero_add _).trans ?_)
  rw [← Finset.sum_range_reflect]
  refine Eq.trans ?_ (Fin.sum_univ_eq_sum_range (fun n => if 64 - 1 - n ≤ q.val then x (ix4 b k (⟨q.val - (64 - 1 - n), by omega⟩ : Fin 64) l) else 0) 64)
  refine Finset.sum_congr rfl fun n _ => ?_
  have hn : n.val < 64 := n.isLt
  obtain ⟨w0, w1, e2, w3⟩ := place_at n
  split
  · next hin =>
    have h2 : 63 ≤ q.val * 1 + place n 2 := (hin 2).1
    refine Eq.trans ?_ (if_pos (by omega)).symm
    refine congrArg x (ix2_ext _ _ fun a => ?_)
    match a with
    | ⟨0, _⟩ => show b.val * 1 + place n 0 - 0 = b.val; omega
    | ⟨1, _⟩ => show k.val * 1 + place n 1 - 0 = k.val; omega
    | ⟨2, _⟩ => show q.val * 1 + place n 2 - 63 = q.val - (64 - 1 - n.val); omega
    | ⟨3, _⟩ => show l.val * 1 + place n 3 - 0 = l.val; omega
  · next hin =>
    refine hv.trans (if_neg fun hle => hin fun a => ?_).symm
    match a with
    | ⟨0, _⟩ => show 0 ≤ b.val * 1 + place n 0 ∧ b.val * 1 + place n 0 - 0 < 8; omega
    | ⟨1, _⟩ => show 0 ≤ k.val * 1 + place n 1 ∧ k.val * 1 + place n 1 - 0 < 32; omega
    | ⟨2, _⟩ => show 63 ≤ q.val * 1 + place n 2 ∧ q.val * 1 + place n 2 - 63 < 64; omega
    | ⟨3, _⟩ => show 0 ≤ l.val * 1 + place n 3 ∧ l.val * 1 + place n 3 - 0 < 112; omega

theorem sums_at (G : FVec Ideal S8x2048x112 .f32) (f : ℕ → EReal) (b : Fin 8) (s : Fin 2048) (l : Fin 112) (hf : ∀ r : Fin 2048, G (ix3 b r l) = f r.val) :
    sums G (ix3 b s l) = runs f 64 s.val := by
  have e : sums G (ix3 b s l) = Host.reduceWindowAdd ![1, 1, 64, 1] ![1, 1, 1, 1] ![0, 0, 63, 0] ![0, 0, 0, 0] (shapeCast _ G shapeCasts_S8x2048x112_S8x32x64x112) (broadcastInDim S_ ![] bcast_S_S_ (constant (F := Ideal) S_ .f32 0x00000000#32)) reduceWindows_S8x32x64x112_S8x32x64x112_w1s1p0_0_w1s1p0_0_w64s1p63_0_w1s1p0_0 h_S_
      (ix4 b (⟨s.val / 64, by omega⟩ : Fin 32) (⟨s.val % 64, by omega⟩ : Fin 64) l) := by
    unfold sums
    pointwise []
  have hc : ∀ (k : Fin 32) (q : Fin 64), shapeCast S8x32x64x112 G shapeCasts_S8x2048x112_S8x32x64x112 (ix4 b k q l) = f (64 * k.val + q.val) := fun k q => by
    refine Eq.trans ?_ (hf (⟨64 * k.val + q.val, by omega⟩ : Fin 2048))
    pointwise []
    exact congrArg (fun z => G (ix3 b z l)) (Fin.ext (by show k.val * 64 + q.val = 64 * k.val + q.val; omega))
  rw [e, window_at _ _ Ideal.ofBits_zero_f32]
  unfold runs
  refine Finset.sum_congr rfl fun d _ => ?_
  by_cases h : d ≤ s.val % 64
  · rw [if_pos h, if_pos h, hc]
    exact congrArg f (by show 64 * (s.val / 64) + (s.val % 64 - d) = s.val - d; omega)
  · rw [if_neg h, if_neg h]

theorem gRes_at (A : FVec Ideal S8x2048x16 .f32) (B : FVec Ideal S8x2048x112 .f32) (T : Fin 16384) (l : Fin 128) :
    gRes A B (ix2 T l) = if h : l.val < 16 then A (ix3 (seqOf T) (posOf T) (⟨l.val, h⟩ : Fin 16)) else B (ix3 (seqOf T) (posOf T) (⟨l.val - 16, by omega⟩ : Fin 112)) := by
  unfold gRes seqOf posOf
  pointwise []

theorem ix2_self {n m : ℕ} (z : (⟨2, ![n, m]⟩ : Shape).Idx) : z = ix2 (z 0) (z 1) :=
  ix2_ext _ _ fun a => by
    match a with
    | ⟨0, _⟩ => rfl
    | ⟨1, _⟩ => rfl

section
variable (m : (ℓ : Loc nD τ sig) → Buf (Elt Ideal) ℓ) (c : Dev nD)

/-- The arguments. -/
abbrev aX : FVec Ideal S16384x1024 .f32 := m ((c.tc : Thread nD τ).loc main_arg0)
abbrev aM : FVec Ideal S8x6x1024 .f32 := m ((c.tc : Thread nD τ).loc main_arg1)
abbrev aN : FVec Ideal S1024 .f32 := m ((c.tc : Thread nD τ).loc main_arg2)
abbrev aW : FVec Ideal S1024x6176 .f32 := m ((c.tc : Thread nD τ).loc main_arg3)
abbrev aA : FVec Ideal S16 .f32 := m ((c.tc : Thread nD τ).loc main_arg4)
abbrev aD : FVec Ideal S16 .f32 := m ((c.tc : Thread nD τ).loc main_arg5)

theorem proj_at (b : Fin 8) (s : Fin 2048) (n : Fin 6176) : proj m c (ix3 b s n) = lin (aX m c) (aM m c) (aN m c) (aW m c) b s n := by
  unfold proj lin
  rw [projected_at]
  simp only [hidden_at]

theorem z_result : zRes (proj m c) = zAll (aX m c) (aM m c) (aN m c) (aW m c) := by
  refine funext fun (z : S16384x2048.Idx) => ?_
  refine ((congrArg (zRes (proj m c)) (ix2_self z)).trans (zRes_at (proj m c) (z 0) (z 1))).trans ?_
  rw [proj_at]
  rfl

/-- The logarithm of a decay, in the lane it has among all. -/
theorem decay_at (b : Fin 8) (l : Fin 128) (hl : 16 ≤ l.val) (r : Fin 2048) :
    decays (biased (logits (proj m c)) (heads (aD m c))) (heads (aA m c)) (ix3 b r (⟨l.val - 16, by omega⟩ : Fin 112))
      = logDecay (aX m c) (aM m c) (aN m c) (aW m c) (aA m c) (aD m c) b l r.val := by
  rw [decays_at, biased_at, heads_at, heads_at, logits_at]
  unfold logDecay decay
  rw [dif_pos r.isLt]
  unfold lane logit
  by_cases h : l.val < 32
  · rw [dif_pos (by show l.val - 16 < 16; omega), dif_pos (by show l.val - 16 < 16; omega), dif_pos (by show l.val - 16 < 16; omega), dif_pos ⟨hl, h⟩, dif_pos h, dif_pos ⟨hl, h⟩, proj_at]
    have e : (⟨6160 + (l.val - 16), by omega⟩ : Fin 6176) = ⟨6144 + l.val, by omega⟩ := Fin.ext (by show 6160 + (l.val - 16) = 6144 + l.val; omega)
    exact congrArg (fun k => -(Ideal.exp (aA m c (ix1 (⟨l.val - 16, by omega⟩ : Fin 16)))) * softplus (lin (aX m c) (aM m c) (aN m c) (aW m c) b r k + aD m c (ix1 (⟨l.val - 16, by omega⟩ : Fin 16)))) e
  · rw [dif_neg (by show ¬ l.val - 16 < 16; omega), dif_neg (by show ¬ l.val - 16 < 16; omega), dif_neg (by show ¬ l.val - 16 < 16; omega), dif_neg (fun hh => h hh.2), dif_neg h, dif_neg (fun hh => h hh.2)]

theorem g_result : res_main_v54 (F := Ideal) m c = gAll (aX m c) (aM m c) (aN m c) (aW m c) (aA m c) (aD m c) := by
  rw [g_eq]
  refine funext fun (z : S16384x128.Idx) => ?_
  refine ((congrArg _ (ix2_self z)).trans (gRes_at _ _ (z 0) (z 1))).trans ?_
  unfold gAll
  by_cases h : (z 1).val < 16
  · rw [dif_pos h, if_pos h, firsts_at, proj_at]
    unfold logit
    rw [dif_pos (by omega)]
  · rw [dif_neg h, if_neg h]
    exact sums_at _ _ _ _ _ fun r => decay_at m c (seqOf (z 0)) (z 1) (by omega) r

end

end Cert.Reference4Ideal.Gate

end
-- ==== Proof.GateClaims.lean ====
/- The claims of the gates: the frames and the value claim. -/
module

public import proofs.«01_k».proof.Defs
public import proofs.«01_k».proof.Proof.Gen.Kernel4.Frame
public import proofs.«01_k».proof.Proof.GateValue
public import proofs.«01_k».proof.Proof.GateRef
public import Idealize.ShloMosaic.Lib.Quiescent

@[expose] public section

set_option maxRecDepth 16384

noncomputable section

namespace Cert.Gate

open Idealize.ShloMosaic Idealize.ShloMosaic.TcCoe Idealize.SL.Sem

theorem frame_kernel : Cert.quiescent_Kernel4 := fun m g _ => Cert.Kernel4.Gen.frame m g

theorem frame_ideal : Cert.quiescent_Kernel4Ideal := fun m g _ => Cert.Kernel4Ideal.Gen.frame m g

theorem frame_reference : Cert.quiescent_Reference4Ideal := fun m g _ =>
  (θ_run _ _ _).mono (fun r h => ⟨fun c => (h c).2.2, sem_eq_zero_of_no_sems (by decide) r.2⟩) (Cert.Reference4Ideal.Value.run (F := Ideal) m g)

open Cert.Kernel4Ideal.Gate in
theorem algebraic : Cert.algebraic_Kernel4Ideal_Reference4Ideal := by
  intro m g m' g' _ hagree
  refine ⟨fun c => zAll (aX m c) (aM m c) (aN m c) (aW m c), fun c => gAll (aX m c) (aM m c) (aN m c) (aW m c) (aA m c) (aD m c), ?_, ?_⟩
  · exact (θ_run _ _ _).mono (fun r h c => ⟨(h c).1.trans (z_final m c), (h c).2.1.trans (g_final m c), (h c).2.2⟩)
      (Cert.Kernel4Ideal.Value.run_blocks (F := Ideal) m g)
  · refine (θ_run _ _ _).mono (fun r h c => ⟨(h c).1.trans ?_, (h c).2.1.trans ?_, (h c).2.2⟩) (Cert.Reference4Ideal.Value.run (F := Ideal) m' g')
    all_goals obtain ⟨e0, e1, e2, e3, e4, e5⟩ := hagree c
    · refine (Cert.Reference4Ideal.Gate.z_result m' c).trans ?_
      unfold Cert.Reference4Ideal.Gate.aX Cert.Reference4Ideal.Gate.aM Cert.Reference4Ideal.Gate.aN Cert.Reference4Ideal.Gate.aW
      rw [e0, e1, e2, e3]
    · refine (Cert.Reference4Ideal.Gate.g_result m' c).trans ?_
      unfold Cert.Reference4Ideal.Gate.aX Cert.Reference4Ideal.Gate.aM Cert.Reference4Ideal.Gate.aN Cert.Reference4Ideal.Gate.aW Cert.Reference4Ideal.Gate.aA Cert.Reference4Ideal.Gate.aD
      rw [e0, e1, e2, e3, e4, e5]

end Cert.Gate

end
-- ==== Proof.ModMath.lean ====
/- The modulation as a function of numbers. -/
module

public import proofs.«01_k».proof.Proof.GateMath

@[expose] public section

noncomputable section

namespace Cert.Mod

open Idealize.ShloMosaic
open Cert.Gate (gate)

/-- Column `n` of layer `l`'s modulation of sequence `b`. -/
def modCol (cd : (⟨2, ![8, 1024]⟩ : Shape).Idx → EReal) (w : (⟨3, ![4, 1024, 6144]⟩ : Shape).Idx → EReal) (bi : (⟨2, ![4, 6144]⟩ : Shape).Idx → EReal)
    (l : Fin 4) (b : Fin 8) (n : Fin 6144) : EReal :=
  (∑ j : Fin 1024, cd (ix2 b j) * gate (cd (ix2 b j)) * w (ix3 l j n)) + bi (ix2 l n)

/-- The result. -/
def modAll (cd : (⟨2, ![8, 1024]⟩ : Shape).Idx → EReal) (w : (⟨3, ![4, 1024, 6144]⟩ : Shape).Idx → EReal) (bi : (⟨2, ![4, 6144]⟩ : Shape).Idx → EReal)
    (z : (⟨3, ![4, 8, 6144]⟩ : Shape).Idx) : EReal := modCol cd w bi (z 0) (z 1) (z 2)

end Cert.Mod

end
-- ==== Proof.ModValue.lean ====
/- The idealised modulation's result array as a function of the argument arrays. -/
module

public import proofs.«01_k».proof.Proof.ModMath
public import proofs.«01_k».proof.Proof.Array
public import proofs.«01_k».proof.Proof.Gen.Kernel5Ideal.Value
public import Idealize.ShloMosaic.Lib.KernelVsHost

@[expose] public section

set_option maxRecDepth 16384

noncomputable section

namespace Cert.Kernel5Ideal.Mod

open Cert.Kernel5Ideal Cert.Kernel5Ideal.Gen Idealize.ShloMosaic Idealize.ShloMosaic.TcCoe Idealize.SL.Sem Cert.Mod
open Cert.Gate (gate)
open Cert.KernelIdeal.Att (ix2_ext)

theorem pay1_at (x0 : Vec Ideal S8x1024 .f32) (x1 : Vec Ideal S1x1024x1024 .f32) (x2 : Vec Ideal S1x1x1024 .f32) (b : Fin 8) (n : Fin 1024) :
    (k0_pay1 x0 x1 x2 (ix3 0 b n) : EReal) = (∑ j : Fin 1024, x0 (ix2 b j) * gate (x0 (ix2 b j)) * x1 (ix3 0 j n)) + x2 (ix3 0 0 n) := by
  unfold k0_pay1 gate
  pointwise []
  simp only [zero_sub]

theorem out_at (x0 : Vec Ideal S8x1024 .f32) (x1 : Vec Ideal S1x1024x1024 .f32) (x2 : Vec Ideal S1x1x1024 .f32) (b : Fin 8) (n : Fin 1024) :
    (out0_3 x0 x1 x2 (ix3 0 b n) : EReal) = (∑ j : Fin 1024, x0 (ix2 b j) * gate (x0 (ix2 b j)) * x1 (ix3 0 j n)) + x2 (ix3 0 0 n) := by
  unfold out0_3
  rw [View.ld_unit_lit _ x0 (by decide), View.ld_unit_lit _ x1 (by decide), View.ld_unit_lit _ x2 (by decide)]
  refine (congrFun (View.canon_cons_unit_lit _ _ _ (by decide)) _).trans ?_
  exact pay1_at _ _ _ b n

variable (m : (ℓ : Loc nD τ sig) → Buf (Elt Ideal) ℓ)

theorem V_v0 (c : Dev nD) (l : Fin 4) (n : Fin 6144) :
    (show Vec Ideal S4x1x6144 .f32 from V m c main_v0) (ix3 l 0 n) = (show Vec Ideal S4x6144 .f32 from m ((c : Thread nD τ).loc main_arg2)) (ix2 l n) := by
  have h : V m c main_v0 = shapeCast S4x1x6144 (show Vec Ideal S4x6144 .f32 from m ((c : Thread nD τ).loc main_arg2)) shapeCasts_S4x6144_S4x1x6144 := by
    show StableHlo.after hostOps0 (fun b => m (c, b)) (Proc.devRef .tc main_v0) = _
    simp only [hostOps0]
    after_results
    all_goals rfl
  refine (congrFun h _).trans ?_
  pointwise []

/-! ## The windows' blocks -/

theorem idx0 : ∀ t : Fin grid0.N, win0_0.index t 0 = 0 ∧ win0_0.index t 1 = 0 := by decide +kernel
theorem idx1 : ∀ t : Fin grid0.N, win0_1.index t 0 = t.val / 6 ∧ win0_1.index t 1 = 0 ∧ win0_1.index t 2 = t.val % 6 := by decide +kernel
theorem idx2 : ∀ t : Fin grid0.N, win0_2.index t 0 = t.val / 6 ∧ win0_2.index t 1 = 0 ∧ win0_2.index t 2 = t.val % 6 := by decide +kernel
theorem idx3 : ∀ t : Fin grid0.N, win0_3.index t 0 = t.val / 6 ∧ win0_3.index t 1 = 0 ∧ win0_3.index t 2 = t.val % 6 := by decide +kernel

theorem blk0 (c : Dev nD) (t : Fin cfg0.N) (b : Fin 8) (k : Fin 1024) :
    (iblk m c 0 t (ix2 b k) : EReal) = (show Vec Ideal S8x1024 .f32 from m ((c : Thread nD τ).loc main_arg0)) (ix2 b k) := by
  show V m c main_arg0 ((win0_0.blk t).view.emb (ix2 b k)) = _
  rw [V_main_arg0 m c]
  refine congrArg (show Vec Ideal S8x1024 .f32 from m ((c : Thread nD τ).loc main_arg0)) (ix2_ext _ _ fun x => ?_)
  match x with
  | ⟨0, _⟩ =>
    refine (Pipeline.Window.rect_emb_val win0_0 t _ (0 : Fin 2)).trans ?_
    show win0_0.index t 0 * 8 + b.val = b.val
    rw [(idx0 t).1]; omega
  | ⟨1, _⟩ =>
    refine (Pipeline.Window.rect_emb_val win0_0 t _ (1 : Fin 2)).trans ?_
    show win0_0.index t 1 * 1024 + k.val = k.val
    rw [(idx0 t).2]; omega

theorem blk1 (c : Dev nD) (t : Fin cfg0.N) (j n : Fin 1024) (l : Fin 4) (k : Fin 6144) (hl : l.val = t.val / 6) (hk : k.val = 1024 * (t.val % 6) + n.val) :
    (iblk m c 1 t (ix3 0 j n) : EReal) = (show Vec Ideal S4x1024x6144 .f32 from m ((c : Thread nD τ).loc main_arg1)) (ix3 l j k) := by
  show V m c main_arg1 ((win0_1.blk t).view.emb (ix3 0 j n)) = _
  rw [V_main_arg1 m c]
  refine congrArg (show Vec Ideal S4x1024x6144 .f32 from m ((c : Thread nD τ).loc main_arg1)) (ix2_ext _ _ fun x => ?_)
  match x with
  | ⟨0, _⟩ =>
    refine (Pipeline.Window.rect_emb_val win0_1 t _ (0 : Fin 3)).trans ?_
    show win0_1.index t 0 * 1 + 0 = l.val
    rw [(idx1 t).1]; omega
  | ⟨1, _⟩ =>
    refine (Pipeline.Window.rect_emb_val win0_1 t _ (1 : Fin 3)).trans ?_
    show win0_1.index t 1 * 1024 + j.val = j.val
    rw [(idx1 t).2.1]; omega
  | ⟨2, _⟩ =>
    refine (Pipeline.Window.rect_emb_val win0_1 t _ (2 : Fin 3)).trans ?_
    show win0_1.index t 2 * 1024 + n.val = k.val
    rw [(idx1 t).2.2]; omega

theorem blk2 (c : Dev nD) (t : Fin cfg0.N) (n : Fin 1024) (l : Fin 4) (k : Fin 6144) (hl : l.val = t.val / 6) (hk : k.val = 1024 * (t.val % 6) + n.val) :
    (iblk m c 2 t (ix3 0 0 n) : EReal) = (show Vec Ideal S4x6144 .f32 from m ((c : Thread nD τ).loc main_arg2)) (ix2 l k) := by
  refine Eq.trans ?_ (V_v0 m c l k)
  show V m c main_v0 ((win0_2.blk t).view.emb (ix3 0 0 n)) = _
  refine congrArg (show Vec Ideal S4x1x6144 .f32 from V m c main_v0) (ix2_ext _ _ fun x => ?_)
  match x with
  | ⟨0, _⟩ =>
    refine (Pipeline.Window.rect_emb_val win0_2 t _ (0 : Fin 3)).trans ?_
    show win0_2.index t 0 * 1 + 0 = l.val
    rw [(idx2 t).1]; omega
  | ⟨1, _⟩ =>
    refine (Pipeline.Window.rect_emb_val win0_2 t _ (1 : Fin 3)).trans ?_
    show win0_2.index t 1 * 1 + 0 = 0
    rw [(idx2 t).2.1]
  | ⟨2, _⟩ =>
    refine (Pipeline.Window.rect_emb_val win0_2 t _ (2 : Fin 3)).trans ?_
    show win0_2.index t 2 * 1024 + n.val = k.val
    rw [(idx2 t).2.2]; omega

/-- A tile from its blocks. -/
theorem tile_of (X : FVec Ideal S8x1024 .f32) (W : FVec Ideal S1x1024x1024 .f32) (B : FVec Ideal S1x1x1024 .f32)
    (cd : S8x1024.Idx → EReal) (w : S4x1024x6144.Idx → EReal) (bi : S4x6144.Idx → EReal) (b : Fin 8) (n : Fin 1024) (l : Fin 4) (k : Fin 6144)
    (e0 : ∀ j : Fin 1024, X (ix2 b j) = cd (ix2 b j)) (e1 : ∀ j : Fin 1024, W (ix3 0 j n) = w (ix3 l j k)) (e2 : B (ix3 0 0 n) = bi (ix2 l k)) :
    (out0_3 (F := Ideal) X W B (ix3 0 b n) : EReal) = modCol cd w bi l b k := by
  refine (out_at X W B b n).trans ?_
  unfold modCol
  rw [e2]
  exact congrArg (· + bi (ix2 l k)) (Finset.sum_congr rfl fun j _ => by rw [e0, e1])

/-- The arguments' arrays. -/
abbrev aC (c : Dev nD) : S8x1024.Idx → EReal := m ((c : Thread nD τ).loc main_arg0)
abbrev aW (c : Dev nD) : S4x1024x6144.Idx → EReal := m ((c : Thread nD τ).loc main_arg1)
abbrev aB (c : Dev nD) : S4x6144.Idx → EReal := m ((c : Thread nD τ).loc main_arg2)

theorem point (c : Dev nD) (t : Fin cfg0.N) (b : Fin 8) (n : Fin 1024) (z : S4x8x6144.Idx) (h0 : (z 0).val = t.val / 6) (h1 : (z 1).val = b.val) (h2 : (z 2).val = 1024 * (t.val % 6) + n.val) :
    (out0_3 (iblk m c 0 t) (iblk m c 1 t) (iblk m c 2 t) (ix3 0 b n) : EReal) = modAll (aC m c) (aW m c) (aB m c) z := by
  have e : z 1 = b := Fin.ext h1
  refine (tile_of (iblk m c 0 t) (iblk m c 1 t) (iblk m c 2 t) (aC m c) (aW m c) (aB m c) b n (z 0) (z 2)
    (fun j => blk0 m c t b j) (fun j => blk1 m c t j n (z 0) (z 2) h0 h2) (blk2 m c t n (z 0) (z 2) h0 h2)).trans ?_
  unfold modAll
  rw [e]

theorem final (c : Dev nD) : (dats m 0 c).arrAt 3 cfg0.N = modAll (aC m c) (aW m c) (aB m c) := by
  refine (dats m 0 c).arrAt_eq_of_covers 3 (modAll (aC m c) (aW m c) (aB m c)) (by decide +kernel) fun t hf (y : S1x8x1024.Idx) => ?_
  refine (cast_eq _ _).trans ?_
  rw [after0_3]
  have y0 : (y 0).val < 1 := (y 0).isLt
  have hy : y = ix3 0 (y 1) (y 2) := ix2_ext _ _ fun a => by
    match a with
    | ⟨0, _⟩ => show (y 0).val = 0; omega
    | ⟨1, _⟩ => rfl
    | ⟨2, _⟩ => rfl
  refine (congrArg (out0_3 _ _ _) hy).trans (point m c t (y 1) (y 2) _ ?_ ?_ ?_)
  · refine (Pipeline.Window.rect_emb_val win0_3 t _ (0 : Fin 3)).trans ?_
    rw [(idx3 t).1]
    show t.val / 6 * 1 + (y 0).val = t.val / 6
    omega
  · refine (Pipeline.Window.rect_emb_val win0_3 t _ (1 : Fin 3)).trans ?_
    rw [(idx3 t).2.1]
    show 0 * 8 + (y 1).val = (y 1).val
    omega
  · refine (Pipeline.Window.rect_emb_val win0_3 t _ (2 : Fin 3)).trans ?_
    rw [(idx3 t).2.2]
    show t.val % 6 * 1024 + (y 2).val = 1024 * (t.val % 6) + (y 2).val
    omega

end Cert.Kernel5Ideal.Mod

end
-- ==== Proof.ModClaims.lean ====
/- The reference's modulation, read at an index, and the claims of the modulation. -/
module

public import proofs.«01_k».proof.Defs
public import proofs.«01_k».proof.Proof.Gen.Kernel5.Frame
public import proofs.«01_k».proof.Proof.Gen.Reference5Ideal.Run
public import proofs.«01_k».proof.Proof.ModValue
public import Idealize.ShloMosaic.Lib.Quiescent

@[expose] public section

set_option maxRecDepth 16384

noncomputable section

namespace Cert.Reference5Ideal.Mod

open Cert.Reference5Ideal Cert.Reference5Ideal.Gen Idealize.ShloMosaic Idealize.ShloMosaic.TcCoe Idealize.SL.Sem Cert.Mod
open Cert.Gate (gate)
open Cert.KernelIdeal.Att (ix2_ext)

/-- The reference's result. -/
def res (a0 : FVec Ideal S8x1024 .f32) (a1 : FVec Ideal S4x1024x6144 .f32) (a2 : FVec Ideal S4x6144 .f32) : FVec Ideal S4x8x6144 .f32 :=
  addf (transpose S4x8x6144 [0, 2, 1] (Host.dotGeneral dot_S4x1024x6144_S8x1024_S4x6144x8_1_1_02_0_n_n none a1 (mulf a0 (Host.divf (broadcastInDim S8x1024 ![] bcast_S_S8x1024 (constant S_ .f32 0x3F800000#32)) (addf (broadcastInDim S8x1024 ![] bcast_S_S8x1024 (constant S_ .f32 0x3F800000#32)) (Host.exp (Host.negf a0)))))) transposes_S4x6144x8_S4x8x6144_0_2_1) (broadcastInDim S4x8x6144 ![0, 1, 2] bcast_S4x1x6144_S4x8x6144_0_1_2 (broadcastInDim S4x1x6144 ![0, 2] bcast_S4x6144_S4x1x6144_0_2 a2))

theorem res_at (a0 : FVec Ideal S8x1024 .f32) (a1 : FVec Ideal S4x1024x6144 .f32) (a2 : FVec Ideal S4x6144 .f32) (l : Fin 4) (b : Fin 8) (n : Fin 6144) :
    res a0 a1 a2 (ix3 l b n) = modCol a0 a1 a2 l b n := by
  unfold res modCol gate
  pointwise []
  exact congrArg (· + _) (Finset.sum_congr rfl fun j _ => mul_comm _ _)

theorem res_eq (a0 : FVec Ideal S8x1024 .f32) (a1 : FVec Ideal S4x1024x6144 .f32) (a2 : FVec Ideal S4x6144 .f32) : res a0 a1 a2 = modAll a0 a1 a2 := by
  refine funext fun (z : S4x8x6144.Idx) => ?_
  have hz : z = ix3 (z 0) (z 1) (z 2) := ix2_ext _ _ fun a => by
    match a with
    | ⟨0, _⟩ => rfl
    | ⟨1, _⟩ => rfl
    | ⟨2, _⟩ => rfl
  exact (congrArg (res a0 a1 a2) hz).trans (res_at a0 a1 a2 (z 0) (z 1) (z 2))

end Cert.Reference5Ideal.Mod

namespace Cert.Mod

open Idealize.ShloMosaic Idealize.ShloMosaic.TcCoe Idealize.SL.Sem

theorem frame_kernel : Cert.quiescent_Kernel5 := fun m g _ => Cert.Kernel5.Gen.frame m g

theorem frame_ideal : Cert.quiescent_Kernel5Ideal := fun m g _ => Cert.Kernel5Ideal.Gen.frame m g

theorem frame_reference : Cert.quiescent_Reference5Ideal := fun m g _ =>
  (θ_run _ _ _).mono (fun r h => ⟨fun c => (h c).2, sem_eq_zero_of_no_sems (by decide) r.2⟩) (Cert.Reference5Ideal.Value.run (F := Ideal) m g)

open Cert.Kernel5Ideal.Mod in
theorem algebraic : Cert.algebraic_Kernel5Ideal_Reference5Ideal := by
  intro m g m' g' _ hagree
  refine ⟨fun c => modAll (aC m c) (aW m c) (aB m c), ?_, ?_⟩
  · exact (θ_run _ _ _).mono (fun r h c => ⟨(h c).1.trans (final m c), (h c).2⟩) (Cert.Kernel5Ideal.Value.run_blocks (F := Ideal) m g)
  · refine (θ_run _ _ _).mono (fun r h c => ⟨(h c).1.trans ?_, (h c).2⟩) (Cert.Reference5Ideal.Value.run (F := Ideal) m' g')
    obtain ⟨e0, e1, e2⟩ := hagree c
    rw [e0, e1, e2]
    exact Cert.Reference5Ideal.Mod.res_eq _ _ _

end Cert.Mod

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Claims
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.ExpertsClaims
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.ConvClaims
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.GateClaims
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.ModClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Attention.finiteFacts, Cert.Experts.scheduledFacts,
    fun m ρ _ => Cert.Kernel.Gen.frame m ρ,
    fun m ρ _ => Cert.KernelIdeal.Gen.frame m ρ,
    fun m ρ _ => Cert.KernelIdeal.Gen.frame m ρ,
    fun m ρ _ => Cert.Attention.frame_reference m ρ,
    fun m ρ _ => Cert.Attention.frame_reference m ρ,
    Cert.Experts.frame_kernel, Cert.Experts.frame_ideal, Cert.Experts.frame_reference, Cert.Experts.frame_reference_pre,
    Cert.Conv.frame_kernel, Cert.Conv.frame_ideal, Cert.Conv.frame_reference,
    Cert.Gate.frame_kernel, Cert.Gate.frame_ideal, Cert.Gate.frame_reference,
    Cert.Mod.frame_kernel, Cert.Mod.frame_ideal, Cert.Mod.frame_reference,
    IdealRules.named_const.statement Cert.KernelIdeal.κ "mask" .f32 0xF149F2CA#32 ⊥ rfl,
    Cert.Attention.algebraic,
    trivial,
    Cert.Experts.algebraic,
    trivial,
    Cert.Conv.algebraic,
    trivial,
    Cert.Gate.algebraic,
    trivial,
    Cert.Mod.algebraic⟩

end Cert.Proof

end
